-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_column_in_head [hPre_column_in_head : Cert.Pre_column_in_head.Facts] (m : (ℓ : Loc Cert.KernelIdeal.nD Cert.KernelIdeal.τ Cert.KernelIdeal.sig) → Buf (Elt Ideal) ℓ) : Prop :=
  ∀ c : Dev Cert.KernelIdeal.nD,
    (Cert.Pre_column_in_head.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_column_in_head [hPre_column_in_head : Cert.Pre_column_in_head.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_column_in_head.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Tail [hPre_tables_fit : Cert.Pre_tables_fit.Facts] (m : (ℓ : Loc Cert.Tail.nD Cert.Tail.τ Cert.Tail.sig) → Buf (Elt Bits) ℓ) : Prop :=
  ∀ c : Dev Cert.Tail.nD,
    (Cert.Pre_tables_fit.fn (F := Bits) (m ((c.tc : Thread Cert.Tail.nD Cert.Tail.τ).loc Cert.Tail.main_arg0)) (m ((c.tc : Thread Cert.Tail.nD Cert.Tail.τ).loc Cert.Tail.main_arg1)) (m ((c.tc : Thread Cert.Tail.nD Cert.Tail.τ).loc Cert.Tail.main_arg2)) (m ((c.tc : Thread Cert.Tail.nD Cert.Tail.τ).loc Cert.Tail.main_arg3)) (m ((c.tc : Thread Cert.Tail.nD Cert.Tail.τ).loc Cert.Tail.main_arg4)) (m ((c.tc : Thread Cert.Tail.nD Cert.Tail.τ).loc Cert.Tail.main_arg5)) (m ((c.tc : Thread Cert.Tail.nD Cert.Tail.τ).loc Cert.Tail.main_arg6)) (m ((c.tc : Thread Cert.Tail.nD Cert.Tail.τ).loc Cert.Tail.main_arg7)) (m ((c.tc : Thread Cert.Tail.nD Cert.Tail.τ).loc Cert.Tail.main_arg8)) (m ((c.tc : Thread Cert.Tail.nD Cert.Tail.τ).loc Cert.Tail.main_arg9))) = (fun _ => 1#1)

def Pre_TailIdeal [hPre_tables_fit : Cert.Pre_tables_fit.Facts] (m : (ℓ : Loc Cert.TailIdeal.nD Cert.TailIdeal.τ Cert.TailIdeal.sig) → Buf (Elt Ideal) ℓ) : Prop :=
  ∀ c : Dev Cert.TailIdeal.nD,
    (Cert.Pre_tables_fit.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_column_in_head [hKernelIdeal : Cert.KernelIdeal.Facts] [hPre_column_in_head : Cert.Pre_column_in_head.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_column_in_head m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_column_in_head [hReferenceIdeal : Cert.ReferenceIdeal.Facts] [hPre_column_in_head : Cert.Pre_column_in_head.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_column_in_head m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Tail [hTail : Cert.Tail.Facts] [hPre_tables_fit : Cert.Pre_tables_fit.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9))
      ∧ r.2.sem = fun _ => 0)

def quiescent_TailIdeal [hTailIdeal : Cert.TailIdeal.Facts] [hPre_tables_fit : Cert.Pre_tables_fit.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9))
      ∧ r.2.sem = fun _ => 0)

def preserves_Kernel_KernelIdeal : Prop :=
  True

def algebraic_KernelIdeal_ReferenceIdeal_pre_column_in_head [hKernelIdeal : Cert.KernelIdeal.Facts] [hReferenceIdeal : Cert.ReferenceIdeal.Facts] [hPre_column_in_head : Cert.Pre_column_in_head.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_column_in_head m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Tail_TailIdeal : Prop :=
  True

def Claim : Prop :=
  ∃ (hKernel : Cert.Kernel.Facts) (hKernelIdeal : Cert.KernelIdeal.Facts) (hReferenceIdeal : Cert.ReferenceIdeal.Facts) (hTail : Cert.Tail.Facts) (hTailIdeal : Cert.TailIdeal.Facts) (hPre_column_in_head : Cert.Pre_column_in_head.Facts) (hPre_tables_fit : Cert.Pre_tables_fit.Facts),
    quiescent_Kernel (hKernel := hKernel)
    ∧ quiescent_KernelIdeal (hKernelIdeal := hKernelIdeal)
    ∧ quiescent_KernelIdeal_pre_column_in_head (hKernelIdeal := hKernelIdeal) (hPre_column_in_head := hPre_column_in_head)
    ∧ quiescent_ReferenceIdeal (hReferenceIdeal := hReferenceIdeal)
    ∧ quiescent_ReferenceIdeal_pre_column_in_head (hReferenceIdeal := hReferenceIdeal) (hPre_column_in_head := hPre_column_in_head)
    ∧ quiescent_Tail (hTail := hTail) (hPre_tables_fit := hPre_tables_fit)
    ∧ quiescent_TailIdeal (hTailIdeal := hTailIdeal) (hPre_tables_fit := hPre_tables_fit)
    ∧ preserves_Kernel_KernelIdeal
    ∧ algebraic_KernelIdeal_ReferenceIdeal_pre_column_in_head (hKernelIdeal := hKernelIdeal) (hReferenceIdeal := hReferenceIdeal) (hPre_column_in_head := hPre_column_in_head)
    ∧ preserves_Tail_TailIdeal
-- ==== Pre_column_in_head.lean ====
abbrev S8x2048 : Shape := ⟨2, ![8, 2048]⟩
abbrev S8x2048x1280 : Shape := ⟨3, ![8, 2048, 1280]⟩
abbrev S1280x20003 : Shape := ⟨2, ![1280, 20003]⟩
abbrev S20003 : Shape := ⟨1, ![20003]⟩
abbrev S_ : Shape := ⟨0, ![]⟩

class Facts : Prop where
  bcast_S_S8x2048 : S_.BroadcastsInDim S8x2048 (![] : Fin 0 → Fin S8x2048.rank)

variable [Facts]

def fn_where {F : FTy → Type} [FloatOps F] (arg0 : IVec S8x2048 1) (arg1 : IVec S8x2048 32) (arg2 : IVec S8x2048 32) : IVec S8x2048 32 :=
  let v0 : IVec S8x2048 32 := select arg0 arg1 arg2
  v0

def fn {F : FTy → Type} [FloatOps F] (main_arg0 : IVec S8x2048 32) (main_arg1 : IVec S8x2048 32) (main_arg2 : FVec F S8x2048x1280 .fp8e4m3) (main_arg3 : FVec F S8x2048 .f32) (main_arg4 : FVec F S1280x20003 .fp8e4m3) (main_arg5 : FVec F S20003 .f32) : IVec S8x2048 1 :=
  let main_c : IVec S_ 32 := constantI S_ 32 0#32
  let main_v0 : IVec S8x2048 32 := broadcastInDim S8x2048 ![] bcast_S_S8x2048 main_c
  let main_v1 : IVec S8x2048 1 := cmpi .eq main_arg0 main_v0
  let main_c_0 : IVec S_ 32 := constantI S_ 32 20000#32
  let main_v2 : IVec S8x2048 32 := broadcastInDim S8x2048 ![] bcast_S_S8x2048 main_c_0
  let main_v3 : IVec S8x2048 32 := addi main_v2 main_arg0
  let main_c_1 : IVec S_ 32 := constantI S_ 32 1#32
  let main_v4 : IVec S8x2048 32 := broadcastInDim S8x2048 ![] bcast_S_S8x2048 main_c_1
  let main_v5 : IVec S8x2048 32 := subi main_v3 main_v4
  let main_v6 : IVec S8x2048 32 := fn_where (F := F) main_v1 main_arg1 main_v5
  let main_c_2 : IVec S_ 32 := constantI S_ 32 0#32
  let main_v7 : IVec S8x2048 32 := broadcastInDim S8x2048 ![] bcast_S_S8x2048 main_c_2
  let main_v8 : IVec S8x2048 1 := cmpi .sge main_v6 main_v7
  let main_c_3 : IVec S_ 32 := constantI S_ 32 20003#32
  let main_v9 : IVec S8x2048 32 := broadcastInDim S8x2048 ![] bcast_S_S8x2048 main_c_3
  let main_v10 : IVec S8x2048 1 := cmpi .slt main_v6 main_v9
  let main_v11 : IVec S8x2048 1 := andi main_v8 main_v10
  main_v11
-- ==== Pre_tables_fit.lean ====
abbrev S128x128 : Shape := ⟨2, ![128, 128]⟩
abbrev S8x2048 : Shape := ⟨2, ![8, 2048]⟩
abbrev S3x16896x128 : Shape := ⟨3, ![3, 16896, 128]⟩
abbrev S320x40000 : Shape := ⟨2, ![320, 40000]⟩
abbrev S80x160000 : Shape := ⟨2, ![80, 160000]⟩
abbrev S20x47735 : Shape := ⟨2, ![20, 47735]⟩
abbrev S1x40000 : Shape := ⟨2, ![1, 40000]⟩
abbrev S1x160000 : Shape := ⟨2, ![1, 160000]⟩
abbrev S1x47735 : Shape := ⟨2, ![1, 47735]⟩
abbrev S1x3 : Shape := ⟨2, ![1, 3]⟩
abbrev S1x2 : Shape := ⟨2, ![1, 2]⟩
abbrev S_ : Shape := ⟨0, ![]⟩
abbrev S1x1 : Shape := ⟨2, ![1, 1]⟩
abbrev S128x3 : Shape := ⟨2, ![128, 3]⟩

class Facts : Prop where
  slices_S128x128_S1x3_0_6 : S128x128.Slices ![0, 6] S1x3
  slices_S128x128_S1x3_0_9 : S128x128.Slices ![0, 9] S1x3
  slices_S128x128_S1x2_0_7 : S128x128.Slices ![0, 7] S1x2
  bcast_S_S1x1 : S_.BroadcastsInDim S1x1 (![] : Fin 0 → Fin S1x1.rank)
  concatenates_S1x2_S1x1_S1x3_d1 : Shape.Concatenates [S1x2, S1x1] S1x3 1
  bcast_S_S1x3 : S_.BroadcastsInDim S1x3 (![] : Fin 0 → Fin S1x3.rank)
  slices_S128x128_S128x3_0_0 : S128x128.Slices ![0, 0] S128x3
  bcast_S_S128x3 : S_.BroadcastsInDim S128x3 (![] : Fin 0 → Fin S128x3.rank)
  bcast_S1x3_S128x3_0_1 : S1x3.BroadcastsInDim S128x3 (![0, 1] : Fin 2 → Fin S128x3.rank)

variable [Facts]

def fn_part1 {F : FTy → Type} [FloatOps F] (main_arg0 : IVec S128x128 32) (main_v0 : IVec S1x3 32) (main_v1 : IVec S1x3 32) (main_v4 : IVec S1x3 32) (main_v17 : IVec S1x3 1) : IVec S128x3 1 :=
  let main_c_5 : IVec S_ 32 := constantI S_ 32 16896#32
  let main_v18 : IVec S1x3 32 := broadcastInDim S1x3 ![] bcast_S_S1x3 main_c_5
  let main_v19 : IVec S1x3 1 := cmpi .sle main_v1 main_v18
  let main_v20 : IVec S1x3 1 := andi main_v17 main_v19
  let main_v21 : IVec S1x3 32 := addi main_v0 main_v1
  let main_v22 : IVec S1x3 1 := cmpi .sle main_v21 main_v4
  let main_v23 : IVec S1x3 1 := andi main_v20 main_v22
  let main_v24 : IVec S128x3 32 := (extractStridedSlice S128x3 ![0, 0] · slices_S128x128_S128x3_0_0) main_arg0
  let main_c_6 : IVec S_ 32 := constantI S_ 32 0#32
  let main_v25 : IVec S128x3 32 := broadcastInDim S128x3 ![] bcast_S_S128x3 main_c_6
  let main_v26 : IVec S128x3 1 := cmpi .sge main_v24 main_v25
  let main_v27 : IVec S128x3 1 := broadcastInDim S128x3 ![0, 1] bcast_S1x3_S128x3_0_1 main_v23
  let main_v28 : IVec S128x3 1 := andi main_v27 main_v26
  let main_v29 : IVec S128x3 32 := (extractStridedSlice S128x3 ![0, 0] · slices_S128x128_S128x3_0_0) main_arg0
  let main_c_7 : IVec S_ 32 := constantI S_ 32 16768#32
  let main_v30 : IVec S128x3 32 := broadcastInDim S128x3 ![] bcast_S_S128x3 main_c_7
  let main_v31 : IVec S128x3 1 := cmpi .slt main_v29 main_v30
  let main_v32 : IVec S128x3 1 := andi main_v28 main_v31
  main_v32

def fn {F : FTy → Type} [FloatOps F] (main_arg0 : IVec S128x128 32) (main_arg1 : IVec S8x2048 32) (main_arg2 : IVec S128x128 32) (main_arg3 : FVec F S3x16896x128 .f32) (main_arg4 : IVec S320x40000 8) (main_arg5 : IVec S80x160000 8) (main_arg6 : IVec S20x47735 8) (main_arg7 : FVec F S1x40000 .f32) (main_arg8 : FVec F S1x160000 .f32) (main_arg9 : FVec F S1x47735 .f32) : IVec S128x3 1 :=
  let main_v0 : IVec S1x3 32 := (extractStridedSlice S1x3 ![0, 6] · slices_S128x128_S1x3_0_6) main_arg0
  let main_v1 : IVec S1x3 32 := (extractStridedSlice S1x3 ![0, 9] · slices_S128x128_S1x3_0_9) main_arg0
  let main_v2 : IVec S1x2 32 := (extractStridedSlice S1x2 ![0, 7] · slices_S128x128_S1x2_0_7) main_arg0
  let main_c : IVec S_ 32 := constantI S_ 32 16896#32
  let main_v3 : IVec S1x1 32 := broadcastInDim S1x1 ![] bcast_S_S1x1 main_c
  let main_v4 : IVec S1x3 32 := (fun a b => concatenate S1x3 1 [⟨S1x2, a⟩, ⟨S1x1, b⟩] concatenates_S1x2_S1x1_S1x3_d1) main_v2 main_v3
  let main_c_0 : IVec S_ 32 := constantI S_ 32 0#32
  let main_v5 : IVec S1x3 32 := broadcastInDim S1x3 ![] bcast_S_S1x3 main_c_0
  let main_v6 : IVec S1x3 1 := cmpi .sge main_v0 main_v5
  let main_c_1 : IVec S_ 32 := constantI S_ 32 16896#32
  let main_v7 : IVec S1x3 32 := broadcastInDim S1x3 ![] bcast_S_S1x3 main_c_1
  let main_v8 : IVec S1x3 1 := cmpi .sle main_v0 main_v7
  let main_v9 : IVec S1x3 1 := andi main_v6 main_v8
  let main_c_2 : IVec S_ 32 := constantI S_ 32 127#32
  let main_v10 : IVec S1x3 32 := broadcastInDim S1x3 ![] bcast_S_S1x3 main_c_2
  let main_v11 : IVec S1x3 32 := andi main_v0 main_v10
  let main_c_3 : IVec S_ 32 := constantI S_ 32 0#32
  let main_v12 : IVec S1x3 32 := broadcastInDim S1x3 ![] bcast_S_S1x3 main_c_3
  let main_v13 : IVec S1x3 1 := cmpi .eq main_v11 main_v12
  let main_v14 : IVec S1x3 1 := andi main_v9 main_v13
  let main_c_4 : IVec S_ 32 := constantI S_ 32 0#32
  let main_v15 : IVec S1x3 32 := broadcastInDim S1x3 ![] bcast_S_S1x3 main_c_4
  let main_v16 : IVec S1x3 1 := cmpi .sge main_v1 main_v15
  let main_v17 : IVec S1x3 1 := andi main_v14 main_v16
  fn_part1 (F := F) main_arg0 main_v0 main_v1 main_v4 main_v17
-- ==== Kernel.lean ====
abbrev S8x2048 : Shape := ⟨2, ![8, 2048]⟩
abbrev S8x2048x1280 : Shape := ⟨3, ![8, 2048, 1280]⟩
abbrev S1280x20003 : Shape := ⟨2, ![1280, 20003]⟩
abbrev S20003 : Shape := ⟨1, ![20003]⟩
abbrev S1x20003 : Shape := ⟨2, ![1, 20003]⟩
abbrev S1x512x1280 : Shape := ⟨3, ![1, 512, 1280]⟩
abbrev S128x128 : Shape := ⟨2, ![128, 128]⟩
abbrev S8x128 : Shape := ⟨2, ![8, 128]⟩
abbrev S1x128 : Shape := ⟨2, ![1, 128]⟩
abbrev S1x512 : Shape := ⟨2, ![1, 512]⟩
abbrev S512x128 : Shape := ⟨2, ![512, 128]⟩
abbrev S512x1 : Shape := ⟨2, ![512, 1]⟩
abbrev S512x1280 : Shape := ⟨2, ![512, 1280]⟩
abbrev S1280x512 : Shape := ⟨2, ![1280, 512]⟩
abbrev S512x512 : Shape := ⟨2, ![512, 512]⟩
abbrev S512 : Shape := ⟨1, ![512]⟩
abbrev S1280x35 : Shape := ⟨2, ![1280, 35]⟩
abbrev S512x35 : Shape := ⟨2, ![512, 35]⟩
abbrev S1x35 : Shape := ⟨2, ![1, 35]⟩

abbrev nBuf : Space → Nat
  | .hbm => 9
  | .vmem => 14
  | .smem => 0
  | _ => 0

abbrev bufTy : (tb : Table) → Fin (tcTables nBuf tb) → BufTy
  | .hbm, ⟨0, _⟩ => ⟨S8x2048, .i32⟩
  | .hbm, ⟨1, _⟩ => ⟨S8x2048, .i32⟩
  | .hbm, ⟨2, _⟩ => ⟨S8x2048x1280, .fp8e4m3⟩
  | .hbm, ⟨3, _⟩ => ⟨S8x2048, .f32⟩
  | .hbm, ⟨4, _⟩ => ⟨S1280x20003, .fp8e4m3⟩
  | .hbm, ⟨5, _⟩ => ⟨S20003, .f32⟩
  | .hbm, ⟨6, _⟩ => ⟨S1x20003, .f32⟩
  | .hbm, ⟨7, _⟩ => ⟨S8x2048, .f32⟩
  | .hbm, ⟨8, _⟩ => ⟨S8x2048, .f32⟩
  | .local _ .vmem, ⟨0, _⟩ => ⟨S8x2048, .i32⟩
  | .local _ .vmem, ⟨1, _⟩ => ⟨S8x2048, .i32⟩
  | .local _ .vmem, ⟨2, _⟩ => ⟨S1x512x1280, .fp8e4m3⟩
  | .local _ .vmem, ⟨3, _⟩ => ⟨S1x512x1280, .fp8e4m3⟩
  | .local _ .vmem, ⟨4, _⟩ => ⟨S8x2048, .f32⟩
  | .local _ .vmem, ⟨5, _⟩ => ⟨S1280x20003, .fp8e4m3⟩
  | .local _ .vmem, ⟨6, _⟩ => ⟨S1x20003, .f32⟩
  | .local _ .vmem, ⟨7, _⟩ => ⟨S8x2048, .f32⟩
  | .local _ .vmem, ⟨8, _⟩ => ⟨S8x2048, .f32⟩
  | .local _ .vmem, ⟨9, _⟩ => ⟨S128x128, .i32⟩
  | .local _ .vmem, ⟨10, _⟩ => ⟨S128x128, .i32⟩
  | .local _ .vmem, ⟨11, _⟩ => ⟨S128x128, .f32⟩
  | .local _ .vmem, ⟨12, _⟩ => ⟨S128x128, .f32⟩
  | .local _ .vmem, ⟨13, _⟩ => ⟨S128x128, .f32⟩
  | _, _ => ⟨S8x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8

abbrev nD : Nat := 1
abbrev τ : Topo := Topo.v7x

variable {F : FTy → Type} [FloatOps F]

abbrev grid0 : Pipeline.Grid := ⟨1, ![32], ![false]⟩

def k0_off1 (i : grid0.Coords) (c0_i32_13 : BitVec 32) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.muli v9 c4_i32_3
  let c8_i32 : BitVec 32 := 8#32
  let v11 : BitVec 32 := Scalar.muli v10 c8_i32
  let c0_i32_5 : BitVec 32 := 0#32
  let v13 : BitVec 1 := Scalar.cmpi .sgt arg0 c0_i32_5
  let v14 : BitVec 32 := Scalar.extui v13
  let c0_i32_6 : BitVec 32 := 0#32
  let v15 : BitVec 1 := Scalar.cmpi .slt arg0 c0_i32_6
  let v16 : BitVec 32 := Scalar.extui v15
  let v17 : BitVec 32 := Scalar.subi v14 v16
  let c4_i32_4 : BitVec 32 := 4#32
  let c0_i32_7 : BitVec 32 := 0#32
  let v18 : BitVec 1 := Scalar.cmpi .sgt c4_i32_4 c0_i32_7
  let v19 : BitVec 32 := Scalar.extui v18
  let c0_i32_8 : BitVec 32 := 0#32
  let v20 : BitVec 1 := Scalar.cmpi .slt c4_i32_4 c0_i32_8
  let v21 : BitVec 32 := Scalar.extui v20
  let v22 : BitVec 32 := Scalar.subi v19 v21
  let v23 : BitVec 1 := Scalar.cmpi .ne v17 v22
  let v24 : BitVec 32 := Scalar.remsi arg0 c4_i32_4
  let c0_i32_9 : BitVec 32 := 0#32
  let v25 : BitVec 1 := Scalar.cmpi .ne v24 c0_i32_9
  let v26 : BitVec 1 := Scalar.andi v23 v25
  let v12 : BitVec 32 := Scalar.divsi arg0 c4_i32_4
  let c1_i32_10 : BitVec 32 := 1#32
  let v27 : BitVec 32 := Scalar.subi v12 c1_i32_10
  let v28 : BitVec 32 := Scalar.select v26 v27 v12
  let v29 : BitVec 32 := Scalar.addi v11 v28
  let v33 : BitVec 32 := Scalar.addi v29 c0_i32_13
  let v34 : Index := Scalar.indexCast v33
  let c0 : Index := 0#32
  ![v34.toNat, 0]
@[reducible] def k0_t1_loop : Scf.Loop 32 :=
  let c0_i32_40 : BitVec 32 := 0#32
  let c39_i32 : BitVec 32 := 39#32
  let v122 : BitVec 32 := Scalar.addi c0_i32_40 c39_i32
  let c1_i32_41 : BitVec 32 := 1#32
  ⟨c0_i32_40, v122, c1_i32_41⟩
def k0_mult1 (k0_t1 : Fin k0_t1_loop.trips) : BitVec 32 :=
  let c0_i32_40 : BitVec 32 := 0#32
  let c1_i32_41 : BitVec 32 := 1#32
  let arg14 : BitVec 32 := Scf.iv c0_i32_40 c1_i32_41 k0_t1
  let c512_i32 : BitVec 32 := 512#32
  let v233 : BitVec 32 := Scalar.muli arg14 c512_i32
  v233
def k0_off2 (k0_t1 : Fin k0_t1_loop.trips) : Fin 2 → Nat :=
  let c0_70 : Index := 0#32
  let c0_i32_40 : BitVec 32 := 0#32
  let c1_i32_41 : BitVec 32 := 1#32
  let arg14 : BitVec 32 := Scf.iv c0_i32_40 c1_i32_41 k0_t1
  let c512_i32 : BitVec 32 := 512#32
  let v233 : BitVec 32 := Scalar.muli arg14 c512_i32
  let v234 : BitVec 32 := v233
  let v235 : Index := Scalar.indexCast v234
  ![0, v235.toNat]
def k0_off3 (k0_t1 : Fin k0_t1_loop.trips) : Fin 2 → Nat :=
  let c0_72 : Index := 0#32
  let c0_i32_40 : BitVec 32 := 0#32
  let c1_i32_41 : BitVec 32 := 1#32
  let arg14 : BitVec 32 := Scf.iv c0_i32_40 c1_i32_41 k0_t1
  let c512_i32 : BitVec 32 := 512#32
  let v233 : BitVec 32 := Scalar.muli arg14 c512_i32
  let v234 : BitVec 32 := v233
  let v240 : Index := Scalar.indexCast v234
  ![0, v240.toNat]
def k0_cond2 (i : grid0.Coords) : BitVec 1 :=
  let arg0 : BitVec 32 := BitVec.ofNat 32 (i 0).val
  let c31_i32 : BitVec 32 := 31#32
  let v230 : BitVec 1 := Scalar.cmpi .eq arg0 c31_i32
  let v231 : BitVec 32 := Scalar.extui v230
  let c0_i32_69 : BitVec 32 := 0#32
  let v232 : BitVec 1 := Scalar.cmpi .ne v231 c0_i32_69
  v232

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x2048 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x1280 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1280x20003 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x20003 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S8x2048 : Shape := ⟨2, ![8, 2048]⟩
abbrev S8x2048x1280 : Shape := ⟨3, ![8, 2048, 1280]⟩
abbrev S1280x20003 : Shape := ⟨2, ![1280, 20003]⟩
abbrev S20003 : Shape := ⟨1, ![20003]⟩
abbrev S16384 : Shape := ⟨1, ![16384]⟩
abbrev S_ : Shape := ⟨0, ![]⟩
abbrev S16384x20003 : Shape := ⟨2, ![16384, 20003]⟩
abbrev S16384x1280 : Shape := ⟨2, ![16384, 1280]⟩
abbrev S16384x1 : Shape := ⟨2, ![16384, 1]⟩
abbrev S1x20003 : Shape := ⟨2, ![1, 20003]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 69
  | .vmem => 3
  | .smem => 0
  | _ => 0

abbrev bufTy : (tb : Table) → Fin (tcTables nBuf tb) → BufTy
  | .hbm, ⟨0, _⟩ => ⟨S8x2048, .i32⟩
  | .hbm, ⟨1, _⟩ => ⟨S8x2048, .i32⟩
  | .hbm, ⟨2, _⟩ => ⟨S8x2048x1280, .fp8e4m3⟩
  | .hbm, ⟨3, _⟩ => ⟨S8x2048, .f32⟩
  | .hbm, ⟨4, _⟩ => ⟨S1280x20003, .fp8e4m3⟩
  | .hbm, ⟨5, _⟩ => ⟨S20003, .f32⟩
  | .hbm, ⟨6, _⟩ => ⟨S16384, .i32⟩
  | .hbm, ⟨7, _⟩ => ⟨S16384, .i32⟩
  | .hbm, ⟨8, _⟩ => ⟨S16384, .f32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S16384x20003, .f32⟩
  | .hbm, ⟨20, _⟩ => ⟨S16384x1, .f32⟩
  | .hbm, ⟨21, _⟩ => ⟨S16384x20003, .f32⟩
  | .hbm, ⟨22, _⟩ => ⟨S16384x20003, .f32⟩
  | .hbm, ⟨23, _⟩ => ⟨S1x20003, .f32⟩
  | .hbm, ⟨24, _⟩ => ⟨S16384x20003, .f32⟩
  | .hbm, ⟨25, _⟩ => ⟨S16384x20003, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S16384x20003, .f32⟩
  | .hbm, ⟨30, _⟩ => ⟨S16384x20003, .f32⟩
  | .hbm, ⟨31, _⟩ => ⟨S16384x20003, .f32⟩
  | .hbm, ⟨32, _⟩ => ⟨S_, .f32⟩
  | .hbm, ⟨33, _⟩ => ⟨S16384, .f32⟩
  | .hbm, ⟨34, _⟩ => ⟨S16384, .f32⟩
  | .hbm, ⟨35, _⟩ => ⟨S16384, .f32⟩
  | .hbm, ⟨36, _⟩ => ⟨S16384x1, .i32⟩
  | .hbm, ⟨37, _⟩ => ⟨S_, .i32⟩
  | .hbm, ⟨38, _⟩ => ⟨S16384x1, .i32⟩
  | .hbm, ⟨39, _⟩ => ⟨S16384x1, .i1⟩
  | .hbm, ⟨40, _⟩ => ⟨S_, .i32⟩
  | .hbm, ⟨41, _⟩ => ⟨S16384x1, .i32⟩
  | .hbm, ⟨42, _⟩ => ⟨S16384x1, .i32⟩
  | .hbm, ⟨43, _⟩ => ⟨S16384x1, .i32⟩
  | .hbm, ⟨44, _⟩ => ⟨S16384x1x1, .i32⟩
  | .hbm, ⟨45, _⟩ => ⟨S1, .i32⟩
  | .hbm, ⟨46, _⟩ => ⟨S_, .i32⟩
  | .hbm, ⟨47, _⟩ => ⟨S16384x1x1, .i32⟩
  | .hbm, ⟨48, _⟩ => ⟨S16384x1x1, .i1⟩
  | .hbm, ⟨49, _⟩ => ⟨S1x1x1, .i32⟩
  | .hbm, ⟨50, _⟩ => ⟨S16384x1x1, .i32⟩
  | .hbm, ⟨51, _⟩ => ⟨S16384x1x1, .i1⟩
  | .hbm, ⟨52, _⟩ => ⟨S16384x1x1, .i1⟩
  | .hbm, ⟨53, _⟩ => ⟨S_, .i1⟩
  | .hbm, ⟨54, _⟩ => ⟨S16384x1, .i1⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384, .f32⟩
  | .hbm, ⟨60, _⟩ => ⟨S16384, .f32⟩
  | .hbm, ⟨61, _⟩ => ⟨S_, .f32⟩
  | .hbm, ⟨62, _⟩ => ⟨S16384, .f32⟩
  | .hbm, ⟨63, _⟩ => ⟨S16384, .f32⟩
  | .hbm, ⟨64, _⟩ => ⟨S8x2048, .f32⟩
  | .hbm, ⟨65, _⟩ => ⟨S_, .f32⟩
  | .hbm, ⟨66, _⟩ => ⟨S16384, .f32⟩
  | .hbm, ⟨67, _⟩ => ⟨S16384, .f32⟩
  | .hbm, ⟨68, _⟩ => ⟨S8x2048, .f32⟩
  | .local _ .vmem, ⟨0, _⟩ => ⟨S8x2048x1280, .fp8e4m3⟩
  | .local _ .vmem, ⟨1, _⟩ => ⟨S1280x20003, .fp8e4m3⟩
  | .local _ .vmem, ⟨2, _⟩ => ⟨S16384x20003, .f32⟩
  | _, _ => ⟨S8x2048, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_cst : Ref sig .tc := ⟨.hbm, 56, rfl⟩
abbrev main_call1_v14 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_3 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_cst_4 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x2048x1280 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280x20003 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x20003 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Tail.lean ====
abbrev S128x128 : Shape := ⟨2, ![128, 128]⟩
abbrev S8x2048 : Shape := ⟨2, ![8, 2048]⟩
abbrev S3x16896x128 : Shape := ⟨3, ![3, 16896, 128]⟩
abbrev S320x40000 : Shape := ⟨2, ![320, 40000]⟩
abbrev S80x160000 : Shape := ⟨2, ![80, 160000]⟩
abbrev S20x47735 : Shape := ⟨2, ![20, 47735]⟩
abbrev S1x40000 : Shape := ⟨2, ![1, 40000]⟩
abbrev S1x160000 : Shape := ⟨2, ![1, 160000]⟩
abbrev S1x47735 : Shape := ⟨2, ![1, 47735]⟩
abbrev S3x128x128 : Shape := ⟨3, ![3, 128, 128]⟩
abbrev S132x8x128 : Shape := ⟨3, ![132, 8, 128]⟩
abbrev S_ : Shape := ⟨0, ![]⟩
abbrev S8x128 : Shape := ⟨2, ![8, 128]⟩
abbrev S1x1 : Shape := ⟨2, ![1, 1]⟩
abbrev S1x128x128 : Shape := ⟨3, ![1, 128, 128]⟩
abbrev S128x384 : Shape := ⟨2, ![128, 384]⟩
abbrev S128x320 : Shape := ⟨2, ![128, 320]⟩
abbrev S1x128x1 : Shape := ⟨3, ![1, 128, 1]⟩
abbrev S128x1 : Shape := ⟨2, ![128, 1]⟩
abbrev S320x2048 : Shape := ⟨2, ![320, 2048]⟩
abbrev S128x2048 : Shape := ⟨2, ![128, 2048]⟩
abbrev S1x2048 : Shape := ⟨2, ![1, 2048]⟩
abbrev S128 : Shape := ⟨1, ![128]⟩
abbrev S320x1088 : Shape := ⟨2, ![320, 1088]⟩
abbrev S128x1088 : Shape := ⟨2, ![128, 1088]⟩
abbrev S1x1088 : Shape := ⟨2, ![1, 1088]⟩
abbrev S1x8x128 : Shape := ⟨3, ![1, 8, 128]⟩
abbrev S128x80 : Shape := ⟨2, ![128, 80]⟩
abbrev S80x2048 : Shape := ⟨2, ![80, 2048]⟩
abbrev S80x256 : Shape := ⟨2, ![80, 256]⟩
abbrev S128x256 : Shape := ⟨2, ![128, 256]⟩
abbrev S1x256 : Shape := ⟨2, ![1, 256]⟩
abbrev S128x20 : Shape := ⟨2, ![128, 20]⟩
abbrev S20x2048 : Shape := ⟨2, ![20, 2048]⟩
abbrev S20x631 : Shape := ⟨2, ![20, 631]⟩
abbrev S128x631 : Shape := ⟨2, ![128, 631]⟩
abbrev S1x631 : Shape := ⟨2, ![1, 631]⟩
abbrev S1x128 : Shape := ⟨2, ![1, 128]⟩
abbrev S8x128x1 : Shape := ⟨3, ![8, 128, 1]⟩

abbrev nBuf : Space → Nat
  | .hbm => 13
  | .vmem => 17
  | .smem => 1
  | _ => 0

abbrev bufTy : (tb : Table) → Fin (tcTables nBuf tb) → BufTy
  | .hbm, ⟨0, _⟩ => ⟨S128x128, .i32⟩
  | .hbm, ⟨1, _⟩ => ⟨S8x2048, .i32⟩
  | .hbm, ⟨2, _⟩ => ⟨S128x128, .i32⟩
  | .hbm, ⟨3, _⟩ => ⟨S3x16896x128, .f32⟩
  | .hbm, ⟨4, _⟩ => ⟨S320x40000, .i8⟩
  | .hbm, ⟨5, _⟩ => ⟨S80x160000, .i8⟩
  | .hbm, ⟨6, _⟩ => ⟨S20x47735, .i8⟩
  | .hbm, ⟨7, _⟩ => ⟨S1x40000, .f32⟩
  | .hbm, ⟨8, _⟩ => ⟨S1x160000, .f32⟩
  | .hbm, ⟨9, _⟩ => ⟨S1x47735, .f32⟩
  | .hbm, ⟨10, _⟩ => ⟨S8x2048, .f32⟩
  | .hbm, ⟨11, _⟩ => ⟨S8x2048, .f32⟩
  | .hbm, ⟨12, _⟩ => ⟨S8x2048, .f32⟩
  | .local _ .vmem, ⟨0, _⟩ => ⟨S8x2048, .i32⟩
  | .local _ .vmem, ⟨1, _⟩ => ⟨S128x128, .i32⟩
  | .local _ .vmem, ⟨2, _⟩ => ⟨S320x40000, .i8⟩
  | .local _ .vmem, ⟨3, _⟩ => ⟨S80x160000, .i8⟩
  | .local _ .vmem, ⟨4, _⟩ => ⟨S20x47735, .i8⟩
  | .local _ .vmem, ⟨5, _⟩ => ⟨S1x40000, .f32⟩
  | .local _ .vmem, ⟨6, _⟩ => ⟨S1x160000, .f32⟩
  | .local _ .vmem, ⟨7, _⟩ => ⟨S1x47735, .f32⟩
  | .local _ .vmem, ⟨8, _⟩ => ⟨S8x2048, .f32⟩
  | .local _ .vmem, ⟨9, _⟩ => ⟨S8x2048, .f32⟩
  | .local _ .vmem, ⟨10, _⟩ => ⟨S8x2048, .f32⟩
  | .local _ .vmem, ⟨11, _⟩ => ⟨S3x128x128, .f32⟩
  | .local _ .vmem, ⟨12, _⟩ => ⟨S132x8x128, .f32⟩
  | .local _ .vmem, ⟨13, _⟩ => ⟨S128x128, .i32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .smem, ⟨0, _⟩ => ⟨S128x128, .i32⟩
  | _, _ => ⟨S128x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

@[reducible] def k0_t1_loop (v66 : BitVec 32) : Scf.Loop 32 :=
  let c0_i32_40 : BitVec 32 := 0#32
  let c127_i32 : BitVec 32 := 127#32
  let v67 : BitVec 32 := Scalar.addi v66 c127_i32
  let c0_i32 : BitVec 32 := 0#32
  let v69 : BitVec 1 := Scalar.cmpi .sgt v67 c0_i32
  let v70 : BitVec 32 := Scalar.extui v69
  let c0_i32_35 : BitVec 32 := 0#32
  let v71 : BitVec 1 := Scalar.cmpi .slt v67 c0_i32_35
  let v72 : BitVec 32 := Scalar.extui v71
  let v73 : BitVec 32 := Scalar.subi v70 v72
  let c128_i32 : BitVec 32 := 128#32
  let c0_i32_36 : BitVec 32 := 0#32
  let v74 : BitVec 1 := Scalar.cmpi .sgt c128_i32 c0_i32_36
  let v75 : BitVec 32 := Scalar.extui v74
  let c0_i32_37 : BitVec 32 := 0#32
  let v76 : BitVec 1 := Scalar.cmpi .slt c128_i32 c0_i32_37
  let v77 : BitVec 32 := Scalar.extui v76
  let v78 : BitVec 32 := Scalar.subi v75 v77
  let v79 : BitVec 1 := Scalar.cmpi .ne v73 v78
  let v80 : BitVec 32 := Scalar.remsi v67 c128_i32
  let c0_i32_38 : BitVec 32 := 0#32
  let v81 : BitVec 1 := Scalar.cmpi .ne v80 c0_i32_38
  let v82 : BitVec 1 := Scalar.andi v79 v81
  let v68 : BitVec 32 := Scalar.divsi v67 c128_i32
  let c1_i32 : BitVec 32 := 1#32
  let v83 : BitVec 32 := Scalar.subi v68 c1_i32
  let v84 : BitVec 32 := Scalar.select v82 v83 v68
  let v85 : BitVec 32 := Scalar.subi v84 c0_i32_40
  let c1_i32_41 : BitVec 32 := 1#32
  let v87 : BitVec 32 := Scalar.divsi v85 c1_i32_41
  let v88 : BitVec 32 := Scalar.muli v87 c1_i32_41
  let v89 : BitVec 32 := Scalar.addi c0_i32_40 v88
  let c1_i32_42 : BitVec 32 := 1#32
  ⟨c0_i32_40, v89, c1_i32_42⟩

def k0_mult1 (v65 : BitVec 32) (v66 : BitVec 32) (k0_t1 : Fin (k0_t1_loop v66).trips) : BitVec 32 :=
  let c0_i32_40 : BitVec 32 := 0#32
  let c1_i32_42 : BitVec 32 := 1#32
  let arg20 : BitVec 32 := Scf.iv c0_i32_40 c1_i32_42 k0_t1
  let c128_i32_271 : BitVec 32 := 128#32
  let v237 : BitVec 32 := Scalar.muli arg20 c128_i32_271
  let v238 : BitVec 32 := Scalar.addi v65 v237
  v238
def k0_off1 (v65 : BitVec 32) (v66 : BitVec 32) (k0_t1 : Fin (k0_t1_loop v66).trips) : Fin 3 → Nat :=
  let c0_i32_272 : BitVec 32 := 0#32
  let c0_i32_40 : BitVec 32 := 0#32
  let c1_i32_42 : BitVec 32 := 1#32
  let arg20 : BitVec 32 := Scf.iv c0_i32_40 c1_i32_42 k0_t1
  let c128_i32_271 : BitVec 32 := 128#32
  let v237 : BitVec 32 := Scalar.muli arg20 c128_i32_271
  let v238 : BitVec 32 := Scalar.addi v65 v237
  let v239 : BitVec 32 := v238
  let c0_i32_273 : BitVec 32 := 0#32
  ![0, v239.toNat, 0]
@[reducible] def k0_t2_loop : Scf.Loop 32 :=
  let c0_i32_291 : BitVec 32 := 0#32
  let c19_i32 : BitVec 32 := 19#32
  let v258 : BitVec 32 := Scalar.addi c0_i32_291 c19_i32
  let c1_i32_292 : BitVec 32 := 1#32
  ⟨c0_i32_291, v258, c1_i32_292⟩
def k0_mult2 (k0_t2 : Fin k0_t2_loop.trips) : BitVec 32 :=
  let c0_i32_291 : BitVec 32 := 0#32
  let c1_i32_292 : BitVec 32 := 1#32
  let arg21 : BitVec 32 := Scf.iv c0_i32_291 c1_i32_292 k0_t2
  let c2048_i32 : BitVec 32 := 2048#32
  let v334 : BitVec 32 := Scalar.muli arg21 c2048_i32
  v334
def k0_off2 (k0_t2 : Fin k0_t2_loop.trips) : Fin 2 → Nat :=
  let c0_315 : Index := 0#32
  let c0_i32_291 : BitVec 32 := 0#32
  let c1_i32_292 : BitVec 32 := 1#32
  let arg21 : BitVec 32 := Scf.iv c0_i32_291 c1_i32_292 k0_t2
  let c2048_i32 : BitVec 32 := 2048#32
  let v334 : BitVec 32 := Scalar.muli arg21 c2048_i32
  let v335 : BitVec 32 := v334
  let v336 : Index := Scalar.indexCast v335
  ![0, v336.toNat]
def k0_off3 (k0_t2 : Fin k0_t2_loop.trips) : Fin 2 → Nat :=
  let c0_317 : Index := 0#32
  let c0_i32_291 : BitVec 32 := 0#32
  let c1_i32_292 : BitVec 32 := 1#32
  let arg21 : BitVec 32 := Scf.iv c0_i32_291 c1_i32_292 k0_t2
  let c2048_i32 : BitVec 32 := 2048#32
  let v334 : BitVec 32 := Scalar.muli arg21 c2048_i32
  let v335 : BitVec 32 := v334
  let v342 : Index := Scalar.indexCast v335
  ![0, v342.toNat]
def k0_off4 (v65 : BitVec 32) (v66 : BitVec 32) (k0_t1 : Fin (k0_t1_loop v66).trips) : Fin 3 → Nat :=
  let c0_i32_40 : BitVec 32 := 0#32
  let c1_i32_42 : BitVec 32 := 1#32
  let arg20 : BitVec 32 := Scf.iv c0_i32_40 c1_i32_42 k0_t1
  let c128_i32_271 : BitVec 32 := 128#32
  let v237 : BitVec 32 := Scalar.muli arg20 c128_i32_271
  let v238 : BitVec 32 := Scalar.addi v65 v237
  let v239 : BitVec 32 := v238
  let c0_i32_307 : BitVec 32 := 0#32
  let v314 : BitVec 1 := Scalar.cmpi .sgt v239 c0_i32_307
  let v315 : BitVec 32 := Scalar.extui v314
  let c0_i32_308 : BitVec 32 := 0#32
  let v316 : BitVec 1 := Scalar.cmpi .slt v239 c0_i32_308
  let v317 : BitVec 32 := Scalar.extui v316
  let v318 : BitVec 32 := Scalar.subi v315 v317
  let c128_i32_306 : BitVec 32 := 128#32
  let c0_i32_309 : BitVec 32 := 0#32
  let v319 : BitVec 1 := Scalar.cmpi .sgt c128_i32_306 c0_i32_309
  let v320 : BitVec 32 := Scalar.extui v319
  let c0_i32_310 : BitVec 32 := 0#32
  let v321 : BitVec 1 := Scalar.cmpi .slt c128_i32_306 c0_i32_310
  let v322 : BitVec 32 := Scalar.extui v321
  let v323 : BitVec 32 := Scalar.subi v320 v322
  let v324 : BitVec 1 := Scalar.cmpi .ne v318 v323
  let v325 : BitVec 32 := Scalar.remsi v239 c128_i32_306
  let c0_i32_311 : BitVec 32 := 0#32
  let v326 : BitVec 1 := Scalar.cmpi .ne v325 c0_i32_311
  let v327 : BitVec 1 := Scalar.andi v324 v326
  let v313 : BitVec 32 := Scalar.divsi v239 c128_i32_306
  let c1_i32_312 : BitVec 32 := 1#32
  let v328 : BitVec 32 := Scalar.subi v313 c1_i32_312
  let v329 : BitVec 32 := Scalar.select v327 v328 v313
  let v330 : Index := Scalar.indexCast v329
  let c0_313 : Index := 0#32
  let c0_314 : Index := 0#32
  ![v330.toNat, 0, 0]
@[reducible] def k0_t3_loop (v66 : BitVec 32) : Scf.Loop 32 :=
  let c0_i32_40 : BitVec 32 := 0#32
  let c127_i32 : BitVec 32 := 127#32
  let v67 : BitVec 32 := Scalar.addi v66 c127_i32
  let c0_i32 : BitVec 32 := 0#32
  let v69 : BitVec 1 := Scalar.cmpi .sgt v67 c0_i32
  let v70 : BitVec 32 := Scalar.extui v69
  let c0_i32_35 : BitVec 32 := 0#32
  let v71 : BitVec 1 := Scalar.cmpi .slt v67 c0_i32_35
  let v72 : BitVec 32 := Scalar.extui v71
  let v73 : BitVec 32 := Scalar.subi v70 v72
  let c128_i32 : BitVec 32 := 128#32
  let c0_i32_36 : BitVec 32 := 0#32
  let v74 : BitVec 1 := Scalar.cmpi .sgt c128_i32 c0_i32_36
  let v75 : BitVec 32 := Scalar.extui v74
  let c0_i32_37 : BitVec 32 := 0#32
  let v76 : BitVec 1 := Scalar.cmpi .slt c128_i32 c0_i32_37
  let v77 : BitVec 32 := Scalar.extui v76
  let v78 : BitVec 32 := Scalar.subi v75 v77
  let v79 : BitVec 1 := Scalar.cmpi .ne v73 v78
  let v80 : BitVec 32 := Scalar.remsi v67 c128_i32
  let c0_i32_38 : BitVec 32 := 0#32
  let v81 : BitVec 1 := Scalar.cmpi .ne v80 c0_i32_38
  let v82 : BitVec 1 := Scalar.andi v79 v81
  let v68 : BitVec 32 := Scalar.divsi v67 c128_i32
  let c1_i32 : BitVec 32 := 1#32
  let v83 : BitVec 32 := Scalar.subi v68 c1_i32
  let v84 : BitVec 32 := Scalar.select v82 v83 v68
  let v85 : BitVec 32 := Scalar.subi v84 c0_i32_40
  let c1_i32_41 : BitVec 32 := 1#32
  let v87 : BitVec 32 := Scalar.divsi v85 c1_i32_41
  let v88 : BitVec 32 := Scalar.muli v87 c1_i32_41
  let v89 : BitVec 32 := Scalar.addi c0_i32_40 v88
  let v86 : BitVec 32 := Scalar.addi c0_i32_40 v85
  let c1_i32_43 : BitVec 32 := 1#32
  ⟨v89, v86, c1_i32_43⟩
def k0_mult3 (v65 : BitVec 32) (v66 : BitVec 32) (k0_t3 : Fin (k0_t3_loop v66).trips) : BitVec 32 :=
  let c0_i32_40 : BitVec 32 := 0#32
  let c127_i32 : BitVec 32 := 127#32
  let v67 : BitVec 32 := Scalar.addi v66 c127_i32
  let c0_i32 : BitVec 32 := 0#32
  let v69 : BitVec 1 := Scalar.cmpi .sgt v67 c0_i32
  let v70 : BitVec 32 := Scalar.extui v69
  let c0_i32_35 : BitVec 32 := 0#32
  let v71 : BitVec 1 := Scalar.cmpi .slt v67 c0_i32_35
  let v72 : BitVec 32 := Scalar.extui v71
  let v73 : BitVec 32 := Scalar.subi v70 v72
  let c128_i32 : BitVec 32 := 128#32
  let c0_i32_36 : BitVec 32 := 0#32
  let v74 : BitVec 1 := Scalar.cmpi .sgt c128_i32 c0_i32_36
  let v75 : BitVec 32 := Scalar.extui v74
  let c0_i32_37 : BitVec 32 := 0#32
  let v76 : BitVec 1 := Scalar.cmpi .slt c128_i32 c0_i32_37
  let v77 : BitVec 32 := Scalar.extui v76
  let v78 : BitVec 32 := Scalar.subi v75 v77
  let v79 : BitVec 1 := Scalar.cmpi .ne v73 v78
  let v80 : BitVec 32 := Scalar.remsi v67 c128_i32
  let c0_i32_38 : BitVec 32 := 0#32
  let v81 : BitVec 1 := Scalar.cmpi .ne v80 c0_i32_38
  let v82 : BitVec 1 := Scalar.andi v79 v81
  let v68 : BitVec 32 := Scalar.divsi v67 c128_i32
  let c1_i32 : BitVec 32 := 1#32
  let v83 : BitVec 32 := Scalar.subi v68 c1_i32
  let v84 : BitVec 32 := Scalar.select v82 v83 v68
  let v85 : BitVec 32 := Scalar.subi v84 c0_i32_40
  let c1_i32_41 : BitVec 32 := 1#32
  let v87 : BitVec 32 := Scalar.divsi v85 c1_i32_41
  let v88 : BitVec 32 := Scalar.muli v87 c1_i32_41
  let v89 : BitVec 32 := Scalar.addi c0_i32_40 v88
  let c1_i32_43 : BitVec 32 := 1#32
  let arg20 : BitVec 32 := Scf.iv v89 c1_i32_43 k0_t3
  let c128_i32_271 : BitVec 32 := 128#32
  let v237 : BitVec 32 := Scalar.muli arg20 c128_i32_271
  let v238 : BitVec 32 := Scalar.addi v65 v237
  v238
def k0_off5 (v65 : BitVec 32) (v66 : BitVec 32) (k0_t3 : Fin (k0_t3_loop v66).trips) : Fin 3 → Nat :=
  let c0_i32_272 : BitVec 32 := 0#32
  let c0_i32_40 : BitVec 32 := 0#32
  let c127_i32 : BitVec 32 := 127#32
  let v67 : BitVec 32 := Scalar.addi v66 c127_i32
  let c0_i32 : BitVec 32 := 0#32
  let v69 : BitVec 1 := Scalar.cmpi .sgt v67 c0_i32
  let v70 : BitVec 32 := Scalar.extui v69
  let c0_i32_35 : BitVec 32 := 0#32
  let v71 : BitVec 1 := Scalar.cmpi .slt v67 c0_i32_35
  let v72 : BitVec 32 := Scalar.extui v71
  let v73 : BitVec 32 := Scalar.subi v70 v72
  let c128_i32 : BitVec 32 := 128#32
  let c0_i32_36 : BitVec 32 := 0#32
  let v74 : BitVec 1 := Scalar.cmpi .sgt c128_i32 c0_i32_36
  let v75 : BitVec 32 := Scalar.extui v74
  let c0_i32_37 : BitVec 32 := 0#32
  let v76 : BitVec 1 := Scalar.cmpi .slt c128_i32 c0_i32_37
  let v77 : BitVec 32 := Scalar.extui v76
  let v78 : BitVec 32 := Scalar.subi v75 v77
  let v79 : BitVec 1 := Scalar.cmpi .ne v73 v78
  let v80 : BitVec 32 := Scalar.remsi v67 c128_i32
  let c0_i32_38 : BitVec 32 := 0#32
  let v81 : BitVec 1 := Scalar.cmpi .ne v80 c0_i32_38
  let v82 : BitVec 1 := Scalar.andi v79 v81
  let v68 : BitVec 32 := Scalar.divsi v67 c128_i32
  let c1_i32 : BitVec 32 := 1#32
  let v83 : BitVec 32 := Scalar.subi v68 c1_i32
  let v84 : BitVec 32 := Scalar.select v82 v83 v68
  let v85 : BitVec 32 := Scalar.subi v84 c0_i32_40
  let c1_i32_41 : BitVec 32 := 1#32
  let v87 : BitVec 32 := Scalar.divsi v85 c1_i32_41
  let v88 : BitVec 32 := Scalar.muli v87 c1_i32_41
  let v89 : BitVec 32 := Scalar.addi c0_i32_40 v88
  let c1_i32_43 : BitVec 32 := 1#32
  let arg20 : BitVec 32 := Scf.iv v89 c1_i32_43 k0_t3
  let c128_i32_271 : BitVec 32 := 128#32
  let v237 : BitVec 32 := Scalar.muli arg20 c128_i32_271
  let v238 : BitVec 32 := Scalar.addi v65 v237
  let v239 : BitVec 32 := v238
  let c0_i32_273 : BitVec 32 := 0#32
  ![0, v239.toNat, 0]
@[reducible] def k0_t4_loop : Scf.Loop 32 :=
  let c0_i32_291 : BitVec 32 := 0#32
  let c19_i32 : BitVec 32 := 19#32
  let v258 : BitVec 32 := Scalar.addi c0_i32_291 c19_i32
  let c1_i32_292 : BitVec 32 := 1#32
  ⟨c0_i32_291, v258, c1_i32_292⟩
def k0_mult4 (k0_t4 : Fin k0_t4_loop.trips) : BitVec 32 :=
  let c0_i32_291 : BitVec 32 := 0#32
  let c1_i32_292 : BitVec 32 := 1#32
  let arg21 : BitVec 32 := Scf.iv c0_i32_291 c1_i32_292 k0_t4
  let c2048_i32 : BitVec 32 := 2048#32
  let v334 : BitVec 32 := Scalar.muli arg21 c2048_i32
  v334
def k0_off6 (k0_t4 : Fin k0_t4_loop.trips) : Fin 2 → Nat :=
  let c0_315 : Index := 0#32
  let c0_i32_291 : BitVec 32 := 0#32
  let c1_i32_292 : BitVec 32 := 1#32
  let arg21 : BitVec 32 := Scf.iv c0_i32_291 c1_i32_292 k0_t4
  let c2048_i32 : BitVec 32 := 2048#32
  let v334 : BitVec 32 := Scalar.muli arg21 c2048_i32
  let v335 : BitVec 32 := v334
  let v336 : Index := Scalar.indexCast v335
  ![0, v336.toNat]
def k0_off7 (k0_t4 : Fin k0_t4_loop.trips) : Fin 2 → Nat :=
  let c0_317 : Index := 0#32
  let c0_i32_291 : BitVec 32 := 0#32
  let c1_i32_292 : BitVec 32 := 1#32
  let arg21 : BitVec 32 := Scf.iv c0_i32_291 c1_i32_292 k0_t4
  let c2048_i32 : BitVec 32 := 2048#32
  let v334 : BitVec 32 := Scalar.muli arg21 c2048_i32
  let v335 : BitVec 32 := v334
  let v342 : Index := Scalar.indexCast v335
  ![0, v342.toNat]
def k0_off8 (v65 : BitVec 32) (v66 : BitVec 32) (k0_t3 : Fin (k0_t3_loop v66).trips) : Fin 3 → Nat :=
  let c0_i32_40 : BitVec 32 := 0#32
  let c127_i32 : BitVec 32 := 127#32
  let v67 : BitVec 32 := Scalar.addi v66 c127_i32
  let c0_i32 : BitVec 32 := 0#32
  let v69 : BitVec 1 := Scalar.cmpi .sgt v67 c0_i32
  let v70 : BitVec 32 := Scalar.extui v69
  let c0_i32_35 : BitVec 32 := 0#32
  let v71 : BitVec 1 := Scalar.cmpi .slt v67 c0_i32_35
  let v72 : BitVec 32 := Scalar.extui v71
  let v73 : BitVec 32 := Scalar.subi v70 v72
  let c128_i32 : BitVec 32 := 128#32
  let c0_i32_36 : BitVec 32 := 0#32
  let v74 : BitVec 1 := Scalar.cmpi .sgt c128_i32 c0_i32_36
  let v75 : BitVec 32 := Scalar.extui v74
  let c0_i32_37 : BitVec 32 := 0#32
  let v76 : BitVec 1 := Scalar.cmpi .slt c128_i32 c0_i32_37
  let v77 : BitVec 32 := Scalar.extui v76
  let v78 : BitVec 32 := Scalar.subi v75 v77
  let v79 : BitVec 1 := Scalar.cmpi .ne v73 v78
  let v80 : BitVec 32 := Scalar.remsi v67 c128_i32
  let c0_i32_38 : BitVec 32 := 0#32
  let v81 : BitVec 1 := Scalar.cmpi .ne v80 c0_i32_38
  let v82 : BitVec 1 := Scalar.andi v79 v81
  let v68 : BitVec 32 := Scalar.divsi v67 c128_i32
  let c1_i32 : BitVec 32 := 1#32
  let v83 : BitVec 32 := Scalar.subi v68 c1_i32
  let v84 : BitVec 32 := Scalar.select v82 v83 v68
  let v85 : BitVec 32 := Scalar.subi v84 c0_i32_40
  let c1_i32_41 : BitVec 32 := 1#32
  let v87 : BitVec 32 := Scalar.divsi v85 c1_i32_41
  let v88 : BitVec 32 := Scalar.muli v87 c1_i32_41
  let v89 : BitVec 32 := Scalar.addi c0_i32_40 v88
  let c1_i32_43 : BitVec 32 := 1#32
  let arg20 : BitVec 32 := Scf.iv v89 c1_i32_43 k0_t3
  let c128_i32_271 : BitVec 32 := 128#32
  let v237 : BitVec 32 := Scalar.muli arg20 c128_i32_271
  let v238 : BitVec 32 := Scalar.addi v65 v237
  let v239 : BitVec 32 := v238
  let c0_i32_307 : BitVec 32 := 0#32
  let v314 : BitVec 1 := Scalar.cmpi .sgt v239 c0_i32_307
  let v315 : BitVec 32 := Scalar.extui v314
  let c0_i32_308 : BitVec 32 := 0#32
  let v316 : BitVec 1 := Scalar.cmpi .slt v239 c0_i32_308
  let v317 : BitVec 32 := Scalar.extui v316
  let v318 : BitVec 32 := Scalar.subi v315 v317
  let c128_i32_306 : BitVec 32 := 128#32
  let c0_i32_309 : BitVec 32 := 0#32
  let v319 : BitVec 1 := Scalar.cmpi .sgt c128_i32_306 c0_i32_309
  let v320 : BitVec 32 := Scalar.extui v319
  let c0_i32_310 : BitVec 32 := 0#32
  let v321 : BitVec 1 := Scalar.cmpi .slt c128_i32_306 c0_i32_310
  let v322 : BitVec 32 := Scalar.extui v321
  let v323 : BitVec 32 := Scalar.subi v320 v322
  let v324 : BitVec 1 := Scalar.cmpi .ne v318 v323
  let v325 : BitVec 32 := Scalar.remsi v239 c128_i32_306
  let c0_i32_311 : BitVec 32 := 0#32
  let v326 : BitVec 1 := Scalar.cmpi .ne v325 c0_i32_311
  let v327 : BitVec 1 := Scalar.andi v324 v326
  let v313 : BitVec 32 := Scalar.divsi v239 c128_i32_306
  let c1_i32_312 : BitVec 32 := 1#32
  let v328 : BitVec 32 := Scalar.subi v313 c1_i32_312
  let v329 : BitVec 32 := Scalar.select v327 v328 v313
  let v330 : Index := Scalar.indexCast v329
  let c0_313 : Index := 0#32
  let c0_314 : Index := 0#32
  ![v330.toNat, 0, 0]

def k0_chk1 (v65 : BitVec 32) (v66 : BitVec 32) : Prop :=
  ((k0_t1_loop v66).OK) ∧
  (∀ k0_t1 : Fin (k0_t1_loop v66).trips, 128 ∣ (k0_mult1 v65 v66 k0_t1).toNat) ∧
  (∀ k0_t1 : Fin (k0_t1_loop v66).trips, ∀ a, (k0_off1 v65 v66 k0_t1) a + S3x128x128.size a ≤ S3x16896x128.size a) ∧
  (∀ k0_t1 : Fin (k0_t1_loop v66).trips, ∀ a, (k0_off4 v65 v66 k0_t1) a + S1x8x128.size a ≤ S132x8x128.size a) ∧
  ((k0_t3_loop v66).OK) ∧
  (∀ k0_t3 : Fin (k0_t3_loop v66).trips, 128 ∣ (k0_mult3 v65 v66 k0_t3).toNat) ∧
  (∀ k0_t3 : Fin (k0_t3_loop v66).trips, ∀ a, (k0_off5 v65 v66 k0_t3) a + S3x128x128.size a ≤ S3x16896x128.size a) ∧
  (∀ k0_t3 : Fin (k0_t3_loop v66).trips, ∀ a, (k0_off8 v65 v66 k0_t3) a + S1x8x128.size a ≤ S132x8x128.size a)
theorem k0_t1_ok : ∀ (v65 : BitVec 32) (v66 : BitVec 32) (k0_hw1 : k0_chk1 v65 v66), (k0_t1_loop v66).OK := fun v65 v66 k0_hw1 => k0_hw1.1
theorem k0_mult1_dvd : ∀ (v65 : BitVec 32) (v66 : BitVec 32) (k0_hw1 : k0_chk1 v65 v66) (k0_t1 : Fin (k0_t1_loop v66).trips), 128 ∣ (k0_mult1 v65 v66 k0_t1).toNat := fun v65 v66 k0_hw1 k0_t1 => k0_hw1.2.1 k0_t1
theorem k0_off1_inb : ∀ (v65 : BitVec 32) (v66 : BitVec 32) (k0_hw1 : k0_chk1 v65 v66) (k0_t1 : Fin (k0_t1_loop v66).trips), ∀ a, (k0_off1 v65 v66 k0_t1) a + S3x128x128.size a ≤ S3x16896x128.size a := fun v65 v66 k0_hw1 k0_t1 => k0_hw1.2.2.1 k0_t1
theorem k0_off4_inb : ∀ (v65 : BitVec 32) (v66 : BitVec 32) (k0_hw1 : k0_chk1 v65 v66) (k0_t1 : Fin (k0_t1_loop v66).trips), ∀ a, (k0_off4 v65 v66 k0_t1) a + S1x8x128.size a ≤ S132x8x128.size a := fun v65 v66 k0_hw1 k0_t1 => k0_hw1.2.2.2.1 k0_t1
theorem k0_t3_ok : ∀ (v65 : BitVec 32) (v66 : BitVec 32) (k0_hw1 : k0_chk1 v65 v66), (k0_t3_loop v66).OK := fun v65 v66 k0_hw1 => k0_hw1.2.2.2.2.1
theorem k0_mult3_dvd : ∀ (v65 : BitVec 32) (v66 : BitVec 32) (k0_hw1 : k0_chk1 v65 v66) (k0_t3 : Fin (k0_t3_loop v66).trips), 128 ∣ (k0_mult3 v65 v66 k0_t3).toNat := fun v65 v66 k0_hw1 k0_t3 => k0_hw1.2.2.2.2.2.1 k0_t3
theorem k0_off5_inb : ∀ (v65 : BitVec 32) (v66 : BitVec 32) (k0_hw1 : k0_chk1 v65 v66) (k0_t3 : Fin (k0_t3_loop v66).trips), ∀ a, (k0_off5 v65 v66 k0_t3) a + S3x128x128.size a ≤ S3x16896x128.size a := fun v65 v66 k0_hw1 k0_t3 => k0_hw1.2.2.2.2.2.2.1 k0_t3
theorem k0_off8_inb : ∀ (v65 : BitVec 32) (v66 : BitVec 32) (k0_hw1 : k0_chk1 v65 v66) (k0_t3 : Fin (k0_t3_loop v66).trips), ∀ a, (k0_off8 v65 v66 k0_t3) a + S1x8x128.size a ≤ S132x8x128.size a := fun v65 v66 k0_hw1 k0_t3 => k0_hw1.2.2.2.2.2.2.2 k0_t3

@[reducible] def k0_t5_loop (v91 : BitVec 32) : Scf.Loop 32 :=
  let c0_i32_55 : BitVec 32 := 0#32
  let c127_i32_46 : BitVec 32 := 127#32
  let v92 : BitVec 32 := Scalar.addi v91 c127_i32_46
  let c0_i32_48 : BitVec 32 := 0#32
  let v94 : BitVec 1 := Scalar.cmpi .sgt v92 c0_i32_48
  let v95 : BitVec 32 := Scalar.extui v94
  let c0_i32_49 : BitVec 32 := 0#32
  let v96 : BitVec 1 := Scalar.cmpi .slt v92 c0_i32_49
  let v97 : BitVec 32 := Scalar.extui v96
  let v98 : BitVec 32 := Scalar.subi v95 v97
  let c128_i32_47 : BitVec 32 := 128#32
  let c0_i32_50 : BitVec 32 := 0#32
  let v99 : BitVec 1 := Scalar.cmpi .sgt c128_i32_47 c0_i32_50
  let v100 : BitVec 32 := Scalar.extui v99
  let c0_i32_51 : BitVec 32 := 0#32
  let v101 : BitVec 1 := Scalar.cmpi .slt c128_i32_47 c0_i32_51
  let v102 : BitVec 32 := Scalar.extui v101
  let v103 : BitVec 32 := Scalar.subi v100 v102
  let v104 : BitVec 1 := Scalar.cmpi .ne v98 v103
  let v105 : BitVec 32 := Scalar.remsi v92 c128_i32_47
  let c0_i32_52 : BitVec 32 := 0#32
  let v106 : BitVec 1 := Scalar.cmpi .ne v105 c0_i32_52
  let v107 : BitVec 1 := Scalar.andi v104 v106
  let v93 : BitVec 32 := Scalar.divsi v92 c128_i32_47
  let c1_i32_53 : BitVec 32 := 1#32
  let v108 : BitVec 32 := Scalar.subi v93 c1_i32_53
  let v109 : BitVec 32 := Scalar.select v107 v108 v93
  let v110 : BitVec 32 := Scalar.subi v109 c0_i32_55
  let c1_i32_56 : BitVec 32 := 1#32
  let v112 : BitVec 32 := Scalar.divsi v110 c1_i32_56
  let v113 : BitVec 32 := Scalar.muli v112 c1_i32_56
  let v114 : BitVec 32 := Scalar.addi c0_i32_55 v113
  let c1_i32_57 : BitVec 32 := 1#32
  ⟨c0_i32_55, v114, c1_i32_57⟩

def k0_mult5 (v90 : BitVec 32) (v91 : BitVec 32) (k0_t5 : Fin (k0_t5_loop v91).trips) : BitVec 32 :=
  let c0_i32_55 : BitVec 32 := 0#32
  let c1_i32_57 : BitVec 32 := 1#32
  let arg20 : BitVec 32 := Scf.iv c0_i32_55 c1_i32_57 k0_t5
  let c128_i32_271 : BitVec 32 := 128#32
  let v237 : BitVec 32 := Scalar.muli arg20 c128_i32_271
  let v238 : BitVec 32 := Scalar.addi v90 v237
  v238
def k0_off9 (v90 : BitVec 32) (v91 : BitVec 32) (k0_t5 : Fin (k0_t5_loop v91).trips) : Fin 3 → Nat :=
  let c0_i32_272 : BitVec 32 := 0#32
  let c0_i32_55 : BitVec 32 := 0#32
  let c1_i32_57 : BitVec 32 := 1#32
  let arg20 : BitVec 32 := Scf.iv c0_i32_55 c1_i32_57 k0_t5
  let c128_i32_271 : BitVec 32 := 128#32
  let v237 : BitVec 32 := Scalar.muli arg20 c128_i32_271
  let v238 : BitVec 32 := Scalar.addi v90 v237
  let v239 : BitVec 32 := v238
  let c0_i32_273 : BitVec 32 := 0#32
  ![0, v239.toNat, 0]
@[reducible] def k0_t6_loop : Scf.Loop 32 :=
  let c0_i32_286 : BitVec 32 := 0#32
  let c78_i32 : BitVec 32 := 78#32
  let v253 : BitVec 32 := Scalar.addi c0_i32_286 c78_i32
  let c1_i32_287 : BitVec 32 := 1#32
  ⟨c0_i32_286, v253, c1_i32_287⟩
def k0_mult6 (k0_t6 : Fin k0_t6_loop.trips) : BitVec 32 :=
  let c0_i32_286 : BitVec 32 := 0#32
  let c1_i32_287 : BitVec 32 := 1#32
  let arg21 : BitVec 32 := Scf.iv c0_i32_286 c1_i32_287 k0_t6
  let c2048_i32 : BitVec 32 := 2048#32
  let v329 : BitVec 32 := Scalar.muli arg21 c2048_i32
  v329
def k0_off10 (k0_t6 : Fin k0_t6_loop.trips) : Fin 2 → Nat :=
  let c0_310 : Index := 0#32
  let c0_i32_286 : BitVec 32 := 0#32
  let c1_i32_287 : BitVec 32 := 1#32
  let arg21 : BitVec 32 := Scf.iv c0_i32_286 c1_i32_287 k0_t6
  let c2048_i32 : BitVec 32 := 2048#32
  let v329 : BitVec 32 := Scalar.muli arg21 c2048_i32
  let v330 : BitVec 32 := v329
  let v331 : Index := Scalar.indexCast v330
  ![0, v331.toNat]
def k0_off11 (k0_t6 : Fin k0_t6_loop.trips) : Fin 2 → Nat :=
  let c0_312 : Index := 0#32
  let c0_i32_286 : BitVec 32 := 0#32
  let c1_i32_287 : BitVec 32 := 1#32
  let arg21 : BitVec 32 := Scf.iv c0_i32_286 c1_i32_287 k0_t6
  let c2048_i32 : BitVec 32 := 2048#32
  let v329 : BitVec 32 := Scalar.muli arg21 c2048_i32
  let v330 : BitVec 32 := v329
  let v337 : Index := Scalar.indexCast v330
  ![0, v337.toNat]
def k0_off12 (v90 : BitVec 32) (v91 : BitVec 32) (k0_t5 : Fin (k0_t5_loop v91).trips) : Fin 3 → Nat :=
  let c0_i32_55 : BitVec 32 := 0#32
  let c1_i32_57 : BitVec 32 := 1#32
  let arg20 : BitVec 32 := Scf.iv c0_i32_55 c1_i32_57 k0_t5
  let c128_i32_271 : BitVec 32 := 128#32
  let v237 : BitVec 32 := Scalar.muli arg20 c128_i32_271
  let v238 : BitVec 32 := Scalar.addi v90 v237
  let v239 : BitVec 32 := v238
  let c0_i32_302 : BitVec 32 := 0#32
  let v309 : BitVec 1 := Scalar.cmpi .sgt v239 c0_i32_302
  let v310 : BitVec 32 := Scalar.extui v309
  let c0_i32_303 : BitVec 32 := 0#32
  let v311 : BitVec 1 := Scalar.cmpi .slt v239 c0_i32_303
  let v312 : BitVec 32 := Scalar.extui v311
  let v313 : BitVec 32 := Scalar.subi v310 v312
  let c128_i32_301 : BitVec 32 := 128#32
  let c0_i32_304 : BitVec 32 := 0#32
  let v314 : BitVec 1 := Scalar.cmpi .sgt c128_i32_301 c0_i32_304
  let v315 : BitVec 32 := Scalar.extui v314
  let c0_i32_305 : BitVec 32 := 0#32
  let v316 : BitVec 1 := Scalar.cmpi .slt c128_i32_301 c0_i32_305
  let v317 : BitVec 32 := Scalar.extui v316
  let v318 : BitVec 32 := Scalar.subi v315 v317
  let v319 : BitVec 1 := Scalar.cmpi .ne v313 v318
  let v320 : BitVec 32 := Scalar.remsi v239 c128_i32_301
  let c0_i32_306 : BitVec 32 := 0#32
  let v321 : BitVec 1 := Scalar.cmpi .ne v320 c0_i32_306
  let v322 : BitVec 1 := Scalar.andi v319 v321
  let v308 : BitVec 32 := Scalar.divsi v239 c128_i32_301
  let c1_i32_307 : BitVec 32 := 1#32
  let v323 : BitVec 32 := Scalar.subi v308 c1_i32_307
  let v324 : BitVec 32 := Scalar.select v322 v323 v308
  let v325 : Index := Scalar.indexCast v324
  let c0_308 : Index := 0#32
  let c0_309 : Index := 0#32
  ![v325.toNat, 0, 0]
@[reducible] def k0_t7_loop (v91 : BitVec 32) : Scf.Loop 32 :=
  let c0_i32_55 : BitVec 32 := 0#32
  let c127_i32_46 : BitVec 32 := 127#32
  let v92 : BitVec 32 := Scalar.addi v91 c127_i32_46
  let c0_i32_48 : BitVec 32 := 0#32
  let v94 : BitVec 1 := Scalar.cmpi .sgt v92 c0_i32_48
  let v95 : BitVec 32 := Scalar.extui v94
  let c0_i32_49 : BitVec 32 := 0#32
  let v96 : BitVec 1 := Scalar.cmpi .slt v92 c0_i32_49
  let v97 : BitVec 32 := Scalar.extui v96
  let v98 : BitVec 32 := Scalar.subi v95 v97
  let c128_i32_47 : BitVec 32 := 128#32
  let c0_i32_50 : BitVec 32 := 0#32
  let v99 : BitVec 1 := Scalar.cmpi .sgt c128_i32_47 c0_i32_50
  let v100 : BitVec 32 := Scalar.extui v99
  let c0_i32_51 : BitVec 32 := 0#32
  let v101 : BitVec 1 := Scalar.cmpi .slt c128_i32_47 c0_i32_51
  let v102 : BitVec 32 := Scalar.extui v101
  let v103 : BitVec 32 := Scalar.subi v100 v102
  let v104 : BitVec 1 := Scalar.cmpi .ne v98 v103
  let v105 : BitVec 32 := Scalar.remsi v92 c128_i32_47
  let c0_i32_52 : BitVec 32 := 0#32
  let v106 : BitVec 1 := Scalar.cmpi .ne v105 c0_i32_52
  let v107 : BitVec 1 := Scalar.andi v104 v106
  let v93 : BitVec 32 := Scalar.divsi v92 c128_i32_47
  let c1_i32_53 : BitVec 32 := 1#32
  let v108 : BitVec 32 := Scalar.subi v93 c1_i32_53
  let v109 : BitVec 32 := Scalar.select v107 v108 v93
  let v110 : BitVec 32 := Scalar.subi v109 c0_i32_55
  let c1_i32_56 : BitVec 32 := 1#32
  let v112 : BitVec 32 := Scalar.divsi v110 c1_i32_56
  let v113 : BitVec 32 := Scalar.muli v112 c1_i32_56
  let v114 : BitVec 32 := Scalar.addi c0_i32_55 v113
  let v111 : BitVec 32 := Scalar.addi c0_i32_55 v110
  let c1_i32_58 : BitVec 32 := 1#32
  ⟨v114, v111, c1_i32_58⟩
def k0_mult7 (v90 : BitVec 32) (v91 : BitVec 32) (k0_t7 : Fin (k0_t7_loop v91).trips) : BitVec 32 :=
  let c0_i32_55 : BitVec 32 := 0#32
  let c127_i32_46 : BitVec 32 := 127#32
  let v92 : BitVec 32 := Scalar.addi v91 c127_i32_46
  let c0_i32_48 : BitVec 32 := 0#32
  let v94 : BitVec 1 := Scalar.cmpi .sgt v92 c0_i32_48
  let v95 : BitVec 32 := Scalar.extui v94
  let c0_i32_49 : BitVec 32 := 0#32
  let v96 : BitVec 1 := Scalar.cmpi .slt v92 c0_i32_49
  let v97 : BitVec 32 := Scalar.extui v96
  let v98 : BitVec 32 := Scalar.subi v95 v97
  let c128_i32_47 : BitVec 32 := 128#32
  let c0_i32_50 : BitVec 32 := 0#32
  let v99 : BitVec 1 := Scalar.cmpi .sgt c128_i32_47 c0_i32_50
  let v100 : BitVec 32 := Scalar.extui v99
  let c0_i32_51 : BitVec 32 := 0#32
  let v101 : BitVec 1 := Scalar.cmpi .slt c128_i32_47 c0_i32_51
  let v102 : BitVec 32 := Scalar.extui v101
  let v103 : BitVec 32 := Scalar.subi v100 v102
  let v104 : BitVec 1 := Scalar.cmpi .ne v98 v103
  let v105 : BitVec 32 := Scalar.remsi v92 c128_i32_47
  let c0_i32_52 : BitVec 32 := 0#32
  let v106 : BitVec 1 := Scalar.cmpi .ne v105 c0_i32_52
  let v107 : BitVec 1 := Scalar.andi v104 v106
  let v93 : BitVec 32 := Scalar.divsi v92 c128_i32_47
  let c1_i32_53 : BitVec 32 := 1#32
  let v108 : BitVec 32 := Scalar.subi v93 c1_i32_53
  let v109 : BitVec 32 := Scalar.select v107 v108 v93
  let v110 : BitVec 32 := Scalar.subi v109 c0_i32_55
  let c1_i32_56 : BitVec 32 := 1#32
  let v112 : BitVec 32 := Scalar.divsi v110 c1_i32_56
  let v113 : BitVec 32 := Scalar.muli v112 c1_i32_56
  let v114 : BitVec 32 := Scalar.addi c0_i32_55 v113
  let c1_i32_58 : BitVec 32 := 1#32
  let arg20 : BitVec 32 := Scf.iv v114 c1_i32_58 k0_t7
  let c128_i32_271 : BitVec 32 := 128#32
  let v237 : BitVec 32 := Scalar.muli arg20 c128_i32_271
  let v238 : BitVec 32 := Scalar.addi v90 v237
  v238
def k0_off13 (v90 : BitVec 32) (v91 : BitVec 32) (k0_t7 : Fin (k0_t7_loop v91).trips) : Fin 3 → Nat :=
  let c0_i32_272 : BitVec 32 := 0#32
  let c0_i32_55 : BitVec 32 := 0#32
  let c127_i32_46 : BitVec 32 := 127#32
  let v92 : BitVec 32 := Scalar.addi v91 c127_i32_46
  let c0_i32_48 : BitVec 32 := 0#32
  let v94 : BitVec 1 := Scalar.cmpi .sgt v92 c0_i32_48
  let v95 : BitVec 32 := Scalar.extui v94
  let c0_i32_49 : BitVec 32 := 0#32
  let v96 : BitVec 1 := Scalar.cmpi .slt v92 c0_i32_49
  let v97 : BitVec 32 := Scalar.extui v96
  let v98 : BitVec 32 := Scalar.subi v95 v97
  let c128_i32_47 : BitVec 32 := 128#32
  let c0_i32_50 : BitVec 32 := 0#32
  let v99 : BitVec 1 := Scalar.cmpi .sgt c128_i32_47 c0_i32_50
  let v100 : BitVec 32 := Scalar.extui v99
  let c0_i32_51 : BitVec 32 := 0#32
  let v101 : BitVec 1 := Scalar.cmpi .slt c128_i32_47 c0_i32_51
  let v102 : BitVec 32 := Scalar.extui v101
  let v103 : BitVec 32 := Scalar.subi v100 v102
  let v104 : BitVec 1 := Scalar.cmpi .ne v98 v103
  let v105 : BitVec 32 := Scalar.remsi v92 c128_i32_47
  let c0_i32_52 : BitVec 32 := 0#32
  let v106 : BitVec 1 := Scalar.cmpi .ne v105 c0_i32_52
  let v107 : BitVec 1 := Scalar.andi v104 v106
  let v93 : BitVec 32 := Scalar.divsi v92 c128_i32_47
  let c1_i32_53 : BitVec 32 := 1#32
  let v108 : BitVec 32 := Scalar.subi v93 c1_i32_53
  let v109 : BitVec 32 := Scalar.select v107 v108 v93
  let v110 : BitVec 32 := Scalar.subi v109 c0_i32_55
  let c1_i32_56 : BitVec 32 := 1#32
  let v112 : BitVec 32 := Scalar.divsi v110 c1_i32_56
  let v113 : BitVec 32 := Scalar.muli v112 c1_i32_56
  let v114 : BitVec 32 := Scalar.addi c0_i32_55 v113
  let c1_i32_58 : BitVec 32 := 1#32
  let arg20 : BitVec 32 := Scf.iv v114 c1_i32_58 k0_t7
  let c128_i32_271 : BitVec 32 := 128#32
  let v237 : BitVec 32 := Scalar.muli arg20 c128_i32_271
  let v238 : BitVec 32 := Scalar.addi v90 v237
  let v239 : BitVec 32 := v238
  let c0_i32_273 : BitVec 32 := 0#32
  ![0, v239.toNat, 0]
@[reducible] def k0_t8_loop : Scf.Loop 32 :=
  let c0_i32_286 : BitVec 32 := 0#32
  let c78_i32 : BitVec 32 := 78#32
  let v253 : BitVec 32 := Scalar.addi c0_i32_286 c78_i32
  let c1_i32_287 : BitVec 32 := 1#32
  ⟨c0_i32_286, v253, c1_i32_287⟩
def k0_mult8 (k0_t8 : Fin k0_t8_loop.trips) : BitVec 32 :=
  let c0_i32_286 : BitVec 32 := 0#32
  let c1_i32_287 : BitVec 32 := 1#32
  let arg21 : BitVec 32 := Scf.iv c0_i32_286 c1_i32_287 k0_t8
  let c2048_i32 : BitVec 32 := 2048#32
  let v329 : BitVec 32 := Scalar.muli arg21 c2048_i32
  v329
def k0_off14 (k0_t8 : Fin k0_t8_loop.trips) : Fin 2 → Nat :=
  let c0_310 : Index := 0#32
  let c0_i32_286 : BitVec 32 := 0#32
  let c1_i32_287 : BitVec 32 := 1#32
  let arg21 : BitVec 32 := Scf.iv c0_i32_286 c1_i32_287 k0_t8
  let c2048_i32 : BitVec 32 := 2048#32
  let v329 : BitVec 32 := Scalar.muli arg21 c2048_i32
  let v330 : BitVec 32 := v329
  let v331 : Index := Scalar.indexCast v330
  ![0, v331.toNat]
def k0_off15 (k0_t8 : Fin k0_t8_loop.trips) : Fin 2 → Nat :=
  let c0_312 : Index := 0#32
  let c0_i32_286 : BitVec 32 := 0#32
  let c1_i32_287 : BitVec 32 := 1#32
  let arg21 : BitVec 32 := Scf.iv c0_i32_286 c1_i32_287 k0_t8
  let c2048_i32 : BitVec 32 := 2048#32
  let v329 : BitVec 32 := Scalar.muli arg21 c2048_i32
  let v330 : BitVec 32 := v329
  let v337 : Index := Scalar.indexCast v330
  ![0, v337.toNat]
def k0_off16 (v90 : BitVec 32) (v91 : BitVec 32) (k0_t7 : Fin (k0_t7_loop v91).trips) : Fin 3 → Nat :=
  let c0_i32_55 : BitVec 32 := 0#32
  let c127_i32_46 : BitVec 32 := 127#32
  let v92 : BitVec 32 := Scalar.addi v91 c127_i32_46
  let c0_i32_48 : BitVec 32 := 0#32
  let v94 : BitVec 1 := Scalar.cmpi .sgt v92 c0_i32_48
  let v95 : BitVec 32 := Scalar.extui v94
  let c0_i32_49 : BitVec 32 := 0#32
  let v96 : BitVec 1 := Scalar.cmpi .slt v92 c0_i32_49
  let v97 : BitVec 32 := Scalar.extui v96
  let v98 : BitVec 32 := Scalar.subi v95 v97
  let c128_i32_47 : BitVec 32 := 128#32
  let c0_i32_50 : BitVec 32 := 0#32
  let v99 : BitVec 1 := Scalar.cmpi .sgt c128_i32_47 c0_i32_50
  let v100 : BitVec 32 := Scalar.extui v99
  let c0_i32_51 : BitVec 32 := 0#32
  let v101 : BitVec 1 := Scalar.cmpi .slt c128_i32_47 c0_i32_51
  let v102 : BitVec 32 := Scalar.extui v101
  let v103 : BitVec 32 := Scalar.subi v100 v102
  let v104 : BitVec 1 := Scalar.cmpi .ne v98 v103
  let v105 : BitVec 32 := Scalar.remsi v92 c128_i32_47
  let c0_i32_52 : BitVec 32 := 0#32
  let v106 : BitVec 1 := Scalar.cmpi .ne v105 c0_i32_52
  let v107 : BitVec 1 := Scalar.andi v104 v106
  let v93 : BitVec 32 := Scalar.divsi v92 c128_i32_47
  let c1_i32_53 : BitVec 32 := 1#32
  let v108 : BitVec 32 := Scalar.subi v93 c1_i32_53
  let v109 : BitVec 32 := Scalar.select v107 v108 v93
  let v110 : BitVec 32 := Scalar.subi v109 c0_i32_55
  let c1_i32_56 : BitVec 32 := 1#32
  let v112 : BitVec 32 := Scalar.divsi v110 c1_i32_56
  let v113 : BitVec 32 := Scalar.muli v112 c1_i32_56
  let v114 : BitVec 32 := Scalar.addi c0_i32_55 v113
  let c1_i32_58 : BitVec 32 := 1#32
  let arg20 : BitVec 32 := Scf.iv v114 c1_i32_58 k0_t7
  let c128_i32_271 : BitVec 32 := 128#32
  let v237 : BitVec 32 := Scalar.muli arg20 c128_i32_271
  let v238 : BitVec 32 := Scalar.addi v90 v237
  let v239 : BitVec 32 := v238
  let c0_i32_302 : BitVec 32 := 0#32
  let v309 : BitVec 1 := Scalar.cmpi .sgt v239 c0_i32_302
  let v310 : BitVec 32 := Scalar.extui v309
  let c0_i32_303 : BitVec 32 := 0#32
  let v311 : BitVec 1 := Scalar.cmpi .slt v239 c0_i32_303
  let v312 : BitVec 32 := Scalar.extui v311
  let v313 : BitVec 32 := Scalar.subi v310 v312
  let c128_i32_301 : BitVec 32 := 128#32
  let c0_i32_304 : BitVec 32 := 0#32
  let v314 : BitVec 1 := Scalar.cmpi .sgt c128_i32_301 c0_i32_304
  let v315 : BitVec 32 := Scalar.extui v314
  let c0_i32_305 : BitVec 32 := 0#32
  let v316 : BitVec 1 := Scalar.cmpi .slt c128_i32_301 c0_i32_305
  let v317 : BitVec 32 := Scalar.extui v316
  let v318 : BitVec 32 := Scalar.subi v315 v317
  let v319 : BitVec 1 := Scalar.cmpi .ne v313 v318
  let v320 : BitVec 32 := Scalar.remsi v239 c128_i32_301
  let c0_i32_306 : BitVec 32 := 0#32
  let v321 : BitVec 1 := Scalar.cmpi .ne v320 c0_i32_306
  let v322 : BitVec 1 := Scalar.andi v319 v321
  let v308 : BitVec 32 := Scalar.divsi v239 c128_i32_301
  let c1_i32_307 : BitVec 32 := 1#32
  let v323 : BitVec 32 := Scalar.subi v308 c1_i32_307
  let v324 : BitVec 32 := Scalar.select v322 v323 v308
  let v325 : Index := Scalar.indexCast v324
  let c0_308 : Index := 0#32
  let c0_309 : Index := 0#32
  ![v325.toNat, 0, 0]

def k0_chk2 (v90 : BitVec 32) (v91 : BitVec 32) : Prop :=
  ((k0_t5_loop v91).OK) ∧
  (∀ k0_t5 : Fin (k0_t5_loop v91).trips, 128 ∣ (k0_mult5 v90 v91 k0_t5).toNat) ∧
  (∀ k0_t5 : Fin (k0_t5_loop v91).trips, ∀ a, (k0_off9 v90 v91 k0_t5) a + S3x128x128.size a ≤ S3x16896x128.size a) ∧
  (∀ k0_t5 : Fin (k0_t5_loop v91).trips, ∀ a, (k0_off12 v90 v91 k0_t5) a + S1x8x128.size a ≤ S132x8x128.size a) ∧
  ((k0_t7_loop v91).OK) ∧
  (∀ k0_t7 : Fin (k0_t7_loop v91).trips, 128 ∣ (k0_mult7 v90 v91 k0_t7).toNat) ∧
  (∀ k0_t7 : Fin (k0_t7_loop v91).trips, ∀ a, (k0_off13 v90 v91 k0_t7) a + S3x128x128.size a ≤ S3x16896x128.size a) ∧
  (∀ k0_t7 : Fin (k0_t7_loop v91).trips, ∀ a, (k0_off16 v90 v91 k0_t7) a + S1x8x128.size a ≤ S132x8x128.size a)
theorem k0_t5_ok : ∀ (v90 : BitVec 32) (v91 : BitVec 32) (k0_hw2 : k0_chk2 v90 v91), (k0_t5_loop v91).OK := fun v90 v91 k0_hw2 => k0_hw2.1
theorem k0_mult5_dvd : ∀ (v90 : BitVec 32) (v91 : BitVec 32) (k0_hw2 : k0_chk2 v90 v91) (k0_t5 : Fin (k0_t5_loop v91).trips), 128 ∣ (k0_mult5 v90 v91 k0_t5).toNat := fun v90 v91 k0_hw2 k0_t5 => k0_hw2.2.1 k0_t5
theorem k0_off9_inb : ∀ (v90 : BitVec 32) (v91 : BitVec 32) (k0_hw2 : k0_chk2 v90 v91) (k0_t5 : Fin (k0_t5_loop v91).trips), ∀ a, (k0_off9 v90 v91 k0_t5) a + S3x128x128.size a ≤ S3x16896x128.size a := fun v90 v91 k0_hw2 k0_t5 => k0_hw2.2.2.1 k0_t5
theorem k0_off12_inb : ∀ (v90 : BitVec 32) (v91 : BitVec 32) (k0_hw2 : k0_chk2 v90 v91) (k0_t5 : Fin (k0_t5_loop v91).trips), ∀ a, (k0_off12 v90 v91 k0_t5) a + S1x8x128.size a ≤ S132x8x128.size a := fun v90 v91 k0_hw2 k0_t5 => k0_hw2.2.2.2.1 k0_t5
theorem k0_t7_ok : ∀ (v90 : BitVec 32) (v91 : BitVec 32) (k0_hw2 : k0_chk2 v90 v91), (k0_t7_loop v91).OK := fun v90 v91 k0_hw2 => k0_hw2.2.2.2.2.1
theorem k0_mult7_dvd : ∀ (v90 : BitVec 32) (v91 : BitVec 32) (k0_hw2 : k0_chk2 v90 v91) (k0_t7 : Fin (k0_t7_loop v91).trips), 128 ∣ (k0_mult7 v90 v91 k0_t7).toNat := fun v90 v91 k0_hw2 k0_t7 => k0_hw2.2.2.2.2.2.1 k0_t7
theorem k0_off13_inb : ∀ (v90 : BitVec 32) (v91 : BitVec 32) (k0_hw2 : k0_chk2 v90 v91) (k0_t7 : Fin (k0_t7_loop v91).trips), ∀ a, (k0_off13 v90 v91 k0_t7) a + S3x128x128.size a ≤ S3x16896x128.size a := fun v90 v91 k0_hw2 k0_t7 => k0_hw2.2.2.2.2.2.2.1 k0_t7
theorem k0_off16_inb : ∀ (v90 : BitVec 32) (v91 : BitVec 32) (k0_hw2 : k0_chk2 v90 v91) (k0_t7 : Fin (k0_t7_loop v91).trips), ∀ a, (k0_off16 v90 v91 k0_t7) a + S1x8x128.size a ≤ S132x8x128.size a := fun v90 v91 k0_hw2 k0_t7 => k0_hw2.2.2.2.2.2.2.2 k0_t7

@[reducible] def k0_t9_loop (v116 : BitVec 32) : Scf.Loop 32 :=
  let c0_i32_71 : BitVec 32 := 0#32
  let c127_i32_62 : BitVec 32 := 127#32
  let v117 : BitVec 32 := Scalar.addi v116 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let v135 : BitVec 32 := Scalar.subi v134 c0_i32_71
  let c1_i32_72 : BitVec 32 := 1#32
  let v137 : BitVec 32 := Scalar.divsi v135 c1_i32_72
  let v138 : BitVec 32 := Scalar.muli v137 c1_i32_72
  let v139 : BitVec 32 := Scalar.addi c0_i32_71 v138
  let c1_i32_73 : BitVec 32 := 1#32
  ⟨c0_i32_71, v139, c1_i32_73⟩

def k0_mult9 (v115 : BitVec 32) (v116 : BitVec 32) (k0_t9 : Fin (k0_t9_loop v116).trips) : BitVec 32 :=
  let c0_i32_71 : BitVec 32 := 0#32
  let c1_i32_73 : BitVec 32 := 1#32
  let arg20 : BitVec 32 := Scf.iv c0_i32_71 c1_i32_73 k0_t9
  let c128_i32_271 : BitVec 32 := 128#32
  let v237 : BitVec 32 := Scalar.muli arg20 c128_i32_271
  let v238 : BitVec 32 := Scalar.addi v115 v237
  v238
def k0_off17 (v115 : BitVec 32) (v116 : BitVec 32) (k0_t9 : Fin (k0_t9_loop v116).trips) : Fin 3 → Nat :=
  let c0_i32_272 : BitVec 32 := 0#32
  let c0_i32_71 : BitVec 32 := 0#32
  let c1_i32_73 : BitVec 32 := 1#32
  let arg20 : BitVec 32 := Scf.iv c0_i32_71 c1_i32_73 k0_t9
  let c128_i32_271 : BitVec 32 := 128#32
  let v237 : BitVec 32 := Scalar.muli arg20 c128_i32_271
  let v238 : BitVec 32 := Scalar.addi v115 v237
  let v239 : BitVec 32 := v238
  let c0_i32_273 : BitVec 32 := 0#32
  ![0, v239.toNat, 0]
@[reducible] def k0_t10_loop : Scf.Loop 32 :=
  let c0_i32_286 : BitVec 32 := 0#32
  let c23_i32 : BitVec 32 := 23#32
  let v253 : BitVec 32 := Scalar.addi c0_i32_286 c23_i32
  let c1_i32_287 : BitVec 32 := 1#32
  ⟨c0_i32_286, v253, c1_i32_287⟩
def k0_mult10 (k0_t10 : Fin k0_t10_loop.trips) : BitVec 32 :=
  let c0_i32_286 : BitVec 32 := 0#32
  let c1_i32_287 : BitVec 32 := 1#32
  let arg21 : BitVec 32 := Scf.iv c0_i32_286 c1_i32_287 k0_t10
  let c2048_i32 : BitVec 32 := 2048#32
  let v329 : BitVec 32 := Scalar.muli arg21 c2048_i32
  v329
def k0_off18 (k0_t10 : Fin k0_t10_loop.trips) : Fin 2 → Nat :=
  let c0_310 : Index := 0#32
  let c0_i32_286 : BitVec 32 := 0#32
  let c1_i32_287 : BitVec 32 := 1#32
  let arg21 : BitVec 32 := Scf.iv c0_i32_286 c1_i32_287 k0_t10
  let c2048_i32 : BitVec 32 := 2048#32
  let v329 : BitVec 32 := Scalar.muli arg21 c2048_i32
  let v330 : BitVec 32 := v329
  let v331 : Index := Scalar.indexCast v330
  ![0, v331.toNat]
def k0_off19 (k0_t10 : Fin k0_t10_loop.trips) : Fin 2 → Nat :=
  let c0_312 : Index := 0#32
  let c0_i32_286 : BitVec 32 := 0#32
  let c1_i32_287 : BitVec 32 := 1#32
  let arg21 : BitVec 32 := Scf.iv c0_i32_286 c1_i32_287 k0_t10
  let c2048_i32 : BitVec 32 := 2048#32
  let v329 : BitVec 32 := Scalar.muli arg21 c2048_i32
  let v330 : BitVec 32 := v329
  let v337 : Index := Scalar.indexCast v330
  ![0, v337.toNat]
def k0_off20 (v115 : BitVec 32) (v116 : BitVec 32) (k0_t9 : Fin (k0_t9_loop v116).trips) : Fin 3 → Nat :=
  let c0_i32_71 : BitVec 32 := 0#32
  let c1_i32_73 : BitVec 32 := 1#32
  let arg20 : BitVec 32 := Scf.iv c0_i32_71 c1_i32_73 k0_t9
  let c128_i32_271 : BitVec 32 := 128#32
  let v237 : BitVec 32 := Scalar.muli arg20 c128_i32_271
  let v238 : BitVec 32 := Scalar.addi v115 v237
  let v239 : BitVec 32 := v238
  let c0_i32_302 : BitVec 32 := 0#32
  let v309 : BitVec 1 := Scalar.cmpi .sgt v239 c0_i32_302
  let v310 : BitVec 32 := Scalar.extui v309
  let c0_i32_303 : BitVec 32 := 0#32
  let v311 : BitVec 1 := Scalar.cmpi .slt v239 c0_i32_303
  let v312 : BitVec 32 := Scalar.extui v311
  let v313 : BitVec 32 := Scalar.subi v310 v312
  let c128_i32_301 : BitVec 32 := 128#32
  let c0_i32_304 : BitVec 32 := 0#32
  let v314 : BitVec 1 := Scalar.cmpi .sgt c128_i32_301 c0_i32_304
  let v315 : BitVec 32 := Scalar.extui v314
  let c0_i32_305 : BitVec 32 := 0#32
  let v316 : BitVec 1 := Scalar.cmpi .slt c128_i32_301 c0_i32_305
  let v317 : BitVec 32 := Scalar.extui v316
  let v318 : BitVec 32 := Scalar.subi v315 v317
  let v319 : BitVec 1 := Scalar.cmpi .ne v313 v318
  let v320 : BitVec 32 := Scalar.remsi v239 c128_i32_301
  let c0_i32_306 : BitVec 32 := 0#32
  let v321 : BitVec 1 := Scalar.cmpi .ne v320 c0_i32_306
  let v322 : BitVec 1 := Scalar.andi v319 v321
  let v308 : BitVec 32 := Scalar.divsi v239 c128_i32_301
  let c1_i32_307 : BitVec 32 := 1#32
  let v323 : BitVec 32 := Scalar.subi v308 c1_i32_307
  let v324 : BitVec 32 := Scalar.select v322 v323 v308
  let v325 : Index := Scalar.indexCast v324
  let c0_308 : Index := 0#32
  let c0_309 : Index := 0#32
  ![v325.toNat, 0, 0]
@[reducible] def k0_t11_loop (v116 : BitVec 32) : Scf.Loop 32 :=
  let c0_i32_71 : BitVec 32 := 0#32
  let c127_i32_62 : BitVec 32 := 127#32
  let v117 : BitVec 32 := Scalar.addi v116 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let v135 : BitVec 32 := Scalar.subi v134 c0_i32_71
  let c1_i32_72 : BitVec 32 := 1#32
  let v137 : BitVec 32 := Scalar.divsi v135 c1_i32_72
  let v138 : BitVec 32 := Scalar.muli v137 c1_i32_72
  let v139 : BitVec 32 := Scalar.addi c0_i32_71 v138
  let v136 : BitVec 32 := Scalar.addi c0_i32_71 v135
  let c1_i32_74 : BitVec 32 := 1#32
  ⟨v139, v136, c1_i32_74⟩
def k0_mult11 (v115 : BitVec 32) (v116 : BitVec 32) (k0_t11 : Fin (k0_t11_loop v116).trips) : BitVec 32 :=
  let c0_i32_71 : BitVec 32 := 0#32
  let c127_i32_62 : BitVec 32 := 127#32
  let v117 : BitVec 32 := Scalar.addi v116 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let v135 : BitVec 32 := Scalar.subi v134 c0_i32_71
  let c1_i32_72 : BitVec 32 := 1#32
  let v137 : BitVec 32 := Scalar.divsi v135 c1_i32_72
  let v138 : BitVec 32 := Scalar.muli v137 c1_i32_72
  let v139 : BitVec 32 := Scalar.addi c0_i32_71 v138
  let c1_i32_74 : BitVec 32 := 1#32
  let arg20 : BitVec 32 := Scf.iv v139 c1_i32_74 k0_t11
  let c128_i32_271 : BitVec 32 := 128#32
  let v237 : BitVec 32 := Scalar.muli arg20 c128_i32_271
  let v238 : BitVec 32 := Scalar.addi v115 v237
  v238
def k0_off21 (v115 : BitVec 32) (v116 : BitVec 32) (k0_t11 : Fin (k0_t11_loop v116).trips) : Fin 3 → Nat :=
  let c0_i32_272 : BitVec 32 := 0#32
  let c0_i32_71 : BitVec 32 := 0#32
  let c127_i32_62 : BitVec 32 := 127#32
  let v117 : BitVec 32 := Scalar.addi v116 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let v135 : BitVec 32 := Scalar.subi v134 c0_i32_71
  let c1_i32_72 : BitVec 32 := 1#32
  let v137 : BitVec 32 := Scalar.divsi v135 c1_i32_72
  let v138 : BitVec 32 := Scalar.muli v137 c1_i32_72
  let v139 : BitVec 32 := Scalar.addi c0_i32_71 v138
  let c1_i32_74 : BitVec 32 := 1#32
  let arg20 : BitVec 32 := Scf.iv v139 c1_i32_74 k0_t11
  let c128_i32_271 : BitVec 32 := 128#32
  let v237 : BitVec 32 := Scalar.muli arg20 c128_i32_271
  let v238 : BitVec 32 := Scalar.addi v115 v237
  let v239 : BitVec 32 := v238
  let c0_i32_273 : BitVec 32 := 0#32
  ![0, v239.toNat, 0]
@[reducible] def k0_t12_loop : Scf.Loop 32 :=
  let c0_i32_286 : BitVec 32 := 0#32
  let c23_i32 : BitVec 32 := 23#32
  let v253 : BitVec 32 := Scalar.addi c0_i32_286 c23_i32
  let c1_i32_287 : BitVec 32 := 1#32
  ⟨c0_i32_286, v253, c1_i32_287⟩
def k0_mult12 (k0_t12 : Fin k0_t12_loop.trips) : BitVec 32 :=
  let c0_i32_286 : BitVec 32 := 0#32
  let c1_i32_287 : BitVec 32 := 1#32
  let arg21 : BitVec 32 := Scf.iv c0_i32_286 c1_i32_287 k0_t12
  let c2048_i32 : BitVec 32 := 2048#32
  let v329 : BitVec 32 := Scalar.muli arg21 c2048_i32
  v329
def k0_off22 (k0_t12 : Fin k0_t12_loop.trips) : Fin 2 → Nat :=
  let c0_310 : Index := 0#32
  let c0_i32_286 : BitVec 32 := 0#32
  let c1_i32_287 : BitVec 32 := 1#32
  let arg21 : BitVec 32 := Scf.iv c0_i32_286 c1_i32_287 k0_t12
  let c2048_i32 : BitVec 32 := 2048#32
  let v329 : BitVec 32 := Scalar.muli arg21 c2048_i32
  let v330 : BitVec 32 := v329
  let v331 : Index := Scalar.indexCast v330
  ![0, v331.toNat]
def k0_off23 (k0_t12 : Fin k0_t12_loop.trips) : Fin 2 → Nat :=
  let c0_312 : Index := 0#32
  let c0_i32_286 : BitVec 32 := 0#32
  let c1_i32_287 : BitVec 32 := 1#32
  let arg21 : BitVec 32 := Scf.iv c0_i32_286 c1_i32_287 k0_t12
  let c2048_i32 : BitVec 32 := 2048#32
  let v329 : BitVec 32 := Scalar.muli arg21 c2048_i32
  let v330 : BitVec 32 := v329
  let v337 : Index := Scalar.indexCast v330
  ![0, v337.toNat]
def k0_off24 (v115 : BitVec 32) (v116 : BitVec 32) (k0_t11 : Fin (k0_t11_loop v116).trips) : Fin 3 → Nat :=
  let c0_i32_71 : BitVec 32 := 0#32
  let c127_i32_62 : BitVec 32 := 127#32
  let v117 : BitVec 32 := Scalar.addi v116 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let v135 : BitVec 32 := Scalar.subi v134 c0_i32_71
  let c1_i32_72 : BitVec 32 := 1#32
  let v137 : BitVec 32 := Scalar.divsi v135 c1_i32_72
  let v138 : BitVec 32 := Scalar.muli v137 c1_i32_72
  let v139 : BitVec 32 := Scalar.addi c0_i32_71 v138
  let c1_i32_74 : BitVec 32 := 1#32
  let arg20 : BitVec 32 := Scf.iv v139 c1_i32_74 k0_t11
  let c128_i32_271 : BitVec 32 := 128#32
  let v237 : BitVec 32 := Scalar.muli arg20 c128_i32_271
  let v238 : BitVec 32 := Scalar.addi v115 v237
  let v239 : BitVec 32 := v238
  let c0_i32_302 : BitVec 32 := 0#32
  let v309 : BitVec 1 := Scalar.cmpi .sgt v239 c0_i32_302
  let v310 : BitVec 32 := Scalar.extui v309
  let c0_i32_303 : BitVec 32 := 0#32
  let v311 : BitVec 1 := Scalar.cmpi .slt v239 c0_i32_303
  let v312 : BitVec 32 := Scalar.extui v311
  let v313 : BitVec 32 := Scalar.subi v310 v312
  let c128_i32_301 : BitVec 32 := 128#32
  let c0_i32_304 : BitVec 32 := 0#32
  let v314 : BitVec 1 := Scalar.cmpi .sgt c128_i32_301 c0_i32_304
  let v315 : BitVec 32 := Scalar.extui v314
  let c0_i32_305 : BitVec 32 := 0#32
  let v316 : BitVec 1 := Scalar.cmpi .slt c128_i32_301 c0_i32_305
  let v317 : BitVec 32 := Scalar.extui v316
  let v318 : BitVec 32 := Scalar.subi v315 v317
  let v319 : BitVec 1 := Scalar.cmpi .ne v313 v318
  let v320 : BitVec 32 := Scalar.remsi v239 c128_i32_301
  let c0_i32_306 : BitVec 32 := 0#32
  let v321 : BitVec 1 := Scalar.cmpi .ne v320 c0_i32_306
  let v322 : BitVec 1 := Scalar.andi v319 v321
  let v308 : BitVec 32 := Scalar.divsi v239 c128_i32_301
  let c1_i32_307 : BitVec 32 := 1#32
  let v323 : BitVec 32 := Scalar.subi v308 c1_i32_307
  let v324 : BitVec 32 := Scalar.select v322 v323 v308
  let v325 : Index := Scalar.indexCast v324
  let c0_308 : Index := 0#32
  let c0_309 : Index := 0#32
  ![v325.toNat, 0, 0]

def k0_chk3 (v115 : BitVec 32) (v116 : BitVec 32) : Prop :=
  ((k0_t9_loop v116).OK) ∧
  (∀ k0_t9 : Fin (k0_t9_loop v116).trips, 128 ∣ (k0_mult9 v115 v116 k0_t9).toNat) ∧
  (∀ k0_t9 : Fin (k0_t9_loop v116).trips, ∀ a, (k0_off17 v115 v116 k0_t9) a + S3x128x128.size a ≤ S3x16896x128.size a) ∧
  (∀ k0_t9 : Fin (k0_t9_loop v116).trips, ∀ a, (k0_off20 v115 v116 k0_t9) a + S1x8x128.size a ≤ S132x8x128.size a) ∧
  ((k0_t11_loop v116).OK) ∧
  (∀ k0_t11 : Fin (k0_t11_loop v116).trips, 128 ∣ (k0_mult11 v115 v116 k0_t11).toNat) ∧
  (∀ k0_t11 : Fin (k0_t11_loop v116).trips, ∀ a, (k0_off21 v115 v116 k0_t11) a + S3x128x128.size a ≤ S3x16896x128.size a) ∧
  (∀ k0_t11 : Fin (k0_t11_loop v116).trips, ∀ a, (k0_off24 v115 v116 k0_t11) a + S1x8x128.size a ≤ S132x8x128.size a)
theorem k0_t9_ok : ∀ (v115 : BitVec 32) (v116 : BitVec 32) (k0_hw3 : k0_chk3 v115 v116), (k0_t9_loop v116).OK := fun v115 v116 k0_hw3 => k0_hw3.1
theorem k0_mult9_dvd : ∀ (v115 : BitVec 32) (v116 : BitVec 32) (k0_hw3 : k0_chk3 v115 v116) (k0_t9 : Fin (k0_t9_loop v116).trips), 128 ∣ (k0_mult9 v115 v116 k0_t9).toNat := fun v115 v116 k0_hw3 k0_t9 => k0_hw3.2.1 k0_t9
theorem k0_off17_inb : ∀ (v115 : BitVec 32) (v116 : BitVec 32) (k0_hw3 : k0_chk3 v115 v116) (k0_t9 : Fin (k0_t9_loop v116).trips), ∀ a, (k0_off17 v115 v116 k0_t9) a + S3x128x128.size a ≤ S3x16896x128.size a := fun v115 v116 k0_hw3 k0_t9 => k0_hw3.2.2.1 k0_t9
theorem k0_off20_inb : ∀ (v115 : BitVec 32) (v116 : BitVec 32) (k0_hw3 : k0_chk3 v115 v116) (k0_t9 : Fin (k0_t9_loop v116).trips), ∀ a, (k0_off20 v115 v116 k0_t9) a + S1x8x128.size a ≤ S132x8x128.size a := fun v115 v116 k0_hw3 k0_t9 => k0_hw3.2.2.2.1 k0_t9
theorem k0_t11_ok : ∀ (v115 : BitVec 32) (v116 : BitVec 32) (k0_hw3 : k0_chk3 v115 v116), (k0_t11_loop v116).OK := fun v115 v116 k0_hw3 => k0_hw3.2.2.2.2.1
theorem k0_mult11_dvd : ∀ (v115 : BitVec 32) (v116 : BitVec 32) (k0_hw3 : k0_chk3 v115 v116) (k0_t11 : Fin (k0_t11_loop v116).trips), 128 ∣ (k0_mult11 v115 v116 k0_t11).toNat := fun v115 v116 k0_hw3 k0_t11 => k0_hw3.2.2.2.2.2.1 k0_t11
theorem k0_off21_inb : ∀ (v115 : BitVec 32) (v116 : BitVec 32) (k0_hw3 : k0_chk3 v115 v116) (k0_t11 : Fin (k0_t11_loop v116).trips), ∀ a, (k0_off21 v115 v116 k0_t11) a + S3x128x128.size a ≤ S3x16896x128.size a := fun v115 v116 k0_hw3 k0_t11 => k0_hw3.2.2.2.2.2.2.1 k0_t11
theorem k0_off24_inb : ∀ (v115 : BitVec 32) (v116 : BitVec 32) (k0_hw3 : k0_chk3 v115 v116) (k0_t11 : Fin (k0_t11_loop v116).trips), ∀ a, (k0_off24 v115 v116 k0_t11) a + S1x8x128.size a ≤ S132x8x128.size a := fun v115 v116 k0_hw3 k0_t11 => k0_hw3.2.2.2.2.2.2.2 k0_t11

@[reducible] def k0_t13_loop : Scf.Loop 32 :=
  let c0_i32_75 : BitVec 32 := 0#32
  let c128_i32_76 : BitVec 32 := 128#32
  let v140 : BitVec 32 := Scalar.addi c0_i32_75 c128_i32_76
  let c1_i32_77 : BitVec 32 := 1#32
  ⟨c0_i32_75, v140, c1_i32_77⟩
def k0_off25 (k0_t13 : Fin k0_t13_loop.trips) : Fin 2 → Nat :=
  let c0_i32_75 : BitVec 32 := 0#32
  let c1_i32_77 : BitVec 32 := 1#32
  let arg20 : BitVec 32 := Scf.iv c0_i32_75 c1_i32_77 k0_t13
  let v237 : Index := Scalar.indexCast arg20
  let c0_271 : Index := 0#32
  ![v237.toNat, 0]
def k0_off26 (k0_t13 : Fin k0_t13_loop.trips) : Fin 2 → Nat :=
  let c0_i32_75 : BitVec 32 := 0#32
  let c1_i32_77 : BitVec 32 := 1#32
  let arg20 : BitVec 32 := Scf.iv c0_i32_75 c1_i32_77 k0_t13
  let v248 : Index := Scalar.indexCast arg20
  let c0_274 : Index := 0#32
  ![v248.toNat, 0]
def k0_off27 (v249 : BitVec 32) (c0_i32_282 : BitVec 32) : Fin 3 → Nat :=
  let c0_i32_276 : BitVec 32 := 0#32
  let v251 : BitVec 1 := Scalar.cmpi .sgt v249 c0_i32_276
  let v252 : BitVec 32 := Scalar.extui v251
  let c0_i32_277 : BitVec 32 := 0#32
  let v253 : BitVec 1 := Scalar.cmpi .slt v249 c0_i32_277
  let v254 : BitVec 32 := Scalar.extui v253
  let v255 : BitVec 32 := Scalar.subi v252 v254
  let c128_i32_275 : BitVec 32 := 128#32
  let c0_i32_278 : BitVec 32 := 0#32
  let v256 : BitVec 1 := Scalar.cmpi .sgt c128_i32_275 c0_i32_278
  let v257 : BitVec 32 := Scalar.extui v256
  let c0_i32_279 : BitVec 32 := 0#32
  let v258 : BitVec 1 := Scalar.cmpi .slt c128_i32_275 c0_i32_279
  let v259 : BitVec 32 := Scalar.extui v258
  let v260 : BitVec 32 := Scalar.subi v257 v259
  let v261 : BitVec 1 := Scalar.cmpi .ne v255 v260
  let v262 : BitVec 32 := Scalar.remsi v249 c128_i32_275
  let c0_i32_280 : BitVec 32 := 0#32
  let v263 : BitVec 1 := Scalar.cmpi .ne v262 c0_i32_280
  let v264 : BitVec 1 := Scalar.andi v261 v263
  let v250 : BitVec 32 := Scalar.divsi v249 c128_i32_275
  let c1_i32_281 : BitVec 32 := 1#32
  let v265 : BitVec 32 := Scalar.subi v250 c1_i32_281
  let v266 : BitVec 32 := Scalar.select v264 v265 v250
  let v267 : BitVec 32 := Scalar.addi v266 c0_i32_282
  let v268 : Index := Scalar.indexCast v267
  let c0_283 : Index := 0#32
  let c0_284 : Index := 0#32
  ![v268.toNat, 0, 0]

def k0_chk4 (v249 : BitVec 32) : Prop :=
  (∀ (r : Fin 2), ∀ a, (k0_off27 v249 (BitVec.ofNat 32 r.val)) a + S1x8x128.size a ≤ S132x8x128.size a)
theorem k0_off27_inb : ∀ (v249 : BitVec 32) (k0_hw4 : k0_chk4 v249), ∀ (r : Fin 2), ∀ a, (k0_off27 v249 (BitVec.ofNat 32 r.val)) a + S1x8x128.size a ≤ S132x8x128.size a := fun v249 k0_hw4 r => k0_hw4 r

def k0_off28 (k0_t13 : Fin k0_t13_loop.trips) : Fin 2 → Nat :=
  let c0_i32_75 : BitVec 32 := 0#32
  let c1_i32_77 : BitVec 32 := 1#32
  let arg20 : BitVec 32 := Scf.iv c0_i32_75 c1_i32_77 k0_t13
  let v309 : Index := Scalar.indexCast arg20
  let c1 : Index := 1#32
  ![v309.toNat, 1]
def k0_off29 (v310 : BitVec 32) (c0_i32_303 : BitVec 32) : Fin 3 → Nat :=
  let c0_i32_297 : BitVec 32 := 0#32
  let v312 : BitVec 1 := Scalar.cmpi .sgt v310 c0_i32_297
  let v313 : BitVec 32 := Scalar.extui v312
  let c0_i32_298 : BitVec 32 := 0#32
  let v314 : BitVec 1 := Scalar.cmpi .slt v310 c0_i32_298
  let v315 : BitVec 32 := Scalar.extui v314
  let v316 : BitVec 32 := Scalar.subi v313 v315
  let c128_i32_296 : BitVec 32 := 128#32
  let c0_i32_299 : BitVec 32 := 0#32
  let v317 : BitVec 1 := Scalar.cmpi .sgt c128_i32_296 c0_i32_299
  let v318 : BitVec 32 := Scalar.extui v317
  let c0_i32_300 : BitVec 32 := 0#32
  let v319 : BitVec 1 := Scalar.cmpi .slt c128_i32_296 c0_i32_300
  let v320 : BitVec 32 := Scalar.extui v319
  let v321 : BitVec 32 := Scalar.subi v318 v320
  let v322 : BitVec 1 := Scalar.cmpi .ne v316 v321
  let v323 : BitVec 32 := Scalar.remsi v310 c128_i32_296
  let c0_i32_301 : BitVec 32 := 0#32
  let v324 : BitVec 1 := Scalar.cmpi .ne v323 c0_i32_301
  let v325 : BitVec 1 := Scalar.andi v322 v324
  let v311 : BitVec 32 := Scalar.divsi v310 c128_i32_296
  let c1_i32_302 : BitVec 32 := 1#32
  let v326 : BitVec 32 := Scalar.subi v311 c1_i32_302
  let v327 : BitVec 32 := Scalar.select v325 v326 v311
  let v328 : BitVec 32 := Scalar.addi v327 c0_i32_303
  let v329 : Index := Scalar.indexCast v328
  let c0_304 : Index := 0#32
  let c0_305 : Index := 0#32
  ![v329.toNat, 0, 0]

def k0_chk5 (v310 : BitVec 32) : Prop :=
  (∀ (r : Fin 2), ∀ a, (k0_off29 v310 (BitVec.ofNat 32 r.val)) a + S1x8x128.size a ≤ S132x8x128.size a)
theorem k0_off29_inb : ∀ (v310 : BitVec 32) (k0_hw5 : k0_chk5 v310), ∀ (r : Fin 2), ∀ a, (k0_off29 v310 (BitVec.ofNat 32 r.val)) a + S1x8x128.size a ≤ S132x8x128.size a := fun v310 k0_hw5 r => k0_hw5 r

def k0_off30 (k0_t13 : Fin k0_t13_loop.trips) : Fin 2 → Nat :=
  let c0_i32_75 : BitVec 32 := 0#32
  let c1_i32_77 : BitVec 32 := 1#32
  let arg20 : BitVec 32 := Scf.iv c0_i32_75 c1_i32_77 k0_t13
  let v370 : Index := Scalar.indexCast arg20
  let c2 : Index := 2#32
  ![v370.toNat, 2]
def k0_off31 (v371 : BitVec 32) (c0_i32_323 : BitVec 32) : Fin 3 → Nat :=
  let c0_i32_317 : BitVec 32 := 0#32
  let v373 : BitVec 1 := Scalar.cmpi .sgt v371 c0_i32_317
  let v374 : BitVec 32 := Scalar.extui v373
  let c0_i32_318 : BitVec 32 := 0#32
  let v375 : BitVec 1 := Scalar.cmpi .slt v371 c0_i32_318
  let v376 : BitVec 32 := Scalar.extui v375
  let v377 : BitVec 32 := Scalar.subi v374 v376
  let c128_i32_316 : BitVec 32 := 128#32
  let c0_i32_319 : BitVec 32 := 0#32
  let v378 : BitVec 1 := Scalar.cmpi .sgt c128_i32_316 c0_i32_319
  let v379 : BitVec 32 := Scalar.extui v378
  let c0_i32_320 : BitVec 32 := 0#32
  let v380 : BitVec 1 := Scalar.cmpi .slt c128_i32_316 c0_i32_320
  let v381 : BitVec 32 := Scalar.extui v380
  let v382 : BitVec 32 := Scalar.subi v379 v381
  let v383 : BitVec 1 := Scalar.cmpi .ne v377 v382
  let v384 : BitVec 32 := Scalar.remsi v371 c128_i32_316
  let c0_i32_321 : BitVec 32 := 0#32
  let v385 : BitVec 1 := Scalar.cmpi .ne v384 c0_i32_321
  let v386 : BitVec 1 := Scalar.andi v383 v385
  let v372 : BitVec 32 := Scalar.divsi v371 c128_i32_316
  let c1_i32_322 : BitVec 32 := 1#32
  let v387 : BitVec 32 := Scalar.subi v372 c1_i32_322
  let v388 : BitVec 32 := Scalar.select v386 v387 v372
  let v389 : BitVec 32 := Scalar.addi v388 c0_i32_323
  let v390 : Index := Scalar.indexCast v389
  let c0_324 : Index := 0#32
  let c0_325 : Index := 0#32
  ![v390.toNat, 0, 0]

def k0_chk6 (v371 : BitVec 32) : Prop :=
  (∀ (r : Fin 2), ∀ a, (k0_off31 v371 (BitVec.ofNat 32 r.val)) a + S1x8x128.size a ≤ S132x8x128.size a)
theorem k0_off31_inb : ∀ (v371 : BitVec 32) (k0_hw6 : k0_chk6 v371), ∀ (r : Fin 2), ∀ a, (k0_off31 v371 (BitVec.ofNat 32 r.val)) a + S1x8x128.size a ≤ S132x8x128.size a := fun v371 k0_hw6 r => k0_hw6 r

def k0_off32 (k0_t13 : Fin k0_t13_loop.trips) : Fin 2 → Nat :=
  let c0_i32_75 : BitVec 32 := 0#32
  let c1_i32_77 : BitVec 32 := 1#32
  let arg20 : BitVec 32 := Scf.iv c0_i32_75 c1_i32_77 k0_t13
  let v432 : Index := Scalar.indexCast arg20
  let c0_336 : Index := 0#32
  ![v432.toNat, 0]
abbrev stage0_0 : Fin 1 → Memref sig .tc .smem S128x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S320x40000 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S80x160000 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S20x47735 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x40000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x160000 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x47735 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Tail.Words.lean ====
/- The words the tail kernel computes its trip counts and offsets from, and its side conditions of them. -/
module

public import proofs.«01_k».proof.Proof.Gen.TailIdeal
public import Idealize.ShloMosaic.Lib.Routing.Words
public import Idealize.ShloMosaic.Lib.LoopRemainder

@[expose] public section

namespace Cert.TailIdeal.Run

open Cert.TailIdeal
open Idealize.ShloMosaic

/-- The floor division by 128 as the kernel computes it. -/
def floorDiv (v : BitVec 32) : BitVec 32 :=
  Scalar.select (Scalar.andi (Scalar.cmpi .ne (Scalar.subi (Scalar.extui (Scalar.cmpi .sgt v 0#32)) (Scalar.extui (Scalar.cmpi .slt v 0#32)))
      (Scalar.subi (Scalar.extui (Scalar.cmpi .sgt 128#32 0#32)) (Scalar.extui (Scalar.cmpi .slt 128#32 0#32))))
    (Scalar.cmpi .ne (Scalar.remsi v 128#32) 0#32)) (Scalar.subi (Scalar.divsi v 128#32) 1#32) (Scalar.divsi v 128#32)

theorem floorDiv_eq {a : ℕ} (ha : a < 2 ^ 31) : floorDiv (BitVec.ofNat 32 a) = BitVec.ofNat 32 (a / 128) := by
  have hd : Scalar.divsi (BitVec.ofNat 32 a) 128#32 = BitVec.ofNat 32 (a / 128) := Routing.divsi_word .scalar ha (by decide) (by decide)
  have hr : Scalar.remsi (BitVec.ofNat 32 a) 128#32 = BitVec.ofNat 32 (a % 128) := Routing.remsi_word .scalar ha (by decide) (by decide)
  have hi : (BitVec.ofNat 32 a).toInt = a := by
    rw [BitVec.toInt_eq_toNat_cond, BitVec.toNat_ofNat, Nat.mod_eq_of_lt (by omega), if_pos (by omega)]
  unfold floorDiv
  rw [hd, hr]
  rcases Nat.eq_zero_or_pos a with h0 | hp
  · subst h0; decide
  · have h1 : Scalar.cmpi .sgt (BitVec.ofNat 32 a) 0#32 = 1#1 := by
      simp only [Scalar.cmpi, IntOp.cmpi, BitVec.slt_eq_decide, hi]
      rw [decide_eq_true (by simpa using hp)]; rfl
    have h2 : Scalar.cmpi .slt (BitVec.ofNat 32 a) 0#32 = 0#1 := by
      simp only [Scalar.cmpi, IntOp.cmpi, BitVec.slt_eq_decide, hi]
      rw [decide_eq_false (by simp)]; rfl
    rw [h1, h2]
    have h3 : Scalar.cmpi .ne (Scalar.subi (Scalar.extui (1#1 : BitVec 1) : BitVec 32) (Scalar.extui (0#1 : BitVec 1)))
      (Scalar.subi (Scalar.extui (Scalar.cmpi .sgt 128#32 0#32)) (Scalar.extui (Scalar.cmpi .slt 128#32 0#32))) = 0#1 := by decide
    rw [h3]
    generalize Scalar.cmpi .ne (BitVec.ofNat 32 (a % 128)) 0#32 = b
    have h4 : Scalar.andi (0#1) b = 0#1 := by revert b; decide
    rw [h4]; rfl

/-- The number of tiles of 128 rows that hold `n` rows. -/
def tiles (n : ℕ) : ℕ := (n + 127) / 128

/-- A bucket: it begins at row `s`, a multiple of 128, holds `n` rows, and its tiles lie within the rows there are. -/
structure Bucket (s n : BitVec 32) : Prop where
  start_le : s.toNat ≤ 16896
  rows_le : n.toNat ≤ 16896
  dvd : 128 ∣ s.toNat
  fits : s.toNat + 128 * tiles n.toNat ≤ 16896

section Loop
variable {s n : BitVec 32} (h : Bucket s n)
include h

theorem bound_eq : floorDiv (Scalar.addi n 127#32) = BitVec.ofNat 32 (tiles n.toNat) := by
  have e : Scalar.addi n 127#32 = BitVec.ofNat 32 (n.toNat + 127) := by
    have := h.rows_le
    apply BitVec.eq_of_toNat_eq
    simp only [Scalar.addi, IntOp.addi, BitVec.toNat_add, BitVec.toNat_ofNat]
  rw [e]
  exact floorDiv_eq (by have := h.rows_le; omega)

theorem tiles_le : tiles n.toNat ≤ 132 := by have := h.fits; omega

theorem loop_eq : k0_t1_loop n = ⟨0#32, BitVec.ofNat 32 (tiles n.toNat), 1#32⟩ := by
  show (⟨0#32, Scalar.addi 0#32 (Scalar.muli (Scalar.divsi (Scalar.subi (floorDiv (Scalar.addi n 127#32)) 0#32) 1#32) 1#32), 1#32⟩ : Scf.Loop 32) = _
  rw [Scalar.muli_divsi_one, bound_eq h]
  have := tiles_le h
  congr 1
  apply BitVec.eq_of_toNat_eq
  simp only [Scalar.addi, Scalar.subi, IntOp.addi, IntOp.subi, BitVec.toNat_add, BitVec.toNat_sub, BitVec.toNat_ofNat]
  omega

theorem trips_eq : (k0_t1_loop n).trips = tiles n.toNat := by
  rw [loop_eq h]
  have := tiles_le h
  show Scf.trips _ _ _ = _
  unfold Scf.trips
  have e1 : (BitVec.ofNat 32 (tiles n.toNat)).toInt = tiles n.toNat := by
    rw [BitVec.toInt_eq_toNat_cond, BitVec.toNat_ofNat, Nat.mod_eq_of_lt (by omega), if_pos (by omega)]
  rw [e1, show (0#32 : BitVec 32).toInt = 0 from by decide, show (1#32 : BitVec 32).toInt = 1 from by decide]
  omega

theorem loop_ok : (k0_t1_loop n).OK := by
  rw [loop_eq h]
  have := tiles_le h
  exact Affine.ok (Affine.ofNat 0 ⟨rfl, by decide⟩) (Affine.ofNat (tiles n.toNat) ⟨rfl, by omega⟩) (Affine.ofNat 1 ⟨rfl, by decide⟩) ⟨by decide, by omega⟩

/-- The row trip `k` begins at. -/
theorem row_eq (k : Fin (k0_t1_loop n).trips) :
    Scalar.addi s (Scalar.muli (Scf.iv 0#32 1#32 k.val) 128#32) = BitVec.ofNat 32 (s.toNat + 128 * k.val) := by
  have hk : k.val < tiles n.toNat := Nat.lt_of_lt_of_eq k.isLt (trips_eq h)
  have := h.fits; have := tiles_le h
  apply BitVec.eq_of_toNat_eq
  simp only [Scalar.addi, Scalar.muli, IntOp.addi, IntOp.muli, Scf.iv, BitVec.toNat_add, BitVec.toNat_mul, BitVec.toNat_ofNat]
  omega

theorem row_toNat (k : Fin (k0_t1_loop n).trips) :
    (Scalar.addi s (Scalar.muli (Scf.iv 0#32 1#32 k.val) 128#32)).toNat = s.toNat + 128 * k.val := by
  have hk : k.val < tiles n.toNat := Nat.lt_of_lt_of_eq k.isLt (trips_eq h)
  have := h.fits
  rw [row_eq h, BitVec.toNat_ofNat]; omega

theorem off1_eq (k : Fin (k0_t1_loop n).trips) : k0_off1 s n k = ![0, s.toNat + 128 * k.val, 0] := by
  show (![0, (Scalar.addi s (Scalar.muli (Scf.iv 0#32 1#32 k.val) 128#32)).toNat, 0] : Fin 3 → ℕ) = _
  rw [row_toNat h]

theorem off4_eq (k : Fin (k0_t1_loop n).trips) : k0_off4 s n k = ![s.toNat / 128 + k.val, 0, 0] := by
  show (![(floorDiv (Scalar.addi s (Scalar.muli (Scf.iv 0#32 1#32 k.val) 128#32))).toNat, 0, 0] : Fin 3 → ℕ) = _
  have hk : k.val < tiles n.toNat := Nat.lt_of_lt_of_eq k.isLt (trips_eq h)
  have := h.fits; have := h.dvd
  rw [row_eq h, floorDiv_eq (by omega), BitVec.toNat_ofNat, Nat.mod_eq_of_lt (by omega)]
  congr 1; omega

end Loop

theorem off1_inb {s n : BitVec 32} (h : Bucket s n) (k : Fin (k0_t1_loop n).trips) (a) : k0_off1 s n k a + S3x128x128.size a ≤ S3x16896x128.size a := by
  have hk : k.val < tiles n.toNat := Nat.lt_of_lt_of_eq k.isLt (trips_eq h)
  have := h.fits
  rw [off1_eq h]
  fin_cases a
  · show 0 + 3 ≤ 3; omega
  · show s.toNat + 128 * k.val + 128 ≤ 16896; omega
  · show 0 + 128 ≤ 128; omega

theorem off4_inb {s n : BitVec 32} (h : Bucket s n) (k : Fin (k0_t1_loop n).trips) (a) : k0_off4 s n k a + S1x8x128.size a ≤ S132x8x128.size a := by
  have hk : k.val < tiles n.toNat := Nat.lt_of_lt_of_eq k.isLt (trips_eq h)
  have := h.fits; have := h.dvd
  rw [off4_eq h]
  fin_cases a
  · show s.toNat / 128 + k.val + 1 ≤ 132; omega
  · show 0 + 8 ≤ 8; omega
  · show 0 + 128 ≤ 128; omega

theorem mult_dvd {s n : BitVec 32} (h : Bucket s n) (k : Fin (k0_t1_loop n).trips) : 128 ∣ (k0_mult1 s n k).toNat := by
  show 128 ∣ (Scalar.addi s (Scalar.muli (Scf.iv 0#32 1#32 k.val) 128#32)).toNat
  rw [row_toNat h]
  have := h.dvd; omega

/-- The remainder loop makes no trip. -/
theorem no_trip (n : BitVec 32) (k : Fin (k0_t3_loop n).trips) : False :=
  Scf.rem_no_trip 0#32 (Scalar.subi (floorDiv (Scalar.addi n 127#32)) 0#32) k

theorem rest_ok (n : BitVec 32) : (k0_t3_loop n).OK :=
  Scf.rem_ok 0#32 (Scalar.subi (floorDiv (Scalar.addi n 127#32)) 0#32)

theorem chk1 {s n : BitVec 32} (h : Bucket s n) : k0_chk1 s n :=
  ⟨loop_ok h, mult_dvd h, off1_inb h, off4_inb h, rest_ok n, fun k => (no_trip n k).elim, fun k => (no_trip n k).elim, fun k => (no_trip n k).elim⟩

theorem chk2 {s n : BitVec 32} (h : Bucket s n) : k0_chk2 s n :=
  ⟨loop_ok h, mult_dvd h, off1_inb h, off4_inb h, rest_ok n, fun k => (no_trip n k).elim, fun k => (no_trip n k).elim, fun k => (no_trip n k).elim⟩

theorem chk3 {s n : BitVec 32} (h : Bucket s n) : k0_chk3 s n :=
  ⟨loop_ok h, mult_dvd h, off1_inb h, off4_inb h, rest_ok n, fun k => (no_trip n k).elim, fun k => (no_trip n k).elim, fun k => (no_trip n k).elim⟩

/-! ## The two blocks the placement reads -/

theorem off27_eq {v : BitVec 32} (hv : v.toNat < 16768) (r : Fin 2) : k0_off27 v (BitVec.ofNat 32 r.val) = ![v.toNat / 128 + r.val, 0, 0] := by
  show (![(Scalar.addi (floorDiv v) (BitVec.ofNat 32 r.val)).toNat, 0, 0] : Fin 3 → ℕ) = _
  have e : v = BitVec.ofNat 32 v.toNat := by simp
  have hr := r.isLt
  have : (floorDiv v) = BitVec.ofNat 32 (v.toNat / 128) := by rw [e, floorDiv_eq (by simpa using (by omega)), ← e]
  rw [this]
  congr 1
  simp only [Scalar.addi, IntOp.addi, BitVec.toNat_add, BitVec.toNat_ofNat]
  omega

theorem chk4 {v : BitVec 32} (hv : v.toNat < 16768) : k0_chk4 v := by
  intro r a
  have hr := r.isLt
  rw [off27_eq hv]
  fin_cases a
  · show v.toNat / 128 + r.val + 1 ≤ 132; omega
  · show 0 + 8 ≤ 8; omega
  · show 0 + 128 ≤ 128; omega

theorem chk5 {v : BitVec 32} (hv : v.toNat < 16768) : k0_chk5 v := chk4 hv
theorem chk6 {v : BitVec 32} (hv : v.toNat < 16768) : k0_chk6 v := chk4 hv

end Cert.TailIdeal.Run
-- ==== Proof.Tail.Fit.lean ====
/- What the preconditions say of the table: its regions fit. -/
module

public import proofs.«01_k».proof.Proof.Tail.Words
public import proofs.«01_k».proof.Proof.Gen.Pre_tables_fit
public import Idealize.ShloMosaic.Lib.Pointwise.Index
public import Idealize.ShloMosaic.Lib.Pointwise
public import Idealize.ShloMosaic.Lib.Claim
public import Idealize.ShloMosaic.Lib.Tactic.WordOmega

@[expose] public section

set_option maxRecDepth 8192

noncomputable section

namespace Cert.Fit

open Idealize.ShloMosaic
open Cert.TailIdeal.Run (Bucket tiles)

theorem both {a b : BitVec 1} (h : IntOp.andi a b = 1#1) : a = 1#1 ∧ b = 1#1 := by
  revert a b; decide

/-- One region: where it starts, how many rows it has, where the next begins. -/
structure Region (s n e : BitVec 32) : Prop where
  bucket : Bucket s n
  next : s.toNat + n.toNat ≤ e.toNat

theorem below {x : BitVec 32} (h0 : IntOp.cmpi .sge x 0#32 = 1#1) (h1 : IntOp.cmpi .slt x 16768#32 = 1#1) : x.toNat < 16768 := by
  word_omega

theorem upto {x : BitVec 32} (h0 : IntOp.cmpi .sge x 0#32 = 1#1) (h1 : IntOp.cmpi .sle x 16896#32 = 1#1) : x.toNat ≤ 16896 := by
  word_omega

theorem adds {s n e : BitVec 32} (hs : s.toNat ≤ 16896) (hn : n.toNat ≤ 16896) (he : e.toNat ≤ 16896) (h : IntOp.cmpi .sle (IntOp.addi s n) e = 1#1) :
    s.toNat + n.toNat ≤ e.toNat := by
  word_omega

theorem region {s n e x : BitVec 32} (he : e.toNat ≤ 16896)
    (h : IntOp.andi (IntOp.andi (IntOp.andi (IntOp.andi (IntOp.andi (IntOp.andi (IntOp.andi (IntOp.cmpi .sge s 0#32) (IntOp.cmpi .sle s 16896#32))
      (IntOp.cmpi .eq (IntOp.andi s 127#32) 0#32)) (IntOp.cmpi .sge n 0#32)) (IntOp.cmpi .sle n 16896#32)) (IntOp.cmpi .sle (IntOp.addi s n) e))
      (IntOp.cmpi .sge x 0#32)) (IntOp.cmpi .slt x 16768#32) = 1#1) : Region s n e ∧ x.toNat < 16768 := by
  obtain ⟨h, x1⟩ := both h
  obtain ⟨h, x0⟩ := both h
  obtain ⟨h, h5⟩ := both h
  obtain ⟨h, h4⟩ := both h
  obtain ⟨h, h3⟩ := both h
  obtain ⟨h, h2⟩ := both h
  obtain ⟨h0, h1⟩ := both h
  have hx : x.toNat < 16768 := below x0 x1
  have hs : s.toNat ≤ 16896 := upto h0 h1
  have hn : n.toNat ≤ 16896 := upto h3 h4
  have hd : s.toNat % 128 = 0 := by
    have e : s &&& 127#32 = 0#32 := by
      by_contra hne
      have : IntOp.cmpi .eq (IntOp.andi s 127#32) 0#32 = 0#1 := by
        show BitVec.ofBool (decide (s &&& 127#32 = 0#32)) = _; rw [decide_eq_false hne]; rfl
      rw [this] at h2; exact absurd h2 (by decide)
    have := congrArg BitVec.toNat e
    rw [BitVec.toNat_and, show (127#32).toNat = 2 ^ 7 - 1 from rfl, Nat.and_two_pow_sub_one_eq_mod] at this
    exact this
  have hsn : s.toNat + n.toNat ≤ e.toNat := adds hs hn he h5
  refine ⟨⟨⟨hs, hn, Nat.dvd_of_mod_eq_zero hd, ?_⟩, hsn⟩, hx⟩
  unfold tiles
  omega

variable {F : FTy → Type} [FloatOps F]

section
variable [Cert.Pre_tables_fit.Facts]
open Cert.Pre_tables_fit

variable (x0 : IVec S128x128 32) (x1 : IVec S8x2048 32) (x2 : IVec S128x128 32) (x3 : FVec F S3x16896x128 .f32) (x4 : IVec S320x40000 8)
  (x5 : IVec S80x160000 8) (x6 : IVec S20x47735 8) (x7 : FVec F S1x40000 .f32) (x8 : FVec F S1x160000 .f32) (x9 : FVec F S1x47735 .f32)

/-- What the table's check says of one line of it. -/
structure Lines (x0 : IVec S128x128 32) (k : Fin 128) : Prop where
  one : Region (x0 (ix2 0 6)) (x0 (ix2 0 9)) (x0 (ix2 0 7)) ∧ (x0 (ix2 k 0)).toNat < 16768
  two : Region (x0 (ix2 0 7)) (x0 (ix2 0 10)) (x0 (ix2 0 8)) ∧ (x0 (ix2 k 1)).toNat < 16768
  three : Region (x0 (ix2 0 8)) (x0 (ix2 0 11)) 16896#32 ∧ (x0 (ix2 k 2)).toNat < 16768

theorem one_of (k : Fin 128) (he : BitVec.toNat (w := 32) (x0 (ix2 0 7)) ≤ 16896) (h : fn x0 x1 x2 x3 x4 x5 x6 x7 x8 x9 (ix2 (n0 := 128) (n1 := 3) k 0) = 1#1) :
    Region (x0 (ix2 0 6)) (x0 (ix2 0 9)) (x0 (ix2 0 7)) ∧ (x0 (ix2 k 0)).toNat < 16768 := by
  refine region he (Eq.trans ?_ h)
  unfold fn fn_part1
  pointwise

theorem two_of (k : Fin 128) (he : BitVec.toNat (w := 32) (x0 (ix2 0 8)) ≤ 16896) (h : fn x0 x1 x2 x3 x4 x5 x6 x7 x8 x9 (ix2 (n0 := 128) (n1 := 3) k 1) = 1#1) :
    Region (x0 (ix2 0 7)) (x0 (ix2 0 10)) (x0 (ix2 0 8)) ∧ (x0 (ix2 k 1)).toNat < 16768 := by
  refine region he (Eq.trans ?_ h)
  unfold fn fn_part1
  pointwise

theorem three_of (k : Fin 128) (he : BitVec.toNat (w := 32) 16896#32 ≤ 16896) (h : fn x0 x1 x2 x3 x4 x5 x6 x7 x8 x9 (ix2 (n0 := 128) (n1 := 3) k 2) = 1#1) :
    Region (x0 (ix2 0 8)) (x0 (ix2 0 11)) 16896#32 ∧ (x0 (ix2 k 2)).toNat < 16768 := by
  refine region he (Eq.trans ?_ h)
  unfold fn fn_part1
  pointwise

theorem lines_of (h : fn x0 x1 x2 x3 x4 x5 x6 x7 x8 x9 = fun _ => 1#1) (k : Fin 128) : Lines x0 k :=
  have h3 := three_of x0 x1 x2 x3 x4 x5 x6 x7 x8 x9 k (by decide) (congrFun h _)
  have h2 := two_of x0 x1 x2 x3 x4 x5 x6 x7 x8 x9 k h3.1.bucket.start_le (congrFun h _)
  ⟨one_of x0 x1 x2 x3 x4 x5 x6 x7 x8 x9 k h2.1.bucket.start_le (congrFun h _), h2, h3⟩
end

end Cert.Fit
-- ==== Proof.Tail.Loops.lean ====
/- The loops over a table's chunks and the loop that puts the rows back, one trip of each at a symbolic trip. -/
module

public import proofs.«01_k».proof.Proof.Tail.Words
public import proofs.«01_k».proof.Proof.Gen.TailIdeal.Loops
public import Idealize.ShloMosaic.Lib.Pipeline.FrameBody

@[expose] public section

set_option maxRecDepth 8192
set_option maxHeartbeats 4000000

noncomputable section

namespace Cert.TailIdeal.Run

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources: the pipeline's beside the counters of the kernel's own transfers. -/
abbrev UU : Type := Pipeline.UD sig nD τ
local notation "𝕄" => MT nD τ sig Unit (Elt F) ℕ UU ℕ

/-- A column of 128 values. -/
abbrev Col (F : FTy → Type) [FloatOps F] : Type := FVec F S128x1 .f32

section

variable (c : Dev nD)
variable (arg0 : Memref sig .tc .smem S128x128 .i32)
  (harg0 : arg0.IsWhole)
  (arg1 : Memref sig .tc .vmem S8x2048 .i32)
  (harg1 : arg1.IsWhole)
  (arg2 : Memref sig .tc .vmem S128x128 .i32)
  (harg2 : arg2.IsWhole)
  (arg3 : Memref sig .tc .hbm S3x16896x128 .f32)
  (harg3 : arg3.IsWhole)
  (arg4 : Memref sig .tc .vmem S320x40000 .i8)
  (harg4 : arg4.IsWhole)
  (arg5 : Memref sig .tc .vmem S80x160000 .i8)
  (harg5 : arg5.IsWhole)
  (arg6 : Memref sig .tc .vmem S20x47735 .i8)
  (harg6 : arg6.IsWhole)
  (arg7 : Memref sig .tc .vmem S1x40000 .f32)
  (harg7 : arg7.IsWhole)
  (arg8 : Memref sig .tc .vmem S1x160000 .f32)
  (harg8 : arg8.IsWhole)
  (arg9 : Memref sig .tc .vmem S1x47735 .f32)
  (harg9 : arg9.IsWhole)
  (arg10 : Memref sig .tc .vmem S8x2048 .f32)
  (harg10 : arg10.IsWhole)
  (arg11 : Memref sig .tc .vmem S8x2048 .f32)
  (harg11 : arg11.IsWhole)
  (arg12 : Memref sig .tc .vmem S8x2048 .f32)
  (harg12 : arg12.IsWhole)
  (arg13 : Memref sig .tc .vmem S3x128x128 .f32)
  (harg13 : arg13.IsWhole)
  (arg14 : Memref sig .tc .vmem S132x8x128 .f32)
  (harg14 : arg14.IsWhole)
  (arg15 : Memref sig .tc .vmem S128x128 .i32)
  (harg15 : arg15.IsWhole)
  (arg16 : Memref sig .tc .vmem S128x128 .f32)
  (harg16 : arg16.IsWhole)
  (arg17 : Memref sig .tc .vmem S128x128 .f32)
  (harg17 : arg17.IsWhole)
  (arg18 : Memref sig .tc .vmem S128x128 .f32)
  (harg18 : arg18.IsWhole)
  (arg19 : DmaSems sig S_)

/-! ## The chunks of a table: loop 2 -/

/-- The table and its scales, as a trip reads them. -/
abbrev Trip2 (W : BufTy.Contents (Elt F) arg4.view.ty) (S : BufTy.Contents (Elt F) arg7.view.ty) : sProp 𝕄 :=
  iprop((arg4.view.loc (c : Thread nD τ) ↦[arg4.view.set]{fullShare} W) ∗ (arg7.view.loc (c : Thread nD τ) ↦[arg7.view.set]{fullShare} S))

/-- One trip: what it yields, as a function of what it is given. -/
@[irreducible] def trip2 (v65 : Elt F .i32) (v66 : Elt F .i32) (k0_hw1 : k0_chk1 v65 v66) (c0_i32_40 : BitVec 32) (c1_i32_42 : BitVec 32) (k0_t1 : Fin (k0_t1_loop v66).trips) (v242 : Vec F S1x128x128 .f32) (v244 : Vec F S1x128x128 .f32) (v246 : Vec F S1x128x128 .f32) (v251 : Vec F S1x128x1 .f32) (v253 : Vec F S1x128x1 .f32)
    (W : BufTy.Contents (Elt F) arg4.view.ty) (S : BufTy.Contents (Elt F) arg7.view.ty) (k : Fin k0_t2_loop.trips) :
    { R : (Col F × Col F × Col F) → Col F × Col F × Col F // ∀ (E : Set ℕ) (acc : Col F × Col F × Col F),
      Trip2 (F := F) c arg4 arg7 W S
      ⊢ wp frame (wpE (defs₀ (F := F)) Variants.none (c : Thread nD τ) none) E (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v65 v66 k0_hw1 c0_i32_40 c1_i32_42 k0_t1 v242 v244 v246 v251 v253 k acc)
          (fun yld => iprop(⌜yld = R acc⌝ ∗ Trip2 (F := F) c arg4 arg7 W S)) } := by
  have hk : k.val < 19 := Nat.lt_of_lt_of_le k.isLt k0_t2_abs.2.1
  refine ⟨?_, fun E acc => ?run⟩
  case run =>
    unfold k0_t2_body
    iintro ⟨HW, HS⟩
    sl_exec
    sl_step
    sl_close

/-- The carried values before trip `k`. -/
def carry2 (v65 : Elt F .i32) (v66 : Elt F .i32) (k0_hw1 : k0_chk1 v65 v66) (c0_i32_40 : BitVec 32) (c1_i32_42 : BitVec 32) (k0_t1 : Fin (k0_t1_loop v66).trips) (v242 : Vec F S1x128x128 .f32) (v244 : Vec F S1x128x128 .f32) (v246 : Vec F S1x128x128 .f32) (v251 : Vec F S1x128x1 .f32) (v253 : Vec F S1x128x1 .f32)
    (W : BufTy.Contents (Elt F) arg4.view.ty) (S : BufTy.Contents (Elt F) arg7.view.ty) (init : Col F × Col F × Col F) (k : ℕ) : Col F × Col F × Col F :=
  Nat.rec init (fun k prev => if h : k < k0_t2_loop.trips then (trip2 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v65 v66 k0_hw1 c0_i32_40 c1_i32_42 k0_t1 v242 v244 v246 v251 v253 W S ⟨k, h⟩).1 prev else prev) k

theorem carry2_succ (v65 : Elt F .i32) (v66 : Elt F .i32) (k0_hw1 : k0_chk1 v65 v66) (c0_i32_40 : BitVec 32) (c1_i32_42 : BitVec 32) (k0_t1 : Fin (k0_t1_loop v66).trips) (v242 : Vec F S1x128x128 .f32) (v244 : Vec F S1x128x128 .f32) (v246 : Vec F S1x128x128 .f32) (v251 : Vec F S1x128x1 .f32) (v253 : Vec F S1x128x1 .f32)
    (W : BufTy.Contents (Elt F) arg4.view.ty) (S : BufTy.Contents (Elt F) arg7.view.ty) (init : Col F × Col F × Col F) (k : Fin k0_t2_loop.trips) :
    carry2 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v65 v66 k0_hw1 c0_i32_40 c1_i32_42 k0_t1 v242 v244 v246 v251 v253 W S init (k.val + 1) = (trip2 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v65 v66 k0_hw1 c0_i32_40 c1_i32_42 k0_t1 v242 v244 v246 v251 v253 W S k).1 (carry2 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v65 v66 k0_hw1 c0_i32_40 c1_i32_42 k0_t1 v242 v244 v246 v251 v253 W S init k.val) :=
  dif_pos k.isLt

set_option warn.classDefReducibility false in
@[sl_loop] def loopInv2 (v65 : Elt F .i32) (v66 : Elt F .i32) (k0_hw1 : k0_chk1 v65 v66) (c0_i32_40 : BitVec 32) (c1_i32_42 : BitVec 32) (k0_t1 : Fin (k0_t1_loop v66).trips) (v242 : Vec F S1x128x128 .f32) (v244 : Vec F S1x128x128 .f32) (v246 : Vec F S1x128x128 .f32) (v251 : Vec F S1x128x1 .f32) (v253 : Vec F S1x128x1 .f32)
    (W : BufTy.Contents (Elt F) arg4.view.ty) (S : BufTy.Contents (Elt F) arg7.view.ty) (init : Col F × Col F × Col F) :
    LoopInvTy_k0_t2 (F := F) Unit ℕ UU ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v65 v66 k0_hw1 c0_i32_40 c1_i32_42 k0_t1 v242 v244 v246 v251 v253 init where
  inv k acc := iprop((arg4.view.loc (c : Thread nD τ) ↦[arg4.view.set]{fullShare} W) ∗ (arg7.view.loc (c : Thread nD τ) ↦[arg7.view.set]{fullShare} S)
    ∗ ⌜acc = carry2 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v65 v66 k0_hw1 c0_i32_40 c1_i32_42 k0_t1 v242 v244 v246 v251 v253 W S init k⌝)
  step k acc := by
    iintro ⟨HW, HS, %h⟩
    subst h
    iapply (wp_wand_r Idealize.ShloMosaic.frame (wpE (defs₀ (F := F)) Variants.none (c : Thread nD τ) none) Set.univ)
    isplitl [HW HS]
    · iapply ((trip2 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v65 v66 k0_hw1 c0_i32_40 c1_i32_42 k0_t1 v242 v244 v246 v251 v253 W S k).2 Set.univ _)
      isplitl [HW]; · iexact HW
      iexact HS
    · iintro %yld ⟨%h, HW, HS⟩
      isplitl [HW]; · iexact HW
      isplitl [HS]; · iexact HS
      rw [carry2_succ]
      ipureintro; exact h

/-! ## The chunks of a table: loop 6 -/

/-- The table and its scales, as a trip reads them. -/
abbrev Trip6 (W : BufTy.Contents (Elt F) arg5.view.ty) (S : BufTy.Contents (Elt F) arg8.view.ty) : sProp 𝕄 :=
  iprop((arg5.view.loc (c : Thread nD τ) ↦[arg5.view.set]{fullShare} W) ∗ (arg8.view.loc (c : Thread nD τ) ↦[arg8.view.set]{fullShare} S))

/-- One trip: what it yields, as a function of what it is given. -/
@[irreducible] def trip6 (v90 : Elt F .i32) (v91 : Elt F .i32) (k0_hw2 : k0_chk2 v90 v91) (c0_i32_55 : BitVec 32) (c1_i32_57 : BitVec 32) (k0_t5 : Fin (k0_t5_loop v91).trips) (v242 : Vec F S1x128x128 .f32) (v246 : Vec F S1x128x1 .f32) (v248 : Vec F S1x128x1 .f32)
    (W : BufTy.Contents (Elt F) arg5.view.ty) (S : BufTy.Contents (Elt F) arg8.view.ty) (k : Fin k0_t6_loop.trips) :
    { R : (Col F × Col F × Col F) → Col F × Col F × Col F // ∀ (E : Set ℕ) (acc : Col F × Col F × Col F),
      Trip6 (F := F) c arg5 arg8 W S
      ⊢ wp frame (wpE (defs₀ (F := F)) Variants.none (c : Thread nD τ) none) E (k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v90 v91 k0_hw2 c0_i32_55 c1_i32_57 k0_t5 v242 v246 v248 k acc)
          (fun yld => iprop(⌜yld = R acc⌝ ∗ Trip6 (F := F) c arg5 arg8 W S)) } := by
  have hk : k.val < 78 := Nat.lt_of_lt_of_le k.isLt k0_t6_abs.2.1
  refine ⟨?_, fun E acc => ?run⟩
  case run =>
    unfold k0_t6_body
    iintro ⟨HW, HS⟩
    sl_exec
    sl_step
    sl_close

/-- The carried values before trip `k`. -/
def carry6 (v90 : Elt F .i32) (v91 : Elt F .i32) (k0_hw2 : k0_chk2 v90 v91) (c0_i32_55 : BitVec 32) (c1_i32_57 : BitVec 32) (k0_t5 : Fin (k0_t5_loop v91).trips) (v242 : Vec F S1x128x128 .f32) (v246 : Vec F S1x128x1 .f32) (v248 : Vec F S1x128x1 .f32)
    (W : BufTy.Contents (Elt F) arg5.view.ty) (S : BufTy.Contents (Elt F) arg8.view.ty) (init : Col F × Col F × Col F) (k : ℕ) : Col F × Col F × Col F :=
  Nat.rec init (fun k prev => if h : k < k0_t6_loop.trips then (trip6 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v90 v91 k0_hw2 c0_i32_55 c1_i32_57 k0_t5 v242 v246 v248 W S ⟨k, h⟩).1 prev else prev) k

theorem carry6_succ (v90 : Elt F .i32) (v91 : Elt F .i32) (k0_hw2 : k0_chk2 v90 v91) (c0_i32_55 : BitVec 32) (c1_i32_57 : BitVec 32) (k0_t5 : Fin (k0_t5_loop v91).trips) (v242 : Vec F S1x128x128 .f32) (v246 : Vec F S1x128x1 .f32) (v248 : Vec F S1x128x1 .f32)
    (W : BufTy.Contents (Elt F) arg5.view.ty) (S : BufTy.Contents (Elt F) arg8.view.ty) (init : Col F × Col F × Col F) (k : Fin k0_t6_loop.trips) :
    carry6 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v90 v91 k0_hw2 c0_i32_55 c1_i32_57 k0_t5 v242 v246 v248 W S init (k.val + 1) = (trip6 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v90 v91 k0_hw2 c0_i32_55 c1_i32_57 k0_t5 v242 v246 v248 W S k).1 (carry6 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v90 v91 k0_hw2 c0_i32_55 c1_i32_57 k0_t5 v242 v246 v248 W S init k.val) :=
  dif_pos k.isLt

set_option warn.classDefReducibility false in
@[sl_loop] def loopInv6 (v90 : Elt F .i32) (v91 : Elt F .i32) (k0_hw2 : k0_chk2 v90 v91) (c0_i32_55 : BitVec 32) (c1_i32_57 : BitVec 32) (k0_t5 : Fin (k0_t5_loop v91).trips) (v242 : Vec F S1x128x128 .f32) (v246 : Vec F S1x128x1 .f32) (v248 : Vec F S1x128x1 .f32)
    (W : BufTy.Contents (Elt F) arg5.view.ty) (S : BufTy.Contents (Elt F) arg8.view.ty) (init : Col F × Col F × Col F) :
    LoopInvTy_k0_t6 (F := F) Unit ℕ UU ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v90 v91 k0_hw2 c0_i32_55 c1_i32_57 k0_t5 v242 v246 v248 init where
  inv k acc := iprop((arg5.view.loc (c : Thread nD τ) ↦[arg5.view.set]{fullShare} W) ∗ (arg8.view.loc (c : Thread nD τ) ↦[arg8.view.set]{fullShare} S)
    ∗ ⌜acc = carry6 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v90 v91 k0_hw2 c0_i32_55 c1_i32_57 k0_t5 v242 v246 v248 W S init k⌝)
  step k acc := by
    iintro ⟨HW, HS, %h⟩
    subst h
    iapply (wp_wand_r Idealize.ShloMosaic.frame (wpE (defs₀ (F := F)) Variants.none (c : Thread nD τ) none) Set.univ)
    isplitl [HW HS]
    · iapply ((trip6 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v90 v91 k0_hw2 c0_i32_55 c1_i32_57 k0_t5 v242 v246 v248 W S k).2 Set.univ _)
      isplitl [HW]; · iexact HW
      iexact HS
    · iintro %yld ⟨%h, HW, HS⟩
      isplitl [HW]; · iexact HW
      isplitl [HS]; · iexact HS
      rw [carry6_succ]
      ipureintro; exact h

/-! ## The chunks of a table: loop 10 -/

/-- The table and its scales, as a trip reads them. -/
abbrev Trip10 (W : BufTy.Contents (Elt F) arg6.view.ty) (S : BufTy.Contents (Elt F) arg9.view.ty) : sProp 𝕄 :=
  iprop((arg6.view.loc (c : Thread nD τ) ↦[arg6.view.set]{fullShare} W) ∗ (arg9.view.loc (c : Thread nD τ) ↦[arg9.view.set]{fullShare} S))

/-- One trip: what it yields, as a function of what it is given. -/
@[irreducible] def trip10 (v115 : Elt F .i32) (v116 : Elt F .i32) (k0_hw3 : k0_chk3 v115 v116) (c0_i32_71 : BitVec 32) (c1_i32_73 : BitVec 32) (k0_t9 : Fin (k0_t9_loop v116).trips) (v242 : Vec F S1x128x128 .f32) (v246 : Vec F S1x128x1 .f32) (v248 : Vec F S1x128x1 .f32)
    (W : BufTy.Contents (Elt F) arg6.view.ty) (S : BufTy.Contents (Elt F) arg9.view.ty) (k : Fin k0_t10_loop.trips) :
    { R : (Col F × Col F × Col F) → Col F × Col F × Col F // ∀ (E : Set ℕ) (acc : Col F × Col F × Col F),
      Trip10 (F := F) c arg6 arg9 W S
      ⊢ wp frame (wpE (defs₀ (F := F)) Variants.none (c : Thread nD τ) none) E (k0_t10_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v115 v116 k0_hw3 c0_i32_71 c1_i32_73 k0_t9 v242 v246 v248 k acc)
          (fun yld => iprop(⌜yld = R acc⌝ ∗ Trip10 (F := F) c arg6 arg9 W S)) } := by
  have hk : k.val < 23 := Nat.lt_of_lt_of_le k.isLt k0_t10_abs.2.1
  refine ⟨?_, fun E acc => ?run⟩
  case run =>
    unfold k0_t10_body
    iintro ⟨HW, HS⟩
    sl_exec
    sl_step
    sl_close

/-- The carried values before trip `k`. -/
def carry10 (v115 : Elt F .i32) (v116 : Elt F .i32) (k0_hw3 : k0_chk3 v115 v116) (c0_i32_71 : BitVec 32) (c1_i32_73 : BitVec 32) (k0_t9 : Fin (k0_t9_loop v116).trips) (v242 : Vec F S1x128x128 .f32) (v246 : Vec F S1x128x1 .f32) (v248 : Vec F S1x128x1 .f32)
    (W : BufTy.Contents (Elt F) arg6.view.ty) (S : BufTy.Contents (Elt F) arg9.view.ty) (init : Col F × Col F × Col F) (k : ℕ) : Col F × Col F × Col F :=
  Nat.rec init (fun k prev => if h : k < k0_t10_loop.trips then (trip10 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v115 v116 k0_hw3 c0_i32_71 c1_i32_73 k0_t9 v242 v246 v248 W S ⟨k, h⟩).1 prev else prev) k

theorem carry10_succ (v115 : Elt F .i32) (v116 : Elt F .i32) (k0_hw3 : k0_chk3 v115 v116) (c0_i32_71 : BitVec 32) (c1_i32_73 : BitVec 32) (k0_t9 : Fin (k0_t9_loop v116).trips) (v242 : Vec F S1x128x128 .f32) (v246 : Vec F S1x128x1 .f32) (v248 : Vec F S1x128x1 .f32)
    (W : BufTy.Contents (Elt F) arg6.view.ty) (S : BufTy.Contents (Elt F) arg9.view.ty) (init : Col F × Col F × Col F) (k : Fin k0_t10_loop.trips) :
    carry10 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v115 v116 k0_hw3 c0_i32_71 c1_i32_73 k0_t9 v242 v246 v248 W S init (k.val + 1) = (trip10 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v115 v116 k0_hw3 c0_i32_71 c1_i32_73 k0_t9 v242 v246 v248 W S k).1 (carry10 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v115 v116 k0_hw3 c0_i32_71 c1_i32_73 k0_t9 v242 v246 v248 W S init k.val) :=
  dif_pos k.isLt

set_option warn.classDefReducibility false in
@[sl_loop] def loopInv10 (v115 : Elt F .i32) (v116 : Elt F .i32) (k0_hw3 : k0_chk3 v115 v116) (c0_i32_71 : BitVec 32) (c1_i32_73 : BitVec 32) (k0_t9 : Fin (k0_t9_loop v116).trips) (v242 : Vec F S1x128x128 .f32) (v246 : Vec F S1x128x1 .f32) (v248 : Vec F S1x128x1 .f32)
    (W : BufTy.Contents (Elt F) arg6.view.ty) (S : BufTy.Contents (Elt F) arg9.view.ty) (init : Col F × Col F × Col F) :
    LoopInvTy_k0_t10 (F := F) Unit ℕ UU ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v115 v116 k0_hw3 c0_i32_71 c1_i32_73 k0_t9 v242 v246 v248 init where
  inv k acc := iprop((arg6.view.loc (c : Thread nD τ) ↦[arg6.view.set]{fullShare} W) ∗ (arg9.view.loc (c : Thread nD τ) ↦[arg9.view.set]{fullShare} S)
    ∗ ⌜acc = carry10 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v115 v116 k0_hw3 c0_i32_71 c1_i32_73 k0_t9 v242 v246 v248 W S init k⌝)
  step k acc := by
    iintro ⟨HW, HS, %h⟩
    subst h
    iapply (wp_wand_r Idealize.ShloMosaic.frame (wpE (defs₀ (F := F)) Variants.none (c : Thread nD τ) none) Set.univ)
    isplitl [HW HS]
    · iapply ((trip10 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v115 v116 k0_hw3 c0_i32_71 c1_i32_73 k0_t9 v242 v246 v248 W S k).2 Set.univ _)
      isplitl [HW]; · iexact HW
      iexact HS
    · iintro %yld ⟨%h, HW, HS⟩
      isplitl [HW]; · iexact HW
      isplitl [HS]; · iexact HS
      rw [carry10_succ]
      ipureintro; exact h

/-! ## The loop that puts the rows back -/

/-- What a trip reads and what it writes. -/
abbrev Trip13 (X0 : BufTy.Contents (Elt F) arg0.view.ty) (X2 : BufTy.Contents (Elt F) arg2.view.ty) (X14 : BufTy.Contents (Elt F) arg14.view.ty) (X15 : BufTy.Contents (Elt F) arg15.view.ty) (f16 : BufTy.Contents (Elt F) arg16.view.ty) (f17 : BufTy.Contents (Elt F) arg17.view.ty) (f18 : BufTy.Contents (Elt F) arg18.view.ty) : sProp 𝕄 :=
  iprop((arg0.view.loc (c : Thread nD τ) ↦[arg0.view.set]{fullShare} X0) ∗ (arg2.view.loc (c : Thread nD τ) ↦[arg2.view.set]{fullShare} X2) ∗ (arg14.view.loc (c : Thread nD τ) ↦[arg14.view.set]{fullShare} X14) ∗ (arg15.view.loc (c : Thread nD τ) ↦[arg15.view.set]{fullShare} X15)
    ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18))

/-- One trip: the pieces it writes into the three results. -/
@[irreducible] def trip13 (v64 : IVec S128x128 32) (v115 : Elt F .i32) (X0 : BufTy.Contents (Elt F) arg0.view.ty) (X2 : BufTy.Contents (Elt F) arg2.view.ty) (X14 : BufTy.Contents (Elt F) arg14.view.ty) (X15 : BufTy.Contents (Elt F) arg15.view.ty) (k : Fin k0_t13_loop.trips)
    (hw4 : k0_chk4 (arg0.view.readAt (Elt F) (Rect.unit (s := S128x128) (k0_off26 k) S1x1.size (k0_off26_inb k)).toLoadRect X0 (Shape.Idx.first (numel1_S1x1.symm ▸ Nat.one_pos)))) (hw5 : k0_chk5 (arg0.view.readAt (Elt F) (Rect.unit (s := S128x128) (k0_off28 k) S1x1.size (k0_off28_inb k)).toLoadRect X0 (Shape.Idx.first (numel1_S1x1.symm ▸ Nat.one_pos)))) (hw6 : k0_chk6 (arg0.view.readAt (Elt F) (Rect.unit (s := S128x128) (k0_off30 k) S1x1.size (k0_off30_inb k)).toLoadRect X0 (Shape.Idx.first (numel1_S1x1.symm ▸ Nat.one_pos)))) :
    Σ' (L16 : List (View.Piece (Elt F) S128x128 .f32)) (L17 : List (View.Piece (Elt F) S128x128 .f32)), { L18 : List (View.Piece (Elt F) S128x128 .f32) // ∀ (E : Set ℕ) (f16 : BufTy.Contents (Elt F) arg16.view.ty) (f17 : BufTy.Contents (Elt F) arg17.view.ty) (f18 : BufTy.Contents (Elt F) arg18.view.ty),
      Trip13 (F := F) c arg0 arg2 arg14 arg15 arg16 arg17 arg18 X0 X2 X14 X15 f16 f17 f18
      ⊢ wp frame (wpE (defs₀ (F := F)) Variants.none (c : Thread nD τ) none) E (k0_t13_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 k PUnit.unit)
          (fun _ => Trip13 (F := F) c arg0 arg2 arg14 arg15 arg16 arg17 arg18 X0 X2 X14 X15 (arg16.view.writes (Elt F) f16 L16) (arg17.view.writes (Elt F) f17 L17) (arg18.view.writes (Elt F) f18 L18)) } := by
  have hk : k.val < 128 := Nat.lt_of_lt_of_le k.isLt k0_t13_abs.2.1
  refine ⟨?_, ?_, ?_, fun E f16 f17 f18 => ?run⟩
  case run =>
    unfold k0_t13_body
    iintro ⟨H0, H2, H14, H15, H16, H17, H18⟩
    sl_exec
    sl_step
    sl_close

/-- The pieces written before trip `k`, the last first. -/
def placed (v64 : IVec S128x128 32) (v115 : Elt F .i32) (X0 : BufTy.Contents (Elt F) arg0.view.ty) (X2 : BufTy.Contents (Elt F) arg2.view.ty) (X14 : BufTy.Contents (Elt F) arg14.view.ty) (X15 : BufTy.Contents (Elt F) arg15.view.ty)
    (hL4 : ∀ (kq : ℕ) (hkq : kq < k0_t13_loop.trips), k0_chk4 (arg0.view.readAt (Elt F) (Rect.unit (s := S128x128) (k0_off26 ⟨kq, hkq⟩) S1x1.size (k0_off26_inb ⟨kq, hkq⟩)).toLoadRect X0 (Shape.Idx.first (numel1_S1x1.symm ▸ Nat.one_pos))))
    (hL5 : ∀ (kq : ℕ) (hkq : kq < k0_t13_loop.trips), k0_chk5 (arg0.view.readAt (Elt F) (Rect.unit (s := S128x128) (k0_off28 ⟨kq, hkq⟩) S1x1.size (k0_off28_inb ⟨kq, hkq⟩)).toLoadRect X0 (Shape.Idx.first (numel1_S1x1.symm ▸ Nat.one_pos))))
    (hL6 : ∀ (kq : ℕ) (hkq : kq < k0_t13_loop.trips), k0_chk6 (arg0.view.readAt (Elt F) (Rect.unit (s := S128x128) (k0_off30 ⟨kq, hkq⟩) S1x1.size (k0_off30_inb ⟨kq, hkq⟩)).toLoadRect X0 (Shape.Idx.first (numel1_S1x1.symm ▸ Nat.one_pos))))
    (k : ℕ) : List (View.Piece (Elt F) S128x128 .f32) × List (View.Piece (Elt F) S128x128 .f32) × List (View.Piece (Elt F) S128x128 .f32) :=
  Nat.rec ([], [], []) (fun k prev => if h : k < k0_t13_loop.trips then
    ((trip13 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 X0 X2 X14 X15 ⟨k, h⟩ (hL4 k h) (hL5 k h) (hL6 k h)).1 ++ prev.1,
      (trip13 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 X0 X2 X14 X15 ⟨k, h⟩ (hL4 k h) (hL5 k h) (hL6 k h)).2.1 ++ prev.2.1,
      (trip13 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 X0 X2 X14 X15 ⟨k, h⟩ (hL4 k h) (hL5 k h) (hL6 k h)).2.2.1 ++ prev.2.2) else prev) k

theorem placed_succ (v64 : IVec S128x128 32) (v115 : Elt F .i32) (X0 : BufTy.Contents (Elt F) arg0.view.ty) (X2 : BufTy.Contents (Elt F) arg2.view.ty) (X14 : BufTy.Contents (Elt F) arg14.view.ty) (X15 : BufTy.Contents (Elt F) arg15.view.ty)
    (hL4 : ∀ (kq : ℕ) (hkq : kq < k0_t13_loop.trips), k0_chk4 (arg0.view.readAt (Elt F) (Rect.unit (s := S128x128) (k0_off26 ⟨kq, hkq⟩) S1x1.size (k0_off26_inb ⟨kq, hkq⟩)).toLoadRect X0 (Shape.Idx.first (numel1_S1x1.symm ▸ Nat.one_pos))))
    (hL5 : ∀ (kq : ℕ) (hkq : kq < k0_t13_loop.trips), k0_chk5 (arg0.view.readAt (Elt F) (Rect.unit (s := S128x128) (k0_off28 ⟨kq, hkq⟩) S1x1.size (k0_off28_inb ⟨kq, hkq⟩)).toLoadRect X0 (Shape.Idx.first (numel1_S1x1.symm ▸ Nat.one_pos))))
    (hL6 : ∀ (kq : ℕ) (hkq : kq < k0_t13_loop.trips), k0_chk6 (arg0.view.readAt (Elt F) (Rect.unit (s := S128x128) (k0_off30 ⟨kq, hkq⟩) S1x1.size (k0_off30_inb ⟨kq, hkq⟩)).toLoadRect X0 (Shape.Idx.first (numel1_S1x1.symm ▸ Nat.one_pos))))
    (k : Fin k0_t13_loop.trips) :
    placed c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 X0 X2 X14 X15 hL4 hL5 hL6 (k.val + 1) =
    ((trip13 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 X0 X2 X14 X15 k (hL4 k.val k.isLt) (hL5 k.val k.isLt) (hL6 k.val k.isLt)).1 ++ (placed c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 X0 X2 X14 X15 hL4 hL5 hL6 k.val).1,
      (trip13 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 X0 X2 X14 X15 k (hL4 k.val k.isLt) (hL5 k.val k.isLt) (hL6 k.val k.isLt)).2.1 ++ (placed c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 X0 X2 X14 X15 hL4 hL5 hL6 k.val).2.1,
      (trip13 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 X0 X2 X14 X15 k (hL4 k.val k.isLt) (hL5 k.val k.isLt) (hL6 k.val k.isLt)).2.2.1 ++ (placed c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 X0 X2 X14 X15 hL4 hL5 hL6 k.val).2.2) :=
  dif_pos k.isLt

set_option warn.classDefReducibility false in
@[sl_loop] def loopInv13 (v64 : IVec S128x128 32) (v115 : Elt F .i32) (X0 : BufTy.Contents (Elt F) arg0.view.ty) (X2 : BufTy.Contents (Elt F) arg2.view.ty) (X14 : BufTy.Contents (Elt F) arg14.view.ty) (X15 : BufTy.Contents (Elt F) arg15.view.ty)
    (G16 : BufTy.Contents (Elt F) arg16.view.ty) (G17 : BufTy.Contents (Elt F) arg17.view.ty) (G18 : BufTy.Contents (Elt F) arg18.view.ty)
    (hL4 : ∀ (kq : ℕ) (hkq : kq < k0_t13_loop.trips), k0_chk4 (arg0.view.readAt (Elt F) (Rect.unit (s := S128x128) (k0_off26 ⟨kq, hkq⟩) S1x1.size (k0_off26_inb ⟨kq, hkq⟩)).toLoadRect X0 (Shape.Idx.first (numel1_S1x1.symm ▸ Nat.one_pos))))
    (hL5 : ∀ (kq : ℕ) (hkq : kq < k0_t13_loop.trips), k0_chk5 (arg0.view.readAt (Elt F) (Rect.unit (s := S128x128) (k0_off28 ⟨kq, hkq⟩) S1x1.size (k0_off28_inb ⟨kq, hkq⟩)).toLoadRect X0 (Shape.Idx.first (numel1_S1x1.symm ▸ Nat.one_pos))))
    (hL6 : ∀ (kq : ℕ) (hkq : kq < k0_t13_loop.trips), k0_chk6 (arg0.view.readAt (Elt F) (Rect.unit (s := S128x128) (k0_off30 ⟨kq, hkq⟩) S1x1.size (k0_off30_inb ⟨kq, hkq⟩)).toLoadRect X0 (Shape.Idx.first (numel1_S1x1.symm ▸ Nat.one_pos)))) :
    LoopInvTy_k0_t13 (F := F) Unit ℕ UU ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 where
  inv k _ := iprop((arg0.view.loc (c : Thread nD τ) ↦[arg0.view.set]{fullShare} X0) ∗ (arg2.view.loc (c : Thread nD τ) ↦[arg2.view.set]{fullShare} X2) ∗ (arg14.view.loc (c : Thread nD τ) ↦[arg14.view.set]{fullShare} X14) ∗ (arg15.view.loc (c : Thread nD τ) ↦[arg15.view.set]{fullShare} X15)
    ∗ (∃ f, (arg16.view.loc (c : Thread nD τ) ↦[arg16.view.set]{fullShare} f) ∗ ⌜f = arg16.view.writes (Elt F) G16 (placed c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 X0 X2 X14 X15 hL4 hL5 hL6 k).1⌝)
    ∗ (∃ f, (arg17.view.loc (c : Thread nD τ) ↦[arg17.view.set]{fullShare} f) ∗ ⌜f = arg17.view.writes (Elt F) G17 (placed c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 X0 X2 X14 X15 hL4 hL5 hL6 k).2.1⌝)
    ∗ (∃ f, (arg18.view.loc (c : Thread nD τ) ↦[arg18.view.set]{fullShare} f) ∗ ⌜f = arg18.view.writes (Elt F) G18 (placed c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 X0 X2 X14 X15 hL4 hL5 hL6 k).2.2⌝))
  step k acc := by
    iintro ⟨H0, H2, H14, H15, ⟨%f16, H16, %e16⟩, ⟨%f17, H17, %e17⟩, ⟨%f18, H18, %e18⟩⟩
    iapply (wp_wand_r Idealize.ShloMosaic.frame (wpE (defs₀ (F := F)) Variants.none (c : Thread nD τ) none) Set.univ)
    isplitl [H0 H2 H14 H15 H16 H17 H18]
    · iapply ((trip13 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 X0 X2 X14 X15 k (hL4 k.val k.isLt) (hL5 k.val k.isLt) (hL6 k.val k.isLt)).2.2.2 Set.univ f16 f17 f18)
      isplitl [H0]; · iexact H0
      isplitl [H2]; · iexact H2
      isplitl [H14]; · iexact H14
      isplitl [H15]; · iexact H15
      isplitl [H16]; · iexact H16
      isplitl [H17]; · iexact H17
      iexact H18
    · iintro %_ ⟨H0, H2, H14, H15, H16, H17, H18⟩
      isplitl [H0]; · iexact H0
      isplitl [H2]; · iexact H2
      isplitl [H14]; · iexact H14
      isplitl [H15]; · iexact H15
      rw [placed_succ]
      isplitl [H16]
      · iexists _; isplitl [H16]; · iexact H16
        ipureintro; rw [e16, ← View.writes_append]
      isplitl [H17]
      · iexists _; isplitl [H17]; · iexact H17
        ipureintro; rw [e17, ← View.writes_append]
      iexists _; isplitl [H18]; · iexact H18
      ipureintro; rw [e18, ← View.writes_append]

end

end Cert.TailIdeal.Run

end
-- ==== Proof.Tail.Outer.lean ====
/- The loops over the tiles of a bucket: each fetches a tile of hidden rows and writes one block of results. -/
module

public import proofs.«01_k».proof.Proof.Tail.Loops

@[expose] public section

set_option maxRecDepth 8192
set_option maxHeartbeats 4000000

noncomputable section

namespace Cert.TailIdeal.Run

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section

variable (c : Dev nD)
variable (arg0 : Memref sig .tc .smem S128x128 .i32)
  (harg0 : arg0.IsWhole)
  (arg1 : Memref sig .tc .vmem S8x2048 .i32)
  (harg1 : arg1.IsWhole)
  (arg2 : Memref sig .tc .vmem S128x128 .i32)
  (harg2 : arg2.IsWhole)
  (arg3 : Memref sig .tc .hbm S3x16896x128 .f32)
  (harg3 : arg3.IsWhole)
  (arg4 : Memref sig .tc .vmem S320x40000 .i8)
  (harg4 : arg4.IsWhole)
  (arg5 : Memref sig .tc .vmem S80x160000 .i8)
  (harg5 : arg5.IsWhole)
  (arg6 : Memref sig .tc .vmem S20x47735 .i8)
  (harg6 : arg6.IsWhole)
  (arg7 : Memref sig .tc .vmem S1x40000 .f32)
  (harg7 : arg7.IsWhole)
  (arg8 : Memref sig .tc .vmem S1x160000 .f32)
  (harg8 : arg8.IsWhole)
  (arg9 : Memref sig .tc .vmem S1x47735 .f32)
  (harg9 : arg9.IsWhole)
  (arg10 : Memref sig .tc .vmem S8x2048 .f32)
  (harg10 : arg10.IsWhole)
  (arg11 : Memref sig .tc .vmem S8x2048 .f32)
  (harg11 : arg11.IsWhole)
  (arg12 : Memref sig .tc .vmem S8x2048 .f32)
  (harg12 : arg12.IsWhole)
  (arg13 : Memref sig .tc .vmem S3x128x128 .f32)
  (harg13 : arg13.IsWhole)
  (arg14 : Memref sig .tc .vmem S132x8x128 .f32)
  (harg14 : arg14.IsWhole)
  (arg15 : Memref sig .tc .vmem S128x128 .i32)
  (harg15 : arg15.IsWhole)
  (arg16 : Memref sig .tc .vmem S128x128 .f32)
  (harg16 : arg16.IsWhole)
  (arg17 : Memref sig .tc .vmem S128x128 .f32)
  (harg17 : arg17.IsWhole)
  (arg18 : Memref sig .tc .vmem S128x128 .f32)
  (harg18 : arg18.IsWhole)
  (arg19 : DmaSems sig S_)

/-! ## The tiles of a bucket: loop 1 -/

/-- One trip: the pieces it writes into the scratch of results. -/
@[irreducible] def trip1 (v64 : IVec S128x128 32) (v65 : Elt F .i32) (v66 : Elt F .i32) (k0_hw1 : k0_chk1 v65 v66) (v84 : BitVec 32) (c0_i32_40 : BitVec 32) (X3 : BufTy.Contents (Elt F) arg3.view.ty) (W : BufTy.Contents (Elt F) arg4.view.ty) (S : BufTy.Contents (Elt F) arg7.view.ty)
    (k : Fin (k0_t1_loop v66).trips) :
    { L : List (View.Piece (Elt F) S132x8x128 .f32) // ∀ (O : Waits sig Unit) (f13 : BufTy.Contents (Elt F) arg13.view.ty) (f14 : BufTy.Contents (Elt F) arg14.view.ty),
      (iprop((arg3.view.loc (c : Thread nD τ) ↦[arg3.view.set]{fullShare} X3) ∗ (arg4.view.loc (c : Thread nD τ) ↦[arg4.view.set]{fullShare} W) ∗ (arg7.view.loc (c : Thread nD τ) ↦[arg7.view.set]{fullShare} S) ∗ (arg13.view.loc (c : Thread nD τ) ↦[arg13.view.set]{fullShare} f13) ∗ (arg14.view.loc (c : Thread nD τ) ↦[arg14.view.set]{fullShare} f14) ∗ semVal ((c : Thread nD τ), SemLoc.dma arg19.sem) 0 ∗ owes (c : Thread nD τ) 0 O) : sProp 𝕄)
      ⊢ wp frame (wpE (defs₀ (F := F)) Variants.none (c : Thread nD τ) none) Set.univ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v65 v66 k0_hw1 v84 c0_i32_40 k ())
          (fun _ => iprop((arg3.view.loc (c : Thread nD τ) ↦[arg3.view.set]{fullShare} X3) ∗ (arg4.view.loc (c : Thread nD τ) ↦[arg4.view.set]{fullShare} W) ∗ (arg7.view.loc (c : Thread nD τ) ↦[arg7.view.set]{fullShare} S) ∗ (∃ f, (arg13.view.loc (c : Thread nD τ) ↦[arg13.view.set]{fullShare} f)) ∗ (arg14.view.loc (c : Thread nD τ) ↦[arg14.view.set]{fullShare} (arg14.view.writes (Elt F) f14 L)) ∗ semVal ((c : Thread nD τ), SemLoc.dma arg19.sem) 0 ∗ ∃ O', owes (c : Thread nD τ) 0 O')) } := by
  refine ⟨?_, fun O f13 f14 => ?run⟩
  case run =>
    unfold k0_t1_body
    iintro ⟨H3, HW, HS, H13, H14, Hsem, HO⟩
    sl_exec
    sl_step
    sl_close

/-- The pieces written before trip `k`, the last first. -/
def tiled1 (v64 : IVec S128x128 32) (v65 : Elt F .i32) (v66 : Elt F .i32) (k0_hw1 : k0_chk1 v65 v66) (v84 : BitVec 32) (c0_i32_40 : BitVec 32) (X3 : BufTy.Contents (Elt F) arg3.view.ty) (W : BufTy.Contents (Elt F) arg4.view.ty) (S : BufTy.Contents (Elt F) arg7.view.ty) (k : ℕ) : List (View.Piece (Elt F) S132x8x128 .f32) :=
  Nat.rec [] (fun k prev => if h : k < (k0_t1_loop v66).trips then (trip1 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v65 v66 k0_hw1 v84 c0_i32_40 X3 W S ⟨k, h⟩).1 ++ prev else prev) k

theorem tiled1_succ (v64 : IVec S128x128 32) (v65 : Elt F .i32) (v66 : Elt F .i32) (k0_hw1 : k0_chk1 v65 v66) (v84 : BitVec 32) (c0_i32_40 : BitVec 32) (X3 : BufTy.Contents (Elt F) arg3.view.ty) (W : BufTy.Contents (Elt F) arg4.view.ty) (S : BufTy.Contents (Elt F) arg7.view.ty) (k : Fin (k0_t1_loop v66).trips) :
    tiled1 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v65 v66 k0_hw1 v84 c0_i32_40 X3 W S (k.val + 1) = (trip1 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v65 v66 k0_hw1 v84 c0_i32_40 X3 W S k).1 ++ tiled1 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v65 v66 k0_hw1 v84 c0_i32_40 X3 W S k.val :=
  dif_pos k.isLt

set_option warn.classDefReducibility false in
@[sl_loop] def loopInv1 (v64 : IVec S128x128 32) (v65 : Elt F .i32) (v66 : Elt F .i32) (k0_hw1 : k0_chk1 v65 v66) (v84 : BitVec 32) (c0_i32_40 : BitVec 32) (X3 : BufTy.Contents (Elt F) arg3.view.ty) (W : BufTy.Contents (Elt F) arg4.view.ty) (S : BufTy.Contents (Elt F) arg7.view.ty)
    (G14 : BufTy.Contents (Elt F) arg14.view.ty) :
    LoopInvTy_k0_t1 (F := F) Unit ℕ UU ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v65 v66 k0_hw1 v84 c0_i32_40 where
  inv k _ := iprop((arg3.view.loc (c : Thread nD τ) ↦[arg3.view.set]{fullShare} X3) ∗ (arg4.view.loc (c : Thread nD τ) ↦[arg4.view.set]{fullShare} W) ∗ (arg7.view.loc (c : Thread nD τ) ↦[arg7.view.set]{fullShare} S) ∗ (∃ f, (arg13.view.loc (c : Thread nD τ) ↦[arg13.view.set]{fullShare} f)) ∗ (∃ f, (arg14.view.loc (c : Thread nD τ) ↦[arg14.view.set]{fullShare} f) ∗ ⌜f = arg14.view.writes (Elt F) G14 (tiled1 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v65 v66 k0_hw1 v84 c0_i32_40 X3 W S k)⌝)
    ∗ semVal ((c : Thread nD τ), SemLoc.dma arg19.sem) 0 ∗ ∃ O, owes (c : Thread nD τ) 0 O)
  step k acc := by
    iintro ⟨H3, HW, HS, ⟨%f13, H13⟩, ⟨%f14, H14, %e⟩, Hsem, ⟨%O, HO⟩⟩
    iapply (wp_wand_r Idealize.ShloMosaic.frame (wpE (defs₀ (F := F)) Variants.none (c : Thread nD τ) none) Set.univ)
    isplitl [H3 HW HS H13 H14 Hsem HO]
    · iapply ((trip1 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v65 v66 k0_hw1 v84 c0_i32_40 X3 W S k).2 O f13 f14)
      isplitl [H3]; · iexact H3
      isplitl [HW]; · iexact HW
      isplitl [HS]; · iexact HS
      isplitl [H13]; · iexact H13
      isplitl [H14]; · iexact H14
      isplitl [Hsem]; · iexact Hsem
      iexact HO
    · iintro %_ ⟨H3, HW, HS, H13, H14, Hsem, HO⟩
      isplitl [H3]; · iexact H3
      isplitl [HW]; · iexact HW
      isplitl [HS]; · iexact HS
      isplitl [H13]; · iexact H13
      rw [tiled1_succ]
      isplitl [H14]
      · iexists _; isplitl [H14]; · iexact H14
        ipureintro; rw [e, ← View.writes_append]
      isplitl [Hsem]; · iexact Hsem
      iexact HO

set_option warn.classDefReducibility false in
/-- The loop over what the unrolling leaves makes no trip. -/
@[sl_loop] def loopInv3 (v64 : IVec S128x128 32) (v65 : Elt F .i32) (v66 : Elt F .i32) (k0_hw1 : k0_chk1 v65 v66) (v84 : BitVec 32) (c0_i32_40 : BitVec 32) (v89 : BitVec 32) :
    LoopInvTy_k0_t3 (F := F) Unit ℕ UU ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v65 v66 k0_hw1 v84 c0_i32_40 v89 where
  inv _ _ := iprop(emp)
  step k acc := (no_trip _ k).elim

/-! ## The tiles of a bucket: loop 5 -/

/-- One trip: the pieces it writes into the scratch of results. -/
@[irreducible] def trip5 (v64 : IVec S128x128 32) (v65 : Elt F .i32) (v66 : Elt F .i32) (k0_hw1 : k0_chk1 v65 v66) (v84 : BitVec 32) (c0_i32_40 : BitVec 32) (v90 : Elt F .i32) (v91 : Elt F .i32) (k0_hw2 : k0_chk2 v90 v91) (X3 : BufTy.Contents (Elt F) arg3.view.ty) (W : BufTy.Contents (Elt F) arg5.view.ty) (S : BufTy.Contents (Elt F) arg8.view.ty)
    (k : Fin (k0_t5_loop v91).trips) :
    { L : List (View.Piece (Elt F) S132x8x128 .f32) // ∀ (O : Waits sig Unit) (f13 : BufTy.Contents (Elt F) arg13.view.ty) (f14 : BufTy.Contents (Elt F) arg14.view.ty),
      (iprop((arg3.view.loc (c : Thread nD τ) ↦[arg3.view.set]{fullShare} X3) ∗ (arg5.view.loc (c : Thread nD τ) ↦[arg5.view.set]{fullShare} W) ∗ (arg8.view.loc (c : Thread nD τ) ↦[arg8.view.set]{fullShare} S) ∗ (arg13.view.loc (c : Thread nD τ) ↦[arg13.view.set]{fullShare} f13) ∗ (arg14.view.loc (c : Thread nD τ) ↦[arg14.view.set]{fullShare} f14) ∗ semVal ((c : Thread nD τ), SemLoc.dma arg19.sem) 0 ∗ owes (c : Thread nD τ) 0 O) : sProp 𝕄)
      ⊢ wp frame (wpE (defs₀ (F := F)) Variants.none (c : Thread nD τ) none) Set.univ (k0_t5_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v65 v66 k0_hw1 v84 c0_i32_40 v90 v91 k0_hw2 k ())
          (fun _ => iprop((arg3.view.loc (c : Thread nD τ) ↦[arg3.view.set]{fullShare} X3) ∗ (arg5.view.loc (c : Thread nD τ) ↦[arg5.view.set]{fullShare} W) ∗ (arg8.view.loc (c : Thread nD τ) ↦[arg8.view.set]{fullShare} S) ∗ (∃ f, (arg13.view.loc (c : Thread nD τ) ↦[arg13.view.set]{fullShare} f)) ∗ (arg14.view.loc (c : Thread nD τ) ↦[arg14.view.set]{fullShare} (arg14.view.writes (Elt F) f14 L)) ∗ semVal ((c : Thread nD τ), SemLoc.dma arg19.sem) 0 ∗ ∃ O', owes (c : Thread nD τ) 0 O')) } := by
  refine ⟨?_, fun O f13 f14 => ?run⟩
  case run =>
    unfold k0_t5_body
    iintro ⟨H3, HW, HS, H13, H14, Hsem, HO⟩
    sl_exec
    sl_step
    sl_close

/-- The pieces written before trip `k`, the last first. -/
def tiled5 (v64 : IVec S128x128 32) (v65 : Elt F .i32) (v66 : Elt F .i32) (k0_hw1 : k0_chk1 v65 v66) (v84 : BitVec 32) (c0_i32_40 : BitVec 32) (v90 : Elt F .i32) (v91 : Elt F .i32) (k0_hw2 : k0_chk2 v90 v91) (X3 : BufTy.Contents (Elt F) arg3.view.ty) (W : BufTy.Contents (Elt F) arg5.view.ty) (S : BufTy.Contents (Elt F) arg8.view.ty) (k : ℕ) : List (View.Piece (Elt F) S132x8x128 .f32) :=
  Nat.rec [] (fun k prev => if h : k < (k0_t5_loop v91).trips then (trip5 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v65 v66 k0_hw1 v84 c0_i32_40 v90 v91 k0_hw2 X3 W S ⟨k, h⟩).1 ++ prev else prev) k

theorem tiled5_succ (v64 : IVec S128x128 32) (v65 : Elt F .i32) (v66 : Elt F .i32) (k0_hw1 : k0_chk1 v65 v66) (v84 : BitVec 32) (c0_i32_40 : BitVec 32) (v90 : Elt F .i32) (v91 : Elt F .i32) (k0_hw2 : k0_chk2 v90 v91) (X3 : BufTy.Contents (Elt F) arg3.view.ty) (W : BufTy.Contents (Elt F) arg5.view.ty) (S : BufTy.Contents (Elt F) arg8.view.ty) (k : Fin (k0_t5_loop v91).trips) :
    tiled5 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v65 v66 k0_hw1 v84 c0_i32_40 v90 v91 k0_hw2 X3 W S (k.val + 1) = (trip5 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v65 v66 k0_hw1 v84 c0_i32_40 v90 v91 k0_hw2 X3 W S k).1 ++ tiled5 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v65 v66 k0_hw1 v84 c0_i32_40 v90 v91 k0_hw2 X3 W S k.val :=
  dif_pos k.isLt

set_option warn.classDefReducibility false in
@[sl_loop] def loopInv5 (v64 : IVec S128x128 32) (v65 : Elt F .i32) (v66 : Elt F .i32) (k0_hw1 : k0_chk1 v65 v66) (v84 : BitVec 32) (c0_i32_40 : BitVec 32) (v90 : Elt F .i32) (v91 : Elt F .i32) (k0_hw2 : k0_chk2 v90 v91) (X3 : BufTy.Contents (Elt F) arg3.view.ty) (W : BufTy.Contents (Elt F) arg5.view.ty) (S : BufTy.Contents (Elt F) arg8.view.ty)
    (G14 : BufTy.Contents (Elt F) arg14.view.ty) :
    LoopInvTy_k0_t5 (F := F) Unit ℕ UU ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v65 v66 k0_hw1 v84 c0_i32_40 v90 v91 k0_hw2 where
  inv k _ := iprop((arg3.view.loc (c : Thread nD τ) ↦[arg3.view.set]{fullShare} X3) ∗ (arg5.view.loc (c : Thread nD τ) ↦[arg5.view.set]{fullShare} W) ∗ (arg8.view.loc (c : Thread nD τ) ↦[arg8.view.set]{fullShare} S) ∗ (∃ f, (arg13.view.loc (c : Thread nD τ) ↦[arg13.view.set]{fullShare} f)) ∗ (∃ f, (arg14.view.loc (c : Thread nD τ) ↦[arg14.view.set]{fullShare} f) ∗ ⌜f = arg14.view.writes (Elt F) G14 (tiled5 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v65 v66 k0_hw1 v84 c0_i32_40 v90 v91 k0_hw2 X3 W S k)⌝)
    ∗ semVal ((c : Thread nD τ), SemLoc.dma arg19.sem) 0 ∗ ∃ O, owes (c : Thread nD τ) 0 O)
  step k acc := by
    iintro ⟨H3, HW, HS, ⟨%f13, H13⟩, ⟨%f14, H14, %e⟩, Hsem, ⟨%O, HO⟩⟩
    iapply (wp_wand_r Idealize.ShloMosaic.frame (wpE (defs₀ (F := F)) Variants.none (c : Thread nD τ) none) Set.univ)
    isplitl [H3 HW HS H13 H14 Hsem HO]
    · iapply ((trip5 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v65 v66 k0_hw1 v84 c0_i32_40 v90 v91 k0_hw2 X3 W S k).2 O f13 f14)
      isplitl [H3]; · iexact H3
      isplitl [HW]; · iexact HW
      isplitl [HS]; · iexact HS
      isplitl [H13]; · iexact H13
      isplitl [H14]; · iexact H14
      isplitl [Hsem]; · iexact Hsem
      iexact HO
    · iintro %_ ⟨H3, HW, HS, H13, H14, Hsem, HO⟩
      isplitl [H3]; · iexact H3
      isplitl [HW]; · iexact HW
      isplitl [HS]; · iexact HS
      isplitl [H13]; · iexact H13
      rw [tiled5_succ]
      isplitl [H14]
      · iexists _; isplitl [H14]; · iexact H14
        ipureintro; rw [e, ← View.writes_append]
      isplitl [Hsem]; · iexact Hsem
      iexact HO

set_option warn.classDefReducibility false in
/-- The loop over what the unrolling leaves makes no trip. -/
@[sl_loop] def loopInv7 (v64 : IVec S128x128 32) (v65 : Elt F .i32) (v66 : Elt F .i32) (k0_hw1 : k0_chk1 v65 v66) (v84 : BitVec 32) (c0_i32_40 : BitVec 32) (v90 : Elt F .i32) (v91 : Elt F .i32) (k0_hw2 : k0_chk2 v90 v91) (v114 : BitVec 32) :
    LoopInvTy_k0_t7 (F := F) Unit ℕ UU ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v65 v66 k0_hw1 v84 c0_i32_40 v90 v91 k0_hw2 v114 where
  inv _ _ := iprop(emp)
  step k acc := (no_trip _ k).elim

/-! ## The tiles of a bucket: loop 9 -/

/-- One trip: the pieces it writes into the scratch of results. -/
@[irreducible] def trip9 (v64 : IVec S128x128 32) (v115 : Elt F .i32) (v116 : Elt F .i32) (k0_hw3 : k0_chk3 v115 v116) (X3 : BufTy.Contents (Elt F) arg3.view.ty) (W : BufTy.Contents (Elt F) arg6.view.ty) (S : BufTy.Contents (Elt F) arg9.view.ty)
    (k : Fin (k0_t9_loop v116).trips) :
    { L : List (View.Piece (Elt F) S132x8x128 .f32) // ∀ (O : Waits sig Unit) (f13 : BufTy.Contents (Elt F) arg13.view.ty) (f14 : BufTy.Contents (Elt F) arg14.view.ty),
      (iprop((arg3.view.loc (c : Thread nD τ) ↦[arg3.view.set]{fullShare} X3) ∗ (arg6.view.loc (c : Thread nD τ) ↦[arg6.view.set]{fullShare} W) ∗ (arg9.view.loc (c : Thread nD τ) ↦[arg9.view.set]{fullShare} S) ∗ (arg13.view.loc (c : Thread nD τ) ↦[arg13.view.set]{fullShare} f13) ∗ (arg14.view.loc (c : Thread nD τ) ↦[arg14.view.set]{fullShare} f14) ∗ semVal ((c : Thread nD τ), SemLoc.dma arg19.sem) 0 ∗ owes (c : Thread nD τ) 0 O) : sProp 𝕄)
      ⊢ wp frame (wpE (defs₀ (F := F)) Variants.none (c : Thread nD τ) none) Set.univ (k0_t9_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 v116 k0_hw3 k ())
          (fun _ => iprop((arg3.view.loc (c : Thread nD τ) ↦[arg3.view.set]{fullShare} X3) ∗ (arg6.view.loc (c : Thread nD τ) ↦[arg6.view.set]{fullShare} W) ∗ (arg9.view.loc (c : Thread nD τ) ↦[arg9.view.set]{fullShare} S) ∗ (∃ f, (arg13.view.loc (c : Thread nD τ) ↦[arg13.view.set]{fullShare} f)) ∗ (arg14.view.loc (c : Thread nD τ) ↦[arg14.view.set]{fullShare} (arg14.view.writes (Elt F) f14 L)) ∗ semVal ((c : Thread nD τ), SemLoc.dma arg19.sem) 0 ∗ ∃ O', owes (c : Thread nD τ) 0 O')) } := by
  refine ⟨?_, fun O f13 f14 => ?run⟩
  case run =>
    unfold k0_t9_body
    iintro ⟨H3, HW, HS, H13, H14, Hsem, HO⟩
    sl_exec
    sl_step
    sl_close

/-- The pieces written before trip `k`, the last first. -/
def tiled9 (v64 : IVec S128x128 32) (v115 : Elt F .i32) (v116 : Elt F .i32) (k0_hw3 : k0_chk3 v115 v116) (X3 : BufTy.Contents (Elt F) arg3.view.ty) (W : BufTy.Contents (Elt F) arg6.view.ty) (S : BufTy.Contents (Elt F) arg9.view.ty) (k : ℕ) : List (View.Piece (Elt F) S132x8x128 .f32) :=
  Nat.rec [] (fun k prev => if h : k < (k0_t9_loop v116).trips then (trip9 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 v116 k0_hw3 X3 W S ⟨k, h⟩).1 ++ prev else prev) k

theorem tiled9_succ (v64 : IVec S128x128 32) (v115 : Elt F .i32) (v116 : Elt F .i32) (k0_hw3 : k0_chk3 v115 v116) (X3 : BufTy.Contents (Elt F) arg3.view.ty) (W : BufTy.Contents (Elt F) arg6.view.ty) (S : BufTy.Contents (Elt F) arg9.view.ty) (k : Fin (k0_t9_loop v116).trips) :
    tiled9 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 v116 k0_hw3 X3 W S (k.val + 1) = (trip9 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 v116 k0_hw3 X3 W S k).1 ++ tiled9 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 v116 k0_hw3 X3 W S k.val :=
  dif_pos k.isLt

set_option warn.classDefReducibility false in
@[sl_loop] def loopInv9 (v64 : IVec S128x128 32) (v115 : Elt F .i32) (v116 : Elt F .i32) (k0_hw3 : k0_chk3 v115 v116) (X3 : BufTy.Contents (Elt F) arg3.view.ty) (W : BufTy.Contents (Elt F) arg6.view.ty) (S : BufTy.Contents (Elt F) arg9.view.ty)
    (G14 : BufTy.Contents (Elt F) arg14.view.ty) :
    LoopInvTy_k0_t9 (F := F) Unit ℕ UU ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 v116 k0_hw3 where
  inv k _ := iprop((arg3.view.loc (c : Thread nD τ) ↦[arg3.view.set]{fullShare} X3) ∗ (arg6.view.loc (c : Thread nD τ) ↦[arg6.view.set]{fullShare} W) ∗ (arg9.view.loc (c : Thread nD τ) ↦[arg9.view.set]{fullShare} S) ∗ (∃ f, (arg13.view.loc (c : Thread nD τ) ↦[arg13.view.set]{fullShare} f)) ∗ (∃ f, (arg14.view.loc (c : Thread nD τ) ↦[arg14.view.set]{fullShare} f) ∗ ⌜f = arg14.view.writes (Elt F) G14 (tiled9 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 v116 k0_hw3 X3 W S k)⌝)
    ∗ semVal ((c : Thread nD τ), SemLoc.dma arg19.sem) 0 ∗ ∃ O, owes (c : Thread nD τ) 0 O)
  step k acc := by
    iintro ⟨H3, HW, HS, ⟨%f13, H13⟩, ⟨%f14, H14, %e⟩, Hsem, ⟨%O, HO⟩⟩
    iapply (wp_wand_r Idealize.ShloMosaic.frame (wpE (defs₀ (F := F)) Variants.none (c : Thread nD τ) none) Set.univ)
    isplitl [H3 HW HS H13 H14 Hsem HO]
    · iapply ((trip9 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 v116 k0_hw3 X3 W S k).2 O f13 f14)
      isplitl [H3]; · iexact H3
      isplitl [HW]; · iexact HW
      isplitl [HS]; · iexact HS
      isplitl [H13]; · iexact H13
      isplitl [H14]; · iexact H14
      isplitl [Hsem]; · iexact Hsem
      iexact HO
    · iintro %_ ⟨H3, HW, HS, H13, H14, Hsem, HO⟩
      isplitl [H3]; · iexact H3
      isplitl [HW]; · iexact HW
      isplitl [HS]; · iexact HS
      isplitl [H13]; · iexact H13
      rw [tiled9_succ]
      isplitl [H14]
      · iexists _; isplitl [H14]; · iexact H14
        ipureintro; rw [e, ← View.writes_append]
      isplitl [Hsem]; · iexact Hsem
      iexact HO

set_option warn.classDefReducibility false in
/-- The loop over what the unrolling leaves makes no trip. -/
@[sl_loop] def loopInv11 (v64 : IVec S128x128 32) (v115 : Elt F .i32) (v116 : Elt F .i32) (k0_hw3 : k0_chk3 v115 v116) (v139 : BitVec 32) :
    LoopInvTy_k0_t11 (F := F) Unit ℕ UU ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 v116 k0_hw3 v139 where
  inv _ _ := iprop(emp)
  step k acc := (no_trip _ k).elim

end

end Cert.TailIdeal.Run

end
-- ==== Proof.Tail.Body.lean ====
/- One run of the whole body: what it leaves in the three results. -/
module

public import proofs.«01_k».proof.Proof.Tail.Outer

@[expose] public section

set_option maxRecDepth 8192
set_option maxHeartbeats 4000000

noncomputable section

namespace Cert.TailIdeal.Run

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section

variable (c : Dev nD)
variable (arg0 : Memref sig .tc .smem S128x128 .i32)
  (harg0 : arg0.IsWhole)
  (arg1 : Memref sig .tc .vmem S8x2048 .i32)
  (harg1 : arg1.IsWhole)
  (arg2 : Memref sig .tc .vmem S128x128 .i32)
  (harg2 : arg2.IsWhole)
  (arg3 : Memref sig .tc .hbm S3x16896x128 .f32)
  (harg3 : arg3.IsWhole)
  (arg4 : Memref sig .tc .vmem S320x40000 .i8)
  (harg4 : arg4.IsWhole)
  (arg5 : Memref sig .tc .vmem S80x160000 .i8)
  (harg5 : arg5.IsWhole)
  (arg6 : Memref sig .tc .vmem S20x47735 .i8)
  (harg6 : arg6.IsWhole)
  (arg7 : Memref sig .tc .vmem S1x40000 .f32)
  (harg7 : arg7.IsWhole)
  (arg8 : Memref sig .tc .vmem S1x160000 .f32)
  (harg8 : arg8.IsWhole)
  (arg9 : Memref sig .tc .vmem S1x47735 .f32)
  (harg9 : arg9.IsWhole)
  (arg10 : Memref sig .tc .vmem S8x2048 .f32)
  (harg10 : arg10.IsWhole)
  (arg11 : Memref sig .tc .vmem S8x2048 .f32)
  (harg11 : arg11.IsWhole)
  (arg12 : Memref sig .tc .vmem S8x2048 .f32)
  (harg12 : arg12.IsWhole)
  (arg13 : Memref sig .tc .vmem S3x128x128 .f32)
  (harg13 : arg13.IsWhole)
  (arg14 : Memref sig .tc .vmem S132x8x128 .f32)
  (harg14 : arg14.IsWhole)
  (arg15 : Memref sig .tc .vmem S128x128 .i32)
  (harg15 : arg15.IsWhole)
  (arg16 : Memref sig .tc .vmem S128x128 .f32)
  (harg16 : arg16.IsWhole)
  (arg17 : Memref sig .tc .vmem S128x128 .f32)
  (harg17 : arg17.IsWhole)
  (arg18 : Memref sig .tc .vmem S128x128 .f32)
  (harg18 : arg18.IsWhole)
  (arg19 : DmaSems sig S_)

/-- The word the body loads from the table at `o`. -/
abbrev word (X0 : BufTy.Contents (Elt F) arg0.view.ty) (o : Fin 2 → ℕ) (h : ∀ a, o a + S1x1.size a ≤ S128x128.size a) : Elt F .i32 :=
  arg0.view.readAt (Elt F) (Rect.unit (s := S128x128) o S1x1.size h).toLoadRect X0 (Shape.Idx.first (numel1_S1x1.symm ▸ Nat.one_pos))

set_option maxHeartbeats 40000000 in
/-- The body's run: the pieces it stores into the results. -/
@[irreducible] def run (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty)
    (k0_hw1 : k0_chk1 (word (F := F) arg0 X0 ![0, 6] inb_S128x128_S1x1_0_6) (word (F := F) arg0 X0 ![0, 9] inb_S128x128_S1x1_0_9))
    (k0_hw2 : k0_chk2 (word (F := F) arg0 X0 ![0, 7] inb_S128x128_S1x1_0_7) (word (F := F) arg0 X0 ![0, 10] inb_S128x128_S1x1_0_10))
    (k0_hw3 : k0_chk3 (word (F := F) arg0 X0 ![0, 8] inb_S128x128_S1x1_0_8) (word (F := F) arg0 X0 ![0, 11] inb_S128x128_S1x1_0_11))
    (k0_hw4L : ∀ (kq : ℕ) (hkq : kq < k0_t13_loop.trips), k0_chk4 (word (F := F) arg0 X0 (k0_off26 ⟨kq, hkq⟩) (k0_off26_inb ⟨kq, hkq⟩)))
    (k0_hw5L : ∀ (kq : ℕ) (hkq : kq < k0_t13_loop.trips), k0_chk5 (word (F := F) arg0 X0 (k0_off28 ⟨kq, hkq⟩) (k0_off28_inb ⟨kq, hkq⟩)))
    (k0_hw6L : ∀ (kq : ℕ) (hkq : kq < k0_t13_loop.trips), k0_chk6 (word (F := F) arg0 X0 (k0_off30 ⟨kq, hkq⟩) (k0_off30_inb ⟨kq, hkq⟩))) :
    Σ' (L10 : List (View.Piece (Elt F) S8x2048 .f32)) (L11 : List (View.Piece (Elt F) S8x2048 .f32)), { L12 : List (View.Piece (Elt F) S8x2048 .f32) //
      ∀ (O : Waits sig Unit) (f10 : BufTy.Contents (Elt F) arg10.view.ty) (f11 : BufTy.Contents (Elt F) arg11.view.ty) (f12 : BufTy.Contents (Elt F) arg12.view.ty),
      (iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9)
        ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18)
        ∗ semVal ((c : Thread nD τ), SemLoc.dma arg19.sem) 0 ∗ owes (c : Thread nD τ) 0 O) : sProp 𝕄)
      ⊢ wp frame (wpE (defs₀ (F := F)) Variants.none (c : Thread nD τ) none) Set.univ (cc0_tail (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19)
          (fun _ => iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9)
          ∗ (arg10.view.loc (c : Thread nD τ) ↦[arg10.view.set]{fullShare} (arg10.view.writes (Elt F) f10 L10)) ∗ (arg11.view.loc (c : Thread nD τ) ↦[arg11.view.set]{fullShare} (arg11.view.writes (Elt F) f11 L11)) ∗ (arg12.view.loc (c : Thread nD τ) ↦[arg12.view.set]{fullShare} (arg12.view.writes (Elt F) f12 L12))
          ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f))
          ∗ semVal ((c : Thread nD τ), SemLoc.dma arg19.sem) 0 ∗ (∃ O, owes (c : Thread nD τ) 0 O))) } := by
  refine ⟨?_, ?_, ?_, fun O f10 f11 f12 => ?run⟩
  case run =>
    simp only [cc0_tail_eq_skeleton]; unfold cc0_tail_skel
    iintro ⟨H0, H1, H2, H3, H4, H5, H6, H7, H8, H9, H10, H11, H12, H13, H14, H15, H16, H17, H18, Hsem, HO⟩
    sl_exec
    sl_step
    sl_close

end

end Cert.TailIdeal.Run

end
-- ==== Proof.Tail.Launch.lean ====
/- The body's run over what its buffers read, its obligation in the pipeline, and the launch. -/
module

public import proofs.«01_k».proof.Proof.Tail.Body
public import proofs.«01_k».proof.Proof.Gen.TailIdeal.Frame
public import Idealize.ShloMosaic.Lib.Pipeline.DatRel
public import Idealize.ShloMosaic.Lib.Pipeline.ArrRel
public import Idealize.ShloMosaic.Lib.WholeRead
public import Idealize.ShloMosaic.Lib.Pointwise.Index

@[expose] public section

set_option maxRecDepth 8192
set_option maxHeartbeats 4000000

noncomputable section

namespace Cert.TailIdeal.Run

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat RDat Cfg Window BodyObligationRel cellOf)

variable {F : FTy → Type} [FloatOps F]

local notation "𝕄" => MT nD τ sig Unit (Elt F) ℕ UU ℕ

/-- The words of the table the body acts on are in range. -/
structure Fits (x : Vec F S128x128 .i32) : Prop where
  one : Bucket (x (ix2 (0 : Fin 128) (6 : Fin 128))) (x (ix2 (0 : Fin 128) (9 : Fin 128)))
  two : Bucket (x (ix2 (0 : Fin 128) (7 : Fin 128))) (x (ix2 (0 : Fin 128) (10 : Fin 128)))
  three : Bucket (x (ix2 (0 : Fin 128) (8 : Fin 128))) (x (ix2 (0 : Fin 128) (11 : Fin 128)))
  slot : ∀ (k : Fin 128) (j : Fin 3), BitVec.toNat (w := 32) (x (ix2 k (⟨j.val, by omega⟩ : Fin 128))) < 16768

section

variable (arg0 : Memref sig .tc .smem S128x128 .i32) (harg0 : arg0.IsWhole) {x : Vec F S128x128 .i32}

theorem word_eq (o : Fin 2 → ℕ) (h : ∀ a, o a + S1x1.size a ≤ S128x128.size a) (p q : Fin 128) (hp : o 0 = p.val) (hq : o 1 = q.val) :
    word (F := F) arg0 (harg0.unread x) o h = x (ix2 p q) := by
  unfold word
  rw [harg0.readAt_unread]
  congr 1
  funext a
  match a with
  | ⟨0, _⟩ => exact Fin.ext (by show o 0 + 1 * 0 = p.val; omega)
  | ⟨1, _⟩ => exact Fin.ext (by show o 1 + 1 * 0 = q.val; omega)

theorem hw1 (h : Fits x) : k0_chk1 (word (F := F) arg0 (harg0.unread x) ![0, 6] inb_S128x128_S1x1_0_6) (word (F := F) arg0 (harg0.unread x) ![0, 9] inb_S128x128_S1x1_0_9) := by
  rw [word_eq arg0 harg0 _ _ 0 6 rfl rfl, word_eq arg0 harg0 _ _ 0 9 rfl rfl]
  exact chk1 h.one

theorem hw2 (h : Fits x) : k0_chk2 (word (F := F) arg0 (harg0.unread x) ![0, 7] inb_S128x128_S1x1_0_7) (word (F := F) arg0 (harg0.unread x) ![0, 10] inb_S128x128_S1x1_0_10) := by
  rw [word_eq arg0 harg0 _ _ 0 7 rfl rfl, word_eq arg0 harg0 _ _ 0 10 rfl rfl]
  exact chk2 h.two

theorem hw3 (h : Fits x) : k0_chk3 (word (F := F) arg0 (harg0.unread x) ![0, 8] inb_S128x128_S1x1_0_8) (word (F := F) arg0 (harg0.unread x) ![0, 11] inb_S128x128_S1x1_0_11) := by
  rw [word_eq arg0 harg0 _ _ 0 8 rfl rfl, word_eq arg0 harg0 _ _ 0 11 rfl rfl]
  exact chk3 h.three

theorem hw4 (h : Fits x) (kq : ℕ) (hkq : kq < k0_t13_loop.trips) : k0_chk4 (word (F := F) arg0 (harg0.unread x) (k0_off26 ⟨kq, hkq⟩) (k0_off26_inb ⟨kq, hkq⟩)) := by
  have hk : kq < 128 := Nat.lt_of_lt_of_le hkq k0_t13_abs.2.1
  rw [word_eq arg0 harg0 _ _ ⟨kq, hk⟩ 0 (by rw [k0_off26_eq]; rfl) (by rw [k0_off26_eq]; rfl)]
  exact chk4 (h.slot ⟨kq, hk⟩ 0)

theorem hw5 (h : Fits x) (kq : ℕ) (hkq : kq < k0_t13_loop.trips) : k0_chk5 (word (F := F) arg0 (harg0.unread x) (k0_off28 ⟨kq, hkq⟩) (k0_off28_inb ⟨kq, hkq⟩)) := by
  have hk : kq < 128 := Nat.lt_of_lt_of_le hkq k0_t13_abs.2.1
  rw [word_eq arg0 harg0 _ _ ⟨kq, hk⟩ 1 (by rw [k0_off28_eq]; rfl) (by rw [k0_off28_eq]; rfl)]
  exact chk5 (h.slot ⟨kq, hk⟩ 1)

theorem hw6 (h : Fits x) (kq : ℕ) (hkq : kq < k0_t13_loop.trips) : k0_chk6 (word (F := F) arg0 (harg0.unread x) (k0_off30 ⟨kq, hkq⟩) (k0_off30_inb ⟨kq, hkq⟩)) := by
  have hk : kq < 128 := Nat.lt_of_lt_of_le hkq k0_t13_abs.2.1
  rw [word_eq arg0 harg0 _ _ ⟨kq, hk⟩ 2 (by rw [k0_off30_eq]; rfl) (by rw [k0_off30_eq]; rfl)]
  exact chk6 (h.slot ⟨kq, hk⟩ 2)

end

section

variable (c : Dev nD)
variable (arg0 : Memref sig .tc .smem S128x128 .i32)
  (harg0 : arg0.IsWhole)
  (arg1 : Memref sig .tc .vmem S8x2048 .i32)
  (harg1 : arg1.IsWhole)
  (arg2 : Memref sig .tc .vmem S128x128 .i32)
  (harg2 : arg2.IsWhole)
  (arg3 : Memref sig .tc .hbm S3x16896x128 .f32)
  (harg3 : arg3.IsWhole)
  (arg4 : Memref sig .tc .vmem S320x40000 .i8)
  (harg4 : arg4.IsWhole)
  (arg5 : Memref sig .tc .vmem S80x160000 .i8)
  (harg5 : arg5.IsWhole)
  (arg6 : Memref sig .tc .vmem S20x47735 .i8)
  (harg6 : arg6.IsWhole)
  (arg7 : Memref sig .tc .vmem S1x40000 .f32)
  (harg7 : arg7.IsWhole)
  (arg8 : Memref sig .tc .vmem S1x160000 .f32)
  (harg8 : arg8.IsWhole)
  (arg9 : Memref sig .tc .vmem S1x47735 .f32)
  (harg9 : arg9.IsWhole)
  (arg10 : Memref sig .tc .vmem S8x2048 .f32)
  (harg10 : arg10.IsWhole)
  (arg11 : Memref sig .tc .vmem S8x2048 .f32)
  (harg11 : arg11.IsWhole)
  (arg12 : Memref sig .tc .vmem S8x2048 .f32)
  (harg12 : arg12.IsWhole)
  (arg13 : Memref sig .tc .vmem S3x128x128 .f32)
  (harg13 : arg13.IsWhole)
  (arg14 : Memref sig .tc .vmem S132x8x128 .f32)
  (harg14 : arg14.IsWhole)
  (arg15 : Memref sig .tc .vmem S128x128 .i32)
  (harg15 : arg15.IsWhole)
  (arg16 : Memref sig .tc .vmem S128x128 .f32)
  (harg16 : arg16.IsWhole)
  (arg17 : Memref sig .tc .vmem S128x128 .f32)
  (harg17 : arg17.IsWhole)
  (arg18 : Memref sig .tc .vmem S128x128 .f32)
  (harg18 : arg18.IsWhole)
  (arg19 : DmaSems sig S_)

/-- What the run may leave in `arg10`, whatever the scratch buffers held. -/
def Left10 (x0 : Vec F S128x128 .i32) (x1 : Vec F S8x2048 .i32) (x2 : Vec F S128x128 .i32) (x3 : Vec F S3x16896x128 .f32) (x4 : Vec F S320x40000 .i8) (x5 : Vec F S80x160000 .i8) (x6 : Vec F S20x47735 .i8) (x7 : Vec F S1x40000 .f32) (x8 : Vec F S1x160000 .f32) (x9 : Vec F S1x47735 .f32) (h : Fits x0) (d : Vec F S8x2048 .f32) : Prop :=
  ∃ (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f10 : BufTy.Contents (Elt F) arg10.view.ty),
    d = arg10.view.read (Elt F) (arg10.view.writes (Elt F) f10 (run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 (harg0.unread x0) (harg1.unread x1) (harg2.unread x2) (harg3.unread x3) (harg4.unread x4) (harg5.unread x5) (harg6.unread x6) (harg7.unread x7) (harg8.unread x8) (harg9.unread x9) f13 f14 f15 f16 f17 f18 (hw1 arg0 harg0 h) (hw2 arg0 harg0 h) (hw3 arg0 harg0 h) (hw4 arg0 harg0 h) (hw5 arg0 harg0 h) (hw6 arg0 harg0 h)).1)

/-- What the run may leave in `arg11`, whatever the scratch buffers held. -/
def Left11 (x0 : Vec F S128x128 .i32) (x1 : Vec F S8x2048 .i32) (x2 : Vec F S128x128 .i32) (x3 : Vec F S3x16896x128 .f32) (x4 : Vec F S320x40000 .i8) (x5 : Vec F S80x160000 .i8) (x6 : Vec F S20x47735 .i8) (x7 : Vec F S1x40000 .f32) (x8 : Vec F S1x160000 .f32) (x9 : Vec F S1x47735 .f32) (h : Fits x0) (d : Vec F S8x2048 .f32) : Prop :=
  ∃ (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f11 : BufTy.Contents (Elt F) arg11.view.ty),
    d = arg11.view.read (Elt F) (arg11.view.writes (Elt F) f11 (run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 (harg0.unread x0) (harg1.unread x1) (harg2.unread x2) (harg3.unread x3) (harg4.unread x4) (harg5.unread x5) (harg6.unread x6) (harg7.unread x7) (harg8.unread x8) (harg9.unread x9) f13 f14 f15 f16 f17 f18 (hw1 arg0 harg0 h) (hw2 arg0 harg0 h) (hw3 arg0 harg0 h) (hw4 arg0 harg0 h) (hw5 arg0 harg0 h) (hw6 arg0 harg0 h)).2.1)

/-- What the run may leave in `arg12`, whatever the scratch buffers held. -/
def Left12 (x0 : Vec F S128x128 .i32) (x1 : Vec F S8x2048 .i32) (x2 : Vec F S128x128 .i32) (x3 : Vec F S3x16896x128 .f32) (x4 : Vec F S320x40000 .i8) (x5 : Vec F S80x160000 .i8) (x6 : Vec F S20x47735 .i8) (x7 : Vec F S1x40000 .f32) (x8 : Vec F S1x160000 .f32) (x9 : Vec F S1x47735 .f32) (h : Fits x0) (d : Vec F S8x2048 .f32) : Prop :=
  ∃ (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f12 : BufTy.Contents (Elt F) arg12.view.ty),
    d = arg12.view.read (Elt F) (arg12.view.writes (Elt F) f12 (run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 (harg0.unread x0) (harg1.unread x1) (harg2.unread x2) (harg3.unread x3) (harg4.unread x4) (harg5.unread x5) (harg6.unread x6) (harg7.unread x7) (harg8.unread x8) (harg9.unread x9) f13 f14 f15 f16 f17 f18 (hw1 arg0 harg0 h) (hw2 arg0 harg0 h) (hw3 arg0 harg0 h) (hw4 arg0 harg0 h) (hw5 arg0 harg0 h) (hw6 arg0 harg0 h)).2.2.1)

set_option maxHeartbeats 8000000 in
/-- The run, over what the buffers read. -/
theorem run_owns (x0 : Vec F S128x128 .i32) (x1 : Vec F S8x2048 .i32) (x2 : Vec F S128x128 .i32) (x3 : Vec F S3x16896x128 .f32) (x4 : Vec F S320x40000 .i8) (x5 : Vec F S80x160000 .i8) (x6 : Vec F S20x47735 .i8) (x7 : Vec F S1x40000 .f32) (x8 : Vec F S1x160000 .f32) (x9 : Vec F S1x47735 .f32) (h : Fits x0) (O : Waits sig Unit) :
    (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
        ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ semVal ((c : Thread nD τ), SemLoc.dma arg19.sem) 0 ∗ owes (c : Thread nD τ) 0 O) : sProp 𝕄)
      ⊢ wp frame (wpE (defs₀ (F := F)) Variants.none (c : Thread nD τ) none) Set.univ (cc0_tail (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19)
          (fun _ => iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ (∃ d, ⌜Left10 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 x0 x1 x2 x3 x4 x5 x6 x7 x8 x9 h d⌝ ∗ owns (c : Thread nD τ) arg10 fullShare d) ∗ (∃ d, ⌜Left11 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 x0 x1 x2 x3 x4 x5 x6 x7 x8 x9 h d⌝ ∗ owns (c : Thread nD τ) arg11 fullShare d) ∗ (∃ d, ⌜Left12 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 x0 x1 x2 x3 x4 x5 x6 x7 x8 x9 h d⌝ ∗ owns (c : Thread nD τ) arg12 fullShare d)
            ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ semVal ((c : Thread nD τ), SemLoc.dma arg19.sem) 0 ∗ (∃ O, owes (c : Thread nD τ) 0 O))) := by
  unfold owns
  iintro ⟨⟨%g0, %e0, H0⟩, ⟨%g1, %e1, H1⟩, ⟨%g2, %e2, H2⟩, ⟨%g3, %e3, H3⟩, ⟨%g4, %e4, H4⟩, ⟨%g5, %e5, H5⟩, ⟨%g6, %e6, H6⟩, ⟨%g7, %e7, H7⟩, ⟨%g8, %e8, H8⟩, ⟨%g9, %e9, H9⟩, ⟨%d10, %f10, %e10, H10⟩, ⟨%d11, %f11, %e11, H11⟩, ⟨%d12, %f12, %e12, H12⟩, ⟨%d13, %f13, %e13, H13⟩, ⟨%d14, %f14, %e14, H14⟩, ⟨%d15, %f15, %e15, H15⟩, ⟨%d16, %f16, %e16, H16⟩, ⟨%d17, %f17, %e17, H17⟩, ⟨%d18, %f18, %e18, H18⟩, Hsem, HO⟩
  obtain rfl := harg0.eq_unread e0
  obtain rfl := harg1.eq_unread e1
  obtain rfl := harg2.eq_unread e2
  obtain rfl := harg3.eq_unread e3
  obtain rfl := harg4.eq_unread e4
  obtain rfl := harg5.eq_unread e5
  obtain rfl := harg6.eq_unread e6
  obtain rfl := harg7.eq_unread e7
  obtain rfl := harg8.eq_unread e8
  obtain rfl := harg9.eq_unread e9
  iapply (wp_wand_r Idealize.ShloMosaic.frame (wpE (defs₀ (F := F)) Variants.none (c : Thread nD τ) none) Set.univ)
  isplitl [H0 H1 H2 H3 H4 H5 H6 H7 H8 H9 H10 H11 H12 H13 H14 H15 H16 H17 H18 Hsem HO]
  · iapply ((run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 (harg0.unread x0) (harg1.unread x1) (harg2.unread x2) (harg3.unread x3) (harg4.unread x4) (harg5.unread x5) (harg6.unread x6) (harg7.unread x7) (harg8.unread x8) (harg9.unread x9) f13 f14 f15 f16 f17 f18 (hw1 arg0 harg0 h) (hw2 arg0 harg0 h) (hw3 arg0 harg0 h) (hw4 arg0 harg0 h) (hw5 arg0 harg0 h) (hw6 arg0 harg0 h)).2.2.2 O f10 f11 f12)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [Hsem]; · iexact Hsem
    iexact HO
  · iintro %_ ⟨H0, H1, H2, H3, H4, H5, H6, H7, H8, H9, H10, H11, H12, ⟨%g13, H13⟩, ⟨%g14, H14⟩, ⟨%g15, H15⟩, ⟨%g16, H16⟩, ⟨%g17, H17⟩, ⟨%g18, H18⟩, Hsem, HO⟩
    isplitl [H0]
    · iexists _; isplitr; · ipureintro; exact e0
      iexact H0
    isplitl [H1]
    · iexists _; isplitr; · ipureintro; exact e1
      iexact H1
    isplitl [H2]
    · iexists _; isplitr; · ipureintro; exact e2
      iexact H2
    isplitl [H3]
    · iexists _; isplitr; · ipureintro; exact e3
      iexact H3
    isplitl [H4]
    · iexists _; isplitr; · ipureintro; exact e4
      iexact H4
    isplitl [H5]
    · iexists _; isplitr; · ipureintro; exact e5
      iexact H5
    isplitl [H6]
    · iexists _; isplitr; · ipureintro; exact e6
      iexact H6
    isplitl [H7]
    · iexists _; isplitr; · ipureintro; exact e7
      iexact H7
    isplitl [H8]
    · iexists _; isplitr; · ipureintro; exact e8
      iexact H8
    isplitl [H9]
    · iexists _; isplitr; · ipureintro; exact e9
      iexact H9
    isplitl [H10]
    · iexists _; isplitr
      swap
      · iexists _; isplitr
        swap; · iexact H10
        ipureintro; rfl
      · ipureintro; exact ⟨f13, f14, f15, f16, f17, f18, f10, rfl⟩
    isplitl [H11]
    · iexists _; isplitr
      swap
      · iexists _; isplitr
        swap; · iexact H11
        ipureintro; rfl
      · ipureintro; exact ⟨f13, f14, f15, f16, f17, f18, f11, rfl⟩
    isplitl [H12]
    · iexists _; isplitr
      swap
      · iexists _; isplitr
        swap; · iexact H12
        ipureintro; rfl
      · ipureintro; exact ⟨f13, f14, f15, f16, f17, f18, f12, rfl⟩
    isplitl [H13]
    · iexists _; iexists _; isplitr; swap; · iexact H13
      ipureintro; rfl
    isplitl [H14]
    · iexists _; iexists _; isplitr; swap; · iexact H14
      ipureintro; rfl
    isplitl [H15]
    · iexists _; iexists _; isplitr; swap; · iexact H15
      ipureintro; rfl
    isplitl [H16]
    · iexists _; iexists _; isplitr; swap; · iexact H16
      ipureintro; rfl
    isplitl [H17]
    · iexists _; iexists _; isplitr; swap; · iexact H17
      ipureintro; rfl
    isplitl [H18]
    · iexists _; iexists _; isplitr; swap; · iexact H18
      ipureintro; rfl
    isplitl [Hsem]; · iexact Hsem
    iexact HO

end

/-! ## The proof data -/

variable (m : (ℓ : Loc nD τ sig) → Buf (Elt F) ℓ) (ρ : Dev nD → PrngReg)

abbrev ms_0 (t : Fin cfg0.N) : Memref sig .tc .smem S128x128 .i32 := win0_0.stage (cfg0.slots t 0)
abbrev hs_0 (t : Fin cfg0.N) : (ms_0 t).IsWhole := hstage0_0 0
abbrev ms_1 (t : Fin cfg0.N) : Memref sig .tc .vmem S8x2048 .i32 := win0_1.stage (cfg0.slots t 1)
abbrev hs_1 (t : Fin cfg0.N) : (ms_1 t).IsWhole := hstage0_1 0
abbrev ms_2 (t : Fin cfg0.N) : Memref sig .tc .vmem S128x128 .i32 := win0_2.stage (cfg0.slots t 2)
abbrev hs_2 (t : Fin cfg0.N) : (ms_2 t).IsWhole := hstage0_2 0
abbrev ms_3 (t : Fin cfg0.N) : Memref sig .tc .vmem S320x40000 .i8 := win0_3.stage (cfg0.slots t 3)
abbrev hs_3 (t : Fin cfg0.N) : (ms_3 t).IsWhole := hstage0_3 0
abbrev ms_4 (t : Fin cfg0.N) : Memref sig .tc .vmem S80x160000 .i8 := win0_4.stage (cfg0.slots t 4)
abbrev hs_4 (t : Fin cfg0.N) : (ms_4 t).IsWhole := hstage0_4 0
abbrev ms_5 (t : Fin cfg0.N) : Memref sig .tc .vmem S20x47735 .i8 := win0_5.stage (cfg0.slots t 5)
abbrev hs_5 (t : Fin cfg0.N) : (ms_5 t).IsWhole := hstage0_5 0
abbrev ms_6 (t : Fin cfg0.N) : Memref sig .tc .vmem S1x40000 .f32 := win0_6.stage (cfg0.slots t 6)
abbrev hs_6 (t : Fin cfg0.N) : (ms_6 t).IsWhole := hstage0_6 0
abbrev ms_7 (t : Fin cfg0.N) : Memref sig .tc .vmem S1x160000 .f32 := win0_7.stage (cfg0.slots t 7)
abbrev hs_7 (t : Fin cfg0.N) : (ms_7 t).IsWhole := hstage0_7 0
abbrev ms_8 (t : Fin cfg0.N) : Memref sig .tc .vmem S1x47735 .f32 := win0_8.stage (cfg0.slots t 8)
abbrev hs_8 (t : Fin cfg0.N) : (ms_8 t).IsWhole := hstage0_8 0
abbrev ms_9 (t : Fin cfg0.N) : Memref sig .tc .vmem S8x2048 .f32 := win0_9.stage (cfg0.slots t 9)
abbrev hs_9 (t : Fin cfg0.N) : (ms_9 t).IsWhole := hstage0_9 0
abbrev ms_10 (t : Fin cfg0.N) : Memref sig .tc .vmem S8x2048 .f32 := win0_10.stage (cfg0.slots t 10)
abbrev hs_10 (t : Fin cfg0.N) : (ms_10 t).IsWhole := hstage0_10 0
abbrev ms_11 (t : Fin cfg0.N) : Memref sig .tc .vmem S8x2048 .f32 := win0_11.stage (cfg0.slots t 11)
abbrev hs_11 (t : Fin cfg0.N) : (ms_11 t).IsWhole := hstage0_11 0
abbrev scr_0 : Memref sig .tc .vmem S3x128x128 .f32 := Memref.whole cc0_scratch0
abbrev scr_1 : Memref sig .tc .vmem S132x8x128 .f32 := Memref.whole cc0_scratch1
abbrev scr_2 : Memref sig .tc .vmem S128x128 .i32 := Memref.whole cc0_scratch2
abbrev scr_3 : Memref sig .tc .vmem S128x128 .f32 := Memref.whole cc0_scratch3
abbrev scr_4 : Memref sig .tc .vmem S128x128 .f32 := Memref.whole cc0_scratch4
abbrev scr_5 : Memref sig .tc .vmem S128x128 .f32 := Memref.whole cc0_scratch5
abbrev hid : Memref sig .tc .hbm S3x16896x128 .f32 := Memref.whole main_arg3

/-- The body's own transfer semaphore. -/
abbrev osem : Fin 1 → SemLoc sig := fun _ => SemLoc.dma cc0_scratch6.sem
theorem ownSemFacts : Pipeline.OwnSemFacts spec0 osem := by decide
theorem ownSems_eq (c : Dev nD) :
    (Pipeline.ownSems0 (Ix := Unit) (Name := ℕ) (U := UU) (Lvl := ℕ) (Val := Elt F) (τ := τ) osem c : sProp 𝕄)
      = semVal ((c : Thread nD τ), SemLoc.dma cc0_scratch6.sem) 0 := by
  rw [Pipeline.ownSems0_eq_of_list c osem [0] (by decide) (by decide)]; rfl
/-- The hidden states, which the body's transfers read where they lie. -/
def H : Finset (Ref sig .tc) := {main_arg3}
theorem H_sub : H ⊆ Pipeline.restRefs sig spec0 := by decide
theorem hidden_eq (c : Dev nD) :
    (bigSep H (fun b => ((c : Thread nD τ).loc b) ↦{fullShare} V m c b) : sProp 𝕄) = owns (c : Thread nD τ) hid fullShare (V m c main_arg3) := by
  rw [BI.bigSep_eq_bigSepL_of_eq [main_arg3] (by decide) (by decide), owns_whole]; rfl

theorem Phi_eq (c : Dev nD) :
    (Pipeline.ΦD osem spec0 H (V m) c : sProp 𝕄)
      = iprop(iprop((∃ d, owns (c : Thread nD τ) scr_0 fullShare d) ∗ (∃ d, owns (c : Thread nD τ) scr_1 fullShare d) ∗ (∃ d, owns (c : Thread nD τ) scr_2 fullShare d) ∗ (∃ d, owns (c : Thread nD τ) scr_3 fullShare d) ∗ (∃ d, owns (c : Thread nD τ) scr_4 fullShare d) ∗ (∃ d, owns (c : Thread nD τ) scr_5 fullShare d))
          ∗ (∃ r, prngReg c r) ∗ semVal ((c : Thread nD τ), SemLoc.dma cc0_scratch6.sem) 0 ∗ owns (c : Thread nD τ) hid fullShare (V m c main_arg3)) := by
  rw [Pipeline.ΦD_eq, scopedRest0_eq, ownSems_eq, hidden_eq]
  simp only [scr_0, scr_1, scr_2, scr_3, scr_4, scr_5, owns_whole]; try rfl

/-- The arrays as the region finds them; after the point every input buffer at its block. The results are held to what the run may
    leave (`Rl`). -/
def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
  Φ _ := Pipeline.ΦD osem spec0 H (V m) c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0 m c]; unfold Dat.blockOf iblk; rw [A_eq m c]; try rfl) t d).trans
    (by unfold Dat.fetched Dat.blockOf iblk; rw [A_eq m c]; try rfl)
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1 m c]; unfold Dat.blockOf iblk; rw [A_eq m c]; try rfl) t d).trans
    (by unfold Dat.fetched Dat.blockOf iblk; rw [A_eq m c]; try rfl)
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2 m c]; unfold Dat.blockOf iblk; rw [A_eq m c]; try rfl) t d).trans
    (by unfold Dat.fetched Dat.blockOf iblk; rw [A_eq m c]; try rfl)
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3 m c]; unfold Dat.blockOf iblk; rw [A_eq m c]; try rfl) t d).trans
    (by unfold Dat.fetched Dat.blockOf iblk; rw [A_eq m c]; try rfl)
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4 m c]; unfold Dat.blockOf iblk; rw [A_eq m c]; try rfl) t d).trans
    (by unfold Dat.fetched Dat.blockOf iblk; rw [A_eq m c]; try rfl)
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5 m c]; unfold Dat.blockOf iblk; rw [A_eq m c]; try rfl) t d).trans
    (by unfold Dat.fetched Dat.blockOf iblk; rw [A_eq m c]; try rfl)
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6 m c]; unfold Dat.blockOf iblk; rw [A_eq m c]; try rfl) t d).trans
    (by unfold Dat.fetched Dat.blockOf iblk; rw [A_eq m c]; try rfl)
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7 m c]; unfold Dat.blockOf iblk; rw [A_eq m c]; try rfl) t d).trans
    (by unfold Dat.fetched Dat.blockOf iblk; rw [A_eq m c]; try rfl)
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8 m c]; unfold Dat.blockOf iblk; rw [A_eq m c]; try rfl) t d).trans
    (by unfold Dat.fetched Dat.blockOf iblk; rw [A_eq m c]; try rfl)

/-- The results are the windows whose contents are not named. -/
def fgt (w : Fin cfg0.W) : Bool := decide (9 ≤ w.val)

variable (hfit : ∀ (c : Dev nD) (t : Fin cfg0.N), Fits (iblk m c 0 t))

/-- What the point may leave in a result's buffer. -/
def Rl (c : Dev nD) (w : Fin cfg0.W) (t : Fin cfg0.N) : ((cfg0.win w).block.Idx → Elt F (cfg0.win w).elt) → Prop := match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun _ => True
  | ⟨7, _⟩ => fun _ => True
  | ⟨8, _⟩ => fun _ => True
  | ⟨9, _⟩ => fun d => Left10 c (ms_0 t) (hs_0 t) (ms_1 t) (hs_1 t) (ms_2 t) (hs_2 t) hid (Memref.isWhole_whole _) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scr_0 (Memref.isWhole_whole _) scr_1 (Memref.isWhole_whole _) scr_2 (Memref.isWhole_whole _) scr_3 (Memref.isWhole_whole _) scr_4 (Memref.isWhole_whole _) scr_5 (Memref.isWhole_whole _) cc0_scratch6 (iblk m c 0 t) (iblk m c 1 t) (iblk m c 2 t) (V m c main_arg3) (iblk m c 3 t) (iblk m c 4 t) (iblk m c 5 t) (iblk m c 6 t) (iblk m c 7 t) (iblk m c 8 t) (hfit c t) d
  | ⟨10, _⟩ => fun d => Left11 c (ms_0 t) (hs_0 t) (ms_1 t) (hs_1 t) (ms_2 t) (hs_2 t) hid (Memref.isWhole_whole _) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scr_0 (Memref.isWhole_whole _) scr_1 (Memref.isWhole_whole _) scr_2 (Memref.isWhole_whole _) scr_3 (Memref.isWhole_whole _) scr_4 (Memref.isWhole_whole _) scr_5 (Memref.isWhole_whole _) cc0_scratch6 (iblk m c 0 t) (iblk m c 1 t) (iblk m c 2 t) (V m c main_arg3) (iblk m c 3 t) (iblk m c 4 t) (iblk m c 5 t) (iblk m c 6 t) (iblk m c 7 t) (iblk m c 8 t) (hfit c t) d
  | ⟨11, _⟩ => fun d => Left12 c (ms_0 t) (hs_0 t) (ms_1 t) (hs_1 t) (ms_2 t) (hs_2 t) hid (Memref.isWhole_whole _) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scr_0 (Memref.isWhole_whole _) scr_1 (Memref.isWhole_whole _) scr_2 (Memref.isWhole_whole _) scr_3 (Memref.isWhole_whole _) scr_4 (Memref.isWhole_whole _) scr_5 (Memref.isWhole_whole _) cc0_scratch6 (iblk m c 0 t) (iblk m c 1 t) (iblk m c 2 t) (V m c main_arg3) (iblk m c 3 t) (iblk m c 4 t) (iblk m c 5 t) (iblk m c 6 t) (iblk m c 7 t) (iblk m c 8 t) (hfit c t) d

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d)) ∗ (∃ d, owns (c : Thread nD τ) (ms_1 t) fullShare ((dats m 0 c).before 1 t d)) ∗ (∃ d, owns (c : Thread nD τ) (ms_2 t) fullShare ((dats m 0 c).before 2 t d)) ∗ (∃ d, owns (c : Thread nD τ) (ms_3 t) fullShare ((dats m 0 c).before 3 t d)) ∗ (∃ d, owns (c : Thread nD τ) (ms_4 t) fullShare ((dats m 0 c).before 4 t d)) ∗ (∃ d, owns (c : Thread nD τ) (ms_5 t) fullShare ((dats m 0 c).before 5 t d)) ∗ (∃ d, owns (c : Thread nD τ) (ms_6 t) fullShare ((dats m 0 c).before 6 t d)) ∗ (∃ d, owns (c : Thread nD τ) (ms_7 t) fullShare ((dats m 0 c).before 7 t d)) ∗ (∃ d, owns (c : Thread nD τ) (ms_8 t) fullShare ((dats m 0 c).before 8 t d)) ∗ (∃ Y, ⌜((dats m 0 c).toRRel fgt (Rl m hfit c)).Finds 9 t Y⌝ ∗ owns (c : Thread nD τ) (ms_9 t) fullShare Y) ∗ (∃ Y, ⌜((dats m 0 c).toRRel fgt (Rl m hfit c)).Finds 10 t Y⌝ ∗ owns (c : Thread nD τ) (ms_10 t) fullShare Y) ∗ (∃ Y, ⌜((dats m 0 c).toRRel fgt (Rl m hfit c)).Finds 11 t Y⌝ ∗ owns (c : Thread nD τ) (ms_11 t) fullShare Y))

/-- What it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t) ∗ owns (c : Thread nD τ) (ms_1 t) fullShare ((dats m 0 c).after 1 t) ∗ owns (c : Thread nD τ) (ms_2 t) fullShare ((dats m 0 c).after 2 t) ∗ owns (c : Thread nD τ) (ms_3 t) fullShare ((dats m 0 c).after 3 t) ∗ owns (c : Thread nD τ) (ms_4 t) fullShare ((dats m 0 c).after 4 t) ∗ owns (c : Thread nD τ) (ms_5 t) fullShare ((dats m 0 c).after 5 t) ∗ owns (c : Thread nD τ) (ms_6 t) fullShare ((dats m 0 c).after 6 t) ∗ owns (c : Thread nD τ) (ms_7 t) fullShare ((dats m 0 c).after 7 t) ∗ owns (c : Thread nD τ) (ms_8 t) fullShare ((dats m 0 c).after 8 t) ∗ (∃ X, ⌜Rl m hfit c 9 t X⌝ ∗ owns (c : Thread nD τ) (ms_9 t) fullShare X) ∗ (∃ X, ⌜Rl m hfit c 10 t X⌝ ∗ owns (c : Thread nD τ) (ms_10 t) fullShare X) ∗ (∃ X, ⌜Rl m hfit c 11 t X⌝ ∗ owns (c : Thread nD τ) (ms_11 t) fullShare X))

set_option maxHeartbeats 8000000 in
theorem sound_body (c : Dev nD) (t : Fin cfg0.N) :
    bodyPre m hfit c t ⊢ wp frame (wpE (defs₀ (F := F)) Variants.none c none) Set.univ (bodyAt0 t) (fun _ => bodyPost m hfit c t) := by
  unfold bodyPre bodyPost bodyAt0
  simp only [before_0, before_1, before_2, before_3, before_4, before_5, before_6, before_7, before_8, after_0, after_1, after_2, after_3, after_4, after_5, after_6, after_7, after_8]
  rw [show (dats m 0 c).Φ t.succ = (dats m 0 c).Φ t.castSucc from rfl]
  rw [show (dats m 0 c).Φ t.castSucc = Pipeline.ΦD osem spec0 H (V m) c from rfl, Phi_eq]
  unfold Dat.owesAt Pipeline.owesWithin
  rw [show (dats m 0 c).owed t.castSucc = 0 from rfl, show (dats m 0 c).owed t.succ = 0 from rfl]
  iintro ⟨⟨⟨S0, S1, S2, S3, S4, S5⟩, Hg, Hsem, Hh⟩, ⟨%O, -, HO⟩, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, -, H9⟩, ⟨%e10, -, H10⟩, ⟨%e11, -, H11⟩⟩
  iapply (wp_wand_r Idealize.ShloMosaic.frame (wpE (defs₀ (F := F)) Variants.none (c : Thread nD τ) none) Set.univ)
  isplitl [S0 S1 S2 S3 S4 S5 Hsem Hh HO H0 H1 H2 H3 H4 H5 H6 H7 H8 H9 H10 H11]
  · iapply (run_owns c (ms_0 t) (hs_0 t) (ms_1 t) (hs_1 t) (ms_2 t) (hs_2 t) hid (Memref.isWhole_whole _) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scr_0 (Memref.isWhole_whole _) scr_1 (Memref.isWhole_whole _) scr_2 (Memref.isWhole_whole _) scr_3 (Memref.isWhole_whole _) scr_4 (Memref.isWhole_whole _) scr_5 (Memref.isWhole_whole _) cc0_scratch6 (iblk m c 0 t) (iblk m c 1 t) (iblk m c 2 t) (V m c main_arg3) (iblk m c 3 t) (iblk m c 4 t) (iblk m c 5 t) (iblk m c 6 t) (iblk m c 7 t) (iblk m c 8 t) (hfit c t) O)
    isplitl [H0]; · iexact H0
    isplitl [H1]; · iexact H1
    isplitl [H2]; · iexact H2
    isplitl [Hh]; · iexact Hh
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [S0]; · iexact S0
    isplitl [S1]; · iexact S1
    isplitl [S2]; · iexact S2
    isplitl [S3]; · iexact S3
    isplitl [S4]; · iexact S4
    isplitl [S5]; · iexact S5
    isplitl [Hsem]; · iexact Hsem
    iexact HO
  · iintro %_ ⟨H0, H1, H2, Hh, H3, H4, H5, H6, H7, H8, H9, H10, H11, S0, S1, S2, S3, S4, S5, Hsem, ⟨%O', HO⟩⟩
    isplitl [S0 S1 S2 S3 S4 S5 Hg Hsem Hh]
    · isplitl [S0 S1 S2 S3 S4 S5]
      · isplitl [S0]; · iexact S0
        isplitl [S1]; · iexact S1
        isplitl [S2]; · iexact S2
        isplitl [S3]; · iexact S3
        isplitl [S4]; · iexact S4
        iexact S5
      isplitl [Hg]; · iexact Hg
      isplitl [Hsem]; · iexact Hsem
      iexact Hh
    isplitl [HO]
    · iexists O'; isplitr; · ipureintro; exact fun _ _ => Or.inl trivial
      iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligationRel (dats (F := F) m 0 c) (defs₀ (F := F)) Variants.none () Set.univ fgt (Rl m hfit c) := fun t => by
  rw [bigSep_W0, bigSep_W0, defs₀_row]
  exact triple_restated (sound_body m hfit c t) rfl .rfl fun _ => .rfl

/-! ## The run and the frame -/

/-- The data the run concludes of. -/
abbrev rdat (c : Dev nD) : RDat τ (Elt F) Unit ℕ UU ℕ cfg0 c := (dats m 0 c).toRRel fgt (Rl m hfit c)

set_option maxHeartbeats 800000 in
theorem hmain : Pipeline.HMain (Ix := Unit) (Name := ℕ) (U := UU) (Lvl := ℕ) cfgs 0 defs₀ Variants.none m (main (F := F)) (V m) :=
  Pipeline.hmain_region cfgs 0 defs₀ Variants.none m main fun c => (main_chain c).trans rfl

include hfit in
set_option backward.isDefEq.respectTransparency.types false in
theorem run_main : θ_run defs (onTc (τ := τ) (main (F := F))) (s₀ m ρ) (fun r => RDat.FramePost cfg0 (rdat m hfit) (V m) r ∧ r.2.sem = fun _ => 0) :=
  RDat.θ_run_frame_dma (Q' := _) cfgs (0 : Fin 1) launch0 osem defs₀ Variants.none (rdat m hfit) ownSemFacts H H_sub m ρ main
    (hbody := fun c => (body_obligation m hfit c).toRRel) (hshare := fun c => (dats m 0 c).share_full fun _ => rfl)
    (howed := fun _ _ => rfl) (V := V m) (hmain := hmain m) (hA := A_eq m) (hin := fun _ => .rfl) (hout := fun _ => .rfl)

include hfit in
/-- The arguments end unchanged, and no semaphore counting. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r (h : _ ∧ _) => ⟨fun c => ⟨(h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      ((h.1 c).2 main_arg3 (Pipeline.mem_restRefs_of main_arg3 (by decide) (by decide))).trans (V_main_arg3 m c),
      (h.1.arr_in c 3 rfl).trans ((A_eq m c 3).trans (V_main_arg4 m c)),
      (h.1.arr_in c 4 rfl).trans ((A_eq m c 4).trans (V_main_arg5 m c)),
      (h.1.arr_in c 5 rfl).trans ((A_eq m c 5).trans (V_main_arg6 m c)),
      (h.1.arr_in c 6 rfl).trans ((A_eq m c 6).trans (V_main_arg7 m c)),
      (h.1.arr_in c 7 rfl).trans ((A_eq m c 7).trans (V_main_arg8 m c)),
      (h.1.arr_in c 8 rfl).trans ((A_eq m c 8).trans (V_main_arg9 m c))⟩, h.2⟩) (run_main m ρ hfit)

end Cert.TailIdeal.Run

end
-- ==== Proof.TailBits.Words.lean ====
/- The words the tail kernel computes its trip counts and offsets from, and its side conditions of them. -/
module

public import proofs.«01_k».proof.Proof.Gen.Tail
public import Idealize.ShloMosaic.Lib.Routing.Words
public import Idealize.ShloMosaic.Lib.LoopRemainder

@[expose] public section

namespace Cert.Tail.Run

open Cert.Tail
open Idealize.ShloMosaic

/-- The floor division by 128 as the kernel computes it. -/
def floorDiv (v : BitVec 32) : BitVec 32 :=
  Scalar.select (Scalar.andi (Scalar.cmpi .ne (Scalar.subi (Scalar.extui (Scalar.cmpi .sgt v 0#32)) (Scalar.extui (Scalar.cmpi .slt v 0#32)))
      (Scalar.subi (Scalar.extui (Scalar.cmpi .sgt 128#32 0#32)) (Scalar.extui (Scalar.cmpi .slt 128#32 0#32))))
    (Scalar.cmpi .ne (Scalar.remsi v 128#32) 0#32)) (Scalar.subi (Scalar.divsi v 128#32) 1#32) (Scalar.divsi v 128#32)

theorem floorDiv_eq {a : ℕ} (ha : a < 2 ^ 31) : floorDiv (BitVec.ofNat 32 a) = BitVec.ofNat 32 (a / 128) := by
  have hd : Scalar.divsi (BitVec.ofNat 32 a) 128#32 = BitVec.ofNat 32 (a / 128) := Routing.divsi_word .scalar ha (by decide) (by decide)
  have hr : Scalar.remsi (BitVec.ofNat 32 a) 128#32 = BitVec.ofNat 32 (a % 128) := Routing.remsi_word .scalar ha (by decide) (by decide)
  have hi : (BitVec.ofNat 32 a).toInt = a := by
    rw [BitVec.toInt_eq_toNat_cond, BitVec.toNat_ofNat, Nat.mod_eq_of_lt (by omega), if_pos (by omega)]
  unfold floorDiv
  rw [hd, hr]
  rcases Nat.eq_zero_or_pos a with h0 | hp
  · subst h0; decide
  · have h1 : Scalar.cmpi .sgt (BitVec.ofNat 32 a) 0#32 = 1#1 := by
      simp only [Scalar.cmpi, IntOp.cmpi, BitVec.slt_eq_decide, hi]
      rw [decide_eq_true (by simpa using hp)]; rfl
    have h2 : Scalar.cmpi .slt (BitVec.ofNat 32 a) 0#32 = 0#1 := by
      simp only [Scalar.cmpi, IntOp.cmpi, BitVec.slt_eq_decide, hi]
      rw [decide_eq_false (by simp)]; rfl
    rw [h1, h2]
    have h3 : Scalar.cmpi .ne (Scalar.subi (Scalar.extui (1#1 : BitVec 1) : BitVec 32) (Scalar.extui (0#1 : BitVec 1)))
      (Scalar.subi (Scalar.extui (Scalar.cmpi .sgt 128#32 0#32)) (Scalar.extui (Scalar.cmpi .slt 128#32 0#32))) = 0#1 := by decide
    rw [h3]
    generalize Scalar.cmpi .ne (BitVec.ofNat 32 (a % 128)) 0#32 = b
    have h4 : Scalar.andi (0#1) b = 0#1 := by revert b; decide
    rw [h4]; rfl

/-- The number of tiles of 128 rows that hold `n` rows. -/
def tiles (n : ℕ) : ℕ := (n + 127) / 128

/-- A bucket: it begins at row `s`, a multiple of 128, holds `n` rows, and its tiles lie within the rows there are. -/
structure Bucket (s n : BitVec 32) : Prop where
  start_le : s.toNat ≤ 16896
  rows_le : n.toNat ≤ 16896
  dvd : 128 ∣ s.toNat
  fits : s.toNat + 128 * tiles n.toNat ≤ 16896

section Loop
variable {s n : BitVec 32} (h : Bucket s n)
include h

theorem bound_eq : floorDiv (Scalar.addi n 127#32) = BitVec.ofNat 32 (tiles n.toNat) := by
  have e : Scalar.addi n 127#32 = BitVec.ofNat 32 (n.toNat + 127) := by
    have := h.rows_le
    apply BitVec.eq_of_toNat_eq
    simp only [Scalar.addi, IntOp.addi, BitVec.toNat_add, BitVec.toNat_ofNat]
  rw [e]
  exact floorDiv_eq (by have := h.rows_le; omega)

theorem tiles_le : tiles n.toNat ≤ 132 := by have := h.fits; omega

theorem loop_eq : k0_t1_loop n = ⟨0#32, BitVec.ofNat 32 (tiles n.toNat), 1#32⟩ := by
  show (⟨0#32, Scalar.addi 0#32 (Scalar.muli (Scalar.divsi (Scalar.subi (floorDiv (Scalar.addi n 127#32)) 0#32) 1#32) 1#32), 1#32⟩ : Scf.Loop 32) = _
  rw [Scalar.muli_divsi_one, bound_eq h]
  have := tiles_le h
  congr 1
  apply BitVec.eq_of_toNat_eq
  simp only [Scalar.addi, Scalar.subi, IntOp.addi, IntOp.subi, BitVec.toNat_add, BitVec.toNat_sub, BitVec.toNat_ofNat]
  omega

theorem trips_eq : (k0_t1_loop n).trips = tiles n.toNat := by
  rw [loop_eq h]
  have := tiles_le h
  show Scf.trips _ _ _ = _
  unfold Scf.trips
  have e1 : (BitVec.ofNat 32 (tiles n.toNat)).toInt = tiles n.toNat := by
    rw [BitVec.toInt_eq_toNat_cond, BitVec.toNat_ofNat, Nat.mod_eq_of_lt (by omega), if_pos (by omega)]
  rw [e1, show (0#32 : BitVec 32).toInt = 0 from by decide, show (1#32 : BitVec 32).toInt = 1 from by decide]
  omega

theorem loop_ok : (k0_t1_loop n).OK := by
  rw [loop_eq h]
  have := tiles_le h
  exact Affine.ok (Affine.ofNat 0 ⟨rfl, by decide⟩) (Affine.ofNat (tiles n.toNat) ⟨rfl, by omega⟩) (Affine.ofNat 1 ⟨rfl, by decide⟩) ⟨by decide, by omega⟩

/-- The row trip `k` begins at. -/
theorem row_eq (k : Fin (k0_t1_loop n).trips) :
    Scalar.addi s (Scalar.muli (Scf.iv 0#32 1#32 k.val) 128#32) = BitVec.ofNat 32 (s.toNat + 128 * k.val) := by
  have hk : k.val < tiles n.toNat := Nat.lt_of_lt_of_eq k.isLt (trips_eq h)
  have := h.fits; have := tiles_le h
  apply BitVec.eq_of_toNat_eq
  simp only [Scalar.addi, Scalar.muli, IntOp.addi, IntOp.muli, Scf.iv, BitVec.toNat_add, BitVec.toNat_mul, BitVec.toNat_ofNat]
  omega

theorem row_toNat (k : Fin (k0_t1_loop n).trips) :
    (Scalar.addi s (Scalar.muli (Scf.iv 0#32 1#32 k.val) 128#32)).toNat = s.toNat + 128 * k.val := by
  have hk : k.val < tiles n.toNat := Nat.lt_of_lt_of_eq k.isLt (trips_eq h)
  have := h.fits
  rw [row_eq h, BitVec.toNat_ofNat]; omega

theorem off1_eq (k : Fin (k0_t1_loop n).trips) : k0_off1 s n k = ![0, s.toNat + 128 * k.val, 0] := by
  show (![0, (Scalar.addi s (Scalar.muli (Scf.iv 0#32 1#32 k.val) 128#32)).toNat, 0] : Fin 3 → ℕ) = _
  rw [row_toNat h]

theorem off4_eq (k : Fin (k0_t1_loop n).trips) : k0_off4 s n k = ![s.toNat / 128 + k.val, 0, 0] := by
  show (![(floorDiv (Scalar.addi s (Scalar.muli (Scf.iv 0#32 1#32 k.val) 128#32))).toNat, 0, 0] : Fin 3 → ℕ) = _
  have hk : k.val < tiles n.toNat := Nat.lt_of_lt_of_eq k.isLt (trips_eq h)
  have := h.fits; have := h.dvd
  rw [row_eq h, floorDiv_eq (by omega), BitVec.toNat_ofNat, Nat.mod_eq_of_lt (by omega)]
  congr 1; omega

end Loop

theorem off1_inb {s n : BitVec 32} (h : Bucket s n) (k : Fin (k0_t1_loop n).trips) (a) : k0_off1 s n k a + S3x128x128.size a ≤ S3x16896x128.size a := by
  have hk : k.val < tiles n.toNat := Nat.lt_of_lt_of_eq k.isLt (trips_eq h)
  have := h.fits
  rw [off1_eq h]
  fin_cases a
  · show 0 + 3 ≤ 3; omega
  · show s.toNat + 128 * k.val + 128 ≤ 16896; omega
  · show 0 + 128 ≤ 128; omega

theorem off4_inb {s n : BitVec 32} (h : Bucket s n) (k : Fin (k0_t1_loop n).trips) (a) : k0_off4 s n k a + S1x8x128.size a ≤ S132x8x128.size a := by
  have hk : k.val < tiles n.toNat := Nat.lt_of_lt_of_eq k.isLt (trips_eq h)
  have := h.fits; have := h.dvd
  rw [off4_eq h]
  fin_cases a
  · show s.toNat / 128 + k.val + 1 ≤ 132; omega
  · show 0 + 8 ≤ 8; omega
  · show 0 + 128 ≤ 128; omega

theorem mult_dvd {s n : BitVec 32} (h : Bucket s n) (k : Fin (k0_t1_loop n).trips) : 128 ∣ (k0_mult1 s n k).toNat := by
  show 128 ∣ (Scalar.addi s (Scalar.muli (Scf.iv 0#32 1#32 k.val) 128#32)).toNat
  rw [row_toNat h]
  have := h.dvd; omega

/-- The remainder loop makes no trip. -/
theorem no_trip (n : BitVec 32) (k : Fin (k0_t3_loop n).trips) : False :=
  Scf.rem_no_trip 0#32 (Scalar.subi (floorDiv (Scalar.addi n 127#32)) 0#32) k

theorem rest_ok (n : BitVec 32) : (k0_t3_loop n).OK :=
  Scf.rem_ok 0#32 (Scalar.subi (floorDiv (Scalar.addi n 127#32)) 0#32)

theorem chk1 {s n : BitVec 32} (h : Bucket s n) : k0_chk1 s n :=
  ⟨loop_ok h, mult_dvd h, off1_inb h, off4_inb h, rest_ok n, fun k => (no_trip n k).elim, fun k => (no_trip n k).elim, fun k => (no_trip n k).elim⟩

theorem chk2 {s n : BitVec 32} (h : Bucket s n) : k0_chk2 s n :=
  ⟨loop_ok h, mult_dvd h, off1_inb h, off4_inb h, rest_ok n, fun k => (no_trip n k).elim, fun k => (no_trip n k).elim, fun k => (no_trip n k).elim⟩

theorem chk3 {s n : BitVec 32} (h : Bucket s n) : k0_chk3 s n :=
  ⟨loop_ok h, mult_dvd h, off1_inb h, off4_inb h, rest_ok n, fun k => (no_trip n k).elim, fun k => (no_trip n k).elim, fun k => (no_trip n k).elim⟩

/-! ## The two blocks the placement reads -/

theorem off27_eq {v : BitVec 32} (hv : v.toNat < 16768) (r : Fin 2) : k0_off27 v (BitVec.ofNat 32 r.val) = ![v.toNat / 128 + r.val, 0, 0] := by
  show (![(Scalar.addi (floorDiv v) (BitVec.ofNat 32 r.val)).toNat, 0, 0] : Fin 3 → ℕ) = _
  have e : v = BitVec.ofNat 32 v.toNat := by simp
  have hr := r.isLt
  have : (floorDiv v) = BitVec.ofNat 32 (v.toNat / 128) := by rw [e, floorDiv_eq (by simpa using (by omega)), ← e]
  rw [this]
  congr 1
  simp only [Scalar.addi, IntOp.addi, BitVec.toNat_add, BitVec.toNat_ofNat]
  omega

theorem chk4 {v : BitVec 32} (hv : v.toNat < 16768) : k0_chk4 v := by
  intro r a
  have hr := r.isLt
  rw [off27_eq hv]
  fin_cases a
  · show v.toNat / 128 + r.val + 1 ≤ 132; omega
  · show 0 + 8 ≤ 8; omega
  · show 0 + 128 ≤ 128; omega

theorem chk5 {v : BitVec 32} (hv : v.toNat < 16768) : k0_chk5 v := chk4 hv
theorem chk6 {v : BitVec 32} (hv : v.toNat < 16768) : k0_chk6 v := chk4 hv

end Cert.Tail.Run
-- ==== Proof.TailBits.Loops.lean ====
/- The loops over a table's chunks and the loop that puts the rows back, one trip of each at a symbolic trip. -/
module

public import proofs.«01_k».proof.Proof.TailBits.Words
public import proofs.«01_k».proof.Proof.Gen.Tail.Loops
public import Idealize.ShloMosaic.Lib.Pipeline.FrameBody

@[expose] public section

set_option maxRecDepth 8192
set_option maxHeartbeats 4000000

noncomputable section

namespace Cert.Tail.Run

open Cert.Tail Cert.Tail.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources: the pipeline's beside the counters of the kernel's own transfers. -/
abbrev UU : Type := Pipeline.UD sig nD τ
local notation "𝕄" => MT nD τ sig Unit (Elt F) ℕ UU ℕ

/-- A column of 128 values. -/
abbrev Col (F : FTy → Type) [FloatOps F] : Type := FVec F S128x1 .f32

section

variable (c : Dev nD)
variable (arg0 : Memref sig .tc .smem S128x128 .i32)
  (harg0 : arg0.IsWhole)
  (arg1 : Memref sig .tc .vmem S8x2048 .i32)
  (harg1 : arg1.IsWhole)
  (arg2 : Memref sig .tc .vmem S128x128 .i32)
  (harg2 : arg2.IsWhole)
  (arg3 : Memref sig .tc .hbm S3x16896x128 .f32)
  (harg3 : arg3.IsWhole)
  (arg4 : Memref sig .tc .vmem S320x40000 .i8)
  (harg4 : arg4.IsWhole)
  (arg5 : Memref sig .tc .vmem S80x160000 .i8)
  (harg5 : arg5.IsWhole)
  (arg6 : Memref sig .tc .vmem S20x47735 .i8)
  (harg6 : arg6.IsWhole)
  (arg7 : Memref sig .tc .vmem S1x40000 .f32)
  (harg7 : arg7.IsWhole)
  (arg8 : Memref sig .tc .vmem S1x160000 .f32)
  (harg8 : arg8.IsWhole)
  (arg9 : Memref sig .tc .vmem S1x47735 .f32)
  (harg9 : arg9.IsWhole)
  (arg10 : Memref sig .tc .vmem S8x2048 .f32)
  (harg10 : arg10.IsWhole)
  (arg11 : Memref sig .tc .vmem S8x2048 .f32)
  (harg11 : arg11.IsWhole)
  (arg12 : Memref sig .tc .vmem S8x2048 .f32)
  (harg12 : arg12.IsWhole)
  (arg13 : Memref sig .tc .vmem S3x128x128 .f32)
  (harg13 : arg13.IsWhole)
  (arg14 : Memref sig .tc .vmem S132x8x128 .f32)
  (harg14 : arg14.IsWhole)
  (arg15 : Memref sig .tc .vmem S128x128 .i32)
  (harg15 : arg15.IsWhole)
  (arg16 : Memref sig .tc .vmem S128x128 .f32)
  (harg16 : arg16.IsWhole)
  (arg17 : Memref sig .tc .vmem S128x128 .f32)
  (harg17 : arg17.IsWhole)
  (arg18 : Memref sig .tc .vmem S128x128 .f32)
  (harg18 : arg18.IsWhole)
  (arg19 : DmaSems sig S_)

/-! ## The chunks of a table: loop 2 -/

/-- The table and its scales, as a trip reads them. -/
abbrev Trip2 (W : BufTy.Contents (Elt F) arg4.view.ty) (S : BufTy.Contents (Elt F) arg7.view.ty) : sProp 𝕄 :=
  iprop((arg4.view.loc (c : Thread nD τ) ↦[arg4.view.set]{fullShare} W) ∗ (arg7.view.loc (c : Thread nD τ) ↦[arg7.view.set]{fullShare} S))

/-- One trip: what it yields, as a function of what it is given. -/
@[irreducible] def trip2 (v65 : Elt F .i32) (v66 : Elt F .i32) (k0_hw1 : k0_chk1 v65 v66) (c0_i32_40 : BitVec 32) (c1_i32_42 : BitVec 32) (k0_t1 : Fin (k0_t1_loop v66).trips) (v242 : Vec F S1x128x128 .f32) (v244 : Vec F S1x128x128 .f32) (v246 : Vec F S1x128x128 .f32) (v251 : Vec F S1x128x1 .f32) (v253 : Vec F S1x128x1 .f32)
    (W : BufTy.Contents (Elt F) arg4.view.ty) (S : BufTy.Contents (Elt F) arg7.view.ty) (k : Fin k0_t2_loop.trips) :
    { R : (Col F × Col F × Col F) → Col F × Col F × Col F // ∀ (E : Set ℕ) (acc : Col F × Col F × Col F),
      Trip2 (F := F) c arg4 arg7 W S
      ⊢ wp frame (wpE (defs₀ (F := F)) Variants.none (c : Thread nD τ) none) E (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v65 v66 k0_hw1 c0_i32_40 c1_i32_42 k0_t1 v242 v244 v246 v251 v253 k acc)
          (fun yld => iprop(⌜yld = R acc⌝ ∗ Trip2 (F := F) c arg4 arg7 W S)) } := by
  have hk : k.val < 19 := Nat.lt_of_lt_of_le k.isLt k0_t2_abs.2.1
  refine ⟨?_, fun E acc => ?run⟩
  case run =>
    unfold k0_t2_body
    iintro ⟨HW, HS⟩
    sl_exec
    sl_step
    sl_close

/-- The carried values before trip `k`. -/
def carry2 (v65 : Elt F .i32) (v66 : Elt F .i32) (k0_hw1 : k0_chk1 v65 v66) (c0_i32_40 : BitVec 32) (c1_i32_42 : BitVec 32) (k0_t1 : Fin (k0_t1_loop v66).trips) (v242 : Vec F S1x128x128 .f32) (v244 : Vec F S1x128x128 .f32) (v246 : Vec F S1x128x128 .f32) (v251 : Vec F S1x128x1 .f32) (v253 : Vec F S1x128x1 .f32)
    (W : BufTy.Contents (Elt F) arg4.view.ty) (S : BufTy.Contents (Elt F) arg7.view.ty) (init : Col F × Col F × Col F) (k : ℕ) : Col F × Col F × Col F :=
  Nat.rec init (fun k prev => if h : k < k0_t2_loop.trips then (trip2 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v65 v66 k0_hw1 c0_i32_40 c1_i32_42 k0_t1 v242 v244 v246 v251 v253 W S ⟨k, h⟩).1 prev else prev) k

theorem carry2_succ (v65 : Elt F .i32) (v66 : Elt F .i32) (k0_hw1 : k0_chk1 v65 v66) (c0_i32_40 : BitVec 32) (c1_i32_42 : BitVec 32) (k0_t1 : Fin (k0_t1_loop v66).trips) (v242 : Vec F S1x128x128 .f32) (v244 : Vec F S1x128x128 .f32) (v246 : Vec F S1x128x128 .f32) (v251 : Vec F S1x128x1 .f32) (v253 : Vec F S1x128x1 .f32)
    (W : BufTy.Contents (Elt F) arg4.view.ty) (S : BufTy.Contents (Elt F) arg7.view.ty) (init : Col F × Col F × Col F) (k : Fin k0_t2_loop.trips) :
    carry2 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v65 v66 k0_hw1 c0_i32_40 c1_i32_42 k0_t1 v242 v244 v246 v251 v253 W S init (k.val + 1) = (trip2 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v65 v66 k0_hw1 c0_i32_40 c1_i32_42 k0_t1 v242 v244 v246 v251 v253 W S k).1 (carry2 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v65 v66 k0_hw1 c0_i32_40 c1_i32_42 k0_t1 v242 v244 v246 v251 v253 W S init k.val) :=
  dif_pos k.isLt

set_option warn.classDefReducibility false in
@[sl_loop] def loopInv2 (v65 : Elt F .i32) (v66 : Elt F .i32) (k0_hw1 : k0_chk1 v65 v66) (c0_i32_40 : BitVec 32) (c1_i32_42 : BitVec 32) (k0_t1 : Fin (k0_t1_loop v66).trips) (v242 : Vec F S1x128x128 .f32) (v244 : Vec F S1x128x128 .f32) (v246 : Vec F S1x128x128 .f32) (v251 : Vec F S1x128x1 .f32) (v253 : Vec F S1x128x1 .f32)
    (W : BufTy.Contents (Elt F) arg4.view.ty) (S : BufTy.Contents (Elt F) arg7.view.ty) (init : Col F × Col F × Col F) :
    LoopInvTy_k0_t2 (F := F) Unit ℕ UU ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v65 v66 k0_hw1 c0_i32_40 c1_i32_42 k0_t1 v242 v244 v246 v251 v253 init where
  inv k acc := iprop((arg4.view.loc (c : Thread nD τ) ↦[arg4.view.set]{fullShare} W) ∗ (arg7.view.loc (c : Thread nD τ) ↦[arg7.view.set]{fullShare} S)
    ∗ ⌜acc = carry2 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v65 v66 k0_hw1 c0_i32_40 c1_i32_42 k0_t1 v242 v244 v246 v251 v253 W S init k⌝)
  step k acc := by
    iintro ⟨HW, HS, %h⟩
    subst h
    iapply (wp_wand_r Idealize.ShloMosaic.frame (wpE (defs₀ (F := F)) Variants.none (c : Thread nD τ) none) Set.univ)
    isplitl [HW HS]
    · iapply ((trip2 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v65 v66 k0_hw1 c0_i32_40 c1_i32_42 k0_t1 v242 v244 v246 v251 v253 W S k).2 Set.univ _)
      isplitl [HW]; · iexact HW
      iexact HS
    · iintro %yld ⟨%h, HW, HS⟩
      isplitl [HW]; · iexact HW
      isplitl [HS]; · iexact HS
      rw [carry2_succ]
      ipureintro; exact h

/-! ## The chunks of a table: loop 6 -/

/-- The table and its scales, as a trip reads them. -/
abbrev Trip6 (W : BufTy.Contents (Elt F) arg5.view.ty) (S : BufTy.Contents (Elt F) arg8.view.ty) : sProp 𝕄 :=
  iprop((arg5.view.loc (c : Thread nD τ) ↦[arg5.view.set]{fullShare} W) ∗ (arg8.view.loc (c : Thread nD τ) ↦[arg8.view.set]{fullShare} S))

/-- One trip: what it yields, as a function of what it is given. -/
@[irreducible] def trip6 (v90 : Elt F .i32) (v91 : Elt F .i32) (k0_hw2 : k0_chk2 v90 v91) (c0_i32_55 : BitVec 32) (c1_i32_57 : BitVec 32) (k0_t5 : Fin (k0_t5_loop v91).trips) (v242 : Vec F S1x128x128 .f32) (v246 : Vec F S1x128x1 .f32) (v248 : Vec F S1x128x1 .f32)
    (W : BufTy.Contents (Elt F) arg5.view.ty) (S : BufTy.Contents (Elt F) arg8.view.ty) (k : Fin k0_t6_loop.trips) :
    { R : (Col F × Col F × Col F) → Col F × Col F × Col F // ∀ (E : Set ℕ) (acc : Col F × Col F × Col F),
      Trip6 (F := F) c arg5 arg8 W S
      ⊢ wp frame (wpE (defs₀ (F := F)) Variants.none (c : Thread nD τ) none) E (k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v90 v91 k0_hw2 c0_i32_55 c1_i32_57 k0_t5 v242 v246 v248 k acc)
          (fun yld => iprop(⌜yld = R acc⌝ ∗ Trip6 (F := F) c arg5 arg8 W S)) } := by
  have hk : k.val < 78 := Nat.lt_of_lt_of_le k.isLt k0_t6_abs.2.1
  refine ⟨?_, fun E acc => ?run⟩
  case run =>
    unfold k0_t6_body
    iintro ⟨HW, HS⟩
    sl_exec
    sl_step
    sl_close

/-- The carried values before trip `k`. -/
def carry6 (v90 : Elt F .i32) (v91 : Elt F .i32) (k0_hw2 : k0_chk2 v90 v91) (c0_i32_55 : BitVec 32) (c1_i32_57 : BitVec 32) (k0_t5 : Fin (k0_t5_loop v91).trips) (v242 : Vec F S1x128x128 .f32) (v246 : Vec F S1x128x1 .f32) (v248 : Vec F S1x128x1 .f32)
    (W : BufTy.Contents (Elt F) arg5.view.ty) (S : BufTy.Contents (Elt F) arg8.view.ty) (init : Col F × Col F × Col F) (k : ℕ) : Col F × Col F × Col F :=
  Nat.rec init (fun k prev => if h : k < k0_t6_loop.trips then (trip6 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v90 v91 k0_hw2 c0_i32_55 c1_i32_57 k0_t5 v242 v246 v248 W S ⟨k, h⟩).1 prev else prev) k

theorem carry6_succ (v90 : Elt F .i32) (v91 : Elt F .i32) (k0_hw2 : k0_chk2 v90 v91) (c0_i32_55 : BitVec 32) (c1_i32_57 : BitVec 32) (k0_t5 : Fin (k0_t5_loop v91).trips) (v242 : Vec F S1x128x128 .f32) (v246 : Vec F S1x128x1 .f32) (v248 : Vec F S1x128x1 .f32)
    (W : BufTy.Contents (Elt F) arg5.view.ty) (S : BufTy.Contents (Elt F) arg8.view.ty) (init : Col F × Col F × Col F) (k : Fin k0_t6_loop.trips) :
    carry6 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v90 v91 k0_hw2 c0_i32_55 c1_i32_57 k0_t5 v242 v246 v248 W S init (k.val + 1) = (trip6 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v90 v91 k0_hw2 c0_i32_55 c1_i32_57 k0_t5 v242 v246 v248 W S k).1 (carry6 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v90 v91 k0_hw2 c0_i32_55 c1_i32_57 k0_t5 v242 v246 v248 W S init k.val) :=
  dif_pos k.isLt

set_option warn.classDefReducibility false in
@[sl_loop] def loopInv6 (v90 : Elt F .i32) (v91 : Elt F .i32) (k0_hw2 : k0_chk2 v90 v91) (c0_i32_55 : BitVec 32) (c1_i32_57 : BitVec 32) (k0_t5 : Fin (k0_t5_loop v91).trips) (v242 : Vec F S1x128x128 .f32) (v246 : Vec F S1x128x1 .f32) (v248 : Vec F S1x128x1 .f32)
    (W : BufTy.Contents (Elt F) arg5.view.ty) (S : BufTy.Contents (Elt F) arg8.view.ty) (init : Col F × Col F × Col F) :
    LoopInvTy_k0_t6 (F := F) Unit ℕ UU ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v90 v91 k0_hw2 c0_i32_55 c1_i32_57 k0_t5 v242 v246 v248 init where
  inv k acc := iprop((arg5.view.loc (c : Thread nD τ) ↦[arg5.view.set]{fullShare} W) ∗ (arg8.view.loc (c : Thread nD τ) ↦[arg8.view.set]{fullShare} S)
    ∗ ⌜acc = carry6 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v90 v91 k0_hw2 c0_i32_55 c1_i32_57 k0_t5 v242 v246 v248 W S init k⌝)
  step k acc := by
    iintro ⟨HW, HS, %h⟩
    subst h
    iapply (wp_wand_r Idealize.ShloMosaic.frame (wpE (defs₀ (F := F)) Variants.none (c : Thread nD τ) none) Set.univ)
    isplitl [HW HS]
    · iapply ((trip6 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v90 v91 k0_hw2 c0_i32_55 c1_i32_57 k0_t5 v242 v246 v248 W S k).2 Set.univ _)
      isplitl [HW]; · iexact HW
      iexact HS
    · iintro %yld ⟨%h, HW, HS⟩
      isplitl [HW]; · iexact HW
      isplitl [HS]; · iexact HS
      rw [carry6_succ]
      ipureintro; exact h

/-! ## The chunks of a table: loop 10 -/

/-- The table and its scales, as a trip reads them. -/
abbrev Trip10 (W : BufTy.Contents (Elt F) arg6.view.ty) (S : BufTy.Contents (Elt F) arg9.view.ty) : sProp 𝕄 :=
  iprop((arg6.view.loc (c : Thread nD τ) ↦[arg6.view.set]{fullShare} W) ∗ (arg9.view.loc (c : Thread nD τ) ↦[arg9.view.set]{fullShare} S))

/-- One trip: what it yields, as a function of what it is given. -/
@[irreducible] def trip10 (v115 : Elt F .i32) (v116 : Elt F .i32) (k0_hw3 : k0_chk3 v115 v116) (c0_i32_71 : BitVec 32) (c1_i32_73 : BitVec 32) (k0_t9 : Fin (k0_t9_loop v116).trips) (v242 : Vec F S1x128x128 .f32) (v246 : Vec F S1x128x1 .f32) (v248 : Vec F S1x128x1 .f32)
    (W : BufTy.Contents (Elt F) arg6.view.ty) (S : BufTy.Contents (Elt F) arg9.view.ty) (k : Fin k0_t10_loop.trips) :
    { R : (Col F × Col F × Col F) → Col F × Col F × Col F // ∀ (E : Set ℕ) (acc : Col F × Col F × Col F),
      Trip10 (F := F) c arg6 arg9 W S
      ⊢ wp frame (wpE (defs₀ (F := F)) Variants.none (c : Thread nD τ) none) E (k0_t10_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v115 v116 k0_hw3 c0_i32_71 c1_i32_73 k0_t9 v242 v246 v248 k acc)
          (fun yld => iprop(⌜yld = R acc⌝ ∗ Trip10 (F := F) c arg6 arg9 W S)) } := by
  have hk : k.val < 23 := Nat.lt_of_lt_of_le k.isLt k0_t10_abs.2.1
  refine ⟨?_, fun E acc => ?run⟩
  case run =>
    unfold k0_t10_body
    iintro ⟨HW, HS⟩
    sl_exec
    sl_step
    sl_close

/-- The carried values before trip `k`. -/
def carry10 (v115 : Elt F .i32) (v116 : Elt F .i32) (k0_hw3 : k0_chk3 v115 v116) (c0_i32_71 : BitVec 32) (c1_i32_73 : BitVec 32) (k0_t9 : Fin (k0_t9_loop v116).trips) (v242 : Vec F S1x128x128 .f32) (v246 : Vec F S1x128x1 .f32) (v248 : Vec F S1x128x1 .f32)
    (W : BufTy.Contents (Elt F) arg6.view.ty) (S : BufTy.Contents (Elt F) arg9.view.ty) (init : Col F × Col F × Col F) (k : ℕ) : Col F × Col F × Col F :=
  Nat.rec init (fun k prev => if h : k < k0_t10_loop.trips then (trip10 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v115 v116 k0_hw3 c0_i32_71 c1_i32_73 k0_t9 v242 v246 v248 W S ⟨k, h⟩).1 prev else prev) k

theorem carry10_succ (v115 : Elt F .i32) (v116 : Elt F .i32) (k0_hw3 : k0_chk3 v115 v116) (c0_i32_71 : BitVec 32) (c1_i32_73 : BitVec 32) (k0_t9 : Fin (k0_t9_loop v116).trips) (v242 : Vec F S1x128x128 .f32) (v246 : Vec F S1x128x1 .f32) (v248 : Vec F S1x128x1 .f32)
    (W : BufTy.Contents (Elt F) arg6.view.ty) (S : BufTy.Contents (Elt F) arg9.view.ty) (init : Col F × Col F × Col F) (k : Fin k0_t10_loop.trips) :
    carry10 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v115 v116 k0_hw3 c0_i32_71 c1_i32_73 k0_t9 v242 v246 v248 W S init (k.val + 1) = (trip10 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v115 v116 k0_hw3 c0_i32_71 c1_i32_73 k0_t9 v242 v246 v248 W S k).1 (carry10 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v115 v116 k0_hw3 c0_i32_71 c1_i32_73 k0_t9 v242 v246 v248 W S init k.val) :=
  dif_pos k.isLt

set_option warn.classDefReducibility false in
@[sl_loop] def loopInv10 (v115 : Elt F .i32) (v116 : Elt F .i32) (k0_hw3 : k0_chk3 v115 v116) (c0_i32_71 : BitVec 32) (c1_i32_73 : BitVec 32) (k0_t9 : Fin (k0_t9_loop v116).trips) (v242 : Vec F S1x128x128 .f32) (v246 : Vec F S1x128x1 .f32) (v248 : Vec F S1x128x1 .f32)
    (W : BufTy.Contents (Elt F) arg6.view.ty) (S : BufTy.Contents (Elt F) arg9.view.ty) (init : Col F × Col F × Col F) :
    LoopInvTy_k0_t10 (F := F) Unit ℕ UU ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v115 v116 k0_hw3 c0_i32_71 c1_i32_73 k0_t9 v242 v246 v248 init where
  inv k acc := iprop((arg6.view.loc (c : Thread nD τ) ↦[arg6.view.set]{fullShare} W) ∗ (arg9.view.loc (c : Thread nD τ) ↦[arg9.view.set]{fullShare} S)
    ∗ ⌜acc = carry10 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v115 v116 k0_hw3 c0_i32_71 c1_i32_73 k0_t9 v242 v246 v248 W S init k⌝)
  step k acc := by
    iintro ⟨HW, HS, %h⟩
    subst h
    iapply (wp_wand_r Idealize.ShloMosaic.frame (wpE (defs₀ (F := F)) Variants.none (c : Thread nD τ) none) Set.univ)
    isplitl [HW HS]
    · iapply ((trip10 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v115 v116 k0_hw3 c0_i32_71 c1_i32_73 k0_t9 v242 v246 v248 W S k).2 Set.univ _)
      isplitl [HW]; · iexact HW
      iexact HS
    · iintro %yld ⟨%h, HW, HS⟩
      isplitl [HW]; · iexact HW
      isplitl [HS]; · iexact HS
      rw [carry10_succ]
      ipureintro; exact h

/-! ## The loop that puts the rows back -/

/-- What a trip reads and what it writes. -/
abbrev Trip13 (X0 : BufTy.Contents (Elt F) arg0.view.ty) (X2 : BufTy.Contents (Elt F) arg2.view.ty) (X14 : BufTy.Contents (Elt F) arg14.view.ty) (X15 : BufTy.Contents (Elt F) arg15.view.ty) (f16 : BufTy.Contents (Elt F) arg16.view.ty) (f17 : BufTy.Contents (Elt F) arg17.view.ty) (f18 : BufTy.Contents (Elt F) arg18.view.ty) : sProp 𝕄 :=
  iprop((arg0.view.loc (c : Thread nD τ) ↦[arg0.view.set]{fullShare} X0) ∗ (arg2.view.loc (c : Thread nD τ) ↦[arg2.view.set]{fullShare} X2) ∗ (arg14.view.loc (c : Thread nD τ) ↦[arg14.view.set]{fullShare} X14) ∗ (arg15.view.loc (c : Thread nD τ) ↦[arg15.view.set]{fullShare} X15)
    ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18))

/-- One trip: the pieces it writes into the three results. -/
@[irreducible] def trip13 (v64 : IVec S128x128 32) (v115 : Elt F .i32) (X0 : BufTy.Contents (Elt F) arg0.view.ty) (X2 : BufTy.Contents (Elt F) arg2.view.ty) (X14 : BufTy.Contents (Elt F) arg14.view.ty) (X15 : BufTy.Contents (Elt F) arg15.view.ty) (k : Fin k0_t13_loop.trips)
    (hw4 : k0_chk4 (arg0.view.readAt (Elt F) (Rect.unit (s := S128x128) (k0_off26 k) S1x1.size (k0_off26_inb k)).toLoadRect X0 (Shape.Idx.first (numel1_S1x1.symm ▸ Nat.one_pos)))) (hw5 : k0_chk5 (arg0.view.readAt (Elt F) (Rect.unit (s := S128x128) (k0_off28 k) S1x1.size (k0_off28_inb k)).toLoadRect X0 (Shape.Idx.first (numel1_S1x1.symm ▸ Nat.one_pos)))) (hw6 : k0_chk6 (arg0.view.readAt (Elt F) (Rect.unit (s := S128x128) (k0_off30 k) S1x1.size (k0_off30_inb k)).toLoadRect X0 (Shape.Idx.first (numel1_S1x1.symm ▸ Nat.one_pos)))) :
    Σ' (L16 : List (View.Piece (Elt F) S128x128 .f32)) (L17 : List (View.Piece (Elt F) S128x128 .f32)), { L18 : List (View.Piece (Elt F) S128x128 .f32) // ∀ (E : Set ℕ) (f16 : BufTy.Contents (Elt F) arg16.view.ty) (f17 : BufTy.Contents (Elt F) arg17.view.ty) (f18 : BufTy.Contents (Elt F) arg18.view.ty),
      Trip13 (F := F) c arg0 arg2 arg14 arg15 arg16 arg17 arg18 X0 X2 X14 X15 f16 f17 f18
      ⊢ wp frame (wpE (defs₀ (F := F)) Variants.none (c : Thread nD τ) none) E (k0_t13_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 k PUnit.unit)
          (fun _ => Trip13 (F := F) c arg0 arg2 arg14 arg15 arg16 arg17 arg18 X0 X2 X14 X15 (arg16.view.writes (Elt F) f16 L16) (arg17.view.writes (Elt F) f17 L17) (arg18.view.writes (Elt F) f18 L18)) } := by
  have hk : k.val < 128 := Nat.lt_of_lt_of_le k.isLt k0_t13_abs.2.1
  refine ⟨?_, ?_, ?_, fun E f16 f17 f18 => ?run⟩
  case run =>
    unfold k0_t13_body
    iintro ⟨H0, H2, H14, H15, H16, H17, H18⟩
    sl_exec
    sl_step
    sl_close

/-- The pieces written before trip `k`, the last first. -/
def placed (v64 : IVec S128x128 32) (v115 : Elt F .i32) (X0 : BufTy.Contents (Elt F) arg0.view.ty) (X2 : BufTy.Contents (Elt F) arg2.view.ty) (X14 : BufTy.Contents (Elt F) arg14.view.ty) (X15 : BufTy.Contents (Elt F) arg15.view.ty)
    (hL4 : ∀ (kq : ℕ) (hkq : kq < k0_t13_loop.trips), k0_chk4 (arg0.view.readAt (Elt F) (Rect.unit (s := S128x128) (k0_off26 ⟨kq, hkq⟩) S1x1.size (k0_off26_inb ⟨kq, hkq⟩)).toLoadRect X0 (Shape.Idx.first (numel1_S1x1.symm ▸ Nat.one_pos))))
    (hL5 : ∀ (kq : ℕ) (hkq : kq < k0_t13_loop.trips), k0_chk5 (arg0.view.readAt (Elt F) (Rect.unit (s := S128x128) (k0_off28 ⟨kq, hkq⟩) S1x1.size (k0_off28_inb ⟨kq, hkq⟩)).toLoadRect X0 (Shape.Idx.first (numel1_S1x1.symm ▸ Nat.one_pos))))
    (hL6 : ∀ (kq : ℕ) (hkq : kq < k0_t13_loop.trips), k0_chk6 (arg0.view.readAt (Elt F) (Rect.unit (s := S128x128) (k0_off30 ⟨kq, hkq⟩) S1x1.size (k0_off30_inb ⟨kq, hkq⟩)).toLoadRect X0 (Shape.Idx.first (numel1_S1x1.symm ▸ Nat.one_pos))))
    (k : ℕ) : List (View.Piece (Elt F) S128x128 .f32) × List (View.Piece (Elt F) S128x128 .f32) × List (View.Piece (Elt F) S128x128 .f32) :=
  Nat.rec ([], [], []) (fun k prev => if h : k < k0_t13_loop.trips then
    ((trip13 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 X0 X2 X14 X15 ⟨k, h⟩ (hL4 k h) (hL5 k h) (hL6 k h)).1 ++ prev.1,
      (trip13 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 X0 X2 X14 X15 ⟨k, h⟩ (hL4 k h) (hL5 k h) (hL6 k h)).2.1 ++ prev.2.1,
      (trip13 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 X0 X2 X14 X15 ⟨k, h⟩ (hL4 k h) (hL5 k h) (hL6 k h)).2.2.1 ++ prev.2.2) else prev) k

theorem placed_succ (v64 : IVec S128x128 32) (v115 : Elt F .i32) (X0 : BufTy.Contents (Elt F) arg0.view.ty) (X2 : BufTy.Contents (Elt F) arg2.view.ty) (X14 : BufTy.Contents (Elt F) arg14.view.ty) (X15 : BufTy.Contents (Elt F) arg15.view.ty)
    (hL4 : ∀ (kq : ℕ) (hkq : kq < k0_t13_loop.trips), k0_chk4 (arg0.view.readAt (Elt F) (Rect.unit (s := S128x128) (k0_off26 ⟨kq, hkq⟩) S1x1.size (k0_off26_inb ⟨kq, hkq⟩)).toLoadRect X0 (Shape.Idx.first (numel1_S1x1.symm ▸ Nat.one_pos))))
    (hL5 : ∀ (kq : ℕ) (hkq : kq < k0_t13_loop.trips), k0_chk5 (arg0.view.readAt (Elt F) (Rect.unit (s := S128x128) (k0_off28 ⟨kq, hkq⟩) S1x1.size (k0_off28_inb ⟨kq, hkq⟩)).toLoadRect X0 (Shape.Idx.first (numel1_S1x1.symm ▸ Nat.one_pos))))
    (hL6 : ∀ (kq : ℕ) (hkq : kq < k0_t13_loop.trips), k0_chk6 (arg0.view.readAt (Elt F) (Rect.unit (s := S128x128) (k0_off30 ⟨kq, hkq⟩) S1x1.size (k0_off30_inb ⟨kq, hkq⟩)).toLoadRect X0 (Shape.Idx.first (numel1_S1x1.symm ▸ Nat.one_pos))))
    (k : Fin k0_t13_loop.trips) :
    placed c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 X0 X2 X14 X15 hL4 hL5 hL6 (k.val + 1) =
    ((trip13 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 X0 X2 X14 X15 k (hL4 k.val k.isLt) (hL5 k.val k.isLt) (hL6 k.val k.isLt)).1 ++ (placed c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 X0 X2 X14 X15 hL4 hL5 hL6 k.val).1,
      (trip13 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 X0 X2 X14 X15 k (hL4 k.val k.isLt) (hL5 k.val k.isLt) (hL6 k.val k.isLt)).2.1 ++ (placed c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 X0 X2 X14 X15 hL4 hL5 hL6 k.val).2.1,
      (trip13 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 X0 X2 X14 X15 k (hL4 k.val k.isLt) (hL5 k.val k.isLt) (hL6 k.val k.isLt)).2.2.1 ++ (placed c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 X0 X2 X14 X15 hL4 hL5 hL6 k.val).2.2) :=
  dif_pos k.isLt

set_option warn.classDefReducibility false in
@[sl_loop] def loopInv13 (v64 : IVec S128x128 32) (v115 : Elt F .i32) (X0 : BufTy.Contents (Elt F) arg0.view.ty) (X2 : BufTy.Contents (Elt F) arg2.view.ty) (X14 : BufTy.Contents (Elt F) arg14.view.ty) (X15 : BufTy.Contents (Elt F) arg15.view.ty)
    (G16 : BufTy.Contents (Elt F) arg16.view.ty) (G17 : BufTy.Contents (Elt F) arg17.view.ty) (G18 : BufTy.Contents (Elt F) arg18.view.ty)
    (hL4 : ∀ (kq : ℕ) (hkq : kq < k0_t13_loop.trips), k0_chk4 (arg0.view.readAt (Elt F) (Rect.unit (s := S128x128) (k0_off26 ⟨kq, hkq⟩) S1x1.size (k0_off26_inb ⟨kq, hkq⟩)).toLoadRect X0 (Shape.Idx.first (numel1_S1x1.symm ▸ Nat.one_pos))))
    (hL5 : ∀ (kq : ℕ) (hkq : kq < k0_t13_loop.trips), k0_chk5 (arg0.view.readAt (Elt F) (Rect.unit (s := S128x128) (k0_off28 ⟨kq, hkq⟩) S1x1.size (k0_off28_inb ⟨kq, hkq⟩)).toLoadRect X0 (Shape.Idx.first (numel1_S1x1.symm ▸ Nat.one_pos))))
    (hL6 : ∀ (kq : ℕ) (hkq : kq < k0_t13_loop.trips), k0_chk6 (arg0.view.readAt (Elt F) (Rect.unit (s := S128x128) (k0_off30 ⟨kq, hkq⟩) S1x1.size (k0_off30_inb ⟨kq, hkq⟩)).toLoadRect X0 (Shape.Idx.first (numel1_S1x1.symm ▸ Nat.one_pos)))) :
    LoopInvTy_k0_t13 (F := F) Unit ℕ UU ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 where
  inv k _ := iprop((arg0.view.loc (c : Thread nD τ) ↦[arg0.view.set]{fullShare} X0) ∗ (arg2.view.loc (c : Thread nD τ) ↦[arg2.view.set]{fullShare} X2) ∗ (arg14.view.loc (c : Thread nD τ) ↦[arg14.view.set]{fullShare} X14) ∗ (arg15.view.loc (c : Thread nD τ) ↦[arg15.view.set]{fullShare} X15)
    ∗ (∃ f, (arg16.view.loc (c : Thread nD τ) ↦[arg16.view.set]{fullShare} f) ∗ ⌜f = arg16.view.writes (Elt F) G16 (placed c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 X0 X2 X14 X15 hL4 hL5 hL6 k).1⌝)
    ∗ (∃ f, (arg17.view.loc (c : Thread nD τ) ↦[arg17.view.set]{fullShare} f) ∗ ⌜f = arg17.view.writes (Elt F) G17 (placed c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 X0 X2 X14 X15 hL4 hL5 hL6 k).2.1⌝)
    ∗ (∃ f, (arg18.view.loc (c : Thread nD τ) ↦[arg18.view.set]{fullShare} f) ∗ ⌜f = arg18.view.writes (Elt F) G18 (placed c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 X0 X2 X14 X15 hL4 hL5 hL6 k).2.2⌝))
  step k acc := by
    iintro ⟨H0, H2, H14, H15, ⟨%f16, H16, %e16⟩, ⟨%f17, H17, %e17⟩, ⟨%f18, H18, %e18⟩⟩
    iapply (wp_wand_r Idealize.ShloMosaic.frame (wpE (defs₀ (F := F)) Variants.none (c : Thread nD τ) none) Set.univ)
    isplitl [H0 H2 H14 H15 H16 H17 H18]
    · iapply ((trip13 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 X0 X2 X14 X15 k (hL4 k.val k.isLt) (hL5 k.val k.isLt) (hL6 k.val k.isLt)).2.2.2 Set.univ f16 f17 f18)
      isplitl [H0]; · iexact H0
      isplitl [H2]; · iexact H2
      isplitl [H14]; · iexact H14
      isplitl [H15]; · iexact H15
      isplitl [H16]; · iexact H16
      isplitl [H17]; · iexact H17
      iexact H18
    · iintro %_ ⟨H0, H2, H14, H15, H16, H17, H18⟩
      isplitl [H0]; · iexact H0
      isplitl [H2]; · iexact H2
      isplitl [H14]; · iexact H14
      isplitl [H15]; · iexact H15
      rw [placed_succ]
      isplitl [H16]
      · iexists _; isplitl [H16]; · iexact H16
        ipureintro; rw [e16, ← View.writes_append]
      isplitl [H17]
      · iexists _; isplitl [H17]; · iexact H17
        ipureintro; rw [e17, ← View.writes_append]
      iexists _; isplitl [H18]; · iexact H18
      ipureintro; rw [e18, ← View.writes_append]

end

end Cert.Tail.Run

end
-- ==== Proof.TailBits.Outer.lean ====
/- The loops over the tiles of a bucket: each fetches a tile of hidden rows and writes one block of results. -/
module

public import proofs.«01_k».proof.Proof.TailBits.Loops

@[expose] public section

set_option maxRecDepth 8192
set_option maxHeartbeats 4000000

noncomputable section

namespace Cert.Tail.Run

open Cert.Tail Cert.Tail.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section

variable (c : Dev nD)
variable (arg0 : Memref sig .tc .smem S128x128 .i32)
  (harg0 : arg0.IsWhole)
  (arg1 : Memref sig .tc .vmem S8x2048 .i32)
  (harg1 : arg1.IsWhole)
  (arg2 : Memref sig .tc .vmem S128x128 .i32)
  (harg2 : arg2.IsWhole)
  (arg3 : Memref sig .tc .hbm S3x16896x128 .f32)
  (harg3 : arg3.IsWhole)
  (arg4 : Memref sig .tc .vmem S320x40000 .i8)
  (harg4 : arg4.IsWhole)
  (arg5 : Memref sig .tc .vmem S80x160000 .i8)
  (harg5 : arg5.IsWhole)
  (arg6 : Memref sig .tc .vmem S20x47735 .i8)
  (harg6 : arg6.IsWhole)
  (arg7 : Memref sig .tc .vmem S1x40000 .f32)
  (harg7 : arg7.IsWhole)
  (arg8 : Memref sig .tc .vmem S1x160000 .f32)
  (harg8 : arg8.IsWhole)
  (arg9 : Memref sig .tc .vmem S1x47735 .f32)
  (harg9 : arg9.IsWhole)
  (arg10 : Memref sig .tc .vmem S8x2048 .f32)
  (harg10 : arg10.IsWhole)
  (arg11 : Memref sig .tc .vmem S8x2048 .f32)
  (harg11 : arg11.IsWhole)
  (arg12 : Memref sig .tc .vmem S8x2048 .f32)
  (harg12 : arg12.IsWhole)
  (arg13 : Memref sig .tc .vmem S3x128x128 .f32)
  (harg13 : arg13.IsWhole)
  (arg14 : Memref sig .tc .vmem S132x8x128 .f32)
  (harg14 : arg14.IsWhole)
  (arg15 : Memref sig .tc .vmem S128x128 .i32)
  (harg15 : arg15.IsWhole)
  (arg16 : Memref sig .tc .vmem S128x128 .f32)
  (harg16 : arg16.IsWhole)
  (arg17 : Memref sig .tc .vmem S128x128 .f32)
  (harg17 : arg17.IsWhole)
  (arg18 : Memref sig .tc .vmem S128x128 .f32)
  (harg18 : arg18.IsWhole)
  (arg19 : DmaSems sig S_)

/-! ## The tiles of a bucket: loop 1 -/

/-- One trip: the pieces it writes into the scratch of results. -/
@[irreducible] def trip1 (v64 : IVec S128x128 32) (v65 : Elt F .i32) (v66 : Elt F .i32) (k0_hw1 : k0_chk1 v65 v66) (v84 : BitVec 32) (c0_i32_40 : BitVec 32) (X3 : BufTy.Contents (Elt F) arg3.view.ty) (W : BufTy.Contents (Elt F) arg4.view.ty) (S : BufTy.Contents (Elt F) arg7.view.ty)
    (k : Fin (k0_t1_loop v66).trips) :
    { L : List (View.Piece (Elt F) S132x8x128 .f32) // ∀ (O : Waits sig Unit) (f13 : BufTy.Contents (Elt F) arg13.view.ty) (f14 : BufTy.Contents (Elt F) arg14.view.ty),
      (iprop((arg3.view.loc (c : Thread nD τ) ↦[arg3.view.set]{fullShare} X3) ∗ (arg4.view.loc (c : Thread nD τ) ↦[arg4.view.set]{fullShare} W) ∗ (arg7.view.loc (c : Thread nD τ) ↦[arg7.view.set]{fullShare} S) ∗ (arg13.view.loc (c : Thread nD τ) ↦[arg13.view.set]{fullShare} f13) ∗ (arg14.view.loc (c : Thread nD τ) ↦[arg14.view.set]{fullShare} f14) ∗ semVal ((c : Thread nD τ), SemLoc.dma arg19.sem) 0 ∗ owes (c : Thread nD τ) 0 O) : sProp 𝕄)
      ⊢ wp frame (wpE (defs₀ (F := F)) Variants.none (c : Thread nD τ) none) Set.univ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v65 v66 k0_hw1 v84 c0_i32_40 k ())
          (fun _ => iprop((arg3.view.loc (c : Thread nD τ) ↦[arg3.view.set]{fullShare} X3) ∗ (arg4.view.loc (c : Thread nD τ) ↦[arg4.view.set]{fullShare} W) ∗ (arg7.view.loc (c : Thread nD τ) ↦[arg7.view.set]{fullShare} S) ∗ (∃ f, (arg13.view.loc (c : Thread nD τ) ↦[arg13.view.set]{fullShare} f)) ∗ (arg14.view.loc (c : Thread nD τ) ↦[arg14.view.set]{fullShare} (arg14.view.writes (Elt F) f14 L)) ∗ semVal ((c : Thread nD τ), SemLoc.dma arg19.sem) 0 ∗ ∃ O', owes (c : Thread nD τ) 0 O')) } := by
  refine ⟨?_, fun O f13 f14 => ?run⟩
  case run =>
    unfold k0_t1_body
    iintro ⟨H3, HW, HS, H13, H14, Hsem, HO⟩
    sl_exec
    sl_step
    sl_close

/-- The pieces written before trip `k`, the last first. -/
def tiled1 (v64 : IVec S128x128 32) (v65 : Elt F .i32) (v66 : Elt F .i32) (k0_hw1 : k0_chk1 v65 v66) (v84 : BitVec 32) (c0_i32_40 : BitVec 32) (X3 : BufTy.Contents (Elt F) arg3.view.ty) (W : BufTy.Contents (Elt F) arg4.view.ty) (S : BufTy.Contents (Elt F) arg7.view.ty) (k : ℕ) : List (View.Piece (Elt F) S132x8x128 .f32) :=
  Nat.rec [] (fun k prev => if h : k < (k0_t1_loop v66).trips then (trip1 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v65 v66 k0_hw1 v84 c0_i32_40 X3 W S ⟨k, h⟩).1 ++ prev else prev) k

theorem tiled1_succ (v64 : IVec S128x128 32) (v65 : Elt F .i32) (v66 : Elt F .i32) (k0_hw1 : k0_chk1 v65 v66) (v84 : BitVec 32) (c0_i32_40 : BitVec 32) (X3 : BufTy.Contents (Elt F) arg3.view.ty) (W : BufTy.Contents (Elt F) arg4.view.ty) (S : BufTy.Contents (Elt F) arg7.view.ty) (k : Fin (k0_t1_loop v66).trips) :
    tiled1 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v65 v66 k0_hw1 v84 c0_i32_40 X3 W S (k.val + 1) = (trip1 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v65 v66 k0_hw1 v84 c0_i32_40 X3 W S k).1 ++ tiled1 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v65 v66 k0_hw1 v84 c0_i32_40 X3 W S k.val :=
  dif_pos k.isLt

set_option warn.classDefReducibility false in
@[sl_loop] def loopInv1 (v64 : IVec S128x128 32) (v65 : Elt F .i32) (v66 : Elt F .i32) (k0_hw1 : k0_chk1 v65 v66) (v84 : BitVec 32) (c0_i32_40 : BitVec 32) (X3 : BufTy.Contents (Elt F) arg3.view.ty) (W : BufTy.Contents (Elt F) arg4.view.ty) (S : BufTy.Contents (Elt F) arg7.view.ty)
    (G14 : BufTy.Contents (Elt F) arg14.view.ty) :
    LoopInvTy_k0_t1 (F := F) Unit ℕ UU ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v65 v66 k0_hw1 v84 c0_i32_40 where
  inv k _ := iprop((arg3.view.loc (c : Thread nD τ) ↦[arg3.view.set]{fullShare} X3) ∗ (arg4.view.loc (c : Thread nD τ) ↦[arg4.view.set]{fullShare} W) ∗ (arg7.view.loc (c : Thread nD τ) ↦[arg7.view.set]{fullShare} S) ∗ (∃ f, (arg13.view.loc (c : Thread nD τ) ↦[arg13.view.set]{fullShare} f)) ∗ (∃ f, (arg14.view.loc (c : Thread nD τ) ↦[arg14.view.set]{fullShare} f) ∗ ⌜f = arg14.view.writes (Elt F) G14 (tiled1 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v65 v66 k0_hw1 v84 c0_i32_40 X3 W S k)⌝)
    ∗ semVal ((c : Thread nD τ), SemLoc.dma arg19.sem) 0 ∗ ∃ O, owes (c : Thread nD τ) 0 O)
  step k acc := by
    iintro ⟨H3, HW, HS, ⟨%f13, H13⟩, ⟨%f14, H14, %e⟩, Hsem, ⟨%O, HO⟩⟩
    iapply (wp_wand_r Idealize.ShloMosaic.frame (wpE (defs₀ (F := F)) Variants.none (c : Thread nD τ) none) Set.univ)
    isplitl [H3 HW HS H13 H14 Hsem HO]
    · iapply ((trip1 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v65 v66 k0_hw1 v84 c0_i32_40 X3 W S k).2 O f13 f14)
      isplitl [H3]; · iexact H3
      isplitl [HW]; · iexact HW
      isplitl [HS]; · iexact HS
      isplitl [H13]; · iexact H13
      isplitl [H14]; · iexact H14
      isplitl [Hsem]; · iexact Hsem
      iexact HO
    · iintro %_ ⟨H3, HW, HS, H13, H14, Hsem, HO⟩
      isplitl [H3]; · iexact H3
      isplitl [HW]; · iexact HW
      isplitl [HS]; · iexact HS
      isplitl [H13]; · iexact H13
      rw [tiled1_succ]
      isplitl [H14]
      · iexists _; isplitl [H14]; · iexact H14
        ipureintro; rw [e, ← View.writes_append]
      isplitl [Hsem]; · iexact Hsem
      iexact HO

set_option warn.classDefReducibility false in
/-- The loop over what the unrolling leaves makes no trip. -/
@[sl_loop] def loopInv3 (v64 : IVec S128x128 32) (v65 : Elt F .i32) (v66 : Elt F .i32) (k0_hw1 : k0_chk1 v65 v66) (v84 : BitVec 32) (c0_i32_40 : BitVec 32) (v89 : BitVec 32) :
    LoopInvTy_k0_t3 (F := F) Unit ℕ UU ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v65 v66 k0_hw1 v84 c0_i32_40 v89 where
  inv _ _ := iprop(emp)
  step k acc := (no_trip _ k).elim

/-! ## The tiles of a bucket: loop 5 -/

/-- One trip: the pieces it writes into the scratch of results. -/
@[irreducible] def trip5 (v64 : IVec S128x128 32) (v65 : Elt F .i32) (v66 : Elt F .i32) (k0_hw1 : k0_chk1 v65 v66) (v84 : BitVec 32) (c0_i32_40 : BitVec 32) (v90 : Elt F .i32) (v91 : Elt F .i32) (k0_hw2 : k0_chk2 v90 v91) (X3 : BufTy.Contents (Elt F) arg3.view.ty) (W : BufTy.Contents (Elt F) arg5.view.ty) (S : BufTy.Contents (Elt F) arg8.view.ty)
    (k : Fin (k0_t5_loop v91).trips) :
    { L : List (View.Piece (Elt F) S132x8x128 .f32) // ∀ (O : Waits sig Unit) (f13 : BufTy.Contents (Elt F) arg13.view.ty) (f14 : BufTy.Contents (Elt F) arg14.view.ty),
      (iprop((arg3.view.loc (c : Thread nD τ) ↦[arg3.view.set]{fullShare} X3) ∗ (arg5.view.loc (c : Thread nD τ) ↦[arg5.view.set]{fullShare} W) ∗ (arg8.view.loc (c : Thread nD τ) ↦[arg8.view.set]{fullShare} S) ∗ (arg13.view.loc (c : Thread nD τ) ↦[arg13.view.set]{fullShare} f13) ∗ (arg14.view.loc (c : Thread nD τ) ↦[arg14.view.set]{fullShare} f14) ∗ semVal ((c : Thread nD τ), SemLoc.dma arg19.sem) 0 ∗ owes (c : Thread nD τ) 0 O) : sProp 𝕄)
      ⊢ wp frame (wpE (defs₀ (F := F)) Variants.none (c : Thread nD τ) none) Set.univ (k0_t5_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v65 v66 k0_hw1 v84 c0_i32_40 v90 v91 k0_hw2 k ())
          (fun _ => iprop((arg3.view.loc (c : Thread nD τ) ↦[arg3.view.set]{fullShare} X3) ∗ (arg5.view.loc (c : Thread nD τ) ↦[arg5.view.set]{fullShare} W) ∗ (arg8.view.loc (c : Thread nD τ) ↦[arg8.view.set]{fullShare} S) ∗ (∃ f, (arg13.view.loc (c : Thread nD τ) ↦[arg13.view.set]{fullShare} f)) ∗ (arg14.view.loc (c : Thread nD τ) ↦[arg14.view.set]{fullShare} (arg14.view.writes (Elt F) f14 L)) ∗ semVal ((c : Thread nD τ), SemLoc.dma arg19.sem) 0 ∗ ∃ O', owes (c : Thread nD τ) 0 O')) } := by
  refine ⟨?_, fun O f13 f14 => ?run⟩
  case run =>
    unfold k0_t5_body
    iintro ⟨H3, HW, HS, H13, H14, Hsem, HO⟩
    sl_exec
    sl_step
    sl_close

/-- The pieces written before trip `k`, the last first. -/
def tiled5 (v64 : IVec S128x128 32) (v65 : Elt F .i32) (v66 : Elt F .i32) (k0_hw1 : k0_chk1 v65 v66) (v84 : BitVec 32) (c0_i32_40 : BitVec 32) (v90 : Elt F .i32) (v91 : Elt F .i32) (k0_hw2 : k0_chk2 v90 v91) (X3 : BufTy.Contents (Elt F) arg3.view.ty) (W : BufTy.Contents (Elt F) arg5.view.ty) (S : BufTy.Contents (Elt F) arg8.view.ty) (k : ℕ) : List (View.Piece (Elt F) S132x8x128 .f32) :=
  Nat.rec [] (fun k prev => if h : k < (k0_t5_loop v91).trips then (trip5 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v65 v66 k0_hw1 v84 c0_i32_40 v90 v91 k0_hw2 X3 W S ⟨k, h⟩).1 ++ prev else prev) k

theorem tiled5_succ (v64 : IVec S128x128 32) (v65 : Elt F .i32) (v66 : Elt F .i32) (k0_hw1 : k0_chk1 v65 v66) (v84 : BitVec 32) (c0_i32_40 : BitVec 32) (v90 : Elt F .i32) (v91 : Elt F .i32) (k0_hw2 : k0_chk2 v90 v91) (X3 : BufTy.Contents (Elt F) arg3.view.ty) (W : BufTy.Contents (Elt F) arg5.view.ty) (S : BufTy.Contents (Elt F) arg8.view.ty) (k : Fin (k0_t5_loop v91).trips) :
    tiled5 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v65 v66 k0_hw1 v84 c0_i32_40 v90 v91 k0_hw2 X3 W S (k.val + 1) = (trip5 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v65 v66 k0_hw1 v84 c0_i32_40 v90 v91 k0_hw2 X3 W S k).1 ++ tiled5 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v65 v66 k0_hw1 v84 c0_i32_40 v90 v91 k0_hw2 X3 W S k.val :=
  dif_pos k.isLt

set_option warn.classDefReducibility false in
@[sl_loop] def loopInv5 (v64 : IVec S128x128 32) (v65 : Elt F .i32) (v66 : Elt F .i32) (k0_hw1 : k0_chk1 v65 v66) (v84 : BitVec 32) (c0_i32_40 : BitVec 32) (v90 : Elt F .i32) (v91 : Elt F .i32) (k0_hw2 : k0_chk2 v90 v91) (X3 : BufTy.Contents (Elt F) arg3.view.ty) (W : BufTy.Contents (Elt F) arg5.view.ty) (S : BufTy.Contents (Elt F) arg8.view.ty)
    (G14 : BufTy.Contents (Elt F) arg14.view.ty) :
    LoopInvTy_k0_t5 (F := F) Unit ℕ UU ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v65 v66 k0_hw1 v84 c0_i32_40 v90 v91 k0_hw2 where
  inv k _ := iprop((arg3.view.loc (c : Thread nD τ) ↦[arg3.view.set]{fullShare} X3) ∗ (arg5.view.loc (c : Thread nD τ) ↦[arg5.view.set]{fullShare} W) ∗ (arg8.view.loc (c : Thread nD τ) ↦[arg8.view.set]{fullShare} S) ∗ (∃ f, (arg13.view.loc (c : Thread nD τ) ↦[arg13.view.set]{fullShare} f)) ∗ (∃ f, (arg14.view.loc (c : Thread nD τ) ↦[arg14.view.set]{fullShare} f) ∗ ⌜f = arg14.view.writes (Elt F) G14 (tiled5 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v65 v66 k0_hw1 v84 c0_i32_40 v90 v91 k0_hw2 X3 W S k)⌝)
    ∗ semVal ((c : Thread nD τ), SemLoc.dma arg19.sem) 0 ∗ ∃ O, owes (c : Thread nD τ) 0 O)
  step k acc := by
    iintro ⟨H3, HW, HS, ⟨%f13, H13⟩, ⟨%f14, H14, %e⟩, Hsem, ⟨%O, HO⟩⟩
    iapply (wp_wand_r Idealize.ShloMosaic.frame (wpE (defs₀ (F := F)) Variants.none (c : Thread nD τ) none) Set.univ)
    isplitl [H3 HW HS H13 H14 Hsem HO]
    · iapply ((trip5 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v65 v66 k0_hw1 v84 c0_i32_40 v90 v91 k0_hw2 X3 W S k).2 O f13 f14)
      isplitl [H3]; · iexact H3
      isplitl [HW]; · iexact HW
      isplitl [HS]; · iexact HS
      isplitl [H13]; · iexact H13
      isplitl [H14]; · iexact H14
      isplitl [Hsem]; · iexact Hsem
      iexact HO
    · iintro %_ ⟨H3, HW, HS, H13, H14, Hsem, HO⟩
      isplitl [H3]; · iexact H3
      isplitl [HW]; · iexact HW
      isplitl [HS]; · iexact HS
      isplitl [H13]; · iexact H13
      rw [tiled5_succ]
      isplitl [H14]
      · iexists _; isplitl [H14]; · iexact H14
        ipureintro; rw [e, ← View.writes_append]
      isplitl [Hsem]; · iexact Hsem
      iexact HO

set_option warn.classDefReducibility false in
/-- The loop over what the unrolling leaves makes no trip. -/
@[sl_loop] def loopInv7 (v64 : IVec S128x128 32) (v65 : Elt F .i32) (v66 : Elt F .i32) (k0_hw1 : k0_chk1 v65 v66) (v84 : BitVec 32) (c0_i32_40 : BitVec 32) (v90 : Elt F .i32) (v91 : Elt F .i32) (k0_hw2 : k0_chk2 v90 v91) (v114 : BitVec 32) :
    LoopInvTy_k0_t7 (F := F) Unit ℕ UU ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v65 v66 k0_hw1 v84 c0_i32_40 v90 v91 k0_hw2 v114 where
  inv _ _ := iprop(emp)
  step k acc := (no_trip _ k).elim

/-! ## The tiles of a bucket: loop 9 -/

/-- One trip: the pieces it writes into the scratch of results. -/
@[irreducible] def trip9 (v64 : IVec S128x128 32) (v115 : Elt F .i32) (v116 : Elt F .i32) (k0_hw3 : k0_chk3 v115 v116) (X3 : BufTy.Contents (Elt F) arg3.view.ty) (W : BufTy.Contents (Elt F) arg6.view.ty) (S : BufTy.Contents (Elt F) arg9.view.ty)
    (k : Fin (k0_t9_loop v116).trips) :
    { L : List (View.Piece (Elt F) S132x8x128 .f32) // ∀ (O : Waits sig Unit) (f13 : BufTy.Contents (Elt F) arg13.view.ty) (f14 : BufTy.Contents (Elt F) arg14.view.ty),
      (iprop((arg3.view.loc (c : Thread nD τ) ↦[arg3.view.set]{fullShare} X3) ∗ (arg6.view.loc (c : Thread nD τ) ↦[arg6.view.set]{fullShare} W) ∗ (arg9.view.loc (c : Thread nD τ) ↦[arg9.view.set]{fullShare} S) ∗ (arg13.view.loc (c : Thread nD τ) ↦[arg13.view.set]{fullShare} f13) ∗ (arg14.view.loc (c : Thread nD τ) ↦[arg14.view.set]{fullShare} f14) ∗ semVal ((c : Thread nD τ), SemLoc.dma arg19.sem) 0 ∗ owes (c : Thread nD τ) 0 O) : sProp 𝕄)
      ⊢ wp frame (wpE (defs₀ (F := F)) Variants.none (c : Thread nD τ) none) Set.univ (k0_t9_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 v116 k0_hw3 k ())
          (fun _ => iprop((arg3.view.loc (c : Thread nD τ) ↦[arg3.view.set]{fullShare} X3) ∗ (arg6.view.loc (c : Thread nD τ) ↦[arg6.view.set]{fullShare} W) ∗ (arg9.view.loc (c : Thread nD τ) ↦[arg9.view.set]{fullShare} S) ∗ (∃ f, (arg13.view.loc (c : Thread nD τ) ↦[arg13.view.set]{fullShare} f)) ∗ (arg14.view.loc (c : Thread nD τ) ↦[arg14.view.set]{fullShare} (arg14.view.writes (Elt F) f14 L)) ∗ semVal ((c : Thread nD τ), SemLoc.dma arg19.sem) 0 ∗ ∃ O', owes (c : Thread nD τ) 0 O')) } := by
  refine ⟨?_, fun O f13 f14 => ?run⟩
  case run =>
    unfold k0_t9_body
    iintro ⟨H3, HW, HS, H13, H14, Hsem, HO⟩
    sl_exec
    sl_step
    sl_close

/-- The pieces written before trip `k`, the last first. -/
def tiled9 (v64 : IVec S128x128 32) (v115 : Elt F .i32) (v116 : Elt F .i32) (k0_hw3 : k0_chk3 v115 v116) (X3 : BufTy.Contents (Elt F) arg3.view.ty) (W : BufTy.Contents (Elt F) arg6.view.ty) (S : BufTy.Contents (Elt F) arg9.view.ty) (k : ℕ) : List (View.Piece (Elt F) S132x8x128 .f32) :=
  Nat.rec [] (fun k prev => if h : k < (k0_t9_loop v116).trips then (trip9 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 v116 k0_hw3 X3 W S ⟨k, h⟩).1 ++ prev else prev) k

theorem tiled9_succ (v64 : IVec S128x128 32) (v115 : Elt F .i32) (v116 : Elt F .i32) (k0_hw3 : k0_chk3 v115 v116) (X3 : BufTy.Contents (Elt F) arg3.view.ty) (W : BufTy.Contents (Elt F) arg6.view.ty) (S : BufTy.Contents (Elt F) arg9.view.ty) (k : Fin (k0_t9_loop v116).trips) :
    tiled9 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 v116 k0_hw3 X3 W S (k.val + 1) = (trip9 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 v116 k0_hw3 X3 W S k).1 ++ tiled9 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 v116 k0_hw3 X3 W S k.val :=
  dif_pos k.isLt

set_option warn.classDefReducibility false in
@[sl_loop] def loopInv9 (v64 : IVec S128x128 32) (v115 : Elt F .i32) (v116 : Elt F .i32) (k0_hw3 : k0_chk3 v115 v116) (X3 : BufTy.Contents (Elt F) arg3.view.ty) (W : BufTy.Contents (Elt F) arg6.view.ty) (S : BufTy.Contents (Elt F) arg9.view.ty)
    (G14 : BufTy.Contents (Elt F) arg14.view.ty) :
    LoopInvTy_k0_t9 (F := F) Unit ℕ UU ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 v116 k0_hw3 where
  inv k _ := iprop((arg3.view.loc (c : Thread nD τ) ↦[arg3.view.set]{fullShare} X3) ∗ (arg6.view.loc (c : Thread nD τ) ↦[arg6.view.set]{fullShare} W) ∗ (arg9.view.loc (c : Thread nD τ) ↦[arg9.view.set]{fullShare} S) ∗ (∃ f, (arg13.view.loc (c : Thread nD τ) ↦[arg13.view.set]{fullShare} f)) ∗ (∃ f, (arg14.view.loc (c : Thread nD τ) ↦[arg14.view.set]{fullShare} f) ∗ ⌜f = arg14.view.writes (Elt F) G14 (tiled9 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 v116 k0_hw3 X3 W S k)⌝)
    ∗ semVal ((c : Thread nD τ), SemLoc.dma arg19.sem) 0 ∗ ∃ O, owes (c : Thread nD τ) 0 O)
  step k acc := by
    iintro ⟨H3, HW, HS, ⟨%f13, H13⟩, ⟨%f14, H14, %e⟩, Hsem, ⟨%O, HO⟩⟩
    iapply (wp_wand_r Idealize.ShloMosaic.frame (wpE (defs₀ (F := F)) Variants.none (c : Thread nD τ) none) Set.univ)
    isplitl [H3 HW HS H13 H14 Hsem HO]
    · iapply ((trip9 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 v116 k0_hw3 X3 W S k).2 O f13 f14)
      isplitl [H3]; · iexact H3
      isplitl [HW]; · iexact HW
      isplitl [HS]; · iexact HS
      isplitl [H13]; · iexact H13
      isplitl [H14]; · iexact H14
      isplitl [Hsem]; · iexact Hsem
      iexact HO
    · iintro %_ ⟨H3, HW, HS, H13, H14, Hsem, HO⟩
      isplitl [H3]; · iexact H3
      isplitl [HW]; · iexact HW
      isplitl [HS]; · iexact HS
      isplitl [H13]; · iexact H13
      rw [tiled9_succ]
      isplitl [H14]
      · iexists _; isplitl [H14]; · iexact H14
        ipureintro; rw [e, ← View.writes_append]
      isplitl [Hsem]; · iexact Hsem
      iexact HO

set_option warn.classDefReducibility false in
/-- The loop over what the unrolling leaves makes no trip. -/
@[sl_loop] def loopInv11 (v64 : IVec S128x128 32) (v115 : Elt F .i32) (v116 : Elt F .i32) (k0_hw3 : k0_chk3 v115 v116) (v139 : BitVec 32) :
    LoopInvTy_k0_t11 (F := F) Unit ℕ UU ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v64 v115 v116 k0_hw3 v139 where
  inv _ _ := iprop(emp)
  step k acc := (no_trip _ k).elim

end

end Cert.Tail.Run

end
-- ==== Proof.TailBits.Body.lean ====
/- One run of the whole body: what it leaves in the three results. -/
module

public import proofs.«01_k».proof.Proof.TailBits.Outer

@[expose] public section

set_option maxRecDepth 8192
set_option maxHeartbeats 4000000

noncomputable section

namespace Cert.Tail.Run

open Cert.Tail Cert.Tail.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section

variable (c : Dev nD)
variable (arg0 : Memref sig .tc .smem S128x128 .i32)
  (harg0 : arg0.IsWhole)
  (arg1 : Memref sig .tc .vmem S8x2048 .i32)
  (harg1 : arg1.IsWhole)
  (arg2 : Memref sig .tc .vmem S128x128 .i32)
  (harg2 : arg2.IsWhole)
  (arg3 : Memref sig .tc .hbm S3x16896x128 .f32)
  (harg3 : arg3.IsWhole)
  (arg4 : Memref sig .tc .vmem S320x40000 .i8)
  (harg4 : arg4.IsWhole)
  (arg5 : Memref sig .tc .vmem S80x160000 .i8)
  (harg5 : arg5.IsWhole)
  (arg6 : Memref sig .tc .vmem S20x47735 .i8)
  (harg6 : arg6.IsWhole)
  (arg7 : Memref sig .tc .vmem S1x40000 .f32)
  (harg7 : arg7.IsWhole)
  (arg8 : Memref sig .tc .vmem S1x160000 .f32)
  (harg8 : arg8.IsWhole)
  (arg9 : Memref sig .tc .vmem S1x47735 .f32)
  (harg9 : arg9.IsWhole)
  (arg10 : Memref sig .tc .vmem S8x2048 .f32)
  (harg10 : arg10.IsWhole)
  (arg11 : Memref sig .tc .vmem S8x2048 .f32)
  (harg11 : arg11.IsWhole)
  (arg12 : Memref sig .tc .vmem S8x2048 .f32)
  (harg12 : arg12.IsWhole)
  (arg13 : Memref sig .tc .vmem S3x128x128 .f32)
  (harg13 : arg13.IsWhole)
  (arg14 : Memref sig .tc .vmem S132x8x128 .f32)
  (harg14 : arg14.IsWhole)
  (arg15 : Memref sig .tc .vmem S128x128 .i32)
  (harg15 : arg15.IsWhole)
  (arg16 : Memref sig .tc .vmem S128x128 .f32)
  (harg16 : arg16.IsWhole)
  (arg17 : Memref sig .tc .vmem S128x128 .f32)
  (harg17 : arg17.IsWhole)
  (arg18 : Memref sig .tc .vmem S128x128 .f32)
  (harg18 : arg18.IsWhole)
  (arg19 : DmaSems sig S_)

/-- The word the body loads from the table at `o`. -/
abbrev word (X0 : BufTy.Contents (Elt F) arg0.view.ty) (o : Fin 2 → ℕ) (h : ∀ a, o a + S1x1.size a ≤ S128x128.size a) : Elt F .i32 :=
  arg0.view.readAt (Elt F) (Rect.unit (s := S128x128) o S1x1.size h).toLoadRect X0 (Shape.Idx.first (numel1_S1x1.symm ▸ Nat.one_pos))

set_option maxHeartbeats 40000000 in
/-- The body's run: the pieces it stores into the results. -/
@[irreducible] def run (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty)
    (k0_hw1 : k0_chk1 (word (F := F) arg0 X0 ![0, 6] inb_S128x128_S1x1_0_6) (word (F := F) arg0 X0 ![0, 9] inb_S128x128_S1x1_0_9))
    (k0_hw2 : k0_chk2 (word (F := F) arg0 X0 ![0, 7] inb_S128x128_S1x1_0_7) (word (F := F) arg0 X0 ![0, 10] inb_S128x128_S1x1_0_10))
    (k0_hw3 : k0_chk3 (word (F := F) arg0 X0 ![0, 8] inb_S128x128_S1x1_0_8) (word (F := F) arg0 X0 ![0, 11] inb_S128x128_S1x1_0_11))
    (k0_hw4L : ∀ (kq : ℕ) (hkq : kq < k0_t13_loop.trips), k0_chk4 (word (F := F) arg0 X0 (k0_off26 ⟨kq, hkq⟩) (k0_off26_inb ⟨kq, hkq⟩)))
    (k0_hw5L : ∀ (kq : ℕ) (hkq : kq < k0_t13_loop.trips), k0_chk5 (word (F := F) arg0 X0 (k0_off28 ⟨kq, hkq⟩) (k0_off28_inb ⟨kq, hkq⟩)))
    (k0_hw6L : ∀ (kq : ℕ) (hkq : kq < k0_t13_loop.trips), k0_chk6 (word (F := F) arg0 X0 (k0_off30 ⟨kq, hkq⟩) (k0_off30_inb ⟨kq, hkq⟩))) :
    Σ' (L10 : List (View.Piece (Elt F) S8x2048 .f32)) (L11 : List (View.Piece (Elt F) S8x2048 .f32)), { L12 : List (View.Piece (Elt F) S8x2048 .f32) //
      ∀ (O : Waits sig Unit) (f10 : BufTy.Contents (Elt F) arg10.view.ty) (f11 : BufTy.Contents (Elt F) arg11.view.ty) (f12 : BufTy.Contents (Elt F) arg12.view.ty),
      (iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9)
        ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18)
        ∗ semVal ((c : Thread nD τ), SemLoc.dma arg19.sem) 0 ∗ owes (c : Thread nD τ) 0 O) : sProp 𝕄)
      ⊢ wp frame (wpE (defs₀ (F := F)) Variants.none (c : Thread nD τ) none) Set.univ (cc0_tail (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19)
          (fun _ => iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9)
          ∗ (arg10.view.loc (c : Thread nD τ) ↦[arg10.view.set]{fullShare} (arg10.view.writes (Elt F) f10 L10)) ∗ (arg11.view.loc (c : Thread nD τ) ↦[arg11.view.set]{fullShare} (arg11.view.writes (Elt F) f11 L11)) ∗ (arg12.view.loc (c : Thread nD τ) ↦[arg12.view.set]{fullShare} (arg12.view.writes (Elt F) f12 L12))
          ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f))
          ∗ semVal ((c : Thread nD τ), SemLoc.dma arg19.sem) 0 ∗ (∃ O, owes (c : Thread nD τ) 0 O))) } := by
  refine ⟨?_, ?_, ?_, fun O f10 f11 f12 => ?run⟩
  case run =>
    simp only [cc0_tail_eq_skeleton]; unfold cc0_tail_skel
    iintro ⟨H0, H1, H2, H3, H4, H5, H6, H7, H8, H9, H10, H11, H12, H13, H14, H15, H16, H17, H18, Hsem, HO⟩
    sl_exec
    sl_step
    sl_close

end

end Cert.Tail.Run

end
-- ==== Proof.TailBits.Launch.lean ====
/- The body's run over what its buffers read, its obligation in the pipeline, and the launch. -/
module

public import proofs.«01_k».proof.Proof.TailBits.Body
public import proofs.«01_k».proof.Proof.Gen.Tail.Frame
public import Idealize.ShloMosaic.Lib.Pipeline.DatRel
public import Idealize.ShloMosaic.Lib.Pipeline.ArrRel
public import Idealize.ShloMosaic.Lib.WholeRead
public import Idealize.ShloMosaic.Lib.Pointwise.Index

@[expose] public section

set_option maxRecDepth 8192
set_option maxHeartbeats 4000000

noncomputable section

namespace Cert.Tail.Run

open Cert.Tail Cert.Tail.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat RDat Cfg Window BodyObligationRel cellOf)

variable {F : FTy → Type} [FloatOps F]

local notation "𝕄" => MT nD τ sig Unit (Elt F) ℕ UU ℕ

/-- The words of the table the body acts on are in range. -/
structure Fits (x : Vec F S128x128 .i32) : Prop where
  one : Bucket (x (ix2 (0 : Fin 128) (6 : Fin 128))) (x (ix2 (0 : Fin 128) (9 : Fin 128)))
  two : Bucket (x (ix2 (0 : Fin 128) (7 : Fin 128))) (x (ix2 (0 : Fin 128) (10 : Fin 128)))
  three : Bucket (x (ix2 (0 : Fin 128) (8 : Fin 128))) (x (ix2 (0 : Fin 128) (11 : Fin 128)))
  slot : ∀ (k : Fin 128) (j : Fin 3), BitVec.toNat (w := 32) (x (ix2 k (⟨j.val, by omega⟩ : Fin 128))) < 16768

section

variable (arg0 : Memref sig .tc .smem S128x128 .i32) (harg0 : arg0.IsWhole) {x : Vec F S128x128 .i32}

theorem word_eq (o : Fin 2 → ℕ) (h : ∀ a, o a + S1x1.size a ≤ S128x128.size a) (p q : Fin 128) (hp : o 0 = p.val) (hq : o 1 = q.val) :
    word (F := F) arg0 (harg0.unread x) o h = x (ix2 p q) := by
  unfold word
  rw [harg0.readAt_unread]
  congr 1
  funext a
  match a with
  | ⟨0, _⟩ => exact Fin.ext (by show o 0 + 1 * 0 = p.val; omega)
  | ⟨1, _⟩ => exact Fin.ext (by show o 1 + 1 * 0 = q.val; omega)

theorem hw1 (h : Fits x) : k0_chk1 (word (F := F) arg0 (harg0.unread x) ![0, 6] inb_S128x128_S1x1_0_6) (word (F := F) arg0 (harg0.unread x) ![0, 9] inb_S128x128_S1x1_0_9) := by
  rw [word_eq arg0 harg0 _ _ 0 6 rfl rfl, word_eq arg0 harg0 _ _ 0 9 rfl rfl]
  exact chk1 h.one

theorem hw2 (h : Fits x) : k0_chk2 (word (F := F) arg0 (harg0.unread x) ![0, 7] inb_S128x128_S1x1_0_7) (word (F := F) arg0 (harg0.unread x) ![0, 10] inb_S128x128_S1x1_0_10) := by
  rw [word_eq arg0 harg0 _ _ 0 7 rfl rfl, word_eq arg0 harg0 _ _ 0 10 rfl rfl]
  exact chk2 h.two

theorem hw3 (h : Fits x) : k0_chk3 (word (F := F) arg0 (harg0.unread x) ![0, 8] inb_S128x128_S1x1_0_8) (word (F := F) arg0 (harg0.unread x) ![0, 11] inb_S128x128_S1x1_0_11) := by
  rw [word_eq arg0 harg0 _ _ 0 8 rfl rfl, word_eq arg0 harg0 _ _ 0 11 rfl rfl]
  exact chk3 h.three

theorem hw4 (h : Fits x) (kq : ℕ) (hkq : kq < k0_t13_loop.trips) : k0_chk4 (word (F := F) arg0 (harg0.unread x) (k0_off26 ⟨kq, hkq⟩) (k0_off26_inb ⟨kq, hkq⟩)) := by
  have hk : kq < 128 := Nat.lt_of_lt_of_le hkq k0_t13_abs.2.1
  rw [word_eq arg0 harg0 _ _ ⟨kq, hk⟩ 0 (by rw [k0_off26_eq]; rfl) (by rw [k0_off26_eq]; rfl)]
  exact chk4 (h.slot ⟨kq, hk⟩ 0)

theorem hw5 (h : Fits x) (kq : ℕ) (hkq : kq < k0_t13_loop.trips) : k0_chk5 (word (F := F) arg0 (harg0.unread x) (k0_off28 ⟨kq, hkq⟩) (k0_off28_inb ⟨kq, hkq⟩)) := by
  have hk : kq < 128 := Nat.lt_of_lt_of_le hkq k0_t13_abs.2.1
  rw [word_eq arg0 harg0 _ _ ⟨kq, hk⟩ 1 (by rw [k0_off28_eq]; rfl) (by rw [k0_off28_eq]; rfl)]
  exact chk5 (h.slot ⟨kq, hk⟩ 1)

theorem hw6 (h : Fits x) (kq : ℕ) (hkq : kq < k0_t13_loop.trips) : k0_chk6 (word (F := F) arg0 (harg0.unread x) (k0_off30 ⟨kq, hkq⟩) (k0_off30_inb ⟨kq, hkq⟩)) := by
  have hk : kq < 128 := Nat.lt_of_lt_of_le hkq k0_t13_abs.2.1
  rw [word_eq arg0 harg0 _ _ ⟨kq, hk⟩ 2 (by rw [k0_off30_eq]; rfl) (by rw [k0_off30_eq]; rfl)]
  exact chk6 (h.slot ⟨kq, hk⟩ 2)

end

section

variable (c : Dev nD)
variable (arg0 : Memref sig .tc .smem S128x128 .i32)
  (harg0 : arg0.IsWhole)
  (arg1 : Memref sig .tc .vmem S8x2048 .i32)
  (harg1 : arg1.IsWhole)
  (arg2 : Memref sig .tc .vmem S128x128 .i32)
  (harg2 : arg2.IsWhole)
  (arg3 : Memref sig .tc .hbm S3x16896x128 .f32)
  (harg3 : arg3.IsWhole)
  (arg4 : Memref sig .tc .vmem S320x40000 .i8)
  (harg4 : arg4.IsWhole)
  (arg5 : Memref sig .tc .vmem S80x160000 .i8)
  (harg5 : arg5.IsWhole)
  (arg6 : Memref sig .tc .vmem S20x47735 .i8)
  (harg6 : arg6.IsWhole)
  (arg7 : Memref sig .tc .vmem S1x40000 .f32)
  (harg7 : arg7.IsWhole)
  (arg8 : Memref sig .tc .vmem S1x160000 .f32)
  (harg8 : arg8.IsWhole)
  (arg9 : Memref sig .tc .vmem S1x47735 .f32)
  (harg9 : arg9.IsWhole)
  (arg10 : Memref sig .tc .vmem S8x2048 .f32)
  (harg10 : arg10.IsWhole)
  (arg11 : Memref sig .tc .vmem S8x2048 .f32)
  (harg11 : arg11.IsWhole)
  (arg12 : Memref sig .tc .vmem S8x2048 .f32)
  (harg12 : arg12.IsWhole)
  (arg13 : Memref sig .tc .vmem S3x128x128 .f32)
  (harg13 : arg13.IsWhole)
  (arg14 : Memref sig .tc .vmem S132x8x128 .f32)
  (harg14 : arg14.IsWhole)
  (arg15 : Memref sig .tc .vmem S128x128 .i32)
  (harg15 : arg15.IsWhole)
  (arg16 : Memref sig .tc .vmem S128x128 .f32)
  (harg16 : arg16.IsWhole)
  (arg17 : Memref sig .tc .vmem S128x128 .f32)
  (harg17 : arg17.IsWhole)
  (arg18 : Memref sig .tc .vmem S128x128 .f32)
  (harg18 : arg18.IsWhole)
  (arg19 : DmaSems sig S_)

/-- What the run may leave in `arg10`, whatever the scratch buffers held. -/
def Left10 (x0 : Vec F S128x128 .i32) (x1 : Vec F S8x2048 .i32) (x2 : Vec F S128x128 .i32) (x3 : Vec F S3x16896x128 .f32) (x4 : Vec F S320x40000 .i8) (x5 : Vec F S80x160000 .i8) (x6 : Vec F S20x47735 .i8) (x7 : Vec F S1x40000 .f32) (x8 : Vec F S1x160000 .f32) (x9 : Vec F S1x47735 .f32) (h : Fits x0) (d : Vec F S8x2048 .f32) : Prop :=
  ∃ (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f10 : BufTy.Contents (Elt F) arg10.view.ty),
    d = arg10.view.read (Elt F) (arg10.view.writes (Elt F) f10 (run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 (harg0.unread x0) (harg1.unread x1) (harg2.unread x2) (harg3.unread x3) (harg4.unread x4) (harg5.unread x5) (harg6.unread x6) (harg7.unread x7) (harg8.unread x8) (harg9.unread x9) f13 f14 f15 f16 f17 f18 (hw1 arg0 harg0 h) (hw2 arg0 harg0 h) (hw3 arg0 harg0 h) (hw4 arg0 harg0 h) (hw5 arg0 harg0 h) (hw6 arg0 harg0 h)).1)

/-- What the run may leave in `arg11`, whatever the scratch buffers held. -/
def Left11 (x0 : Vec F S128x128 .i32) (x1 : Vec F S8x2048 .i32) (x2 : Vec F S128x128 .i32) (x3 : Vec F S3x16896x128 .f32) (x4 : Vec F S320x40000 .i8) (x5 : Vec F S80x160000 .i8) (x6 : Vec F S20x47735 .i8) (x7 : Vec F S1x40000 .f32) (x8 : Vec F S1x160000 .f32) (x9 : Vec F S1x47735 .f32) (h : Fits x0) (d : Vec F S8x2048 .f32) : Prop :=
  ∃ (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f11 : BufTy.Contents (Elt F) arg11.view.ty),
    d = arg11.view.read (Elt F) (arg11.view.writes (Elt F) f11 (run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 (harg0.unread x0) (harg1.unread x1) (harg2.unread x2) (harg3.unread x3) (harg4.unread x4) (harg5.unread x5) (harg6.unread x6) (harg7.unread x7) (harg8.unread x8) (harg9.unread x9) f13 f14 f15 f16 f17 f18 (hw1 arg0 harg0 h) (hw2 arg0 harg0 h) (hw3 arg0 harg0 h) (hw4 arg0 harg0 h) (hw5 arg0 harg0 h) (hw6 arg0 harg0 h)).2.1)

/-- What the run may leave in `arg12`, whatever the scratch buffers held. -/
def Left12 (x0 : Vec F S128x128 .i32) (x1 : Vec F S8x2048 .i32) (x2 : Vec F S128x128 .i32) (x3 : Vec F S3x16896x128 .f32) (x4 : Vec F S320x40000 .i8) (x5 : Vec F S80x160000 .i8) (x6 : Vec F S20x47735 .i8) (x7 : Vec F S1x40000 .f32) (x8 : Vec F S1x160000 .f32) (x9 : Vec F S1x47735 .f32) (h : Fits x0) (d : Vec F S8x2048 .f32) : Prop :=
  ∃ (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f12 : BufTy.Contents (Elt F) arg12.view.ty),
    d = arg12.view.read (Elt F) (arg12.view.writes (Elt F) f12 (run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 (harg0.unread x0) (harg1.unread x1) (harg2.unread x2) (harg3.unread x3) (harg4.unread x4) (harg5.unread x5) (harg6.unread x6) (harg7.unread x7) (harg8.unread x8) (harg9.unread x9) f13 f14 f15 f16 f17 f18 (hw1 arg0 harg0 h) (hw2 arg0 harg0 h) (hw3 arg0 harg0 h) (hw4 arg0 harg0 h) (hw5 arg0 harg0 h) (hw6 arg0 harg0 h)).2.2.1)

set_option maxHeartbeats 8000000 in
/-- The run, over what the buffers read. -/
theorem run_owns (x0 : Vec F S128x128 .i32) (x1 : Vec F S8x2048 .i32) (x2 : Vec F S128x128 .i32) (x3 : Vec F S3x16896x128 .f32) (x4 : Vec F S320x40000 .i8) (x5 : Vec F S80x160000 .i8) (x6 : Vec F S20x47735 .i8) (x7 : Vec F S1x40000 .f32) (x8 : Vec F S1x160000 .f32) (x9 : Vec F S1x47735 .f32) (h : Fits x0) (O : Waits sig Unit) :
    (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
        ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ semVal ((c : Thread nD τ), SemLoc.dma arg19.sem) 0 ∗ owes (c : Thread nD τ) 0 O) : sProp 𝕄)
      ⊢ wp frame (wpE (defs₀ (F := F)) Variants.none (c : Thread nD τ) none) Set.univ (cc0_tail (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19)
          (fun _ => iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ (∃ d, ⌜Left10 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 x0 x1 x2 x3 x4 x5 x6 x7 x8 x9 h d⌝ ∗ owns (c : Thread nD τ) arg10 fullShare d) ∗ (∃ d, ⌜Left11 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 x0 x1 x2 x3 x4 x5 x6 x7 x8 x9 h d⌝ ∗ owns (c : Thread nD τ) arg11 fullShare d) ∗ (∃ d, ⌜Left12 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 x0 x1 x2 x3 x4 x5 x6 x7 x8 x9 h d⌝ ∗ owns (c : Thread nD τ) arg12 fullShare d)
            ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ semVal ((c : Thread nD τ), SemLoc.dma arg19.sem) 0 ∗ (∃ O, owes (c : Thread nD τ) 0 O))) := by
  unfold owns
  iintro ⟨⟨%g0, %e0, H0⟩, ⟨%g1, %e1, H1⟩, ⟨%g2, %e2, H2⟩, ⟨%g3, %e3, H3⟩, ⟨%g4, %e4, H4⟩, ⟨%g5, %e5, H5⟩, ⟨%g6, %e6, H6⟩, ⟨%g7, %e7, H7⟩, ⟨%g8, %e8, H8⟩, ⟨%g9, %e9, H9⟩, ⟨%d10, %f10, %e10, H10⟩, ⟨%d11, %f11, %e11, H11⟩, ⟨%d12, %f12, %e12, H12⟩, ⟨%d13, %f13, %e13, H13⟩, ⟨%d14, %f14, %e14, H14⟩, ⟨%d15, %f15, %e15, H15⟩, ⟨%d16, %f16, %e16, H16⟩, ⟨%d17, %f17, %e17, H17⟩, ⟨%d18, %f18, %e18, H18⟩, Hsem, HO⟩
  obtain rfl := harg0.eq_unread e0
  obtain rfl := harg1.eq_unread e1
  obtain rfl := harg2.eq_unread e2
  obtain rfl := harg3.eq_unread e3
  obtain rfl := harg4.eq_unread e4
  obtain rfl := harg5.eq_unread e5
  obtain rfl := harg6.eq_unread e6
  obtain rfl := harg7.eq_unread e7
  obtain rfl := harg8.eq_unread e8
  obtain rfl := harg9.eq_unread e9
  iapply (wp_wand_r Idealize.ShloMosaic.frame (wpE (defs₀ (F := F)) Variants.none (c : Thread nD τ) none) Set.univ)
  isplitl [H0 H1 H2 H3 H4 H5 H6 H7 H8 H9 H10 H11 H12 H13 H14 H15 H16 H17 H18 Hsem HO]
  · iapply ((run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 (harg0.unread x0) (harg1.unread x1) (harg2.unread x2) (harg3.unread x3) (harg4.unread x4) (harg5.unread x5) (harg6.unread x6) (harg7.unread x7) (harg8.unread x8) (harg9.unread x9) f13 f14 f15 f16 f17 f18 (hw1 arg0 harg0 h) (hw2 arg0 harg0 h) (hw3 arg0 harg0 h) (hw4 arg0 harg0 h) (hw5 arg0 harg0 h) (hw6 arg0 harg0 h)).2.2.2 O f10 f11 f12)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [Hsem]; · iexact Hsem
    iexact HO
  · iintro %_ ⟨H0, H1, H2, H3, H4, H5, H6, H7, H8, H9, H10, H11, H12, ⟨%g13, H13⟩, ⟨%g14, H14⟩, ⟨%g15, H15⟩, ⟨%g16, H16⟩, ⟨%g17, H17⟩, ⟨%g18, H18⟩, Hsem, HO⟩
    isplitl [H0]
    · iexists _; isplitr; · ipureintro; exact e0
      iexact H0
    isplitl [H1]
    · iexists _; isplitr; · ipureintro; exact e1
      iexact H1
    isplitl [H2]
    · iexists _; isplitr; · ipureintro; exact e2
      iexact H2
    isplitl [H3]
    · iexists _; isplitr; · ipureintro; exact e3
      iexact H3
    isplitl [H4]
    · iexists _; isplitr; · ipureintro; exact e4
      iexact H4
    isplitl [H5]
    · iexists _; isplitr; · ipureintro; exact e5
      iexact H5
    isplitl [H6]
    · iexists _; isplitr; · ipureintro; exact e6
      iexact H6
    isplitl [H7]
    · iexists _; isplitr; · ipureintro; exact e7
      iexact H7
    isplitl [H8]
    · iexists _; isplitr; · ipureintro; exact e8
      iexact H8
    isplitl [H9]
    · iexists _; isplitr; · ipureintro; exact e9
      iexact H9
    isplitl [H10]
    · iexists _; isplitr
      swap
      · iexists _; isplitr
        swap; · iexact H10
        ipureintro; rfl
      · ipureintro; exact ⟨f13, f14, f15, f16, f17, f18, f10, rfl⟩
    isplitl [H11]
    · iexists _; isplitr
      swap
      · iexists _; isplitr
        swap; · iexact H11
        ipureintro; rfl
      · ipureintro; exact ⟨f13, f14, f15, f16, f17, f18, f11, rfl⟩
    isplitl [H12]
    · iexists _; isplitr
      swap
      · iexists _; isplitr
        swap; · iexact H12
        ipureintro; rfl
      · ipureintro; exact ⟨f13, f14, f15, f16, f17, f18, f12, rfl⟩
    isplitl [H13]
    · iexists _; iexists _; isplitr; swap; · iexact H13
      ipureintro; rfl
    isplitl [H14]
    · iexists _; iexists _; isplitr; swap; · iexact H14
      ipureintro; rfl
    isplitl [H15]
    · iexists _; iexists _; isplitr; swap; · iexact H15
      ipureintro; rfl
    isplitl [H16]
    · iexists _; iexists _; isplitr; swap; · iexact H16
      ipureintro; rfl
    isplitl [H17]
    · iexists _; iexists _; isplitr; swap; · iexact H17
      ipureintro; rfl
    isplitl [H18]
    · iexists _; iexists _; isplitr; swap; · iexact H18
      ipureintro; rfl
    isplitl [Hsem]; · iexact Hsem
    iexact HO

end

/-! ## The proof data -/

variable (m : (ℓ : Loc nD τ sig) → Buf (Elt F) ℓ) (ρ : Dev nD → PrngReg)

abbrev ms_0 (t : Fin cfg0.N) : Memref sig .tc .smem S128x128 .i32 := win0_0.stage (cfg0.slots t 0)
abbrev hs_0 (t : Fin cfg0.N) : (ms_0 t).IsWhole := hstage0_0 0
abbrev ms_1 (t : Fin cfg0.N) : Memref sig .tc .vmem S8x2048 .i32 := win0_1.stage (cfg0.slots t 1)
abbrev hs_1 (t : Fin cfg0.N) : (ms_1 t).IsWhole := hstage0_1 0
abbrev ms_2 (t : Fin cfg0.N) : Memref sig .tc .vmem S128x128 .i32 := win0_2.stage (cfg0.slots t 2)
abbrev hs_2 (t : Fin cfg0.N) : (ms_2 t).IsWhole := hstage0_2 0
abbrev ms_3 (t : Fin cfg0.N) : Memref sig .tc .vmem S320x40000 .i8 := win0_3.stage (cfg0.slots t 3)
abbrev hs_3 (t : Fin cfg0.N) : (ms_3 t).IsWhole := hstage0_3 0
abbrev ms_4 (t : Fin cfg0.N) : Memref sig .tc .vmem S80x160000 .i8 := win0_4.stage (cfg0.slots t 4)
abbrev hs_4 (t : Fin cfg0.N) : (ms_4 t).IsWhole := hstage0_4 0
abbrev ms_5 (t : Fin cfg0.N) : Memref sig .tc .vmem S20x47735 .i8 := win0_5.stage (cfg0.slots t 5)
abbrev hs_5 (t : Fin cfg0.N) : (ms_5 t).IsWhole := hstage0_5 0
abbrev ms_6 (t : Fin cfg0.N) : Memref sig .tc .vmem S1x40000 .f32 := win0_6.stage (cfg0.slots t 6)
abbrev hs_6 (t : Fin cfg0.N) : (ms_6 t).IsWhole := hstage0_6 0
abbrev ms_7 (t : Fin cfg0.N) : Memref sig .tc .vmem S1x160000 .f32 := win0_7.stage (cfg0.slots t 7)
abbrev hs_7 (t : Fin cfg0.N) : (ms_7 t).IsWhole := hstage0_7 0
abbrev ms_8 (t : Fin cfg0.N) : Memref sig .tc .vmem S1x47735 .f32 := win0_8.stage (cfg0.slots t 8)
abbrev hs_8 (t : Fin cfg0.N) : (ms_8 t).IsWhole := hstage0_8 0
abbrev ms_9 (t : Fin cfg0.N) : Memref sig .tc .vmem S8x2048 .f32 := win0_9.stage (cfg0.slots t 9)
abbrev hs_9 (t : Fin cfg0.N) : (ms_9 t).IsWhole := hstage0_9 0
abbrev ms_10 (t : Fin cfg0.N) : Memref sig .tc .vmem S8x2048 .f32 := win0_10.stage (cfg0.slots t 10)
abbrev hs_10 (t : Fin cfg0.N) : (ms_10 t).IsWhole := hstage0_10 0
abbrev ms_11 (t : Fin cfg0.N) : Memref sig .tc .vmem S8x2048 .f32 := win0_11.stage (cfg0.slots t 11)
abbrev hs_11 (t : Fin cfg0.N) : (ms_11 t).IsWhole := hstage0_11 0
abbrev scr_0 : Memref sig .tc .vmem S3x128x128 .f32 := Memref.whole cc0_scratch0
abbrev scr_1 : Memref sig .tc .vmem S132x8x128 .f32 := Memref.whole cc0_scratch1
abbrev scr_2 : Memref sig .tc .vmem S128x128 .i32 := Memref.whole cc0_scratch2
abbrev scr_3 : Memref sig .tc .vmem S128x128 .f32 := Memref.whole cc0_scratch3
abbrev scr_4 : Memref sig .tc .vmem S128x128 .f32 := Memref.whole cc0_scratch4
abbrev scr_5 : Memref sig .tc .vmem S128x128 .f32 := Memref.whole cc0_scratch5
abbrev hid : Memref sig .tc .hbm S3x16896x128 .f32 := Memref.whole main_arg3

/-- The body's own transfer semaphore. -/
abbrev osem : Fin 1 → SemLoc sig := fun _ => SemLoc.dma cc0_scratch6.sem
theorem ownSemFacts : Pipeline.OwnSemFacts spec0 osem := by decide
theorem ownSems_eq (c : Dev nD) :
    (Pipeline.ownSems0 (Ix := Unit) (Name := ℕ) (U := UU) (Lvl := ℕ) (Val := Elt F) (τ := τ) osem c : sProp 𝕄)
      = semVal ((c : Thread nD τ), SemLoc.dma cc0_scratch6.sem) 0 := by
  rw [Pipeline.ownSems0_eq_of_list c osem [0] (by decide) (by decide)]; rfl
/-- The hidden states, which the body's transfers read where they lie. -/
def H : Finset (Ref sig .tc) := {main_arg3}
theorem H_sub : H ⊆ Pipeline.restRefs sig spec0 := by decide
theorem hidden_eq (c : Dev nD) :
    (bigSep H (fun b => ((c : Thread nD τ).loc b) ↦{fullShare} V m c b) : sProp 𝕄) = owns (c : Thread nD τ) hid fullShare (V m c main_arg3) := by
  rw [BI.bigSep_eq_bigSepL_of_eq [main_arg3] (by decide) (by decide), owns_whole]; rfl

theorem Phi_eq (c : Dev nD) :
    (Pipeline.ΦD osem spec0 H (V m) c : sProp 𝕄)
      = iprop(iprop((∃ d, owns (c : Thread nD τ) scr_0 fullShare d) ∗ (∃ d, owns (c : Thread nD τ) scr_1 fullShare d) ∗ (∃ d, owns (c : Thread nD τ) scr_2 fullShare d) ∗ (∃ d, owns (c : Thread nD τ) scr_3 fullShare d) ∗ (∃ d, owns (c : Thread nD τ) scr_4 fullShare d) ∗ (∃ d, owns (c : Thread nD τ) scr_5 fullShare d))
          ∗ (∃ r, prngReg c r) ∗ semVal ((c : Thread nD τ), SemLoc.dma cc0_scratch6.sem) 0 ∗ owns (c : Thread nD τ) hid fullShare (V m c main_arg3)) := by
  rw [Pipeline.ΦD_eq, scopedRest0_eq, ownSems_eq, hidden_eq]
  simp only [scr_0, scr_1, scr_2, scr_3, scr_4, scr_5, owns_whole]; try rfl

/-- The arrays as the region finds them; after the point every input buffer at its block. The results are held to what the run may
    leave (`Rl`). -/
def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
  Φ _ := Pipeline.ΦD osem spec0 H (V m) c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0 m c]; unfold Dat.blockOf iblk; rw [A_eq m c]; try rfl) t d).trans
    (by unfold Dat.fetched Dat.blockOf iblk; rw [A_eq m c]; try rfl)
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1 m c]; unfold Dat.blockOf iblk; rw [A_eq m c]; try rfl) t d).trans
    (by unfold Dat.fetched Dat.blockOf iblk; rw [A_eq m c]; try rfl)
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2 m c]; unfold Dat.blockOf iblk; rw [A_eq m c]; try rfl) t d).trans
    (by unfold Dat.fetched Dat.blockOf iblk; rw [A_eq m c]; try rfl)
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3 m c]; unfold Dat.blockOf iblk; rw [A_eq m c]; try rfl) t d).trans
    (by unfold Dat.fetched Dat.blockOf iblk; rw [A_eq m c]; try rfl)
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4 m c]; unfold Dat.blockOf iblk; rw [A_eq m c]; try rfl) t d).trans
    (by unfold Dat.fetched Dat.blockOf iblk; rw [A_eq m c]; try rfl)
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5 m c]; unfold Dat.blockOf iblk; rw [A_eq m c]; try rfl) t d).trans
    (by unfold Dat.fetched Dat.blockOf iblk; rw [A_eq m c]; try rfl)
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6 m c]; unfold Dat.blockOf iblk; rw [A_eq m c]; try rfl) t d).trans
    (by unfold Dat.fetched Dat.blockOf iblk; rw [A_eq m c]; try rfl)
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7 m c]; unfold Dat.blockOf iblk; rw [A_eq m c]; try rfl) t d).trans
    (by unfold Dat.fetched Dat.blockOf iblk; rw [A_eq m c]; try rfl)
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8 m c]; unfold Dat.blockOf iblk; rw [A_eq m c]; try rfl) t d).trans
    (by unfold Dat.fetched Dat.blockOf iblk; rw [A_eq m c]; try rfl)

/-- The results are the windows whose contents are not named. -/
def fgt (w : Fin cfg0.W) : Bool := decide (9 ≤ w.val)

variable (hfit : ∀ (c : Dev nD) (t : Fin cfg0.N), Fits (iblk m c 0 t))

/-- What the point may leave in a result's buffer. -/
def Rl (c : Dev nD) (w : Fin cfg0.W) (t : Fin cfg0.N) : ((cfg0.win w).block.Idx → Elt F (cfg0.win w).elt) → Prop := match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun _ => True
  | ⟨7, _⟩ => fun _ => True
  | ⟨8, _⟩ => fun _ => True
  | ⟨9, _⟩ => fun d => Left10 c (ms_0 t) (hs_0 t) (ms_1 t) (hs_1 t) (ms_2 t) (hs_2 t) hid (Memref.isWhole_whole _) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scr_0 (Memref.isWhole_whole _) scr_1 (Memref.isWhole_whole _) scr_2 (Memref.isWhole_whole _) scr_3 (Memref.isWhole_whole _) scr_4 (Memref.isWhole_whole _) scr_5 (Memref.isWhole_whole _) cc0_scratch6 (iblk m c 0 t) (iblk m c 1 t) (iblk m c 2 t) (V m c main_arg3) (iblk m c 3 t) (iblk m c 4 t) (iblk m c 5 t) (iblk m c 6 t) (iblk m c 7 t) (iblk m c 8 t) (hfit c t) d
  | ⟨10, _⟩ => fun d => Left11 c (ms_0 t) (hs_0 t) (ms_1 t) (hs_1 t) (ms_2 t) (hs_2 t) hid (Memref.isWhole_whole _) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scr_0 (Memref.isWhole_whole _) scr_1 (Memref.isWhole_whole _) scr_2 (Memref.isWhole_whole _) scr_3 (Memref.isWhole_whole _) scr_4 (Memref.isWhole_whole _) scr_5 (Memref.isWhole_whole _) cc0_scratch6 (iblk m c 0 t) (iblk m c 1 t) (iblk m c 2 t) (V m c main_arg3) (iblk m c 3 t) (iblk m c 4 t) (iblk m c 5 t) (iblk m c 6 t) (iblk m c 7 t) (iblk m c 8 t) (hfit c t) d
  | ⟨11, _⟩ => fun d => Left12 c (ms_0 t) (hs_0 t) (ms_1 t) (hs_1 t) (ms_2 t) (hs_2 t) hid (Memref.isWhole_whole _) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scr_0 (Memref.isWhole_whole _) scr_1 (Memref.isWhole_whole _) scr_2 (Memref.isWhole_whole _) scr_3 (Memref.isWhole_whole _) scr_4 (Memref.isWhole_whole _) scr_5 (Memref.isWhole_whole _) cc0_scratch6 (iblk m c 0 t) (iblk m c 1 t) (iblk m c 2 t) (V m c main_arg3) (iblk m c 3 t) (iblk m c 4 t) (iblk m c 5 t) (iblk m c 6 t) (iblk m c 7 t) (iblk m c 8 t) (hfit c t) d

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d)) ∗ (∃ d, owns (c : Thread nD τ) (ms_1 t) fullShare ((dats m 0 c).before 1 t d)) ∗ (∃ d, owns (c : Thread nD τ) (ms_2 t) fullShare ((dats m 0 c).before 2 t d)) ∗ (∃ d, owns (c : Thread nD τ) (ms_3 t) fullShare ((dats m 0 c).before 3 t d)) ∗ (∃ d, owns (c : Thread nD τ) (ms_4 t) fullShare ((dats m 0 c).before 4 t d)) ∗ (∃ d, owns (c : Thread nD τ) (ms_5 t) fullShare ((dats m 0 c).before 5 t d)) ∗ (∃ d, owns (c : Thread nD τ) (ms_6 t) fullShare ((dats m 0 c).before 6 t d)) ∗ (∃ d, owns (c : Thread nD τ) (ms_7 t) fullShare ((dats m 0 c).before 7 t d)) ∗ (∃ d, owns (c : Thread nD τ) (ms_8 t) fullShare ((dats m 0 c).before 8 t d)) ∗ (∃ Y, ⌜((dats m 0 c).toRRel fgt (Rl m hfit c)).Finds 9 t Y⌝ ∗ owns (c : Thread nD τ) (ms_9 t) fullShare Y) ∗ (∃ Y, ⌜((dats m 0 c).toRRel fgt (Rl m hfit c)).Finds 10 t Y⌝ ∗ owns (c : Thread nD τ) (ms_10 t) fullShare Y) ∗ (∃ Y, ⌜((dats m 0 c).toRRel fgt (Rl m hfit c)).Finds 11 t Y⌝ ∗ owns (c : Thread nD τ) (ms_11 t) fullShare Y))

/-- What it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t) ∗ owns (c : Thread nD τ) (ms_1 t) fullShare ((dats m 0 c).after 1 t) ∗ owns (c : Thread nD τ) (ms_2 t) fullShare ((dats m 0 c).after 2 t) ∗ owns (c : Thread nD τ) (ms_3 t) fullShare ((dats m 0 c).after 3 t) ∗ owns (c : Thread nD τ) (ms_4 t) fullShare ((dats m 0 c).after 4 t) ∗ owns (c : Thread nD τ) (ms_5 t) fullShare ((dats m 0 c).after 5 t) ∗ owns (c : Thread nD τ) (ms_6 t) fullShare ((dats m 0 c).after 6 t) ∗ owns (c : Thread nD τ) (ms_7 t) fullShare ((dats m 0 c).after 7 t) ∗ owns (c : Thread nD τ) (ms_8 t) fullShare ((dats m 0 c).after 8 t) ∗ (∃ X, ⌜Rl m hfit c 9 t X⌝ ∗ owns (c : Thread nD τ) (ms_9 t) fullShare X) ∗ (∃ X, ⌜Rl m hfit c 10 t X⌝ ∗ owns (c : Thread nD τ) (ms_10 t) fullShare X) ∗ (∃ X, ⌜Rl m hfit c 11 t X⌝ ∗ owns (c : Thread nD τ) (ms_11 t) fullShare X))

set_option maxHeartbeats 8000000 in
theorem sound_body (c : Dev nD) (t : Fin cfg0.N) :
    bodyPre m hfit c t ⊢ wp frame (wpE (defs₀ (F := F)) Variants.none c none) Set.univ (bodyAt0 t) (fun _ => bodyPost m hfit c t) := by
  unfold bodyPre bodyPost bodyAt0
  simp only [before_0, before_1, before_2, before_3, before_4, before_5, before_6, before_7, before_8, after_0, after_1, after_2, after_3, after_4, after_5, after_6, after_7, after_8]
  rw [show (dats m 0 c).Φ t.succ = (dats m 0 c).Φ t.castSucc from rfl]
  rw [show (dats m 0 c).Φ t.castSucc = Pipeline.ΦD osem spec0 H (V m) c from rfl, Phi_eq]
  unfold Dat.owesAt Pipeline.owesWithin
  rw [show (dats m 0 c).owed t.castSucc = 0 from rfl, show (dats m 0 c).owed t.succ = 0 from rfl]
  iintro ⟨⟨⟨S0, S1, S2, S3, S4, S5⟩, Hg, Hsem, Hh⟩, ⟨%O, -, HO⟩, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, -, H9⟩, ⟨%e10, -, H10⟩, ⟨%e11, -, H11⟩⟩
  iapply (wp_wand_r Idealize.ShloMosaic.frame (wpE (defs₀ (F := F)) Variants.none (c : Thread nD τ) none) Set.univ)
  isplitl [S0 S1 S2 S3 S4 S5 Hsem Hh HO H0 H1 H2 H3 H4 H5 H6 H7 H8 H9 H10 H11]
  · iapply (run_owns c (ms_0 t) (hs_0 t) (ms_1 t) (hs_1 t) (ms_2 t) (hs_2 t) hid (Memref.isWhole_whole _) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scr_0 (Memref.isWhole_whole _) scr_1 (Memref.isWhole_whole _) scr_2 (Memref.isWhole_whole _) scr_3 (Memref.isWhole_whole _) scr_4 (Memref.isWhole_whole _) scr_5 (Memref.isWhole_whole _) cc0_scratch6 (iblk m c 0 t) (iblk m c 1 t) (iblk m c 2 t) (V m c main_arg3) (iblk m c 3 t) (iblk m c 4 t) (iblk m c 5 t) (iblk m c 6 t) (iblk m c 7 t) (iblk m c 8 t) (hfit c t) O)
    isplitl [H0]; · iexact H0
    isplitl [H1]; · iexact H1
    isplitl [H2]; · iexact H2
    isplitl [Hh]; · iexact Hh
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [S0]; · iexact S0
    isplitl [S1]; · iexact S1
    isplitl [S2]; · iexact S2
    isplitl [S3]; · iexact S3
    isplitl [S4]; · iexact S4
    isplitl [S5]; · iexact S5
    isplitl [Hsem]; · iexact Hsem
    iexact HO
  · iintro %_ ⟨H0, H1, H2, Hh, H3, H4, H5, H6, H7, H8, H9, H10, H11, S0, S1, S2, S3, S4, S5, Hsem, ⟨%O', HO⟩⟩
    isplitl [S0 S1 S2 S3 S4 S5 Hg Hsem Hh]
    · isplitl [S0 S1 S2 S3 S4 S5]
      · isplitl [S0]; · iexact S0
        isplitl [S1]; · iexact S1
        isplitl [S2]; · iexact S2
        isplitl [S3]; · iexact S3
        isplitl [S4]; · iexact S4
        iexact S5
      isplitl [Hg]; · iexact Hg
      isplitl [Hsem]; · iexact Hsem
      iexact Hh
    isplitl [HO]
    · iexists O'; isplitr; · ipureintro; exact fun _ _ => Or.inl trivial
      iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligationRel (dats (F := F) m 0 c) (defs₀ (F := F)) Variants.none () Set.univ fgt (Rl m hfit c) := fun t => by
  rw [bigSep_W0, bigSep_W0, defs₀_row]
  exact triple_restated (sound_body m hfit c t) rfl .rfl fun _ => .rfl

/-! ## The run and the frame -/

/-- The data the run concludes of. -/
abbrev rdat (c : Dev nD) : RDat τ (Elt F) Unit ℕ UU ℕ cfg0 c := (dats m 0 c).toRRel fgt (Rl m hfit c)

set_option maxHeartbeats 800000 in
theorem hmain : Pipeline.HMain (Ix := Unit) (Name := ℕ) (U := UU) (Lvl := ℕ) cfgs 0 defs₀ Variants.none m (main (F := F)) (V m) :=
  Pipeline.hmain_region cfgs 0 defs₀ Variants.none m main fun c => (main_chain c).trans rfl

include hfit in
set_option backward.isDefEq.respectTransparency.types false in
theorem run_main : θ_run defs (onTc (τ := τ) (main (F := F))) (s₀ m ρ) (fun r => RDat.FramePost cfg0 (rdat m hfit) (V m) r ∧ r.2.sem = fun _ => 0) :=
  RDat.θ_run_frame_dma (Q' := _) cfgs (0 : Fin 1) launch0 osem defs₀ Variants.none (rdat m hfit) ownSemFacts H H_sub m ρ main
    (hbody := fun c => (body_obligation m hfit c).toRRel) (hshare := fun c => (dats m 0 c).share_full fun _ => rfl)
    (howed := fun _ _ => rfl) (V := V m) (hmain := hmain m) (hA := A_eq m) (hin := fun _ => .rfl) (hout := fun _ => .rfl)

include hfit in
/-- The arguments end unchanged, and no semaphore counting. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r (h : _ ∧ _) => ⟨fun c => ⟨(h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      ((h.1 c).2 main_arg3 (Pipeline.mem_restRefs_of main_arg3 (by decide) (by decide))).trans (V_main_arg3 m c),
      (h.1.arr_in c 3 rfl).trans ((A_eq m c 3).trans (V_main_arg4 m c)),
      (h.1.arr_in c 4 rfl).trans ((A_eq m c 4).trans (V_main_arg5 m c)),
      (h.1.arr_in c 5 rfl).trans ((A_eq m c 5).trans (V_main_arg6 m c)),
      (h.1.arr_in c 6 rfl).trans ((A_eq m c 6).trans (V_main_arg7 m c)),
      (h.1.arr_in c 7 rfl).trans ((A_eq m c 7).trans (V_main_arg8 m c)),
      (h.1.arr_in c 8 rfl).trans ((A_eq m c 8).trans (V_main_arg9 m c))⟩, h.2⟩) (run_main m ρ hfit)

end Cert.Tail.Run

end
-- ==== Proof.Tail.Frames.lean ====
/- The frame claims of the second kernel, at bit-exact floats and at extended reals, where the table fits. -/
module

public import proofs.«01_k».proof.Defs
public import proofs.«01_k».proof.Proof.Tail.Fit
public import proofs.«01_k».proof.Proof.Tail.Launch
public import proofs.«01_k».proof.Proof.TailBits.Launch

@[expose] public section

set_option maxRecDepth 16384

noncomputable section

namespace Cert.TailIdeal.Run

open Cert.TailIdeal Cert.TailIdeal.Gen
open Idealize.ShloMosaic Idealize.ShloMosaic.TcCoe Idealize.ShloMosaic.Tactic Idealize.SL.Sem

theorem fits {x : IVec S128x128 32} (h : ∀ k, Cert.Fit.Lines x k) {F : FTy → Type} [FloatOps F] : Fits (F := F) x :=
  ⟨⟨(h 0).one.1.bucket.start_le, (h 0).one.1.bucket.rows_le, (h 0).one.1.bucket.dvd, (h 0).one.1.bucket.fits⟩,
    ⟨(h 0).two.1.bucket.start_le, (h 0).two.1.bucket.rows_le, (h 0).two.1.bucket.dvd, (h 0).two.1.bucket.fits⟩,
    ⟨(h 0).three.1.bucket.start_le, (h 0).three.1.bucket.rows_le, (h 0).three.1.bucket.dvd, (h 0).three.1.bucket.fits⟩,
    fun k j => by
      match j with
      | ⟨0, _⟩ => exact (h k).one.2
      | ⟨1, _⟩ => exact (h k).two.2
      | ⟨2, _⟩ => exact (h k).three.2⟩

theorem iblk0_eq {F : FTy → Type} [FloatOps F] (m : (ℓ : Loc nD τ sig) → Buf (Elt F) ℓ) (c : Dev nD) (t : Fin cfg0.N) :
    (iblk m c 0 t : Vec F S128x128 .i32) = m ((c.tc : Thread nD τ).loc main_arg0) := by
  funext y
  unfold iblk
  rw [View.read_apply]
  refine (congrFun (V_main_arg0 m c) _).trans (congrArg (m ((c.tc : Thread nD τ).loc main_arg0)) (funext fun a => Fin.ext ?_))
  match a with
  | ⟨0, _⟩ => show 0 * 128 + 1 * (y 0).val = (y 0).val; omega
  | ⟨1, _⟩ => show 0 * 128 + 1 * (y 1).val = (y 1).val; omega

theorem quiescent : Cert.quiescent_TailIdeal (hTailIdeal := Cert.TailIdeal.Gen.facts) (hPre_tables_fit := Cert.Pre_tables_fit.Gen.facts) :=
  fun m g hpre => frame m g fun c t => by
    rw [iblk0_eq]
    exact fits (haveI := Cert.Pre_tables_fit.Gen.facts; Cert.Fit.lines_of _ _ _ _ _ _ _ _ _ _ (hpre c))

end Cert.TailIdeal.Run

namespace Cert.Tail.Run

open Cert.Tail Cert.Tail.Gen
open Idealize.ShloMosaic Idealize.ShloMosaic.TcCoe Idealize.ShloMosaic.Tactic Idealize.SL.Sem

theorem fits {x : IVec S128x128 32} (h : ∀ k, Cert.Fit.Lines x k) {F : FTy → Type} [FloatOps F] : Fits (F := F) x :=
  ⟨⟨(h 0).one.1.bucket.start_le, (h 0).one.1.bucket.rows_le, (h 0).one.1.bucket.dvd, (h 0).one.1.bucket.fits⟩,
    ⟨(h 0).two.1.bucket.start_le, (h 0).two.1.bucket.rows_le, (h 0).two.1.bucket.dvd, (h 0).two.1.bucket.fits⟩,
    ⟨(h 0).three.1.bucket.start_le, (h 0).three.1.bucket.rows_le, (h 0).three.1.bucket.dvd, (h 0).three.1.bucket.fits⟩,
    fun k j => by
      match j with
      | ⟨0, _⟩ => exact (h k).one.2
      | ⟨1, _⟩ => exact (h k).two.2
      | ⟨2, _⟩ => exact (h k).three.2⟩

theorem iblk0_eq {F : FTy → Type} [FloatOps F] (m : (ℓ : Loc nD τ sig) → Buf (Elt F) ℓ) (c : Dev nD) (t : Fin cfg0.N) :
    (iblk m c 0 t : Vec F S128x128 .i32) = m ((c.tc : Thread nD τ).loc main_arg0) := by
  funext y
  unfold iblk
  rw [View.read_apply]
  refine (congrFun (V_main_arg0 m c) _).trans (congrArg (m ((c.tc : Thread nD τ).loc main_arg0)) (funext fun a => Fin.ext ?_))
  match a with
  | ⟨0, _⟩ => show 0 * 128 + 1 * (y 0).val = (y 0).val; omega
  | ⟨1, _⟩ => show 0 * 128 + 1 * (y 1).val = (y 1).val; omega

theorem quiescent : Cert.quiescent_Tail (hTail := Cert.Tail.Gen.facts) (hPre_tables_fit := Cert.Pre_tables_fit.Gen.facts) :=
  fun m g hpre => frame m g fun c t => by
    rw [iblk0_eq]
    exact fits (haveI := Cert.Pre_tables_fit.Gen.facts; Cert.Fit.lines_of _ _ _ _ _ _ _ _ _ _ (hpre c))

end Cert.Tail.Run

end
-- ==== Proof.Head.Points.lean ====
/- What the three runs of the head kernel's body share: the two conditions of the body as conditions on the grid point,
   the points at which the output windows are idle, and the names of the staging and scratch buffers. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body -/

/-- The body's first condition: the grid point is the first. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (fun t => by
    have ht : t.val < 32 := Nat.lt_of_lt_of_eq t.isLt N_0
    have e0 : (grid0.coords t 0).val = t.val / 1 % 32 := Pipeline.Grid.coords_val t 0 (by decide) rfl
    simp only [isFirst, e0]
    word_cmp
   : ∀ t : Fin grid0.N, isFirst (grid0.coords t) ↔ t.val = 0)

/-- The body's second condition: the grid point is the last. -/
abbrev isLast (i : grid0.Coords) : Prop := k0_cond2 i = 1#1
theorem isLast_iff : ∀ t : Fin cfg0.N, isLast (grid0.coords t) ↔ t.val = 31 :=
  (fun t => by
    have ht : t.val < 32 := Nat.lt_of_lt_of_eq t.isLt N_0
    have e0 : (grid0.coords t 0).val = t.val / 1 % 32 := Pipeline.Grid.coords_val t 0 (by decide) rfl
    simp only [isLast, k0_cond2, e0]
    word_cmp
   : ∀ t : Fin grid0.N, isLast (grid0.coords t) ↔ t.val = 31)

/-! ## Where the windows are idle -/

/-- Before the last point the pipeline leaves output window 6 alone. -/
theorem idleAt_6 : ∀ t : Fin cfg0.N, ¬isLast (grid0.coords t) → cfg0.idle 6 (grid0.coords t) = true := by decide +kernel
/-- Before the last point output window 6 is not written back. -/
theorem noFlush_6 : ∀ t : Fin cfg0.N, ¬isLast (grid0.coords t) → (cfg0.win 6).flush t = false := by decide +kernel
/-- At the last point output window 6 is stored into. -/
theorem liveAt_6 : ∀ t : Fin cfg0.N, isLast (grid0.coords t) → cfg0.idle 6 (grid0.coords t) = false := by decide +kernel
/-- Before the last point the pipeline leaves output window 7 alone. -/
theorem idleAt_7 : ∀ t : Fin cfg0.N, ¬isLast (grid0.coords t) → cfg0.idle 7 (grid0.coords t) = true := by decide +kernel
/-- Before the last point output window 7 is not written back. -/
theorem noFlush_7 : ∀ t : Fin cfg0.N, ¬isLast (grid0.coords t) → (cfg0.win 7).flush t = false := by decide +kernel
/-- At the last point output window 7 is stored into. -/
theorem liveAt_7 : ∀ t : Fin cfg0.N, isLast (grid0.coords t) → cfg0.idle 7 (grid0.coords t) = false := by decide +kernel

/-! ## The buffers the body is run on -/

abbrev ms_0 (t : Fin cfg0.N) : Memref sig .tc .vmem S8x2048 .i32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S8x2048 .i32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x512x1280 .fp8e4m3 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S8x2048 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1280x20003 .fp8e4m3 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1x20003 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S8x2048 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S8x2048 .f32 := win0_7.stage (cfg0.slots t 7)
abbrev hs_7 (t : Fin cfg0.N) : (ms_7 t).IsWhole := hstage0_7 ((cfg0.slots t 7).cast nbuf0_7)
abbrev scr_0 : Memref sig .tc .vmem S128x128 .i32 := Memref.whole cc0_scratch0
abbrev scr_1 : Memref sig .tc .vmem S128x128 .i32 := Memref.whole cc0_scratch1
abbrev scr_2 : Memref sig .tc .vmem S128x128 .f32 := Memref.whole cc0_scratch2
abbrev scr_3 : Memref sig .tc .vmem S128x128 .f32 := Memref.whole cc0_scratch3
abbrev scr_4 : Memref sig .tc .vmem S128x128 .f32 := Memref.whole cc0_scratch4

/-- Every scratch buffer at some contents, and the generator register at some state. -/
theorem PhiA_eq (c : Dev nD) :
    (Pipeline.ΦA spec0 c : sProp 𝕄) = iprop(iprop((∃ d, owns (c : Thread nD τ) scr_0 fullShare d) ∗ (∃ d, owns (c : Thread nD τ) scr_1 fullShare d) ∗ (∃ d, owns (c : Thread nD τ) scr_2 fullShare d) ∗ (∃ d, owns (c : Thread nD τ) scr_3 fullShare d) ∗ (∃ d, owns (c : Thread nD τ) scr_4 fullShare d)) ∗ (∃ r, prngReg c r)) := by
  unfold Pipeline.ΦA; rw [scopedRest0_eq]; simp only [scr_0, scr_1, scr_2, scr_3, scr_4, owns_whole]; try rfl

/-! ## Where the body reads and writes rows, at the first and at the last point -/

theorem off1_first_0 : ∀ i : grid0.Coords, isFirst i → k0_off1 i 0#32 = ![0, 0] := by decide +kernel
theorem off1_first_1 : ∀ i : grid0.Coords, isFirst i → k0_off1 i 8#32 = ![8, 0] := by decide +kernel
theorem off1_first_2 : ∀ i : grid0.Coords, isFirst i → k0_off1 i 16#32 = ![16, 0] := by decide +kernel
theorem off1_first_3 : ∀ i : grid0.Coords, isFirst i → k0_off1 i 24#32 = ![24, 0] := by decide +kernel
theorem off1_last_0 : ∀ i : grid0.Coords, isLast i → k0_off1 i 0#32 = ![103, 0] := by decide +kernel
theorem off1_last_1 : ∀ i : grid0.Coords, isLast i → k0_off1 i 8#32 = ![111, 0] := by decide +kernel
theorem off1_last_2 : ∀ i : grid0.Coords, isLast i → k0_off1 i 16#32 = ![119, 0] := by decide +kernel
theorem off1_last_3 : ∀ i : grid0.Coords, isLast i → k0_off1 i 24#32 = ![127, 0] := by decide +kernel
instance closed_first_0 (i : grid0.Coords) [h : Fact (isFirst i)] : ClosedOff (k0_off1 i 0#32) := ⟨![0, 0], off1_first_0 i h.out⟩
instance closed_first_1 (i : grid0.Coords) [h : Fact (isFirst i)] : ClosedOff (k0_off1 i 8#32) := ⟨![8, 0], off1_first_1 i h.out⟩
instance closed_first_2 (i : grid0.Coords) [h : Fact (isFirst i)] : ClosedOff (k0_off1 i 16#32) := ⟨![16, 0], off1_first_2 i h.out⟩
instance closed_first_3 (i : grid0.Coords) [h : Fact (isFirst i)] : ClosedOff (k0_off1 i 24#32) := ⟨![24, 0], off1_first_3 i h.out⟩
instance closed_last_0 (i : grid0.Coords) [h : Fact (isLast i)] : ClosedOff (k0_off1 i 0#32) := ⟨![103, 0], off1_last_0 i h.out⟩
instance closed_last_1 (i : grid0.Coords) [h : Fact (isLast i)] : ClosedOff (k0_off1 i 8#32) := ⟨![111, 0], off1_last_1 i h.out⟩
instance closed_last_2 (i : grid0.Coords) [h : Fact (isLast i)] : ClosedOff (k0_off1 i 16#32) := ⟨![119, 0], off1_last_2 i h.out⟩
instance closed_last_3 (i : grid0.Coords) [h : Fact (isLast i)] : ClosedOff (k0_off1 i 24#32) := ⟨![127, 0], off1_last_3 i h.out⟩

end Cert.KernelIdeal.Head

end
-- ==== Proof.Head.Tile.lean ====
/- What the head kernel computes at one grid point, as functions of what it loads: the looked-up columns, the state the
   chunks of columns are folded into, and the two tiles of 512 tokens. A tile is stored as four rows of 128 tokens. -/
module

public import proofs.«01_k».proof.Proof.Head.Points
public import Idealize.ShloMosaic.Lib.Pipeline.Value
public import Idealize.ShloMosaic.Lib.Pointwise
public import Idealize.ShloMosaic.Lib.WholeRead

@[expose] public section

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic (ix1 ix2 ix3)
open Idealize.ShloMosaic.Pipeline (Dat Cfg Window BodyObligation cellOf)

variable {F : FTy → Type} [FloatOps F]

local notation "𝕄" => MT nD τ sig Unit (Elt F) ℕ (UR sig nD τ) ℕ

/-! ## The rows of a grid point -/

/-- Row `k` of the four rows of 128 tokens a grid point works on. -/
abbrev row (i : grid0.Coords) (k : Fin 4) : Rect S128x128 :=
  Rect.unit (s := S128x128) (k0_off1 i (BitVec.ofNat 32 (8 * k.val))) S1x128.size (k0_off1_inb i k)

/-- Where row `k` of grid point `i` lies. -/
theorem row_off : ∀ (i : grid0.Coords) (k : Fin 4),
    k0_off1 i (BitVec.ofNat 32 (8 * k.val)) = ![32 * ((i 0).val % 4) + (i 0).val / 4 + 8 * k.val, 0] := by decide +kernel

/-- Columns `512 k` to `512 k + 511` of the weights. -/
abbrev wChunk (k : Fin k0_t1_loop.trips) : Rect S1280x20003 := Rect.unit (s := S1280x20003) (k0_off2 k) S1280x512.size (k0_off2_inb k)
/-- The scales of those columns. -/
abbrev sChunk (k : Fin k0_t1_loop.trips) : Rect S1x20003 := Rect.unit (s := S1x20003) (k0_off3 k) S1x512.size (k0_off3_inb k)
/-- The last 35 columns of the weights. -/
abbrev wTail : Rect S1280x20003 := Rect.unit (s := S1280x20003) ![0, 19968] S1280x35.size inb_S1280x20003_S1280x35_0_19968
/-- The scales of the last 35 columns. -/
abbrev sTail : Rect S1x20003 := Rect.unit (s := S1x20003) ![0, 19968] S1x35.size inb_S1x20003_S1x35_0_19968

/-! ## The tile of a grid point -/

/-- The state folded over the columns: running maximum, running sum, looked-up logit. -/
abbrev Carry (F : FTy → Type) := FVec F S512x1 .f32 × FVec F S512x1 .f32 × FVec F S512x1 .f32

variable (q9 q10 : Fin 4 → Vec F S1x128 .i32) (q11 : Fin 4 → Vec F S1x128 .f32) (x2 : Vec F S1x512x1280 .fp8e4m3)
  (x4 : Vec F S1280x20003 .fp8e4m3) (x5 : Vec F S1x20003 .f32)

/-- The looked-up columns of the 512 tokens. -/
def cols : IVec S1x512 32 := k0_pay51 (F := F) (q9 0) (q9 1) (q9 2) (q9 3) (q10 0) (q10 1) (q10 2) (q10 3)

/-- One chunk of 512 columns folded into the state. -/
def step (k : Fin k0_t1_loop.trips) (a : Carry F) : Carry F :=
  (k0_pay59 (q11 0) (q11 1) (q11 2) (q11 3) x2 a.1 (View.ld x4 (wChunk k)) (View.ld x5 (sChunk k)),
   k0_pay60 (q11 0) (q11 1) (q11 2) (q11 3) x2 a.1 a.2.1 (View.ld x4 (wChunk k)) (View.ld x5 (sChunk k)),
   k0_pay61 (cols q9 q10) (q11 0) (q11 1) (q11 2) (q11 3) x2 k a.2.2 (View.ld x4 (wChunk k)) (View.ld x5 (sChunk k)))

/-- The state before chunk `n`. -/
def carry : ℕ → Carry F
  | 0 => (k0_pay55, k0_pay56, k0_pay57)
  | n + 1 => if h : n < k0_t1_loop.trips then step q9 q10 q11 x2 x4 x5 ⟨n, h⟩ (carry n) else carry n

/-- The state after the last whole chunk. -/
def carried : Carry F := carry q9 q10 q11 x2 x4 x5 39

/-- The log-probabilities of the tile's tokens (the same in every column). -/
def lpTile : FVec F S512x128 .f32 :=
  k0_pay65 (k0_pay52 (cols q9 q10)) (k0_pay53 (q11 0) (q11 1) (q11 2) (q11 3)) (k0_pay54 x2) (carried q9 q10 q11 x2 x4 x5).1 (carried q9 q10 q11 x2 x4 x5).2.1
    (carried q9 q10 q11 x2 x4 x5).2.2 (View.ld x4 wTail) (View.ld x5 sTail)

/-- The log-sum-exps of the tile's tokens (the same in every column). -/
def lseTile : FVec F S512x128 .f32 :=
  k0_pay64 (k0_pay53 (q11 0) (q11 1) (q11 2) (q11 3)) (k0_pay54 x2) (carried q9 q10 q11 x2 x4 x5).1 (carried q9 q10 q11 x2 x4 x5).2.1 (View.ld x4 wTail) (View.ld x5 sTail)

/-- Loading a whole block of codes gives the block. -/
theorem ld_codes (x2 : Vec F S1x512x1280 .fp8e4m3) (h) : View.ld x2 (Rect.unit (s := S1x512x1280) ![0, 0, 0] S1x512x1280.size h) = x2 :=
  View.ld_unit_zero (S := S1x512x1280) (by funext k; revert k; decide) h x2

/-- The rows of a scratch buffer a grid point loads. -/
abbrev ldRow {e : EltTy} (i : grid0.Coords) (r : Vec F S128x128 e) (k : Fin 4) : Vec F S1x128 e := View.ld r (row i k)

/-! ## A tile as four rows -/

/-- Tokens `128 k` to `128 k + 127` of a tile, as a row. -/
def rowOf (w : FVec F S512x128 .f32) (k : Fin 4) : Vec F S1x128 .f32 :=
  fun y => w (ix2 (n0 := 512) (n1 := 128) ⟨128 * k.val + (y 1).val, by have h : (y 1).val < 128 := (y 1).isLt; have := k.isLt; omega⟩ 0)

/-- The four stores of a tile, last first. -/
def rowPieces (i : grid0.Coords) (w : FVec F S512x128 .f32) : List (View.Piece (Elt F) S128x128 .f32) :=
  [⟨row i 3, rowOf w 3⟩, ⟨row i 2, rowOf w 2⟩, ⟨row i 1, rowOf w 1⟩, ⟨row i 0, rowOf w 0⟩]

theorem pay68_eq (w : FVec F S512x128 .f32) : k0_pay68 w = rowOf w 0 := by
  funext y; simp only [k0_pay68, rowOf]; pointwise
theorem pay70_eq (w : FVec F S512x128 .f32) : k0_pay70 w = rowOf w 1 := by
  funext y; simp only [k0_pay70, rowOf]; pointwise
theorem pay72_eq (w : FVec F S512x128 .f32) : k0_pay72 w = rowOf w 2 := by
  funext y; simp only [k0_pay72, rowOf]; pointwise
theorem pay2_eq (w : FVec F S512x128 .f32) : k0_pay2 w = rowOf w 3 := by
  funext y; simp only [k0_pay2, rowOf]; pointwise
theorem pay69_eq (w : FVec F S512x128 .f32) : k0_pay69 w = rowOf w 1 := by
  funext y; simp only [k0_pay69, rowOf]; pointwise
theorem pay71_eq (w : FVec F S512x128 .f32) : k0_pay71 w = rowOf w 2 := by
  funext y; simp only [k0_pay71, rowOf]; pointwise
theorem pay67_eq (a : FVec F S512x1 .f32) (b : FVec F S512x1280 .fp8e4m3) (m s : FVec F S512x1 .f32) (w : Vec F S1280x35 .fp8e4m3) (z : Vec F S1x35 .f32) :
    k0_pay67 (k0_pay66 a b m s w z) = rowOf (k0_pay64 a b m s w z) 0 := pay68_eq (k0_pay64 a b m s w z)
theorem pay1_eq (w : FVec F S512x128 .f32) : k0_pay1 (k0_pay73 w) = rowOf w 3 := by
  funext y; simp only [k0_pay1, k0_pay73, rowOf]; pointwise

end Cert.KernelIdeal.Head

end
-- ==== Proof.Head.Rows.lean ====
/- The scratch layout: an 8 × 2048 array as 128 rows of 128, the stores that copy one into the other, and the stores of one
   tile. -/
module

public import proofs.«01_k».proof.Proof.Head.Tile
public import Idealize.ShloMosaic.Lib.Pipeline.ValueKit.Geometry
public import Idealize.ShloMosaic.Lib.Pipeline.ValueKit.Tiles
public import Idealize.ShloMosaic.Lib.WritesUnit

@[expose] public section

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable {e : EltTy} {κ : Kind} {sp : Space}

/-! ## Copying in and out -/

/-- An 8 × 2048 array as 128 rows of 128: row `8 k + b` holds elements `128 k` to `128 k + 127` of row `b`. -/
def rows (x : Vec F S8x2048 e) : Vec F S128x128 e := fun y =>
  x (ix2 (n0 := 8) (n1 := 2048) ⟨(y 0).val % 8, Nat.mod_lt _ (by omega)⟩
    ⟨128 * ((y 0).val / 8) + (y 1).val, by have h0 : (y 0).val < 128 := (y 0).isLt; have h1 : (y 1).val < 128 := (y 1).isLt; omega⟩)

/-- The same the other way. -/
def unrows (d : Vec F S128x128 e) : Vec F S8x2048 e := fun y =>
  d (ix2 (n0 := 128) (n1 := 128) ⟨8 * ((y 1).val / 128) + (y 0).val, by have h0 : (y 0).val < 8 := (y 0).isLt; have h1 : (y 1).val < 2048 := (y 1).isLt; omega⟩
    ⟨(y 1).val % 128, Nat.mod_lt _ (by omega)⟩)

theorem inbR (k : Fin 16) : ∀ a, (![8 * (15 - k.val), 0] : Fin S128x128.rank → ℕ) a + S8x128.size a ≤ S128x128.size a := by
  intro a; fin_cases a
  · show 8 * (15 - k.val) + 8 ≤ 128; omega
  · show 0 + 128 ≤ 128; omega

theorem inbC (k : Fin 16) : ∀ a, (![0, 128 * (15 - k.val)] : Fin S8x2048.rank → ℕ) a + S8x128.size a ≤ S8x2048.size a := by
  intro a; fin_cases a
  · show 0 + 8 ≤ 8; omega
  · show 128 * (15 - k.val) + 128 ≤ 2048; omega

/-- Eight rows of the scratch. -/
abbrev rect8 (k : Fin 16) : Rect S128x128 := Rect.unit (s := S128x128) ![8 * (15 - k.val), 0] S8x128.size (inbR k)
/-- The 128 columns that go there. -/
abbrev rect128 (k : Fin 16) : Rect S8x2048 := Rect.unit (s := S8x2048) ![0, 128 * (15 - k.val)] S8x128.size (inbC k)

/-- The sixteen stores that copy an array in, last first. -/
def rowsPieces (x : Vec F S8x2048 e) : List (View.Piece (Elt F) S128x128 e) := List.ofFn fun k : Fin 16 => ⟨rect8 k, View.ld x (rect128 k)⟩
/-- The sixteen stores that copy an array out, last first. -/
def unrowsPieces (d : Vec F S128x128 e) : List (View.Piece (Elt F) S8x2048 e) := List.ofFn fun k : Fin 16 => ⟨rect128 k, View.ld d (rect8 k)⟩

/-- After the stores the buffer reads as the rows. -/
theorem read_rowsPieces (v : View sig κ sp S128x128 e) (f : v.ty.Contents (Elt F)) (x : Vec F S8x2048 e) :
    v.read (Elt F) (v.writes (Elt F) f (rowsPieces x)) = rows x := by
  funext y
  refine View.read_writes_apply_of_pieces v f (rows x) (rowsPieces x) ?_ y ?_
  · intro p hp z
    obtain ⟨k, rfl⟩ := List.mem_ofFn.mp hp
    have z0 : (z 0).val < 8 := (z 0).isLt
    have e0 : ((rect8 k).emb z 0).val = 8 * (15 - k.val) + (z 0).val := ValueKit.rect_emb_unit_val _ _ _ z 0
    have e1 : ((rect8 k).emb z 1).val = 0 + (z 1).val := ValueKit.rect_emb_unit_val _ _ _ z 1
    have i0 : ((rect128 k).idx z 0).val = 0 + (z 0).val := Rect.idx_unit_val (s := S8x2048) ![0, 128 * (15 - k.val)] S8x128.size (inbC k) z 0
    have i1 : ((rect128 k).idx z 1).val = 128 * (15 - k.val) + (z 1).val := Rect.idx_unit_val (s := S8x2048) ![0, 128 * (15 - k.val)] S8x128.size (inbC k) z 1
    show x ((rect128 k).idx z) = x _
    congr 1
    refine (eq_ix2 _).trans ?_
    congr 1 <;> apply Fin.ext <;> dsimp only <;> omega
  · have h0 : (y 0).val < 128 := (y 0).isLt
    have h1 : (y 1).val < 128 := (y 1).isLt
    refine ⟨_, List.mem_ofFn.mpr ⟨⟨15 - (y 0).val / 8, by omega⟩, rfl⟩, (Rect.mem_set_unit (inb := inbR _)).mpr fun a => ?_⟩
    fin_cases a
    · show 8 * (15 - (15 - (y 0).val / 8)) ≤ (y 0).val ∧ (y 0).val < 8 * (15 - (15 - (y 0).val / 8)) + 8; omega
    · show 0 ≤ (y 1).val ∧ (y 1).val < 0 + 128; omega

/-- After the stores the window reads as the array. -/
theorem read_unrowsPieces (v : View sig κ sp S8x2048 e) (f : v.ty.Contents (Elt F)) (d : Vec F S128x128 e) :
    v.read (Elt F) (v.writes (Elt F) f (unrowsPieces d)) = unrows d := by
  funext y
  refine View.read_writes_apply_of_pieces v f (unrows d) (unrowsPieces d) ?_ y ?_
  · intro p hp z
    obtain ⟨k, rfl⟩ := List.mem_ofFn.mp hp
    have z0 : (z 0).val < 8 := (z 0).isLt
    have z1 : (z 1).val < 128 := (z 1).isLt
    have e0 : ((rect128 k).emb z 0).val = 0 + (z 0).val := ValueKit.rect_emb_unit_val _ _ _ z 0
    have e1 : ((rect128 k).emb z 1).val = 128 * (15 - k.val) + (z 1).val := ValueKit.rect_emb_unit_val _ _ _ z 1
    have i0 : ((rect8 k).idx z 0).val = 8 * (15 - k.val) + (z 0).val := Rect.idx_unit_val (s := S128x128) ![8 * (15 - k.val), 0] S8x128.size (inbR k) z 0
    have i1 : ((rect8 k).idx z 1).val = 0 + (z 1).val := Rect.idx_unit_val (s := S128x128) ![8 * (15 - k.val), 0] S8x128.size (inbR k) z 1
    show d ((rect8 k).idx z) = d _
    congr 1
    refine (eq_ix2 _).trans ?_
    congr 1 <;> apply Fin.ext <;> dsimp only <;> omega
  · have h0 : (y 0).val < 8 := (y 0).isLt
    have h1 : (y 1).val < 2048 := (y 1).isLt
    refine ⟨_, List.mem_ofFn.mpr ⟨⟨15 - (y 1).val / 128, by omega⟩, rfl⟩, (Rect.mem_set_unit (inb := inbC _)).mpr fun a => ?_⟩
    fin_cases a
    · show 0 ≤ (y 0).val ∧ (y 0).val < 0 + 8; omega
    · show 128 * (15 - (15 - (y 1).val / 128)) ≤ (y 1).val ∧ (y 1).val < 128 * (15 - (15 - (y 1).val / 128)) + 128; omega

/-- A load of a buffer just copied in. -/
theorem readCov_rowsPieces [∀ e, Nonempty (Elt F e)] (v : View sig κ sp S128x128 e) (x : Vec F S8x2048 e) (r : Rect S128x128) :
    v.readCov (rowsPieces x) r.toLoadRect = View.ld (rows x) r := by
  unfold View.readCov; rw [View.readAt_eq_ld, read_rowsPieces]

end

/-! ## The stores of a tile -/

/-- The first row of a grid point; the others follow at distance 8. -/
abbrev base (i : grid0.Coords) : ℕ := 32 * ((i 0).val % 4) + (i 0).val / 4

/-- A row of grid point `i` determines which of its four rows it is. -/
theorem row_mid (n k r : ℕ) (hn : n < 32) (hk : k < 4) (hr : r = 32 * (n % 4) + n / 4 + 8 * k) : r / 8 % 4 = k := by
  have hb : n / 4 < 8 := by omega
  generalize n % 4 = a at *
  generalize n / 4 = b at *
  omega

/-- The rows of the grid point read as the tile's. -/
theorem read_rowPieces_mem {κ : Kind} {sp : Space} (v : View sig κ sp S128x128 .f32) (f : v.ty.Contents (Elt F)) (i : grid0.Coords)
    (w : FVec F S512x128 .f32) (y : S128x128.Idx) (k : Fin 4) (hy : (y 0).val = base i + 8 * k.val) :
    v.read (Elt F) (v.writes (Elt F) f (rowPieces i w)) y
      = w (ix2 (n0 := 512) (n1 := 128) ⟨128 * k.val + (y 1).val, by have h : (y 1).val < 128 := (y 1).isLt; have := k.isLt; omega⟩ 0) := by
  have hi : (i 0).val < 32 := (i 0).isLt
  have h1 : (y 1).val < 128 := (y 1).isLt
  have hk := k.isLt
  have hmem : ∀ q ∈ rowPieces i w, ∃ k : Fin 4, q = ⟨row i k, rowOf w k⟩ := by
    intro q hq
    simp only [rowPieces, List.mem_cons, List.not_mem_nil, or_false] at hq
    rcases hq with rfl | rfl | rfl | rfl
    exacts [⟨3, rfl⟩, ⟨2, rfl⟩, ⟨1, rfl⟩, ⟨0, rfl⟩]
  refine (View.read_writes_apply_of_pieces v f (fun z => w (ix2 (n0 := 512) (n1 := 128) ⟨128 * (((z 0).val / 8) % 4) + (z 1).val, by have h : (z 1).val < 128 := (z 1).isLt; omega⟩ 0)) (rowPieces i w) ?_ y ?_).trans ?_
  · intro p hp z
    obtain ⟨k', rfl⟩ := hmem p hp
    have hk' := k'.isLt
    have z0 : (z 0).val < 1 := (z 0).isLt
    have e0 : ((row i k').emb z 0).val = k0_off1 i (BitVec.ofNat 32 (8 * k'.val)) 0 + (z 0).val := ValueKit.rect_emb_unit_val _ _ _ z 0
    have e1 : ((row i k').emb z 1).val = k0_off1 i (BitVec.ofNat 32 (8 * k'.val)) 1 + (z 1).val := ValueKit.rect_emb_unit_val _ _ _ z 1
    rw [row_off] at e0 e1
    have e0' : ((row i k').emb z 0).val = 32 * ((i 0).val % 4) + (i 0).val / 4 + 8 * k'.val + (z 0).val := e0
    have e1' : ((row i k').emb z 1).val = 0 + (z 1).val := e1
    show w (ix2 _ _) = w (ix2 _ _)
    congr 2; apply Fin.ext; dsimp only; rw [row_mid _ k'.val _ hi hk' (show _ = _ by omega)]; omega
  · refine ⟨⟨row i k, rowOf w k⟩, ?_, (Rect.mem_set_unit (inb := k0_off1_inb i k)).mpr fun a => ?_⟩
    · fin_cases k <;> simp [rowPieces]
    · rw [row_off]; fin_cases a
      · show 32 * ((i 0).val % 4) + (i 0).val / 4 + 8 * k.val ≤ (y 0).val ∧ (y 0).val < 32 * ((i 0).val % 4) + (i 0).val / 4 + 8 * k.val + 1
        unfold base at hy; omega
      · show 0 ≤ (y 1).val ∧ (y 1).val < 0 + 128; omega
  · congr 2; apply Fin.ext; dsimp only; rw [row_mid _ k.val _ hi hk hy]

/-- The other rows read as before. -/
theorem read_rowPieces_not_mem {κ : Kind} {sp : Space} (v : View sig κ sp S128x128 .f32) (f : v.ty.Contents (Elt F)) (i : grid0.Coords)
    (w : FVec F S512x128 .f32) (y : S128x128.Idx) (hy : ∀ k : Fin 4, (y 0).val ≠ base i + 8 * k.val) :
    v.read (Elt F) (v.writes (Elt F) f (rowPieces i w)) y = v.read (Elt F) f y := by
  unfold rowPieces
  have h : ∀ (k : Fin 4) (p : FVec F S1x128 .f32) (L), v.read (Elt F) (v.writes (Elt F) f (⟨row i k, p⟩ :: L)) y = v.read (Elt F) (v.writes (Elt F) f L) y := by
    intro k p L
    refine View.read_writes_cons_rows_of_not_mem (W := 1) v f _ p L y (row_off i k) rfl ?_
    have := hy k; unfold base at this; omega
  rw [h, h, h, h]; rfl

end Cert.KernelIdeal.Head

end
-- ==== Proof.Head.Invariant.lean ====
/- What the two result buffers in scratch hold as the grid advances: before point `n` the rows of the points before `n`. -/
module

public import proofs.«01_k».proof.Proof.Head.Rows

@[expose] public section

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Which point a row belongs to -/

/-- The grid point whose tile row `r` of the scratch is part of. -/
abbrev point (r : ℕ) : ℕ := 4 * (r % 8) + r / 32

theorem point_lt (y : S128x128.Idx) : point (y 0).val < cfg0.N := by
  have h : (y 0).val < 128 := (y 0).isLt
  rw [show cfg0.N = 32 from N_0]; unfold point; omega

theorem coord_eq : ∀ t : Fin cfg0.N, (grid0.coords t 0).val = t.val := by decide +kernel

/-- The rows of point `n` are those whose point is `n`. -/
theorem point_row (n k r : ℕ) (hn : n < 32) (hk : k < 4) (hr : r = 32 * (n % 4) + n / 4 + 8 * k) : point r = n := by
  unfold point
  have hb : n / 4 < 8 := by omega
  have hc : n = 4 * (n / 4) + n % 4 := by omega
  have ha : n % 4 < 4 := by omega
  generalize n % 4 = a at *
  generalize n / 4 = b at *
  subst hc hr
  omega

theorem row_point (n r : ℕ) (hr : r < 128) (h : point r = n) : r = 32 * (n % 4) + n / 4 + 8 * (r / 8 % 4) := by
  unfold point at h
  have h1 : r % 8 < 8 := by omega
  have h2 : r / 32 < 4 := by omega
  have h3 : n % 4 = r / 32 := by omega
  have h4 : n / 4 = r % 8 := by omega
  omega

/-! ## The results, and how much of them a buffer holds -/

/-- The tiles of all the points, as 128 rows. -/
def gather (tile : Fin cfg0.N → FVec F S512x128 .f32) : Vec F S128x128 .f32 := fun y =>
  tile ⟨point (y 0).val, point_lt y⟩ (ix2 (n0 := 512) (n1 := 128)
    ⟨128 * ((y 0).val / 8 % 4) + (y 1).val, by have h : (y 1).val < 128 := (y 1).isLt; omega⟩ 0)

/-- A buffer holds the rows of the points before `n`. -/
def Agree (tile : Fin cfg0.N → FVec F S512x128 .f32) (n : ℕ) (d : Vec F S128x128 .f32) : Prop :=
  ∀ y : S128x128.Idx, point (y 0).val < n → d y = gather tile y

/-- No rows are needed before the first point. -/
theorem agree_zero (tile : Fin cfg0.N → FVec F S512x128 .f32) (d) : Agree tile 0 d := fun _ h => absurd h (Nat.not_lt_zero _)

/-- Storing a point's tile adds its rows. -/
theorem agree_step (tile : Fin cfg0.N → FVec F S512x128 .f32) (t : Fin cfg0.N) (b : Memref sig .tc .vmem S128x128 .f32) (hb : b.IsWhole)
    (d : Vec F S128x128 .f32) (h : Agree tile t.val d) :
    Agree tile (t.val + 1) (b.view.read (Elt F) (b.view.writes (Elt F) (hb.unread d) (rowPieces (grid0.coords t) (tile t)))) := by
  intro y hy
  have ht : t.val < 32 := lt_of_lt_of_eq t.isLt (show cfg0.N = 32 from N_0)
  have hr : (y 0).val < 128 := (y 0).isLt
  by_cases hp : point (y 0).val = t.val
  · have hrow := row_point _ _ hr hp
    have hk : (y 0).val / 8 % 4 < 4 := Nat.mod_lt _ (by omega)
    have hpt : (⟨point (y 0).val, point_lt y⟩ : Fin cfg0.N) = t := Fin.ext hp
    rw [read_rowPieces_mem b.view _ (grid0.coords t) (tile t) y ⟨(y 0).val / 8 % 4, hk⟩ (by unfold base; rw [coord_eq]; exact hrow)]
    unfold gather; rw [hpt]
  · rw [read_rowPieces_not_mem b.view _ _ _ _ (fun k hk => hp (point_row _ _ _ ht k.isLt (by unfold base at hk; rw [coord_eq] at hk; exact hk))),
      hb.read_unread]
    exact h y (by omega)

/-- After the last point the buffer holds the results. -/
theorem agree_last (tile : Fin cfg0.N → FVec F S512x128 .f32) (n : ℕ) (hn : n = 32) (d) (h : Agree tile n d) : d = gather tile := by
  subst hn; funext y
  exact h y (lt_of_lt_of_eq (point_lt y) (show cfg0.N = 32 from N_0))

/-! ## The tiles of the run -/

/-- The log-probabilities of point `t`'s tokens, from the point's blocks. -/
def lpAt (c : Dev nD) (t : Fin cfg0.N) : FVec F S512x128 .f32 :=
  lpTile (ldRow (grid0.coords t) (rows (iblk m c 0 t))) (ldRow (grid0.coords t) (rows (iblk m c 1 t))) (ldRow (grid0.coords t) (rows (iblk m c 3 t)))
    (iblk m c 2 t) (iblk m c 4 t) (iblk m c 5 t)

/-- The log-sum-exps of point `t`'s tokens, from the point's blocks. -/
def lseAt (c : Dev nD) (t : Fin cfg0.N) : FVec F S512x128 .f32 :=
  lseTile (ldRow (grid0.coords t) (rows (iblk m c 0 t))) (ldRow (grid0.coords t) (rows (iblk m c 1 t))) (ldRow (grid0.coords t) (rows (iblk m c 3 t)))
    (iblk m c 2 t) (iblk m c 4 t) (iblk m c 5 t)

/-- The windows copied into scratch are whole arrays: their block is the same at every point. -/
theorem iblk0_const (c : Dev nD) (t t' : Fin cfg0.N) : (iblk m c 0 t : Vec F S8x2048 .i32) = iblk m c 0 t' := rfl
theorem iblk1_const (c : Dev nD) (t t' : Fin cfg0.N) : (iblk m c 1 t : Vec F S8x2048 .i32) = iblk m c 1 t' := rfl
theorem iblk3_const (c : Dev nD) (t t' : Fin cfg0.N) : (iblk m c 3 t : Vec F S8x2048 .f32) = iblk m c 3 t' := rfl

end Cert.KernelIdeal.Head

end
-- ==== Proof.Head.Loop.lean ====
/- The loop of the head kernel over the chunks of columns is the fold `carry`. -/
module

public import proofs.«01_k».proof.Proof.Head.Tile

@[expose] public section

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The state before chunk `n`, as the loop's invariant carries it, is `carry n`. -/
theorem loop_eq (c : Dev nD) (i : grid0.Coords) (arg1 : Memref sig .tc .vmem S8x2048 .i32) (harg1 : arg1.IsWhole) (arg2 : Memref sig .tc .vmem S8x2048 .i32) (harg2 : arg2.IsWhole) (arg3 : Memref sig .tc .vmem S1x512x1280 .fp8e4m3) (harg3 : arg3.IsWhole) (arg4 : Memref sig .tc .vmem S8x2048 .f32) (harg4 : arg4.IsWhole) (arg5 : Memref sig .tc .vmem S1280x20003 .fp8e4m3) (harg5 : arg5.IsWhole) (arg6 : Memref sig .tc .vmem S1x20003 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S128x128 .i32) (harg9 : arg9.IsWhole) (arg10 : Memref sig .tc .vmem S128x128 .i32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole)
    (q9 q10 : Fin 4 → Vec F S1x128 .i32) (q11 : Fin 4 → Vec F S1x128 .f32) (x2 : Vec F S1x512x1280 .fp8e4m3)
    (x4 : Vec F S1280x20003 .fp8e4m3) (x5 : Vec F S1x20003 .f32) : ∀ n ≤ k0_t1_loop.trips,
    st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 (cols q9 q10) (q11 0) (q11 1) (q11 2) (q11 3) x2 (harg5.unread x4) (harg6.unread x5)
      (k0_pay55, k0_pay56, k0_pay57) n = carry q9 q10 q11 x2 x4 x5 n := by
  intro n
  induction n with
  | zero => intro _; rfl
  | succ n ih =>
    intro hn
    rw [st_k0_t1_succ Variants.none c none i arg1 harg1 arg2 harg2 arg3 harg3 arg4 harg4 arg5 harg5 arg6 harg6 arg7 harg7 arg8 harg8 arg9 harg9 arg10 harg10 arg11 harg11 arg12 harg12 arg13 harg13 (cols q9 q10) (q11 0) (q11 1) (q11 2) (q11 3) x2 (harg5.unread x4) (harg6.unread x5) (k0_pay55, k0_pay56, k0_pay57) ⟨n, hn⟩,
      ih (Nat.le_of_succ_le hn), carry, dif_pos (show n < k0_t1_loop.trips from hn)]
    unfold tripR_k0_t1 trip_k0_t1; dsimp only; sl_unfold_words
    simp only [View.readAt_eq_ld, harg5.read_unread, harg6.read_unread]
    rfl

/-- All the chunks. -/
theorem loop_all (c : Dev nD) (i : grid0.Coords) (arg1 : Memref sig .tc .vmem S8x2048 .i32) (harg1 : arg1.IsWhole) (arg2 : Memref sig .tc .vmem S8x2048 .i32) (harg2 : arg2.IsWhole) (arg3 : Memref sig .tc .vmem S1x512x1280 .fp8e4m3) (harg3 : arg3.IsWhole) (arg4 : Memref sig .tc .vmem S8x2048 .f32) (harg4 : arg4.IsWhole) (arg5 : Memref sig .tc .vmem S1280x20003 .fp8e4m3) (harg5 : arg5.IsWhole) (arg6 : Memref sig .tc .vmem S1x20003 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S128x128 .i32) (harg9 : arg9.IsWhole) (arg10 : Memref sig .tc .vmem S128x128 .i32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole)
    (q9 q10 : Fin 4 → Vec F S1x128 .i32) (q11 : Fin 4 → Vec F S1x128 .f32) (x2 : Vec F S1x512x1280 .fp8e4m3)
    (x4 : Vec F S1280x20003 .fp8e4m3) (x5 : Vec F S1x20003 .f32) :
    st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 (cols q9 q10) (q11 0) (q11 1) (q11 2) (q11 3) x2 (harg5.unread x4) (harg6.unread x5)
      (k0_pay55, k0_pay56, k0_pay57) (Scf.trips k0_t1_loop.lb k0_t1_loop.ub k0_t1_loop.st) = carried q9 q10 q11 x2 x4 x5 :=
  loop_eq c i arg1 harg1 arg2 harg2 arg3 harg3 arg4 harg4 arg5 harg5 arg6 harg6 arg7 harg7 arg8 harg8 arg9 harg9 arg10 harg10 arg11 harg11 arg12 harg12 arg13 harg13 q9 q10 q11 x2 x4 x5 39 (by decide +kernel)

end Cert.KernelIdeal.Head

end
-- ==== Proof.Head.RunA.lean ====
/- The head kernel's body at the first grid point: it first copies the cluster numbers, the targets and the scales into rows. -/
module

public import proofs.«01_k».proof.Proof.Head.Points

@[expose] public section

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's run at such a point: the pieces it stores into each buffer it writes (last first), with the proof that the
    body, on whole buffers at the named contents, runs to a continuation holding every other buffer as it was and the
    written ones with their pieces. The pieces are found by the run. -/
noncomputable def runA (c : Dev nD) (i : grid0.Coords) (arg1 : Memref sig .tc .vmem S8x2048 .i32) (harg1 : arg1.IsWhole) (arg2 : Memref sig .tc .vmem S8x2048 .i32) (harg2 : arg2.IsWhole) (arg3 : Memref sig .tc .vmem S1x512x1280 .fp8e4m3) (harg3 : arg3.IsWhole) (arg4 : Memref sig .tc .vmem S8x2048 .f32) (harg4 : arg4.IsWhole) (arg5 : Memref sig .tc .vmem S1280x20003 .fp8e4m3) (harg5 : arg5.IsWhole) (arg6 : Memref sig .tc .vmem S1x20003 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S128x128 .i32) (harg9 : arg9.IsWhole) (arg10 : Memref sig .tc .vmem S128x128 .i32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (hc0 : isFirst i) (hc1 : ¬isLast i)
    (x0 : Vec F S8x2048 .i32) (x1 : Vec F S8x2048 .i32) (x2 : Vec F S1x512x1280 .fp8e4m3) (x3 : Vec F S8x2048 .f32) (x4 : Vec F S1280x20003 .fp8e4m3) (x5 : Vec F S1x20003 .f32) (d7 : Vec F S8x2048 .f32) (d8 : Vec F S8x2048 .f32) (d12 : Vec F S128x128 .f32) (d13 : Vec F S128x128 .f32) :
    Σ' (L9 : List (View.Piece (Elt F) S128x128 .i32)), Σ' (L10 : List (View.Piece (Elt F) S128x128 .i32)), Σ' (L11 : List (View.Piece (Elt F) S128x128 .f32)), Σ' (L12 : List (View.Piece (Elt F) S128x128 .f32)), { L13 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d7 ∗ owns (c : Thread nD τ) arg8 fullShare d8 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare d12 ∗ owns (c : Thread nD τ) arg13 fullShare d13
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d7 ∗ owns (c : Thread nD τ) arg8 fullShare d8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (arg12.view.loc (c : Thread nD τ) ↦[arg12.view.set]{fullShare} arg12.view.writes (Elt F) (harg12.unread d12) L12) ∗ (arg13.view.loc (c : Thread nD τ) ↦[arg13.view.set]{fullShare} arg13.view.writes (Elt F) (harg13.unread d13) L13)) -∗ K ⟨⟩))
          ⊢ wp frame (wpE (defs₀ (F := F)) Variants.none c none) E (cc0_head i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_head_eq_skeleton]; unfold cc0_head_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%f13, %hf13, H13⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg12.eq_unread hf12
    obtain rfl := harg13.eq_unread hf13
    haveI := Fact.mk hc0
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    isplitl [H12]; · iexact H12
    iexact H13

end Cert.KernelIdeal.Head

end
-- ==== Proof.Head.TileA.lean ====
/- What a run of the body at the first point stores: three windows copied into scratch, and the rows of the point's two tiles,
   which are computed from the copies. -/
module

public import proofs.«01_k».proof.Proof.Head.Loop
public import proofs.«01_k».proof.Proof.Head.Rows
public import proofs.«01_k».proof.Proof.Head.RunA

@[expose] public section

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem runA_cluster (c : Dev nD) (i : grid0.Coords) (arg1 : Memref sig .tc .vmem S8x2048 .i32) (harg1 : arg1.IsWhole) (arg2 : Memref sig .tc .vmem S8x2048 .i32) (harg2 : arg2.IsWhole) (arg3 : Memref sig .tc .vmem S1x512x1280 .fp8e4m3) (harg3 : arg3.IsWhole) (arg4 : Memref sig .tc .vmem S8x2048 .f32) (harg4 : arg4.IsWhole) (arg5 : Memref sig .tc .vmem S1280x20003 .fp8e4m3) (harg5 : arg5.IsWhole) (arg6 : Memref sig .tc .vmem S1x20003 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S128x128 .i32) (harg9 : arg9.IsWhole) (arg10 : Memref sig .tc .vmem S128x128 .i32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (hc0 : isFirst i) (hc1 : ¬isLast i)
    (x0 : Vec F S8x2048 .i32) (x1 : Vec F S8x2048 .i32) (x2 : Vec F S1x512x1280 .fp8e4m3) (x3 : Vec F S8x2048 .f32) (x4 : Vec F S1280x20003 .fp8e4m3) (x5 : Vec F S1x20003 .f32) (d7 : Vec F S8x2048 .f32) (d8 : Vec F S8x2048 .f32) (d12 : Vec F S128x128 .f32) (d13 : Vec F S128x128 .f32) :
    (runA c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 d7 d8 d12 d13).1 = rowsPieces x0 := by
  unfold runA; dsimp only; sl_unfold_words
  simp only [k0_pay49, k0_pay50, shapeCast_self, View.readAt_eq_ld, harg1.read_unread]
  rfl

set_option maxHeartbeats 2000000 in
theorem runA_target (c : Dev nD) (i : grid0.Coords) (arg1 : Memref sig .tc .vmem S8x2048 .i32) (harg1 : arg1.IsWhole) (arg2 : Memref sig .tc .vmem S8x2048 .i32) (harg2 : arg2.IsWhole) (arg3 : Memref sig .tc .vmem S1x512x1280 .fp8e4m3) (harg3 : arg3.IsWhole) (arg4 : Memref sig .tc .vmem S8x2048 .f32) (harg4 : arg4.IsWhole) (arg5 : Memref sig .tc .vmem S1280x20003 .fp8e4m3) (harg5 : arg5.IsWhole) (arg6 : Memref sig .tc .vmem S1x20003 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S128x128 .i32) (harg9 : arg9.IsWhole) (arg10 : Memref sig .tc .vmem S128x128 .i32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (hc0 : isFirst i) (hc1 : ¬isLast i)
    (x0 : Vec F S8x2048 .i32) (x1 : Vec F S8x2048 .i32) (x2 : Vec F S1x512x1280 .fp8e4m3) (x3 : Vec F S8x2048 .f32) (x4 : Vec F S1280x20003 .fp8e4m3) (x5 : Vec F S1x20003 .f32) (d7 : Vec F S8x2048 .f32) (d8 : Vec F S8x2048 .f32) (d12 : Vec F S128x128 .f32) (d13 : Vec F S128x128 .f32) :
    (runA c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 d7 d8 d12 d13).2.1 = rowsPieces x1 := by
  unfold runA; dsimp only; sl_unfold_words
  simp only [k0_pay49, k0_pay50, shapeCast_self, View.readAt_eq_ld, harg2.read_unread]
  rfl

set_option maxHeartbeats 2000000 in
theorem runA_scale (c : Dev nD) (i : grid0.Coords) (arg1 : Memref sig .tc .vmem S8x2048 .i32) (harg1 : arg1.IsWhole) (arg2 : Memref sig .tc .vmem S8x2048 .i32) (harg2 : arg2.IsWhole) (arg3 : Memref sig .tc .vmem S1x512x1280 .fp8e4m3) (harg3 : arg3.IsWhole) (arg4 : Memref sig .tc .vmem S8x2048 .f32) (harg4 : arg4.IsWhole) (arg5 : Memref sig .tc .vmem S1280x20003 .fp8e4m3) (harg5 : arg5.IsWhole) (arg6 : Memref sig .tc .vmem S1x20003 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S128x128 .i32) (harg9 : arg9.IsWhole) (arg10 : Memref sig .tc .vmem S128x128 .i32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (hc0 : isFirst i) (hc1 : ¬isLast i)
    (x0 : Vec F S8x2048 .i32) (x1 : Vec F S8x2048 .i32) (x2 : Vec F S1x512x1280 .fp8e4m3) (x3 : Vec F S8x2048 .f32) (x4 : Vec F S1280x20003 .fp8e4m3) (x5 : Vec F S1x20003 .f32) (d7 : Vec F S8x2048 .f32) (d8 : Vec F S8x2048 .f32) (d12 : Vec F S128x128 .f32) (d13 : Vec F S128x128 .f32) :
    (runA c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 d7 d8 d12 d13).2.2.1 = rowsPieces x3 := by
  unfold runA; dsimp only; sl_unfold_words
  simp only [k0_pay49, k0_pay50, shapeCast_self, View.readAt_eq_ld, harg4.read_unread]
  rfl

set_option maxHeartbeats 2000000 in
theorem runA_lp (c : Dev nD) (i : grid0.Coords) (arg1 : Memref sig .tc .vmem S8x2048 .i32) (harg1 : arg1.IsWhole) (arg2 : Memref sig .tc .vmem S8x2048 .i32) (harg2 : arg2.IsWhole) (arg3 : Memref sig .tc .vmem S1x512x1280 .fp8e4m3) (harg3 : arg3.IsWhole) (arg4 : Memref sig .tc .vmem S8x2048 .f32) (harg4 : arg4.IsWhole) (arg5 : Memref sig .tc .vmem S1280x20003 .fp8e4m3) (harg5 : arg5.IsWhole) (arg6 : Memref sig .tc .vmem S1x20003 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S128x128 .i32) (harg9 : arg9.IsWhole) (arg10 : Memref sig .tc .vmem S128x128 .i32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (hc0 : isFirst i) (hc1 : ¬isLast i)
    (x0 : Vec F S8x2048 .i32) (x1 : Vec F S8x2048 .i32) (x2 : Vec F S1x512x1280 .fp8e4m3) (x3 : Vec F S8x2048 .f32) (x4 : Vec F S1280x20003 .fp8e4m3) (x5 : Vec F S1x20003 .f32) (d7 : Vec F S8x2048 .f32) (d8 : Vec F S8x2048 .f32) (d12 : Vec F S128x128 .f32) (d13 : Vec F S128x128 .f32) :
    (runA c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 d7 d8 d12 d13).2.2.2.1
      = rowPieces i (lpTile (ldRow i (rows x0)) (ldRow i (rows x1)) (ldRow i (rows x3)) x2 x4 x5) := by
  have h9 := fun k => readCov_rowsPieces arg9.view x0 (row i k)
  have h10 := fun k => readCov_rowsPieces arg10.view x1 (row i k)
  have h11 := fun k => readCov_rowsPieces arg11.view x3 (row i k)
  refine Eq.trans ?_ (congrArg (fun x => rowPieces i (lpTile (ldRow i (rows x0)) (ldRow i (rows x1)) (ldRow i (rows x3)) x x4 x5)) (ld_codes x2 inb_S1x512x1280_S1x512x1280_0_0_0))
  unfold ldRow
  simp only [← h9, ← h10, ← h11]
  unfold lpTile; dsimp only
  rw [← loop_all c i arg1 harg1 arg2 harg2 arg3 harg3 arg4 harg4 arg5 harg5 arg6 harg6 arg7 harg7 arg8 harg8 arg9 harg9 arg10 harg10 arg11 harg11 arg12 harg12 arg13 harg13]
  unfold runA; dsimp only; sl_unfold_words
  simp only [k0_pay49, k0_pay50, shapeCast_self, View.readAt_eq_ld, harg1.read_unread, harg2.read_unread, harg4.read_unread, harg3.read_unread, harg5.read_unread, harg6.read_unread, pay68_eq, pay70_eq, pay72_eq, pay2_eq]
  rfl

set_option maxHeartbeats 2000000 in
theorem runA_lse (c : Dev nD) (i : grid0.Coords) (arg1 : Memref sig .tc .vmem S8x2048 .i32) (harg1 : arg1.IsWhole) (arg2 : Memref sig .tc .vmem S8x2048 .i32) (harg2 : arg2.IsWhole) (arg3 : Memref sig .tc .vmem S1x512x1280 .fp8e4m3) (harg3 : arg3.IsWhole) (arg4 : Memref sig .tc .vmem S8x2048 .f32) (harg4 : arg4.IsWhole) (arg5 : Memref sig .tc .vmem S1280x20003 .fp8e4m3) (harg5 : arg5.IsWhole) (arg6 : Memref sig .tc .vmem S1x20003 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S128x128 .i32) (harg9 : arg9.IsWhole) (arg10 : Memref sig .tc .vmem S128x128 .i32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (hc0 : isFirst i) (hc1 : ¬isLast i)
    (x0 : Vec F S8x2048 .i32) (x1 : Vec F S8x2048 .i32) (x2 : Vec F S1x512x1280 .fp8e4m3) (x3 : Vec F S8x2048 .f32) (x4 : Vec F S1280x20003 .fp8e4m3) (x5 : Vec F S1x20003 .f32) (d7 : Vec F S8x2048 .f32) (d8 : Vec F S8x2048 .f32) (d12 : Vec F S128x128 .f32) (d13 : Vec F S128x128 .f32) :
    (runA c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 d7 d8 d12 d13).2.2.2.2.1
      = rowPieces i (lseTile (ldRow i (rows x0)) (ldRow i (rows x1)) (ldRow i (rows x3)) x2 x4 x5) := by
  have h9 := fun k => readCov_rowsPieces arg9.view x0 (row i k)
  have h10 := fun k => readCov_rowsPieces arg10.view x1 (row i k)
  have h11 := fun k => readCov_rowsPieces arg11.view x3 (row i k)
  refine Eq.trans ?_ (congrArg (fun x => rowPieces i (lseTile (ldRow i (rows x0)) (ldRow i (rows x1)) (ldRow i (rows x3)) x x4 x5)) (ld_codes x2 inb_S1x512x1280_S1x512x1280_0_0_0))
  unfold ldRow
  simp only [← h9, ← h10, ← h11]
  unfold lseTile; dsimp only
  rw [← loop_all c i arg1 harg1 arg2 harg2 arg3 harg3 arg4 harg4 arg5 harg5 arg6 harg6 arg7 harg7 arg8 harg8 arg9 harg9 arg10 harg10 arg11 harg11 arg12 harg12 arg13 harg13]
  unfold runA; dsimp only; sl_unfold_words
  simp only [k0_pay49, k0_pay50, shapeCast_self, View.readAt_eq_ld, harg1.read_unread, harg2.read_unread, harg4.read_unread, harg3.read_unread, harg5.read_unread, harg6.read_unread, pay67_eq, pay69_eq, pay71_eq, pay1_eq]
  rfl

end Cert.KernelIdeal.Head

end
-- ==== Proof.Head.RunB.lean ====
/- The head kernel's body at a grid point that is neither the first nor the last. -/
module

public import proofs.«01_k».proof.Proof.Head.Points

@[expose] public section

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's run at such a point: the pieces it stores into each buffer it writes (last first), with the proof that the
    body, on whole buffers at the named contents, runs to a continuation holding every other buffer as it was and the
    written ones with their pieces. The pieces are found by the run. -/
noncomputable def runB (c : Dev nD) (i : grid0.Coords) (arg1 : Memref sig .tc .vmem S8x2048 .i32) (harg1 : arg1.IsWhole) (arg2 : Memref sig .tc .vmem S8x2048 .i32) (harg2 : arg2.IsWhole) (arg3 : Memref sig .tc .vmem S1x512x1280 .fp8e4m3) (harg3 : arg3.IsWhole) (arg4 : Memref sig .tc .vmem S8x2048 .f32) (harg4 : arg4.IsWhole) (arg5 : Memref sig .tc .vmem S1280x20003 .fp8e4m3) (harg5 : arg5.IsWhole) (arg6 : Memref sig .tc .vmem S1x20003 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S128x128 .i32) (harg9 : arg9.IsWhole) (arg10 : Memref sig .tc .vmem S128x128 .i32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (hc0 : ¬isFirst i) (hc1 : ¬isLast i)
    (x0 : Vec F S8x2048 .i32) (x1 : Vec F S8x2048 .i32) (x2 : Vec F S1x512x1280 .fp8e4m3) (x3 : Vec F S8x2048 .f32) (x4 : Vec F S1280x20003 .fp8e4m3) (x5 : Vec F S1x20003 .f32) (r9 : Vec F S128x128 .i32) (r10 : Vec F S128x128 .i32) (r11 : Vec F S128x128 .f32) (d7 : Vec F S8x2048 .f32) (d8 : Vec F S8x2048 .f32) (d12 : Vec F S128x128 .f32) (d13 : Vec F S128x128 .f32) :
    Σ' (L12 : List (View.Piece (Elt F) S128x128 .f32)), { L13 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d7 ∗ owns (c : Thread nD τ) arg8 fullShare d8 ∗ owns (c : Thread nD τ) arg9 fullShare r9 ∗ owns (c : Thread nD τ) arg10 fullShare r10 ∗ owns (c : Thread nD τ) arg11 fullShare r11 ∗ owns (c : Thread nD τ) arg12 fullShare d12 ∗ owns (c : Thread nD τ) arg13 fullShare d13
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d7 ∗ owns (c : Thread nD τ) arg8 fullShare d8 ∗ owns (c : Thread nD τ) arg9 fullShare r9 ∗ owns (c : Thread nD τ) arg10 fullShare r10 ∗ owns (c : Thread nD τ) arg11 fullShare r11 ∗ (arg12.view.loc (c : Thread nD τ) ↦[arg12.view.set]{fullShare} arg12.view.writes (Elt F) (harg12.unread d12) L12) ∗ (arg13.view.loc (c : Thread nD τ) ↦[arg13.view.set]{fullShare} arg13.view.writes (Elt F) (harg13.unread d13) L13)) -∗ K ⟨⟩))
          ⊢ wp frame (wpE (defs₀ (F := F)) Variants.none c none) E (cc0_head i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0_head_eq_skeleton]; unfold cc0_head_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexact H12
    iexact H13

end Cert.KernelIdeal.Head

end
-- ==== Proof.Head.TileB.lean ====
/- What a run of the body at a middle point stores: the rows of the point's two tiles. -/
module

public import proofs.«01_k».proof.Proof.Head.Loop
public import proofs.«01_k».proof.Proof.Head.Rows
public import proofs.«01_k».proof.Proof.Head.RunB

@[expose] public section

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem runB_lp (c : Dev nD) (i : grid0.Coords) (arg1 : Memref sig .tc .vmem S8x2048 .i32) (harg1 : arg1.IsWhole) (arg2 : Memref sig .tc .vmem S8x2048 .i32) (harg2 : arg2.IsWhole) (arg3 : Memref sig .tc .vmem S1x512x1280 .fp8e4m3) (harg3 : arg3.IsWhole) (arg4 : Memref sig .tc .vmem S8x2048 .f32) (harg4 : arg4.IsWhole) (arg5 : Memref sig .tc .vmem S1280x20003 .fp8e4m3) (harg5 : arg5.IsWhole) (arg6 : Memref sig .tc .vmem S1x20003 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S128x128 .i32) (harg9 : arg9.IsWhole) (arg10 : Memref sig .tc .vmem S128x128 .i32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (hc0 : ¬isFirst i) (hc1 : ¬isLast i)
    (x0 : Vec F S8x2048 .i32) (x1 : Vec F S8x2048 .i32) (x2 : Vec F S1x512x1280 .fp8e4m3) (x3 : Vec F S8x2048 .f32) (x4 : Vec F S1280x20003 .fp8e4m3) (x5 : Vec F S1x20003 .f32) (r9 : Vec F S128x128 .i32) (r10 : Vec F S128x128 .i32) (r11 : Vec F S128x128 .f32) (d7 : Vec F S8x2048 .f32) (d8 : Vec F S8x2048 .f32) (d12 : Vec F S128x128 .f32) (d13 : Vec F S128x128 .f32) :
    (runB c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 r9 r10 r11 d7 d8 d12 d13).1
      = rowPieces i (lpTile (ldRow i r9) (ldRow i r10) (ldRow i r11) x2 x4 x5) := by
  unfold runB; dsimp only; sl_unfold_words
  simp only [View.readAt_eq_ld, harg3.read_unread, harg5.read_unread, harg6.read_unread, harg9.read_unread, harg10.read_unread, harg11.read_unread, pay68_eq, pay70_eq, pay72_eq, pay2_eq]
  refine Eq.trans ?_ (congrArg (fun x => rowPieces i (lpTile (ldRow i r9) (ldRow i r10) (ldRow i r11) x x4 x5)) (ld_codes x2 inb_S1x512x1280_S1x512x1280_0_0_0))
  unfold lpTile; dsimp only
  rw [← loop_all c i arg1 harg1 arg2 harg2 arg3 harg3 arg4 harg4 arg5 harg5 arg6 harg6 arg7 harg7 arg8 harg8 arg9 harg9 arg10 harg10 arg11 harg11 arg12 harg12 arg13 harg13]
  rfl

set_option maxHeartbeats 2000000 in
theorem runB_lse (c : Dev nD) (i : grid0.Coords) (arg1 : Memref sig .tc .vmem S8x2048 .i32) (harg1 : arg1.IsWhole) (arg2 : Memref sig .tc .vmem S8x2048 .i32) (harg2 : arg2.IsWhole) (arg3 : Memref sig .tc .vmem S1x512x1280 .fp8e4m3) (harg3 : arg3.IsWhole) (arg4 : Memref sig .tc .vmem S8x2048 .f32) (harg4 : arg4.IsWhole) (arg5 : Memref sig .tc .vmem S1280x20003 .fp8e4m3) (harg5 : arg5.IsWhole) (arg6 : Memref sig .tc .vmem S1x20003 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S128x128 .i32) (harg9 : arg9.IsWhole) (arg10 : Memref sig .tc .vmem S128x128 .i32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (hc0 : ¬isFirst i) (hc1 : ¬isLast i)
    (x0 : Vec F S8x2048 .i32) (x1 : Vec F S8x2048 .i32) (x2 : Vec F S1x512x1280 .fp8e4m3) (x3 : Vec F S8x2048 .f32) (x4 : Vec F S1280x20003 .fp8e4m3) (x5 : Vec F S1x20003 .f32) (r9 : Vec F S128x128 .i32) (r10 : Vec F S128x128 .i32) (r11 : Vec F S128x128 .f32) (d7 : Vec F S8x2048 .f32) (d8 : Vec F S8x2048 .f32) (d12 : Vec F S128x128 .f32) (d13 : Vec F S128x128 .f32) :
    (runB c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 r9 r10 r11 d7 d8 d12 d13).2.1
      = rowPieces i (lseTile (ldRow i r9) (ldRow i r10) (ldRow i r11) x2 x4 x5) := by
  unfold runB; dsimp only; sl_unfold_words
  simp only [View.readAt_eq_ld, harg3.read_unread, harg5.read_unread, harg6.read_unread, harg9.read_unread, harg10.read_unread, harg11.read_unread, pay67_eq, pay69_eq, pay71_eq, pay1_eq]
  refine Eq.trans ?_ (congrArg (fun x => rowPieces i (lseTile (ldRow i r9) (ldRow i r10) (ldRow i r11) x x4 x5)) (ld_codes x2 inb_S1x512x1280_S1x512x1280_0_0_0))
  unfold lseTile; dsimp only
  rw [← loop_all c i arg1 harg1 arg2 harg2 arg3 harg3 arg4 harg4 arg5 harg5 arg6 harg6 arg7 harg7 arg8 harg8 arg9 harg9 arg10 harg10 arg11 harg11 arg12 harg12 arg13 harg13]
  rfl

end Cert.KernelIdeal.Head

end
-- ==== Proof.Head.RunC.lean ====
/- The head kernel's body at the last grid point: it ends by copying the two row buffers into the outputs. -/
module

public import proofs.«01_k».proof.Proof.Head.Points

@[expose] public section

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's run at such a point: the pieces it stores into each buffer it writes (last first), with the proof that the
    body, on whole buffers at the named contents, runs to a continuation holding every other buffer as it was and the
    written ones with their pieces. The pieces are found by the run. -/
noncomputable def runC (c : Dev nD) (i : grid0.Coords) (arg1 : Memref sig .tc .vmem S8x2048 .i32) (harg1 : arg1.IsWhole) (arg2 : Memref sig .tc .vmem S8x2048 .i32) (harg2 : arg2.IsWhole) (arg3 : Memref sig .tc .vmem S1x512x1280 .fp8e4m3) (harg3 : arg3.IsWhole) (arg4 : Memref sig .tc .vmem S8x2048 .f32) (harg4 : arg4.IsWhole) (arg5 : Memref sig .tc .vmem S1280x20003 .fp8e4m3) (harg5 : arg5.IsWhole) (arg6 : Memref sig .tc .vmem S1x20003 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S128x128 .i32) (harg9 : arg9.IsWhole) (arg10 : Memref sig .tc .vmem S128x128 .i32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (hc0 : ¬isFirst i) (hc1 : isLast i)
    (x0 : Vec F S8x2048 .i32) (x1 : Vec F S8x2048 .i32) (x2 : Vec F S1x512x1280 .fp8e4m3) (x3 : Vec F S8x2048 .f32) (x4 : Vec F S1280x20003 .fp8e4m3) (x5 : Vec F S1x20003 .f32) (r9 : Vec F S128x128 .i32) (r10 : Vec F S128x128 .i32) (r11 : Vec F S128x128 .f32) (d12 : Vec F S128x128 .f32) (d13 : Vec F S128x128 .f32) :
    Σ' (L7 : List (View.Piece (Elt F) S8x2048 .f32)), Σ' (L8 : List (View.Piece (Elt F) S8x2048 .f32)), Σ' (L12 : List (View.Piece (Elt F) S128x128 .f32)), { L13 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare r9 ∗ owns (c : Thread nD τ) arg10 fullShare r10 ∗ owns (c : Thread nD τ) arg11 fullShare r11 ∗ owns (c : Thread nD τ) arg12 fullShare d12 ∗ owns (c : Thread nD τ) arg13 fullShare d13
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ owns (c : Thread nD τ) arg9 fullShare r9 ∗ owns (c : Thread nD τ) arg10 fullShare r10 ∗ owns (c : Thread nD τ) arg11 fullShare r11 ∗ (arg12.view.loc (c : Thread nD τ) ↦[arg12.view.set]{fullShare} arg12.view.writes (Elt F) (harg12.unread d12) L12) ∗ (arg13.view.loc (c : Thread nD τ) ↦[arg13.view.set]{fullShare} arg13.view.writes (Elt F) (harg13.unread d13) L13)) -∗ K ⟨⟩))
          ⊢ wp frame (wpE (defs₀ (F := F)) Variants.none c none) E (cc0_head i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0_head_eq_skeleton]; unfold cc0_head_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%f11, %hf11, H11⟩, ⟨%f12, %hf12, H12⟩, ⟨%f13, %hf13, H13⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg9.eq_unread hf9
    obtain rfl := harg10.eq_unread hf10
    obtain rfl := harg11.eq_unread hf11
    obtain rfl := harg12.eq_unread hf12
    obtain rfl := harg13.eq_unread hf13
    haveI := Fact.mk hc1
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexact H12
    iexact H13

end Cert.KernelIdeal.Head

end
-- ==== Proof.Head.TileC.lean ====
/- What a run of the body at the last point stores: the rows of the point's two tiles, and the two results, copied out of the
   scratch buffers after those rows. -/
module

public import proofs.«01_k».proof.Proof.Head.Loop
public import proofs.«01_k».proof.Proof.Head.Rows
public import proofs.«01_k».proof.Proof.Head.RunC

@[expose] public section

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem runC_lp (c : Dev nD) (i : grid0.Coords) (arg1 : Memref sig .tc .vmem S8x2048 .i32) (harg1 : arg1.IsWhole) (arg2 : Memref sig .tc .vmem S8x2048 .i32) (harg2 : arg2.IsWhole) (arg3 : Memref sig .tc .vmem S1x512x1280 .fp8e4m3) (harg3 : arg3.IsWhole) (arg4 : Memref sig .tc .vmem S8x2048 .f32) (harg4 : arg4.IsWhole) (arg5 : Memref sig .tc .vmem S1280x20003 .fp8e4m3) (harg5 : arg5.IsWhole) (arg6 : Memref sig .tc .vmem S1x20003 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S128x128 .i32) (harg9 : arg9.IsWhole) (arg10 : Memref sig .tc .vmem S128x128 .i32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (hc0 : ¬isFirst i) (hc1 : isLast i)
    (x0 : Vec F S8x2048 .i32) (x1 : Vec F S8x2048 .i32) (x2 : Vec F S1x512x1280 .fp8e4m3) (x3 : Vec F S8x2048 .f32) (x4 : Vec F S1280x20003 .fp8e4m3) (x5 : Vec F S1x20003 .f32) (r9 : Vec F S128x128 .i32) (r10 : Vec F S128x128 .i32) (r11 : Vec F S128x128 .f32) (d12 : Vec F S128x128 .f32) (d13 : Vec F S128x128 .f32) :
    (runC c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 r9 r10 r11 d12 d13).2.2.1
      = rowPieces i (lpTile (ldRow i r9) (ldRow i r10) (ldRow i r11) x2 x4 x5) := by
  unfold runC; dsimp only; sl_unfold_words
  simp only [View.readAt_eq_ld, harg3.read_unread, harg5.read_unread, harg6.read_unread, harg9.read_unread, harg10.read_unread, harg11.read_unread, pay68_eq, pay70_eq, pay72_eq, pay2_eq]
  refine Eq.trans ?_ (congrArg (fun x => rowPieces i (lpTile (ldRow i r9) (ldRow i r10) (ldRow i r11) x x4 x5)) (ld_codes x2 inb_S1x512x1280_S1x512x1280_0_0_0))
  unfold lpTile; dsimp only
  rw [← loop_all c i arg1 harg1 arg2 harg2 arg3 harg3 arg4 harg4 arg5 harg5 arg6 harg6 arg7 harg7 arg8 harg8 arg9 harg9 arg10 harg10 arg11 harg11 arg12 harg12 arg13 harg13]
  rfl

set_option maxHeartbeats 2000000 in
theorem runC_lse (c : Dev nD) (i : grid0.Coords) (arg1 : Memref sig .tc .vmem S8x2048 .i32) (harg1 : arg1.IsWhole) (arg2 : Memref sig .tc .vmem S8x2048 .i32) (harg2 : arg2.IsWhole) (arg3 : Memref sig .tc .vmem S1x512x1280 .fp8e4m3) (harg3 : arg3.IsWhole) (arg4 : Memref sig .tc .vmem S8x2048 .f32) (harg4 : arg4.IsWhole) (arg5 : Memref sig .tc .vmem S1280x20003 .fp8e4m3) (harg5 : arg5.IsWhole) (arg6 : Memref sig .tc .vmem S1x20003 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S128x128 .i32) (harg9 : arg9.IsWhole) (arg10 : Memref sig .tc .vmem S128x128 .i32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (hc0 : ¬isFirst i) (hc1 : isLast i)
    (x0 : Vec F S8x2048 .i32) (x1 : Vec F S8x2048 .i32) (x2 : Vec F S1x512x1280 .fp8e4m3) (x3 : Vec F S8x2048 .f32) (x4 : Vec F S1280x20003 .fp8e4m3) (x5 : Vec F S1x20003 .f32) (r9 : Vec F S128x128 .i32) (r10 : Vec F S128x128 .i32) (r11 : Vec F S128x128 .f32) (d12 : Vec F S128x128 .f32) (d13 : Vec F S128x128 .f32) :
    (runC c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 r9 r10 r11 d12 d13).2.2.2.1
      = rowPieces i (lseTile (ldRow i r9) (ldRow i r10) (ldRow i r11) x2 x4 x5) := by
  unfold runC; dsimp only; sl_unfold_words
  simp only [View.readAt_eq_ld, harg3.read_unread, harg5.read_unread, harg6.read_unread, harg9.read_unread, harg10.read_unread, harg11.read_unread, pay67_eq, pay69_eq, pay71_eq, pay1_eq]
  refine Eq.trans ?_ (congrArg (fun x => rowPieces i (lseTile (ldRow i r9) (ldRow i r10) (ldRow i r11) x x4 x5)) (ld_codes x2 inb_S1x512x1280_S1x512x1280_0_0_0))
  unfold lseTile; dsimp only
  rw [← loop_all c i arg1 harg1 arg2 harg2 arg3 harg3 arg4 harg4 arg5 harg5 arg6 harg6 arg7 harg7 arg8 harg8 arg9 harg9 arg10 harg10 arg11 harg11 arg12 harg12 arg13 harg13]
  rfl

/-- The copy out, where the rows the last point does not store are loaded from what was there before. -/
theorem mixed_eq (d u : Vec F S128x128 .f32) (h : ∀ k : Fin 16, 3 < k.val → View.ld u (rect8 k) = View.ld d (rect8 k)) :
    (List.ofFn fun k : Fin 16 => (⟨rect128 k, if k.val ≤ 3 then View.ld u (rect8 k) else View.ld d (rect8 k)⟩ : View.Piece (Elt F) S8x2048 .f32))
      = unrowsPieces u := by
  unfold unrowsPieces
  congr 1; funext k
  split
  · rfl
  · rw [h k (by omega)]

/-- A load of eight rows none of which the last point stores. -/
theorem ld_far (i : grid0.Coords) (hc1 : isLast i) (m : Memref sig .tc .vmem S128x128 .f32) (hm : m.IsWhole) (d : Vec F S128x128 .f32)
    (w : FVec F S512x128 .f32) (k : Fin 16) (hk : 3 < k.val) :
    View.ld (m.view.read (Elt F) (m.view.writes (Elt F) (hm.unread d) (rowPieces i w))) (rect8 k) = View.ld d (rect8 k) := by
  have hb : base i = 103 := by revert i; decide +kernel
  funext z
  have z0 : (z 0).val < 8 := (z 0).isLt
  have i0 : ((rect8 k).idx z 0).val = 8 * (15 - k.val) + (z 0).val := Rect.idx_unit_val (s := S128x128) ![8 * (15 - k.val), 0] S8x128.size (inbR k) z 0
  show m.view.read (Elt F) _ ((rect8 k).idx z) = d ((rect8 k).idx z)
  rw [read_rowPieces_not_mem _ _ _ _ _ (fun j => by rw [hb]; omega), hm.read_unread]

set_option maxHeartbeats 2000000 in
theorem runC_outLp (c : Dev nD) (i : grid0.Coords) (arg1 : Memref sig .tc .vmem S8x2048 .i32) (harg1 : arg1.IsWhole) (arg2 : Memref sig .tc .vmem S8x2048 .i32) (harg2 : arg2.IsWhole) (arg3 : Memref sig .tc .vmem S1x512x1280 .fp8e4m3) (harg3 : arg3.IsWhole) (arg4 : Memref sig .tc .vmem S8x2048 .f32) (harg4 : arg4.IsWhole) (arg5 : Memref sig .tc .vmem S1280x20003 .fp8e4m3) (harg5 : arg5.IsWhole) (arg6 : Memref sig .tc .vmem S1x20003 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S128x128 .i32) (harg9 : arg9.IsWhole) (arg10 : Memref sig .tc .vmem S128x128 .i32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (hc0 : ¬isFirst i) (hc1 : isLast i)
    (x0 : Vec F S8x2048 .i32) (x1 : Vec F S8x2048 .i32) (x2 : Vec F S1x512x1280 .fp8e4m3) (x3 : Vec F S8x2048 .f32) (x4 : Vec F S1280x20003 .fp8e4m3) (x5 : Vec F S1x20003 .f32) (r9 : Vec F S128x128 .i32) (r10 : Vec F S128x128 .i32) (r11 : Vec F S128x128 .f32) (d12 : Vec F S128x128 .f32) (d13 : Vec F S128x128 .f32) :
    (runC c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 r9 r10 r11 d12 d13).1
      = unrowsPieces (arg12.view.read (Elt F) (arg12.view.writes (Elt F) (harg12.unread d12) (rowPieces i (lpTile (ldRow i r9) (ldRow i r10) (ldRow i r11) x2 x4 x5)))) := by
  have hL := runC_lp c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 r9 r10 r11 d12 d13
  rw [← hL]
  have hf := ld_far i hc1 arg12 harg12 d12 (lpTile (ldRow i r9) (ldRow i r10) (ldRow i r11) x2 x4 x5)
  rw [← hL] at hf
  refine Eq.trans ?_ (mixed_eq d12 _ hf)
  unfold runC; dsimp only; sl_unfold_words
  simp only [shapeCast_self, View.readAt_eq_ld, harg12.read_unread]
  rfl

set_option maxHeartbeats 2000000 in
theorem runC_outLse (c : Dev nD) (i : grid0.Coords) (arg1 : Memref sig .tc .vmem S8x2048 .i32) (harg1 : arg1.IsWhole) (arg2 : Memref sig .tc .vmem S8x2048 .i32) (harg2 : arg2.IsWhole) (arg3 : Memref sig .tc .vmem S1x512x1280 .fp8e4m3) (harg3 : arg3.IsWhole) (arg4 : Memref sig .tc .vmem S8x2048 .f32) (harg4 : arg4.IsWhole) (arg5 : Memref sig .tc .vmem S1280x20003 .fp8e4m3) (harg5 : arg5.IsWhole) (arg6 : Memref sig .tc .vmem S1x20003 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S128x128 .i32) (harg9 : arg9.IsWhole) (arg10 : Memref sig .tc .vmem S128x128 .i32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (hc0 : ¬isFirst i) (hc1 : isLast i)
    (x0 : Vec F S8x2048 .i32) (x1 : Vec F S8x2048 .i32) (x2 : Vec F S1x512x1280 .fp8e4m3) (x3 : Vec F S8x2048 .f32) (x4 : Vec F S1280x20003 .fp8e4m3) (x5 : Vec F S1x20003 .f32) (r9 : Vec F S128x128 .i32) (r10 : Vec F S128x128 .i32) (r11 : Vec F S128x128 .f32) (d12 : Vec F S128x128 .f32) (d13 : Vec F S128x128 .f32) :
    (runC c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 r9 r10 r11 d12 d13).2.1
      = unrowsPieces (arg13.view.read (Elt F) (arg13.view.writes (Elt F) (harg13.unread d13) (rowPieces i (lseTile (ldRow i r9) (ldRow i r10) (ldRow i r11) x2 x4 x5)))) := by
  have hL := runC_lse c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 r9 r10 r11 d12 d13
  rw [← hL]
  have hf := ld_far i hc1 arg13 harg13 d13 (lseTile (ldRow i r9) (ldRow i r10) (ldRow i r11) x2 x4 x5)
  rw [← hL] at hf
  refine Eq.trans ?_ (mixed_eq d13 _ hf)
  unfold runC; dsimp only; sl_unfold_words
  simp only [shapeCast_self, View.readAt_eq_ld, harg13.read_unread]
  rfl

end Cert.KernelIdeal.Head

end
-- ==== Proof.Head.Obligation.lean ====
/- The proof data of the head pipeline and its body obligation at every grid point. -/
module

public import proofs.«01_k».proof.Proof.Head.Invariant
public import proofs.«01_k».proof.Proof.Head.TileA
public import proofs.«01_k».proof.Proof.Head.TileB
public import proofs.«01_k».proof.Proof.Head.TileC
public import Idealize.ShloMosaic.Lib.Claim

@[expose] public section

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The stores of a run, given as the lists they are equal to -/

theorem agree_step' (tile : Fin cfg0.N → FVec F S512x128 .f32) (t : Fin cfg0.N) (b : Memref sig .tc .vmem S128x128 .f32) (hb : b.IsWhole)
    (d : Vec F S128x128 .f32) (L : List (View.Piece (Elt F) S128x128 .f32)) (hL : L = rowPieces (grid0.coords t) (tile t)) (h : Agree tile t.val d) :
    Agree tile (t.val + 1) (b.view.read (Elt F) (b.view.writes (Elt F) (hb.unread d) L)) := by
  subst hL; exact agree_step tile t b hb d h

theorem read_rows_of {e : EltTy} {κ : Kind} {sp : Space} (v : View sig κ sp S128x128 e) (f : v.ty.Contents (Elt F)) (x : Vec F S8x2048 e)
    (L : List (View.Piece (Elt F) S128x128 e)) (hL : L = rowsPieces x) : v.read (Elt F) (v.writes (Elt F) f L) = rows x := by
  subst hL; exact read_rowsPieces v f x

theorem read_unrows_of {e : EltTy} {κ : Kind} {sp : Space} (v : View sig κ sp S8x2048 e) (f : v.ty.Contents (Elt F)) (d : Vec F S128x128 e)
    (L : List (View.Piece (Elt F) S8x2048 e)) (hL : L = unrowsPieces d) : v.read (Elt F) (v.writes (Elt F) f L) = unrows d := by
  subst hL; exact read_unrowsPieces v f d

/-! ## The invariant between points -/

/-- Before the first point: scratch at anything. After point `n`: the three copies, and the two result buffers holding the rows
    of the points up to `n`. -/
def Phi (c : Dev nD) : (n : ℕ) → n ≤ cfg0.N → sProp 𝕄
  | 0, _ => Pipeline.ΦA spec0 c
  | n + 1, hn => iprop(iprop(owns (c : Thread nD τ) scr_0 fullShare (rows (iblk m c 0 ⟨n, hn⟩)) ∗ owns (c : Thread nD τ) scr_1 fullShare (rows (iblk m c 1 ⟨n, hn⟩))
      ∗ owns (c : Thread nD τ) scr_2 fullShare (rows (iblk m c 3 ⟨n, hn⟩))
      ∗ (∃ d, ⌜Agree (lpAt m c) (n + 1) d⌝ ∗ owns (c : Thread nD τ) scr_3 fullShare d) ∗ (∃ d, ⌜Agree (lseAt m c) (n + 1) d⌝ ∗ owns (c : Thread nD τ) scr_4 fullShare d))
      ∗ (∃ r, prngReg c r))

theorem Phi_zero (c : Dev nD) (n : ℕ) (h : n ≤ cfg0.N) (hz : n = 0) : Phi m c n h = Pipeline.ΦA spec0 c := by
  subst hz; rfl

theorem Phi_succ (c : Dev nD) (t : Fin cfg0.N) :
    Phi m c (t.val + 1) t.isLt = iprop(iprop(owns (c : Thread nD τ) scr_0 fullShare (rows (iblk m c 0 t)) ∗ owns (c : Thread nD τ) scr_1 fullShare (rows (iblk m c 1 t))
      ∗ owns (c : Thread nD τ) scr_2 fullShare (rows (iblk m c 3 t))
      ∗ (∃ d, ⌜Agree (lpAt m c) (t.val + 1) d⌝ ∗ owns (c : Thread nD τ) scr_3 fullShare d) ∗ (∃ d, ⌜Agree (lseAt m c) (t.val + 1) d⌝ ∗ owns (c : Thread nD τ) scr_4 fullShare d))
      ∗ (∃ r, prngReg c r)) := rfl

/-- Before a point that is not the first: the copies are those of the point itself, for their windows never move. -/
theorem Phi_pos (c : Dev nD) (t : Fin cfg0.N) (hz : t.val ≠ 0) :
    Phi m c t.val (Nat.le_of_lt t.isLt) = iprop(iprop(owns (c : Thread nD τ) scr_0 fullShare (rows (iblk m c 0 t)) ∗ owns (c : Thread nD τ) scr_1 fullShare (rows (iblk m c 1 t))
      ∗ owns (c : Thread nD τ) scr_2 fullShare (rows (iblk m c 3 t))
      ∗ (∃ d, ⌜Agree (lpAt m c) t.val d⌝ ∗ owns (c : Thread nD τ) scr_3 fullShare d) ∗ (∃ d, ⌜Agree (lseAt m c) t.val d⌝ ∗ owns (c : Thread nD τ) scr_4 fullShare d))
      ∗ (∃ r, prngReg c r)) := by
  obtain ⟨n, hn⟩ := t
  cases n with
  | zero => exact absurd rfl hz
  | succ n => rfl

/-! ## The proof data -/

/-- The arrays as the region finds them; after a point every input buffer at its block and the output buffers, which only the last
    point stores into, at the results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => unrows (gather (lpAt m c))
    | ⟨7, _⟩ => unrows (gather (lseAt m c))
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = unrows (gather (lpAt m c)) := by dsimp only [dats]
theorem after_7 (c : Dev nD) (t : Fin cfg0.N) : (dats m 0 c).after 7 t = unrows (gather (lseAt m c)) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t)

/-- An input window is left at its block. -/
theorem leaves_in (c : Dev nD) (t : Fin cfg0.N) (w : Fin cfg0.W) (hw : cfg0.idle w (grid0.coords t) = false) :
    (dats m 0 c).leavesExact w t = owns (c : Thread nD τ) ((cfg0.win w).stage (cfg0.slots t w)) fullShare ((dats m 0 c).after w t) := by
  unfold Dat.leavesExact; rw [hw]

theorem live_in : ∀ (t : Fin cfg0.N) (w : Fin cfg0.W), w.val < 6 → cfg0.idle w (grid0.coords t) = false := by decide +kernel

set_option maxHeartbeats 8000000 in
/-- The body at a point in the middle. -/
theorem soundB (c : Dev nD) (t : Fin cfg0.N) (hc0 : ¬isFirst (grid0.coords t)) (hc1 : ¬isLast (grid0.coords t)) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = Phi m c (t.val + 1) t.isLt from rfl, Phi_succ]
  rw [leaves_in m c t 0 (live_in t 0 (by decide)), after_0]
  rw [leaves_in m c t 1 (live_in t 1 (by decide)), after_1]
  rw [leaves_in m c t 2 (live_in t 2 (by decide)), after_2]
  rw [leaves_in m c t 3 (live_in t 3 (by decide)), after_3]
  rw [leaves_in m c t 4 (live_in t 4 (by decide)), after_4]
  rw [leaves_in m c t 5 (live_in t 5 (by decide)), after_5]
  rw [Dat.leavesExact_idle (dats m 0 c) 6 t (idleAt_6 t hc1) (noFlush_6 t hc1), Dat.leavesExact_idle (dats m 0 c) 7 t (idleAt_7 t hc1) (noFlush_7 t hc1)]
  have hz : t.val ≠ 0 := fun h => hc0 ((isFirst_iff t).mpr h)
  rw [Phi_castSucc m c t, Phi_pos m c t hz]
  iintro ⟨⟨⟨S0, S1, S2, ⟨%d3, %a3, S3⟩, ⟨%d4, %a4, S4⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
  have hlp := runB_lp c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scr_0 (Memref.isWhole_whole _) scr_1 (Memref.isWhole_whole _) scr_2 (Memref.isWhole_whole _) scr_3 (Memref.isWhole_whole _) scr_4 (Memref.isWhole_whole _) hc0 hc1 (iblk m c 0 t) (iblk m c 1 t) (iblk m c 2 t) (iblk m c 3 t) (iblk m c 4 t) (iblk m c 5 t) (rows (iblk m c 0 t)) (rows (iblk m c 1 t)) (rows (iblk m c 3 t)) ((dats m 0 c).before 6 t e6) ((dats m 0 c).before 7 t e7) d3 d4
  have hlse := runB_lse c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scr_0 (Memref.isWhole_whole _) scr_1 (Memref.isWhole_whole _) scr_2 (Memref.isWhole_whole _) scr_3 (Memref.isWhole_whole _) scr_4 (Memref.isWhole_whole _) hc0 hc1 (iblk m c 0 t) (iblk m c 1 t) (iblk m c 2 t) (iblk m c 3 t) (iblk m c 4 t) (iblk m c 5 t) (rows (iblk m c 0 t)) (rows (iblk m c 1 t)) (rows (iblk m c 3 t)) ((dats m 0 c).before 6 t e6) ((dats m 0 c).before 7 t e7) d3 d4
  iapply ((runB c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scr_0 (Memref.isWhole_whole _) scr_1 (Memref.isWhole_whole _) scr_2 (Memref.isWhole_whole _) scr_3 (Memref.isWhole_whole _) scr_4 (Memref.isWhole_whole _) hc0 hc1 (iblk m c 0 t) (iblk m c 1 t) (iblk m c 2 t) (iblk m c 3 t) (iblk m c 4 t) (iblk m c 5 t) (rows (iblk m c 0 t)) (rows (iblk m c 1 t)) (rows (iblk m c 3 t)) ((dats m 0 c).before 6 t e6) ((dats m 0 c).before 7 t e7) d3 d4).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  isplitl [S3]; · iexact S3
  isplitl [S4]; · iexact S4
  iintro ⟨H0, H1, H2, H3, H4, H5, H6, H7, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]
      · iexists _; isplitr
        swap
        · unfold owns; iexists _; isplitr
          swap; · iexact S3
          ipureintro; rfl
        · ipureintro; exact agree_step' (lpAt m c) t scr_3 (Memref.isWhole_whole _) d3 _ hlp a3
      · iexists _; isplitr
        swap
        · unfold owns; iexists _; isplitr
          swap; · iexact S4
          ipureintro; rfl
        · ipureintro; exact agree_step' (lseAt m c) t scr_4 (Memref.isWhole_whole _) d4 _ hlse a4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

set_option maxHeartbeats 8000000 in
/-- The body at the first point. -/
theorem soundA (c : Dev nD) (t : Fin cfg0.N) (hc0 : isFirst (grid0.coords t)) (hc1 : ¬isLast (grid0.coords t)) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = Phi m c (t.val + 1) t.isLt from rfl, Phi_succ]
  rw [leaves_in m c t 0 (live_in t 0 (by decide)), after_0]
  rw [leaves_in m c t 1 (live_in t 1 (by decide)), after_1]
  rw [leaves_in m c t 2 (live_in t 2 (by decide)), after_2]
  rw [leaves_in m c t 3 (live_in t 3 (by decide)), after_3]
  rw [leaves_in m c t 4 (live_in t 4 (by decide)), after_4]
  rw [leaves_in m c t 5 (live_in t 5 (by decide)), after_5]
  rw [Dat.leavesExact_idle (dats m 0 c) 6 t (idleAt_6 t hc1) (noFlush_6 t hc1), Dat.leavesExact_idle (dats m 0 c) 7 t (idleAt_7 t hc1) (noFlush_7 t hc1)]
  have hz : t.val = 0 := (isFirst_iff t).mp hc0
  rw [Phi_castSucc m c t, Phi_zero m c _ _ hz, PhiA_eq]
  iintro ⟨⟨⟨S0, S1, S2, ⟨%d3, S3⟩, ⟨%d4, S4⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
  have a3 : Agree (lpAt m c) t.val d3 := by rw [hz]; exact agree_zero _ _
  have a4 : Agree (lseAt m c) t.val d4 := by rw [hz]; exact agree_zero _ _
  have hcluster := runA_cluster c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scr_0 (Memref.isWhole_whole _) scr_1 (Memref.isWhole_whole _) scr_2 (Memref.isWhole_whole _) scr_3 (Memref.isWhole_whole _) scr_4 (Memref.isWhole_whole _) hc0 hc1 (iblk m c 0 t) (iblk m c 1 t) (iblk m c 2 t) (iblk m c 3 t) (iblk m c 4 t) (iblk m c 5 t) ((dats m 0 c).before 6 t e6) ((dats m 0 c).before 7 t e7) d3 d4
  have htarget := runA_target c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scr_0 (Memref.isWhole_whole _) scr_1 (Memref.isWhole_whole _) scr_2 (Memref.isWhole_whole _) scr_3 (Memref.isWhole_whole _) scr_4 (Memref.isWhole_whole _) hc0 hc1 (iblk m c 0 t) (iblk m c 1 t) (iblk m c 2 t) (iblk m c 3 t) (iblk m c 4 t) (iblk m c 5 t) ((dats m 0 c).before 6 t e6) ((dats m 0 c).before 7 t e7) d3 d4
  have hscale := runA_scale c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scr_0 (Memref.isWhole_whole _) scr_1 (Memref.isWhole_whole _) scr_2 (Memref.isWhole_whole _) scr_3 (Memref.isWhole_whole _) scr_4 (Memref.isWhole_whole _) hc0 hc1 (iblk m c 0 t) (iblk m c 1 t) (iblk m c 2 t) (iblk m c 3 t) (iblk m c 4 t) (iblk m c 5 t) ((dats m 0 c).before 6 t e6) ((dats m 0 c).before 7 t e7) d3 d4
  have hlp := runA_lp c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scr_0 (Memref.isWhole_whole _) scr_1 (Memref.isWhole_whole _) scr_2 (Memref.isWhole_whole _) scr_3 (Memref.isWhole_whole _) scr_4 (Memref.isWhole_whole _) hc0 hc1 (iblk m c 0 t) (iblk m c 1 t) (iblk m c 2 t) (iblk m c 3 t) (iblk m c 4 t) (iblk m c 5 t) ((dats m 0 c).before 6 t e6) ((dats m 0 c).before 7 t e7) d3 d4
  have hlse := runA_lse c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scr_0 (Memref.isWhole_whole _) scr_1 (Memref.isWhole_whole _) scr_2 (Memref.isWhole_whole _) scr_3 (Memref.isWhole_whole _) scr_4 (Memref.isWhole_whole _) hc0 hc1 (iblk m c 0 t) (iblk m c 1 t) (iblk m c 2 t) (iblk m c 3 t) (iblk m c 4 t) (iblk m c 5 t) ((dats m 0 c).before 6 t e6) ((dats m 0 c).before 7 t e7) d3 d4
  iapply ((runA c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scr_0 (Memref.isWhole_whole _) scr_1 (Memref.isWhole_whole _) scr_2 (Memref.isWhole_whole _) scr_3 (Memref.isWhole_whole _) scr_4 (Memref.isWhole_whole _) hc0 hc1 (iblk m c 0 t) (iblk m c 1 t) (iblk m c 2 t) (iblk m c 3 t) (iblk m c 4 t) (iblk m c 5 t) ((dats m 0 c).before 6 t e6) ((dats m 0 c).before 7 t e7) d3 d4).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  isplitl [S3]; · iexact S3
  isplitl [S4]; · iexact S4
  iintro ⟨H0, H1, H2, H3, H4, H5, H6, H7, ⟨%g0, S0⟩, ⟨%g1, S1⟩, ⟨%g2, S2⟩, S3, S4⟩
  isplitl [S0 S1 S2 S3 S4 Hg]
  · isplitl [S0 S1 S2 S3 S4]
    · isplitl [S0]
      · unfold owns; iexists _; isplitr
        swap; · iexact S0
        ipureintro; exact read_rows_of _ _ _ _ hcluster
      isplitl [S1]
      · unfold owns; iexists _; isplitr
        swap; · iexact S1
        ipureintro; exact read_rows_of _ _ _ _ htarget
      isplitl [S2]
      · unfold owns; iexists _; isplitr
        swap; · iexact S2
        ipureintro; exact read_rows_of _ _ _ _ hscale
      isplitl [S3]
      · iexists _; isplitr
        swap
        · unfold owns; iexists _; isplitr
          swap; · iexact S3
          ipureintro; rfl
        · ipureintro; exact agree_step' (lpAt m c) t scr_3 (Memref.isWhole_whole _) d3 _ hlp a3
      · iexists _; isplitr
        swap
        · unfold owns; iexists _; isplitr
          swap; · iexact S4
          ipureintro; rfl
        · ipureintro; exact agree_step' (lseAt m c) t scr_4 (Memref.isWhole_whole _) d4 _ hlse a4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

set_option maxHeartbeats 8000000 in
/-- The body at the last point. -/
theorem soundC (c : Dev nD) (t : Fin cfg0.N) (hc0 : ¬isFirst (grid0.coords t)) (hc1 : isLast (grid0.coords t)) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = Phi m c (t.val + 1) t.isLt from rfl, Phi_succ]
  rw [leaves_in m c t 0 (live_in t 0 (by decide)), after_0]
  rw [leaves_in m c t 1 (live_in t 1 (by decide)), after_1]
  rw [leaves_in m c t 2 (live_in t 2 (by decide)), after_2]
  rw [leaves_in m c t 3 (live_in t 3 (by decide)), after_3]
  rw [leaves_in m c t 4 (live_in t 4 (by decide)), after_4]
  rw [leaves_in m c t 5 (live_in t 5 (by decide)), after_5]
  rw [leaves_in m c t 6 (liveAt_6 t hc1), after_6, leaves_in m c t 7 (liveAt_7 t hc1), after_7]
  have hz : t.val ≠ 0 := fun h => hc0 ((isFirst_iff t).mpr h)
  rw [Phi_castSucc m c t, Phi_pos m c t hz]
  iintro ⟨⟨⟨S0, S1, S2, ⟨%d3, %a3, S3⟩, ⟨%d4, %a4, S4⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
  have hlp := runC_lp c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scr_0 (Memref.isWhole_whole _) scr_1 (Memref.isWhole_whole _) scr_2 (Memref.isWhole_whole _) scr_3 (Memref.isWhole_whole _) scr_4 (Memref.isWhole_whole _) hc0 hc1 (iblk m c 0 t) (iblk m c 1 t) (iblk m c 2 t) (iblk m c 3 t) (iblk m c 4 t) (iblk m c 5 t) (rows (iblk m c 0 t)) (rows (iblk m c 1 t)) (rows (iblk m c 3 t)) d3 d4
  have hlse := runC_lse c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scr_0 (Memref.isWhole_whole _) scr_1 (Memref.isWhole_whole _) scr_2 (Memref.isWhole_whole _) scr_3 (Memref.isWhole_whole _) scr_4 (Memref.isWhole_whole _) hc0 hc1 (iblk m c 0 t) (iblk m c 1 t) (iblk m c 2 t) (iblk m c 3 t) (iblk m c 4 t) (iblk m c 5 t) (rows (iblk m c 0 t)) (rows (iblk m c 1 t)) (rows (iblk m c 3 t)) d3 d4
  have houtLp := runC_outLp c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scr_0 (Memref.isWhole_whole _) scr_1 (Memref.isWhole_whole _) scr_2 (Memref.isWhole_whole _) scr_3 (Memref.isWhole_whole _) scr_4 (Memref.isWhole_whole _) hc0 hc1 (iblk m c 0 t) (iblk m c 1 t) (iblk m c 2 t) (iblk m c 3 t) (iblk m c 4 t) (iblk m c 5 t) (rows (iblk m c 0 t)) (rows (iblk m c 1 t)) (rows (iblk m c 3 t)) d3 d4
  have houtLse := runC_outLse c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scr_0 (Memref.isWhole_whole _) scr_1 (Memref.isWhole_whole _) scr_2 (Memref.isWhole_whole _) scr_3 (Memref.isWhole_whole _) scr_4 (Memref.isWhole_whole _) hc0 hc1 (iblk m c 0 t) (iblk m c 1 t) (iblk m c 2 t) (iblk m c 3 t) (iblk m c 4 t) (iblk m c 5 t) (rows (iblk m c 0 t)) (rows (iblk m c 1 t)) (rows (iblk m c 3 t)) d3 d4
  iapply ((runC c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scr_0 (Memref.isWhole_whole _) scr_1 (Memref.isWhole_whole _) scr_2 (Memref.isWhole_whole _) scr_3 (Memref.isWhole_whole _) scr_4 (Memref.isWhole_whole _) hc0 hc1 (iblk m c 0 t) (iblk m c 1 t) (iblk m c 2 t) (iblk m c 3 t) (iblk m c 4 t) (iblk m c 5 t) (rows (iblk m c 0 t)) (rows (iblk m c 1 t)) (rows (iblk m c 3 t)) d3 d4).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [S0]; · iexact S0
  isplitl [S1]; · iexact S1
  isplitl [S2]; · iexact S2
  isplitl [S3]; · iexact S3
  isplitl [S4]; · iexact S4
  iintro ⟨H0, H1, H2, H3, H4, H5, ⟨%g6, H6⟩, ⟨%g7, H7⟩, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]
      · iexists _; isplitr
        swap
        · unfold owns; iexists _; isplitr
          swap; · iexact S3
          ipureintro; rfl
        · ipureintro; exact agree_step' (lpAt m c) t scr_3 (Memref.isWhole_whole _) d3 _ hlp a3
      · iexists _; isplitr
        swap
        · unfold owns; iexists _; isplitr
          swap; · iexact S4
          ipureintro; rfl
        · ipureintro; exact agree_step' (lseAt m c) t scr_4 (Memref.isWhole_whole _) d4 _ hlse a4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact (read_unrows_of _ _ _ _ houtLp).trans (congrArg unrows (agree_last (lpAt m c) (t.val + 1) (by have := (isLast_iff t).mp hc1; omega) _ (agree_step (lpAt m c) t scr_3 (Memref.isWhole_whole _) d3 a3)))
  unfold owns; iexists _; isplitr
  swap; · iexact H7
  ipureintro; exact (read_unrows_of _ _ _ _ houtLse).trans (congrArg unrows (agree_last (lseAt m c) (t.val + 1) (by have := (isLast_iff t).mp hc1; omega) _ (agree_step (lseAt m c) t scr_4 (Memref.isWhole_whole _) d4 a4)))

/-- The body at any point. -/
theorem sound_body (c : Dev nD) (t : Fin cfg0.N) :
    bodyPre m c t ⊢ wp frame (wpE (defs₀ (F := F)) Variants.none c none) Set.univ (bodyAt0 t) (fun _ => bodyPost m c t) := by
  by_cases hc0 : isFirst (grid0.coords t)
  · exact soundA m c t hc0 (fun h => by have := (isFirst_iff t).mp hc0; have := (isLast_iff t).mp h; omega)
  · by_cases hc1 : isLast (grid0.coords t)
    · exact soundC m c t hc0 hc1
    · exact soundB m c t hc0 hc1

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.KernelIdeal.Head

end
-- ==== Proof.Head.Launch.lean ====
/- The launch of the head pipeline: every run ends, with the arrays the proof data says, the arguments unchanged. -/
module

public import proofs.«01_k».proof.Proof.Head.Obligation

@[expose] public section

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch hands the region is the invariant before the first point. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After the last point the contents of scratch are forgotten. -/
theorem hout (c : Dev nD) : (dats m 0 c).Φ (Fin.last cfg0.N) ⊢ Pipeline.ΦA spec0 c := by
  rw [show (dats m 0 c).Φ (Fin.last cfg0.N) = Phi m c (31 + 1) (show 31 < cfg0.N by rw [show cfg0.N = 32 from N_0]; omega) from rfl,
    Phi_succ m c ⟨31, by rw [show cfg0.N = 32 from N_0]; omega⟩, PhiA_eq]
  iintro ⟨⟨S0, S1, S2, ⟨%d3, %a3, S3⟩, ⟨%d4, %a4, S4⟩⟩, Hg⟩
  isplitl [S0 S1 S2 S3 S4]
  · isplitl [S0]; · iexists _; iexact S0
    isplitl [S1]; · iexists _; iexact S1
    isplitl [S2]; · iexists _; iexact S2
    isplitl [S3]; · iexists _; iexact S3
    iexists _; iexact S4
  iexact Hg

set_option backward.isDefEq.respectTransparency.types false in
/-- Every run of @main ends with every array of the pipeline at what the proof data says, and no semaphore counting. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, and no semaphore counting. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Head

end
-- ==== Proof.HeadBits.Points.lean ====
/- What the three runs of the head kernel's body share: the two conditions of the body as conditions on the grid point,
   the points at which the output windows are idle, and the names of the staging and scratch buffers. -/
module

public import proofs.«01_k».proof.Proof.Gen.Kernel.Frame
public import proofs.«01_k».proof.Proof.Gen.Kernel.Skeleton
public import proofs.«01_k».proof.Proof.Gen.Kernel.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Head

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body -/

/-- The body's first condition: the grid point is the first. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (fun t => by
    have ht : t.val < 32 := Nat.lt_of_lt_of_eq t.isLt N_0
    have e0 : (grid0.coords t 0).val = t.val / 1 % 32 := Pipeline.Grid.coords_val t 0 (by decide) rfl
    simp only [isFirst, e0]
    word_cmp
   : ∀ t : Fin grid0.N, isFirst (grid0.coords t) ↔ t.val = 0)

/-- The body's second condition: the grid point is the last. -/
abbrev isLast (i : grid0.Coords) : Prop := k0_cond2 i = 1#1
theorem isLast_iff : ∀ t : Fin cfg0.N, isLast (grid0.coords t) ↔ t.val = 31 :=
  (fun t => by
    have ht : t.val < 32 := Nat.lt_of_lt_of_eq t.isLt N_0
    have e0 : (grid0.coords t 0).val = t.val / 1 % 32 := Pipeline.Grid.coords_val t 0 (by decide) rfl
    simp only [isLast, k0_cond2, e0]
    word_cmp
   : ∀ t : Fin grid0.N, isLast (grid0.coords t) ↔ t.val = 31)

/-! ## Where the windows are idle -/

/-- Before the last point the pipeline leaves output window 6 alone. -/
theorem idleAt_6 : ∀ t : Fin cfg0.N, ¬isLast (grid0.coords t) → cfg0.idle 6 (grid0.coords t) = true := by decide +kernel
/-- Before the last point output window 6 is not written back. -/
theorem noFlush_6 : ∀ t : Fin cfg0.N, ¬isLast (grid0.coords t) → (cfg0.win 6).flush t = false := by decide +kernel
/-- At the last point output window 6 is stored into. -/
theorem liveAt_6 : ∀ t : Fin cfg0.N, isLast (grid0.coords t) → cfg0.idle 6 (grid0.coords t) = false := by decide +kernel
/-- Before the last point the pipeline leaves output window 7 alone. -/
theorem idleAt_7 : ∀ t : Fin cfg0.N, ¬isLast (grid0.coords t) → cfg0.idle 7 (grid0.coords t) = true := by decide +kernel
/-- Before the last point output window 7 is not written back. -/
theorem noFlush_7 : ∀ t : Fin cfg0.N, ¬isLast (grid0.coords t) → (cfg0.win 7).flush t = false := by decide +kernel
/-- At the last point output window 7 is stored into. -/
theorem liveAt_7 : ∀ t : Fin cfg0.N, isLast (grid0.coords t) → cfg0.idle 7 (grid0.coords t) = false := by decide +kernel

/-! ## The buffers the body is run on -/

abbrev ms_0 (t : Fin cfg0.N) : Memref sig .tc .vmem S8x2048 .i32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S8x2048 .i32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x512x1280 .fp8e4m3 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S8x2048 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1280x20003 .fp8e4m3 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1x20003 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S8x2048 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S8x2048 .f32 := win0_7.stage (cfg0.slots t 7)
abbrev hs_7 (t : Fin cfg0.N) : (ms_7 t).IsWhole := hstage0_7 ((cfg0.slots t 7).cast nbuf0_7)
abbrev scr_0 : Memref sig .tc .vmem S128x128 .i32 := Memref.whole cc0_scratch0
abbrev scr_1 : Memref sig .tc .vmem S128x128 .i32 := Memref.whole cc0_scratch1
abbrev scr_2 : Memref sig .tc .vmem S128x128 .f32 := Memref.whole cc0_scratch2
abbrev scr_3 : Memref sig .tc .vmem S128x128 .f32 := Memref.whole cc0_scratch3
abbrev scr_4 : Memref sig .tc .vmem S128x128 .f32 := Memref.whole cc0_scratch4

/-- Every scratch buffer at some contents, and the generator register at some state. -/
theorem PhiA_eq (c : Dev nD) :
    (Pipeline.ΦA spec0 c : sProp 𝕄) = iprop(iprop((∃ d, owns (c : Thread nD τ) scr_0 fullShare d) ∗ (∃ d, owns (c : Thread nD τ) scr_1 fullShare d) ∗ (∃ d, owns (c : Thread nD τ) scr_2 fullShare d) ∗ (∃ d, owns (c : Thread nD τ) scr_3 fullShare d) ∗ (∃ d, owns (c : Thread nD τ) scr_4 fullShare d)) ∗ (∃ r, prngReg c r)) := by
  unfold Pipeline.ΦA; rw [scopedRest0_eq]; simp only [scr_0, scr_1, scr_2, scr_3, scr_4, owns_whole]; try rfl

/-! ## Where the body reads and writes rows, at the first and at the last point -/

theorem off1_first_0 : ∀ i : grid0.Coords, isFirst i → k0_off1 i 0#32 = ![0, 0] := by decide +kernel
theorem off1_first_1 : ∀ i : grid0.Coords, isFirst i → k0_off1 i 8#32 = ![8, 0] := by decide +kernel
theorem off1_first_2 : ∀ i : grid0.Coords, isFirst i → k0_off1 i 16#32 = ![16, 0] := by decide +kernel
theorem off1_first_3 : ∀ i : grid0.Coords, isFirst i → k0_off1 i 24#32 = ![24, 0] := by decide +kernel
theorem off1_last_0 : ∀ i : grid0.Coords, isLast i → k0_off1 i 0#32 = ![103, 0] := by decide +kernel
theorem off1_last_1 : ∀ i : grid0.Coords, isLast i → k0_off1 i 8#32 = ![111, 0] := by decide +kernel
theorem off1_last_2 : ∀ i : grid0.Coords, isLast i → k0_off1 i 16#32 = ![119, 0] := by decide +kernel
theorem off1_last_3 : ∀ i : grid0.Coords, isLast i → k0_off1 i 24#32 = ![127, 0] := by decide +kernel
instance closed_first_0 (i : grid0.Coords) [h : Fact (isFirst i)] : ClosedOff (k0_off1 i 0#32) := ⟨![0, 0], off1_first_0 i h.out⟩
instance closed_first_1 (i : grid0.Coords) [h : Fact (isFirst i)] : ClosedOff (k0_off1 i 8#32) := ⟨![8, 0], off1_first_1 i h.out⟩
instance closed_first_2 (i : grid0.Coords) [h : Fact (isFirst i)] : ClosedOff (k0_off1 i 16#32) := ⟨![16, 0], off1_first_2 i h.out⟩
instance closed_first_3 (i : grid0.Coords) [h : Fact (isFirst i)] : ClosedOff (k0_off1 i 24#32) := ⟨![24, 0], off1_first_3 i h.out⟩
instance closed_last_0 (i : grid0.Coords) [h : Fact (isLast i)] : ClosedOff (k0_off1 i 0#32) := ⟨![103, 0], off1_last_0 i h.out⟩
instance closed_last_1 (i : grid0.Coords) [h : Fact (isLast i)] : ClosedOff (k0_off1 i 8#32) := ⟨![111, 0], off1_last_1 i h.out⟩
instance closed_last_2 (i : grid0.Coords) [h : Fact (isLast i)] : ClosedOff (k0_off1 i 16#32) := ⟨![119, 0], off1_last_2 i h.out⟩
instance closed_last_3 (i : grid0.Coords) [h : Fact (isLast i)] : ClosedOff (k0_off1 i 24#32) := ⟨![127, 0], off1_last_3 i h.out⟩

end Cert.Kernel.Head

end
-- ==== Proof.HeadBits.Tile.lean ====
/- What the head kernel computes at one grid point, as functions of what it loads: the looked-up columns, the state the
   chunks of columns are folded into, and the two tiles of 512 tokens. A tile is stored as four rows of 128 tokens. -/
module

public import proofs.«01_k».proof.Proof.HeadBits.Points
public import Idealize.ShloMosaic.Lib.Pipeline.Value
public import Idealize.ShloMosaic.Lib.Pointwise
public import Idealize.ShloMosaic.Lib.WholeRead

@[expose] public section

set_option maxRecDepth 16384

noncomputable section

namespace Cert.Kernel.Head

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic (ix1 ix2 ix3)
open Idealize.ShloMosaic.Pipeline (Dat Cfg Window BodyObligation cellOf)

variable {F : FTy → Type} [FloatOps F]

local notation "𝕄" => MT nD τ sig Unit (Elt F) ℕ (UR sig nD τ) ℕ

/-! ## The rows of a grid point -/

/-- Row `k` of the four rows of 128 tokens a grid point works on. -/
abbrev row (i : grid0.Coords) (k : Fin 4) : Rect S128x128 :=
  Rect.unit (s := S128x128) (k0_off1 i (BitVec.ofNat 32 (8 * k.val))) S1x128.size (k0_off1_inb i k)

/-- Where row `k` of grid point `i` lies. -/
theorem row_off : ∀ (i : grid0.Coords) (k : Fin 4),
    k0_off1 i (BitVec.ofNat 32 (8 * k.val)) = ![32 * ((i 0).val % 4) + (i 0).val / 4 + 8 * k.val, 0] := by decide +kernel

/-- Columns `512 k` to `512 k + 511` of the weights. -/
abbrev wChunk (k : Fin k0_t1_loop.trips) : Rect S1280x20003 := Rect.unit (s := S1280x20003) (k0_off2 k) S1280x512.size (k0_off2_inb k)
/-- The scales of those columns. -/
abbrev sChunk (k : Fin k0_t1_loop.trips) : Rect S1x20003 := Rect.unit (s := S1x20003) (k0_off3 k) S1x512.size (k0_off3_inb k)
/-- The last 35 columns of the weights. -/
abbrev wTail : Rect S1280x20003 := Rect.unit (s := S1280x20003) ![0, 19968] S1280x35.size inb_S1280x20003_S1280x35_0_19968
/-- The scales of the last 35 columns. -/
abbrev sTail : Rect S1x20003 := Rect.unit (s := S1x20003) ![0, 19968] S1x35.size inb_S1x20003_S1x35_0_19968

/-! ## The tile of a grid point -/

/-- The state folded over the columns: running maximum, running sum, looked-up logit. -/
abbrev Carry (F : FTy → Type) := FVec F S512x1 .f32 × FVec F S512x1 .f32 × FVec F S512x1 .f32

variable (q9 q10 : Fin 4 → Vec F S1x128 .i32) (q11 : Fin 4 → Vec F S1x128 .f32) (x2 : Vec F S1x512x1280 .fp8e4m3)
  (x4 : Vec F S1280x20003 .fp8e4m3) (x5 : Vec F S1x20003 .f32)

/-- The looked-up columns of the 512 tokens. -/
def cols : IVec S1x512 32 := k0_pay51 (F := F) (q9 0) (q9 1) (q9 2) (q9 3) (q10 0) (q10 1) (q10 2) (q10 3)

/-- One chunk of 512 columns folded into the state. -/
def step (k : Fin k0_t1_loop.trips) (a : Carry F) : Carry F :=
  (k0_pay59 (q11 0) (q11 1) (q11 2) (q11 3) x2 a.1 (View.ld x4 (wChunk k)) (View.ld x5 (sChunk k)),
   k0_pay60 (q11 0) (q11 1) (q11 2) (q11 3) x2 a.1 a.2.1 (View.ld x4 (wChunk k)) (View.ld x5 (sChunk k)),
   k0_pay61 (cols q9 q10) (q11 0) (q11 1) (q11 2) (q11 3) x2 k a.2.2 (View.ld x4 (wChunk k)) (View.ld x5 (sChunk k)))

/-- The state before chunk `n`. -/
def carry : ℕ → Carry F
  | 0 => (k0_pay55, k0_pay56, k0_pay57)
  | n + 1 => if h : n < k0_t1_loop.trips then step q9 q10 q11 x2 x4 x5 ⟨n, h⟩ (carry n) else carry n

/-- The state after the last whole chunk. -/
def carried : Carry F := carry q9 q10 q11 x2 x4 x5 39

/-- The log-probabilities of the tile's tokens (the same in every column). -/
def lpTile : FVec F S512x128 .f32 :=
  k0_pay65 (k0_pay52 (cols q9 q10)) (k0_pay53 (q11 0) (q11 1) (q11 2) (q11 3)) (k0_pay54 x2) (carried q9 q10 q11 x2 x4 x5).1 (carried q9 q10 q11 x2 x4 x5).2.1
    (carried q9 q10 q11 x2 x4 x5).2.2 (View.ld x4 wTail) (View.ld x5 sTail)

/-- The log-sum-exps of the tile's tokens (the same in every column). -/
def lseTile : FVec F S512x128 .f32 :=
  k0_pay64 (k0_pay53 (q11 0) (q11 1) (q11 2) (q11 3)) (k0_pay54 x2) (carried q9 q10 q11 x2 x4 x5).1 (carried q9 q10 q11 x2 x4 x5).2.1 (View.ld x4 wTail) (View.ld x5 sTail)

/-- Loading a whole block of codes gives the block. -/
theorem ld_codes (x2 : Vec F S1x512x1280 .fp8e4m3) (h) : View.ld x2 (Rect.unit (s := S1x512x1280) ![0, 0, 0] S1x512x1280.size h) = x2 :=
  View.ld_unit_zero (S := S1x512x1280) (by funext k; revert k; decide) h x2

/-- The rows of a scratch buffer a grid point loads. -/
abbrev ldRow {e : EltTy} (i : grid0.Coords) (r : Vec F S128x128 e) (k : Fin 4) : Vec F S1x128 e := View.ld r (row i k)

/-! ## A tile as four rows -/

/-- Tokens `128 k` to `128 k + 127` of a tile, as a row. -/
def rowOf (w : FVec F S512x128 .f32) (k : Fin 4) : Vec F S1x128 .f32 :=
  fun y => w (ix2 (n0 := 512) (n1 := 128) ⟨128 * k.val + (y 1).val, by have h : (y 1).val < 128 := (y 1).isLt; have := k.isLt; omega⟩ 0)

/-- The four stores of a tile, last first. -/
def rowPieces (i : grid0.Coords) (w : FVec F S512x128 .f32) : List (View.Piece (Elt F) S128x128 .f32) :=
  [⟨row i 3, rowOf w 3⟩, ⟨row i 2, rowOf w 2⟩, ⟨row i 1, rowOf w 1⟩, ⟨row i 0, rowOf w 0⟩]

theorem pay68_eq (w : FVec F S512x128 .f32) : k0_pay68 w = rowOf w 0 := by
  funext y; simp only [k0_pay68, rowOf]; pointwise
theorem pay70_eq (w : FVec F S512x128 .f32) : k0_pay70 w = rowOf w 1 := by
  funext y; simp only [k0_pay70, rowOf]; pointwise
theorem pay72_eq (w : FVec F S512x128 .f32) : k0_pay72 w = rowOf w 2 := by
  funext y; simp only [k0_pay72, rowOf]; pointwise
theorem pay2_eq (w : FVec F S512x128 .f32) : k0_pay2 w = rowOf w 3 := by
  funext y; simp only [k0_pay2, rowOf]; pointwise
theorem pay69_eq (w : FVec F S512x128 .f32) : k0_pay69 w = rowOf w 1 := by
  funext y; simp only [k0_pay69, rowOf]; pointwise
theorem pay71_eq (w : FVec F S512x128 .f32) : k0_pay71 w = rowOf w 2 := by
  funext y; simp only [k0_pay71, rowOf]; pointwise
theorem pay67_eq (a : FVec F S512x1 .f32) (b : FVec F S512x1280 .fp8e4m3) (m s : FVec F S512x1 .f32) (w : Vec F S1280x35 .fp8e4m3) (z : Vec F S1x35 .f32) :
    k0_pay67 (k0_pay66 a b m s w z) = rowOf (k0_pay64 a b m s w z) 0 := pay68_eq (k0_pay64 a b m s w z)
theorem pay1_eq (w : FVec F S512x128 .f32) : k0_pay1 (k0_pay73 w) = rowOf w 3 := by
  funext y; simp only [k0_pay1, k0_pay73, rowOf]; pointwise

end Cert.Kernel.Head

end
-- ==== Proof.HeadBits.Rows.lean ====
/- The scratch layout: an 8 × 2048 array as 128 rows of 128, the stores that copy one into the other, and the stores of one
   tile. -/
module

public import proofs.«01_k».proof.Proof.HeadBits.Tile
public import Idealize.ShloMosaic.Lib.Pipeline.ValueKit.Geometry
public import Idealize.ShloMosaic.Lib.Pipeline.ValueKit.Tiles
public import Idealize.ShloMosaic.Lib.WritesUnit

@[expose] public section

set_option maxRecDepth 16384

noncomputable section

namespace Cert.Kernel.Head

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable {e : EltTy} {κ : Kind} {sp : Space}

/-! ## Copying in and out -/

/-- An 8 × 2048 array as 128 rows of 128: row `8 k + b` holds elements `128 k` to `128 k + 127` of row `b`. -/
def rows (x : Vec F S8x2048 e) : Vec F S128x128 e := fun y =>
  x (ix2 (n0 := 8) (n1 := 2048) ⟨(y 0).val % 8, Nat.mod_lt _ (by omega)⟩
    ⟨128 * ((y 0).val / 8) + (y 1).val, by have h0 : (y 0).val < 128 := (y 0).isLt; have h1 : (y 1).val < 128 := (y 1).isLt; omega⟩)

/-- The same the other way. -/
def unrows (d : Vec F S128x128 e) : Vec F S8x2048 e := fun y =>
  d (ix2 (n0 := 128) (n1 := 128) ⟨8 * ((y 1).val / 128) + (y 0).val, by have h0 : (y 0).val < 8 := (y 0).isLt; have h1 : (y 1).val < 2048 := (y 1).isLt; omega⟩
    ⟨(y 1).val % 128, Nat.mod_lt _ (by omega)⟩)

theorem inbR (k : Fin 16) : ∀ a, (![8 * (15 - k.val), 0] : Fin S128x128.rank → ℕ) a + S8x128.size a ≤ S128x128.size a := by
  intro a; fin_cases a
  · show 8 * (15 - k.val) + 8 ≤ 128; omega
  · show 0 + 128 ≤ 128; omega

theorem inbC (k : Fin 16) : ∀ a, (![0, 128 * (15 - k.val)] : Fin S8x2048.rank → ℕ) a + S8x128.size a ≤ S8x2048.size a := by
  intro a; fin_cases a
  · show 0 + 8 ≤ 8; omega
  · show 128 * (15 - k.val) + 128 ≤ 2048; omega

/-- Eight rows of the scratch. -/
abbrev rect8 (k : Fin 16) : Rect S128x128 := Rect.unit (s := S128x128) ![8 * (15 - k.val), 0] S8x128.size (inbR k)
/-- The 128 columns that go there. -/
abbrev rect128 (k : Fin 16) : Rect S8x2048 := Rect.unit (s := S8x2048) ![0, 128 * (15 - k.val)] S8x128.size (inbC k)

/-- The sixteen stores that copy an array in, last first. -/
def rowsPieces (x : Vec F S8x2048 e) : List (View.Piece (Elt F) S128x128 e) := List.ofFn fun k : Fin 16 => ⟨rect8 k, View.ld x (rect128 k)⟩
/-- The sixteen stores that copy an array out, last first. -/
def unrowsPieces (d : Vec F S128x128 e) : List (View.Piece (Elt F) S8x2048 e) := List.ofFn fun k : Fin 16 => ⟨rect128 k, View.ld d (rect8 k)⟩

/-- After the stores the buffer reads as the rows. -/
theorem read_rowsPieces (v : View sig κ sp S128x128 e) (f : v.ty.Contents (Elt F)) (x : Vec F S8x2048 e) :
    v.read (Elt F) (v.writes (Elt F) f (rowsPieces x)) = rows x := by
  funext y
  refine View.read_writes_apply_of_pieces v f (rows x) (rowsPieces x) ?_ y ?_
  · intro p hp z
    obtain ⟨k, rfl⟩ := List.mem_ofFn.mp hp
    have z0 : (z 0).val < 8 := (z 0).isLt
    have e0 : ((rect8 k).emb z 0).val = 8 * (15 - k.val) + (z 0).val := ValueKit.rect_emb_unit_val _ _ _ z 0
    have e1 : ((rect8 k).emb z 1).val = 0 + (z 1).val := ValueKit.rect_emb_unit_val _ _ _ z 1
    have i0 : ((rect128 k).idx z 0).val = 0 + (z 0).val := Rect.idx_unit_val (s := S8x2048) ![0, 128 * (15 - k.val)] S8x128.size (inbC k) z 0
    have i1 : ((rect128 k).idx z 1).val = 128 * (15 - k.val) + (z 1).val := Rect.idx_unit_val (s := S8x2048) ![0, 128 * (15 - k.val)] S8x128.size (inbC k) z 1
    show x ((rect128 k).idx z) = x _
    congr 1
    refine (eq_ix2 _).trans ?_
    congr 1 <;> apply Fin.ext <;> dsimp only <;> omega
  · have h0 : (y 0).val < 128 := (y 0).isLt
    have h1 : (y 1).val < 128 := (y 1).isLt
    refine ⟨_, List.mem_ofFn.mpr ⟨⟨15 - (y 0).val / 8, by omega⟩, rfl⟩, (Rect.mem_set_unit (inb := inbR _)).mpr fun a => ?_⟩
    fin_cases a
    · show 8 * (15 - (15 - (y 0).val / 8)) ≤ (y 0).val ∧ (y 0).val < 8 * (15 - (15 - (y 0).val / 8)) + 8; omega
    · show 0 ≤ (y 1).val ∧ (y 1).val < 0 + 128; omega

/-- After the stores the window reads as the array. -/
theorem read_unrowsPieces (v : View sig κ sp S8x2048 e) (f : v.ty.Contents (Elt F)) (d : Vec F S128x128 e) :
    v.read (Elt F) (v.writes (Elt F) f (unrowsPieces d)) = unrows d := by
  funext y
  refine View.read_writes_apply_of_pieces v f (unrows d) (unrowsPieces d) ?_ y ?_
  · intro p hp z
    obtain ⟨k, rfl⟩ := List.mem_ofFn.mp hp
    have z0 : (z 0).val < 8 := (z 0).isLt
    have z1 : (z 1).val < 128 := (z 1).isLt
    have e0 : ((rect128 k).emb z 0).val = 0 + (z 0).val := ValueKit.rect_emb_unit_val _ _ _ z 0
    have e1 : ((rect128 k).emb z 1).val = 128 * (15 - k.val) + (z 1).val := ValueKit.rect_emb_unit_val _ _ _ z 1
    have i0 : ((rect8 k).idx z 0).val = 8 * (15 - k.val) + (z 0).val := Rect.idx_unit_val (s := S128x128) ![8 * (15 - k.val), 0] S8x128.size (inbR k) z 0
    have i1 : ((rect8 k).idx z 1).val = 0 + (z 1).val := Rect.idx_unit_val (s := S128x128) ![8 * (15 - k.val), 0] S8x128.size (inbR k) z 1
    show d ((rect8 k).idx z) = d _
    congr 1
    refine (eq_ix2 _).trans ?_
    congr 1 <;> apply Fin.ext <;> dsimp only <;> omega
  · have h0 : (y 0).val < 8 := (y 0).isLt
    have h1 : (y 1).val < 2048 := (y 1).isLt
    refine ⟨_, List.mem_ofFn.mpr ⟨⟨15 - (y 1).val / 128, by omega⟩, rfl⟩, (Rect.mem_set_unit (inb := inbC _)).mpr fun a => ?_⟩
    fin_cases a
    · show 0 ≤ (y 0).val ∧ (y 0).val < 0 + 8; omega
    · show 128 * (15 - (15 - (y 1).val / 128)) ≤ (y 1).val ∧ (y 1).val < 128 * (15 - (15 - (y 1).val / 128)) + 128; omega

/-- A load of a buffer just copied in. -/
theorem readCov_rowsPieces [∀ e, Nonempty (Elt F e)] (v : View sig κ sp S128x128 e) (x : Vec F S8x2048 e) (r : Rect S128x128) :
    v.readCov (rowsPieces x) r.toLoadRect = View.ld (rows x) r := by
  unfold View.readCov; rw [View.readAt_eq_ld, read_rowsPieces]

end

/-! ## The stores of a tile -/

/-- The first row of a grid point; the others follow at distance 8. -/
abbrev base (i : grid0.Coords) : ℕ := 32 * ((i 0).val % 4) + (i 0).val / 4

/-- A row of grid point `i` determines which of its four rows it is. -/
theorem row_mid (n k r : ℕ) (hn : n < 32) (hk : k < 4) (hr : r = 32 * (n % 4) + n / 4 + 8 * k) : r / 8 % 4 = k := by
  have hb : n / 4 < 8 := by omega
  generalize n % 4 = a at *
  generalize n / 4 = b at *
  omega

/-- The rows of the grid point read as the tile's. -/
theorem read_rowPieces_mem {κ : Kind} {sp : Space} (v : View sig κ sp S128x128 .f32) (f : v.ty.Contents (Elt F)) (i : grid0.Coords)
    (w : FVec F S512x128 .f32) (y : S128x128.Idx) (k : Fin 4) (hy : (y 0).val = base i + 8 * k.val) :
    v.read (Elt F) (v.writes (Elt F) f (rowPieces i w)) y
      = w (ix2 (n0 := 512) (n1 := 128) ⟨128 * k.val + (y 1).val, by have h : (y 1).val < 128 := (y 1).isLt; have := k.isLt; omega⟩ 0) := by
  have hi : (i 0).val < 32 := (i 0).isLt
  have h1 : (y 1).val < 128 := (y 1).isLt
  have hk := k.isLt
  have hmem : ∀ q ∈ rowPieces i w, ∃ k : Fin 4, q = ⟨row i k, rowOf w k⟩ := by
    intro q hq
    simp only [rowPieces, List.mem_cons, List.not_mem_nil, or_false] at hq
    rcases hq with rfl | rfl | rfl | rfl
    exacts [⟨3, rfl⟩, ⟨2, rfl⟩, ⟨1, rfl⟩, ⟨0, rfl⟩]
  refine (View.read_writes_apply_of_pieces v f (fun z => w (ix2 (n0 := 512) (n1 := 128) ⟨128 * (((z 0).val / 8) % 4) + (z 1).val, by have h : (z 1).val < 128 := (z 1).isLt; omega⟩ 0)) (rowPieces i w) ?_ y ?_).trans ?_
  · intro p hp z
    obtain ⟨k', rfl⟩ := hmem p hp
    have hk' := k'.isLt
    have z0 : (z 0).val < 1 := (z 0).isLt
    have e0 : ((row i k').emb z 0).val = k0_off1 i (BitVec.ofNat 32 (8 * k'.val)) 0 + (z 0).val := ValueKit.rect_emb_unit_val _ _ _ z 0
    have e1 : ((row i k').emb z 1).val = k0_off1 i (BitVec.ofNat 32 (8 * k'.val)) 1 + (z 1).val := ValueKit.rect_emb_unit_val _ _ _ z 1
    rw [row_off] at e0 e1
    have e0' : ((row i k').emb z 0).val = 32 * ((i 0).val % 4) + (i 0).val / 4 + 8 * k'.val + (z 0).val := e0
    have e1' : ((row i k').emb z 1).val = 0 + (z 1).val := e1
    show w (ix2 _ _) = w (ix2 _ _)
    congr 2; apply Fin.ext; dsimp only; rw [row_mid _ k'.val _ hi hk' (show _ = _ by omega)]; omega
  · refine ⟨⟨row i k, rowOf w k⟩, ?_, (Rect.mem_set_unit (inb := k0_off1_inb i k)).mpr fun a => ?_⟩
    · fin_cases k <;> simp [rowPieces]
    · rw [row_off]; fin_cases a
      · show 32 * ((i 0).val % 4) + (i 0).val / 4 + 8 * k.val ≤ (y 0).val ∧ (y 0).val < 32 * ((i 0).val % 4) + (i 0).val / 4 + 8 * k.val + 1
        unfold base at hy; omega
      · show 0 ≤ (y 1).val ∧ (y 1).val < 0 + 128; omega
  · congr 2; apply Fin.ext; dsimp only; rw [row_mid _ k.val _ hi hk hy]

/-- The other rows read as before. -/
theorem read_rowPieces_not_mem {κ : Kind} {sp : Space} (v : View sig κ sp S128x128 .f32) (f : v.ty.Contents (Elt F)) (i : grid0.Coords)
    (w : FVec F S512x128 .f32) (y : S128x128.Idx) (hy : ∀ k : Fin 4, (y 0).val ≠ base i + 8 * k.val) :
    v.read (Elt F) (v.writes (Elt F) f (rowPieces i w)) y = v.read (Elt F) f y := by
  unfold rowPieces
  have h : ∀ (k : Fin 4) (p : FVec F S1x128 .f32) (L), v.read (Elt F) (v.writes (Elt F) f (⟨row i k, p⟩ :: L)) y = v.read (Elt F) (v.writes (Elt F) f L) y := by
    intro k p L
    refine View.read_writes_cons_rows_of_not_mem (W := 1) v f _ p L y (row_off i k) rfl ?_
    have := hy k; unfold base at this; omega
  rw [h, h, h, h]; rfl

end Cert.Kernel.Head

end
-- ==== Proof.HeadBits.Invariant.lean ====
/- What the two result buffers in scratch hold as the grid advances: before point `n` the rows of the points before `n`. -/
module

public import proofs.«01_k».proof.Proof.HeadBits.Rows

@[expose] public section

set_option maxRecDepth 16384

noncomputable section

namespace Cert.Kernel.Head

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Which point a row belongs to -/

/-- The grid point whose tile row `r` of the scratch is part of. -/
abbrev point (r : ℕ) : ℕ := 4 * (r % 8) + r / 32

theorem point_lt (y : S128x128.Idx) : point (y 0).val < cfg0.N := by
  have h : (y 0).val < 128 := (y 0).isLt
  rw [show cfg0.N = 32 from N_0]; unfold point; omega

theorem coord_eq : ∀ t : Fin cfg0.N, (grid0.coords t 0).val = t.val := by decide +kernel

/-- The rows of point `n` are those whose point is `n`. -/
theorem point_row (n k r : ℕ) (hn : n < 32) (hk : k < 4) (hr : r = 32 * (n % 4) + n / 4 + 8 * k) : point r = n := by
  unfold point
  have hb : n / 4 < 8 := by omega
  have hc : n = 4 * (n / 4) + n % 4 := by omega
  have ha : n % 4 < 4 := by omega
  generalize n % 4 = a at *
  generalize n / 4 = b at *
  subst hc hr
  omega

theorem row_point (n r : ℕ) (hr : r < 128) (h : point r = n) : r = 32 * (n % 4) + n / 4 + 8 * (r / 8 % 4) := by
  unfold point at h
  have h1 : r % 8 < 8 := by omega
  have h2 : r / 32 < 4 := by omega
  have h3 : n % 4 = r / 32 := by omega
  have h4 : n / 4 = r % 8 := by omega
  omega

/-! ## The results, and how much of them a buffer holds -/

/-- The tiles of all the points, as 128 rows. -/
def gather (tile : Fin cfg0.N → FVec F S512x128 .f32) : Vec F S128x128 .f32 := fun y =>
  tile ⟨point (y 0).val, point_lt y⟩ (ix2 (n0 := 512) (n1 := 128)
    ⟨128 * ((y 0).val / 8 % 4) + (y 1).val, by have h : (y 1).val < 128 := (y 1).isLt; omega⟩ 0)

/-- A buffer holds the rows of the points before `n`. -/
def Agree (tile : Fin cfg0.N → FVec F S512x128 .f32) (n : ℕ) (d : Vec F S128x128 .f32) : Prop :=
  ∀ y : S128x128.Idx, point (y 0).val < n → d y = gather tile y

/-- No rows are needed before the first point. -/
theorem agree_zero (tile : Fin cfg0.N → FVec F S512x128 .f32) (d) : Agree tile 0 d := fun _ h => absurd h (Nat.not_lt_zero _)

/-- Storing a point's tile adds its rows. -/
theorem agree_step (tile : Fin cfg0.N → FVec F S512x128 .f32) (t : Fin cfg0.N) (b : Memref sig .tc .vmem S128x128 .f32) (hb : b.IsWhole)
    (d : Vec F S128x128 .f32) (h : Agree tile t.val d) :
    Agree tile (t.val + 1) (b.view.read (Elt F) (b.view.writes (Elt F) (hb.unread d) (rowPieces (grid0.coords t) (tile t)))) := by
  intro y hy
  have ht : t.val < 32 := lt_of_lt_of_eq t.isLt (show cfg0.N = 32 from N_0)
  have hr : (y 0).val < 128 := (y 0).isLt
  by_cases hp : point (y 0).val = t.val
  · have hrow := row_point _ _ hr hp
    have hk : (y 0).val / 8 % 4 < 4 := Nat.mod_lt _ (by omega)
    have hpt : (⟨point (y 0).val, point_lt y⟩ : Fin cfg0.N) = t := Fin.ext hp
    rw [read_rowPieces_mem b.view _ (grid0.coords t) (tile t) y ⟨(y 0).val / 8 % 4, hk⟩ (by unfold base; rw [coord_eq]; exact hrow)]
    unfold gather; rw [hpt]
  · rw [read_rowPieces_not_mem b.view _ _ _ _ (fun k hk => hp (point_row _ _ _ ht k.isLt (by unfold base at hk; rw [coord_eq] at hk; exact hk))),
      hb.read_unread]
    exact h y (by omega)

/-- After the last point the buffer holds the results. -/
theorem agree_last (tile : Fin cfg0.N → FVec F S512x128 .f32) (n : ℕ) (hn : n = 32) (d) (h : Agree tile n d) : d = gather tile := by
  subst hn; funext y
  exact h y (lt_of_lt_of_eq (point_lt y) (show cfg0.N = 32 from N_0))

/-! ## The tiles of the run -/

/-- The log-probabilities of point `t`'s tokens, from the point's blocks. -/
def lpAt (c : Dev nD) (t : Fin cfg0.N) : FVec F S512x128 .f32 :=
  lpTile (ldRow (grid0.coords t) (rows (iblk m c 0 t))) (ldRow (grid0.coords t) (rows (iblk m c 1 t))) (ldRow (grid0.coords t) (rows (iblk m c 3 t)))
    (iblk m c 2 t) (iblk m c 4 t) (iblk m c 5 t)

/-- The log-sum-exps of point `t`'s tokens, from the point's blocks. -/
def lseAt (c : Dev nD) (t : Fin cfg0.N) : FVec F S512x128 .f32 :=
  lseTile (ldRow (grid0.coords t) (rows (iblk m c 0 t))) (ldRow (grid0.coords t) (rows (iblk m c 1 t))) (ldRow (grid0.coords t) (rows (iblk m c 3 t)))
    (iblk m c 2 t) (iblk m c 4 t) (iblk m c 5 t)

/-- The windows copied into scratch are whole arrays: their block is the same at every point. -/
theorem iblk0_const (c : Dev nD) (t t' : Fin cfg0.N) : (iblk m c 0 t : Vec F S8x2048 .i32) = iblk m c 0 t' := rfl
theorem iblk1_const (c : Dev nD) (t t' : Fin cfg0.N) : (iblk m c 1 t : Vec F S8x2048 .i32) = iblk m c 1 t' := rfl
theorem iblk3_const (c : Dev nD) (t t' : Fin cfg0.N) : (iblk m c 3 t : Vec F S8x2048 .f32) = iblk m c 3 t' := rfl

end Cert.Kernel.Head

end
-- ==== Proof.HeadBits.Loop.lean ====
/- The loop of the head kernel over the chunks of columns is the fold `carry`. -/
module

public import proofs.«01_k».proof.Proof.HeadBits.Tile

@[expose] public section

set_option maxRecDepth 16384

noncomputable section

namespace Cert.Kernel.Head

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The state before chunk `n`, as the loop's invariant carries it, is `carry n`. -/
theorem loop_eq (c : Dev nD) (i : grid0.Coords) (arg1 : Memref sig .tc .vmem S8x2048 .i32) (harg1 : arg1.IsWhole) (arg2 : Memref sig .tc .vmem S8x2048 .i32) (harg2 : arg2.IsWhole) (arg3 : Memref sig .tc .vmem S1x512x1280 .fp8e4m3) (harg3 : arg3.IsWhole) (arg4 : Memref sig .tc .vmem S8x2048 .f32) (harg4 : arg4.IsWhole) (arg5 : Memref sig .tc .vmem S1280x20003 .fp8e4m3) (harg5 : arg5.IsWhole) (arg6 : Memref sig .tc .vmem S1x20003 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S128x128 .i32) (harg9 : arg9.IsWhole) (arg10 : Memref sig .tc .vmem S128x128 .i32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole)
    (q9 q10 : Fin 4 → Vec F S1x128 .i32) (q11 : Fin 4 → Vec F S1x128 .f32) (x2 : Vec F S1x512x1280 .fp8e4m3)
    (x4 : Vec F S1280x20003 .fp8e4m3) (x5 : Vec F S1x20003 .f32) : ∀ n ≤ k0_t1_loop.trips,
    st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 (cols q9 q10) (q11 0) (q11 1) (q11 2) (q11 3) x2 (harg5.unread x4) (harg6.unread x5)
      (k0_pay55, k0_pay56, k0_pay57) n = carry q9 q10 q11 x2 x4 x5 n := by
  intro n
  induction n with
  | zero => intro _; rfl
  | succ n ih =>
    intro hn
    rw [st_k0_t1_succ Variants.none c none i arg1 harg1 arg2 harg2 arg3 harg3 arg4 harg4 arg5 harg5 arg6 harg6 arg7 harg7 arg8 harg8 arg9 harg9 arg10 harg10 arg11 harg11 arg12 harg12 arg13 harg13 (cols q9 q10) (q11 0) (q11 1) (q11 2) (q11 3) x2 (harg5.unread x4) (harg6.unread x5) (k0_pay55, k0_pay56, k0_pay57) ⟨n, hn⟩,
      ih (Nat.le_of_succ_le hn), carry, dif_pos (show n < k0_t1_loop.trips from hn)]
    unfold tripR_k0_t1 trip_k0_t1; dsimp only; sl_unfold_words
    simp only [View.readAt_eq_ld, harg5.read_unread, harg6.read_unread]
    rfl

/-- All the chunks. -/
theorem loop_all (c : Dev nD) (i : grid0.Coords) (arg1 : Memref sig .tc .vmem S8x2048 .i32) (harg1 : arg1.IsWhole) (arg2 : Memref sig .tc .vmem S8x2048 .i32) (harg2 : arg2.IsWhole) (arg3 : Memref sig .tc .vmem S1x512x1280 .fp8e4m3) (harg3 : arg3.IsWhole) (arg4 : Memref sig .tc .vmem S8x2048 .f32) (harg4 : arg4.IsWhole) (arg5 : Memref sig .tc .vmem S1280x20003 .fp8e4m3) (harg5 : arg5.IsWhole) (arg6 : Memref sig .tc .vmem S1x20003 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S128x128 .i32) (harg9 : arg9.IsWhole) (arg10 : Memref sig .tc .vmem S128x128 .i32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole)
    (q9 q10 : Fin 4 → Vec F S1x128 .i32) (q11 : Fin 4 → Vec F S1x128 .f32) (x2 : Vec F S1x512x1280 .fp8e4m3)
    (x4 : Vec F S1280x20003 .fp8e4m3) (x5 : Vec F S1x20003 .f32) :
    st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 (cols q9 q10) (q11 0) (q11 1) (q11 2) (q11 3) x2 (harg5.unread x4) (harg6.unread x5)
      (k0_pay55, k0_pay56, k0_pay57) (Scf.trips k0_t1_loop.lb k0_t1_loop.ub k0_t1_loop.st) = carried q9 q10 q11 x2 x4 x5 :=
  loop_eq c i arg1 harg1 arg2 harg2 arg3 harg3 arg4 harg4 arg5 harg5 arg6 harg6 arg7 harg7 arg8 harg8 arg9 harg9 arg10 harg10 arg11 harg11 arg12 harg12 arg13 harg13 q9 q10 q11 x2 x4 x5 39 (by decide +kernel)

end Cert.Kernel.Head

end
-- ==== Proof.HeadBits.RunA.lean ====
/- The head kernel's body at the first grid point: it first copies the cluster numbers, the targets and the scales into rows. -/
module

public import proofs.«01_k».proof.Proof.HeadBits.Points

@[expose] public section

set_option maxRecDepth 16384

noncomputable section

namespace Cert.Kernel.Head

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's run at such a point: the pieces it stores into each buffer it writes (last first), with the proof that the
    body, on whole buffers at the named contents, runs to a continuation holding every other buffer as it was and the
    written ones with their pieces. The pieces are found by the run. -/
noncomputable def runA (c : Dev nD) (i : grid0.Coords) (arg1 : Memref sig .tc .vmem S8x2048 .i32) (harg1 : arg1.IsWhole) (arg2 : Memref sig .tc .vmem S8x2048 .i32) (harg2 : arg2.IsWhole) (arg3 : Memref sig .tc .vmem S1x512x1280 .fp8e4m3) (harg3 : arg3.IsWhole) (arg4 : Memref sig .tc .vmem S8x2048 .f32) (harg4 : arg4.IsWhole) (arg5 : Memref sig .tc .vmem S1280x20003 .fp8e4m3) (harg5 : arg5.IsWhole) (arg6 : Memref sig .tc .vmem S1x20003 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S128x128 .i32) (harg9 : arg9.IsWhole) (arg10 : Memref sig .tc .vmem S128x128 .i32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (hc0 : isFirst i) (hc1 : ¬isLast i)
    (x0 : Vec F S8x2048 .i32) (x1 : Vec F S8x2048 .i32) (x2 : Vec F S1x512x1280 .fp8e4m3) (x3 : Vec F S8x2048 .f32) (x4 : Vec F S1280x20003 .fp8e4m3) (x5 : Vec F S1x20003 .f32) (d7 : Vec F S8x2048 .f32) (d8 : Vec F S8x2048 .f32) (d12 : Vec F S128x128 .f32) (d13 : Vec F S128x128 .f32) :
    Σ' (L9 : List (View.Piece (Elt F) S128x128 .i32)), Σ' (L10 : List (View.Piece (Elt F) S128x128 .i32)), Σ' (L11 : List (View.Piece (Elt F) S128x128 .f32)), Σ' (L12 : List (View.Piece (Elt F) S128x128 .f32)), { L13 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d7 ∗ owns (c : Thread nD τ) arg8 fullShare d8 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare d12 ∗ owns (c : Thread nD τ) arg13 fullShare d13
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d7 ∗ owns (c : Thread nD τ) arg8 fullShare d8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (arg12.view.loc (c : Thread nD τ) ↦[arg12.view.set]{fullShare} arg12.view.writes (Elt F) (harg12.unread d12) L12) ∗ (arg13.view.loc (c : Thread nD τ) ↦[arg13.view.set]{fullShare} arg13.view.writes (Elt F) (harg13.unread d13) L13)) -∗ K ⟨⟩))
          ⊢ wp frame (wpE (defs₀ (F := F)) Variants.none c none) E (cc0_head i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_head_eq_skeleton]; unfold cc0_head_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%f13, %hf13, H13⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg12.eq_unread hf12
    obtain rfl := harg13.eq_unread hf13
    haveI := Fact.mk hc0
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    isplitl [H12]; · iexact H12
    iexact H13

end Cert.Kernel.Head

end
-- ==== Proof.HeadBits.TileA.lean ====
/- What a run of the body at the first point stores: three windows copied into scratch, and the rows of the point's two tiles,
   which are computed from the copies. -/
module

public import proofs.«01_k».proof.Proof.HeadBits.Loop
public import proofs.«01_k».proof.Proof.HeadBits.Rows
public import proofs.«01_k».proof.Proof.HeadBits.RunA

@[expose] public section

set_option maxRecDepth 16384

noncomputable section

namespace Cert.Kernel.Head

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem runA_cluster (c : Dev nD) (i : grid0.Coords) (arg1 : Memref sig .tc .vmem S8x2048 .i32) (harg1 : arg1.IsWhole) (arg2 : Memref sig .tc .vmem S8x2048 .i32) (harg2 : arg2.IsWhole) (arg3 : Memref sig .tc .vmem S1x512x1280 .fp8e4m3) (harg3 : arg3.IsWhole) (arg4 : Memref sig .tc .vmem S8x2048 .f32) (harg4 : arg4.IsWhole) (arg5 : Memref sig .tc .vmem S1280x20003 .fp8e4m3) (harg5 : arg5.IsWhole) (arg6 : Memref sig .tc .vmem S1x20003 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S128x128 .i32) (harg9 : arg9.IsWhole) (arg10 : Memref sig .tc .vmem S128x128 .i32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (hc0 : isFirst i) (hc1 : ¬isLast i)
    (x0 : Vec F S8x2048 .i32) (x1 : Vec F S8x2048 .i32) (x2 : Vec F S1x512x1280 .fp8e4m3) (x3 : Vec F S8x2048 .f32) (x4 : Vec F S1280x20003 .fp8e4m3) (x5 : Vec F S1x20003 .f32) (d7 : Vec F S8x2048 .f32) (d8 : Vec F S8x2048 .f32) (d12 : Vec F S128x128 .f32) (d13 : Vec F S128x128 .f32) :
    (runA c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 d7 d8 d12 d13).1 = rowsPieces x0 := by
  unfold runA; dsimp only; sl_unfold_words
  simp only [k0_pay49, k0_pay50, shapeCast_self, View.readAt_eq_ld, harg1.read_unread]
  rfl

set_option maxHeartbeats 2000000 in
theorem runA_target (c : Dev nD) (i : grid0.Coords) (arg1 : Memref sig .tc .vmem S8x2048 .i32) (harg1 : arg1.IsWhole) (arg2 : Memref sig .tc .vmem S8x2048 .i32) (harg2 : arg2.IsWhole) (arg3 : Memref sig .tc .vmem S1x512x1280 .fp8e4m3) (harg3 : arg3.IsWhole) (arg4 : Memref sig .tc .vmem S8x2048 .f32) (harg4 : arg4.IsWhole) (arg5 : Memref sig .tc .vmem S1280x20003 .fp8e4m3) (harg5 : arg5.IsWhole) (arg6 : Memref sig .tc .vmem S1x20003 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S128x128 .i32) (harg9 : arg9.IsWhole) (arg10 : Memref sig .tc .vmem S128x128 .i32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (hc0 : isFirst i) (hc1 : ¬isLast i)
    (x0 : Vec F S8x2048 .i32) (x1 : Vec F S8x2048 .i32) (x2 : Vec F S1x512x1280 .fp8e4m3) (x3 : Vec F S8x2048 .f32) (x4 : Vec F S1280x20003 .fp8e4m3) (x5 : Vec F S1x20003 .f32) (d7 : Vec F S8x2048 .f32) (d8 : Vec F S8x2048 .f32) (d12 : Vec F S128x128 .f32) (d13 : Vec F S128x128 .f32) :
    (runA c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 d7 d8 d12 d13).2.1 = rowsPieces x1 := by
  unfold runA; dsimp only; sl_unfold_words
  simp only [k0_pay49, k0_pay50, shapeCast_self, View.readAt_eq_ld, harg2.read_unread]
  rfl

set_option maxHeartbeats 2000000 in
theorem runA_scale (c : Dev nD) (i : grid0.Coords) (arg1 : Memref sig .tc .vmem S8x2048 .i32) (harg1 : arg1.IsWhole) (arg2 : Memref sig .tc .vmem S8x2048 .i32) (harg2 : arg2.IsWhole) (arg3 : Memref sig .tc .vmem S1x512x1280 .fp8e4m3) (harg3 : arg3.IsWhole) (arg4 : Memref sig .tc .vmem S8x2048 .f32) (harg4 : arg4.IsWhole) (arg5 : Memref sig .tc .vmem S1280x20003 .fp8e4m3) (harg5 : arg5.IsWhole) (arg6 : Memref sig .tc .vmem S1x20003 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S128x128 .i32) (harg9 : arg9.IsWhole) (arg10 : Memref sig .tc .vmem S128x128 .i32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (hc0 : isFirst i) (hc1 : ¬isLast i)
    (x0 : Vec F S8x2048 .i32) (x1 : Vec F S8x2048 .i32) (x2 : Vec F S1x512x1280 .fp8e4m3) (x3 : Vec F S8x2048 .f32) (x4 : Vec F S1280x20003 .fp8e4m3) (x5 : Vec F S1x20003 .f32) (d7 : Vec F S8x2048 .f32) (d8 : Vec F S8x2048 .f32) (d12 : Vec F S128x128 .f32) (d13 : Vec F S128x128 .f32) :
    (runA c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 d7 d8 d12 d13).2.2.1 = rowsPieces x3 := by
  unfold runA; dsimp only; sl_unfold_words
  simp only [k0_pay49, k0_pay50, shapeCast_self, View.readAt_eq_ld, harg4.read_unread]
  rfl

set_option maxHeartbeats 2000000 in
theorem runA_lp (c : Dev nD) (i : grid0.Coords) (arg1 : Memref sig .tc .vmem S8x2048 .i32) (harg1 : arg1.IsWhole) (arg2 : Memref sig .tc .vmem S8x2048 .i32) (harg2 : arg2.IsWhole) (arg3 : Memref sig .tc .vmem S1x512x1280 .fp8e4m3) (harg3 : arg3.IsWhole) (arg4 : Memref sig .tc .vmem S8x2048 .f32) (harg4 : arg4.IsWhole) (arg5 : Memref sig .tc .vmem S1280x20003 .fp8e4m3) (harg5 : arg5.IsWhole) (arg6 : Memref sig .tc .vmem S1x20003 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S128x128 .i32) (harg9 : arg9.IsWhole) (arg10 : Memref sig .tc .vmem S128x128 .i32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (hc0 : isFirst i) (hc1 : ¬isLast i)
    (x0 : Vec F S8x2048 .i32) (x1 : Vec F S8x2048 .i32) (x2 : Vec F S1x512x1280 .fp8e4m3) (x3 : Vec F S8x2048 .f32) (x4 : Vec F S1280x20003 .fp8e4m3) (x5 : Vec F S1x20003 .f32) (d7 : Vec F S8x2048 .f32) (d8 : Vec F S8x2048 .f32) (d12 : Vec F S128x128 .f32) (d13 : Vec F S128x128 .f32) :
    (runA c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 d7 d8 d12 d13).2.2.2.1
      = rowPieces i (lpTile (ldRow i (rows x0)) (ldRow i (rows x1)) (ldRow i (rows x3)) x2 x4 x5) := by
  have h9 := fun k => readCov_rowsPieces arg9.view x0 (row i k)
  have h10 := fun k => readCov_rowsPieces arg10.view x1 (row i k)
  have h11 := fun k => readCov_rowsPieces arg11.view x3 (row i k)
  refine Eq.trans ?_ (congrArg (fun x => rowPieces i (lpTile (ldRow i (rows x0)) (ldRow i (rows x1)) (ldRow i (rows x3)) x x4 x5)) (ld_codes x2 inb_S1x512x1280_S1x512x1280_0_0_0))
  unfold ldRow
  simp only [← h9, ← h10, ← h11]
  unfold lpTile; dsimp only
  rw [← loop_all c i arg1 harg1 arg2 harg2 arg3 harg3 arg4 harg4 arg5 harg5 arg6 harg6 arg7 harg7 arg8 harg8 arg9 harg9 arg10 harg10 arg11 harg11 arg12 harg12 arg13 harg13]
  unfold runA; dsimp only; sl_unfold_words
  simp only [k0_pay49, k0_pay50, shapeCast_self, View.readAt_eq_ld, harg1.read_unread, harg2.read_unread, harg4.read_unread, harg3.read_unread, harg5.read_unread, harg6.read_unread, pay68_eq, pay70_eq, pay72_eq, pay2_eq]
  rfl

set_option maxHeartbeats 2000000 in
theorem runA_lse (c : Dev nD) (i : grid0.Coords) (arg1 : Memref sig .tc .vmem S8x2048 .i32) (harg1 : arg1.IsWhole) (arg2 : Memref sig .tc .vmem S8x2048 .i32) (harg2 : arg2.IsWhole) (arg3 : Memref sig .tc .vmem S1x512x1280 .fp8e4m3) (harg3 : arg3.IsWhole) (arg4 : Memref sig .tc .vmem S8x2048 .f32) (harg4 : arg4.IsWhole) (arg5 : Memref sig .tc .vmem S1280x20003 .fp8e4m3) (harg5 : arg5.IsWhole) (arg6 : Memref sig .tc .vmem S1x20003 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S128x128 .i32) (harg9 : arg9.IsWhole) (arg10 : Memref sig .tc .vmem S128x128 .i32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (hc0 : isFirst i) (hc1 : ¬isLast i)
    (x0 : Vec F S8x2048 .i32) (x1 : Vec F S8x2048 .i32) (x2 : Vec F S1x512x1280 .fp8e4m3) (x3 : Vec F S8x2048 .f32) (x4 : Vec F S1280x20003 .fp8e4m3) (x5 : Vec F S1x20003 .f32) (d7 : Vec F S8x2048 .f32) (d8 : Vec F S8x2048 .f32) (d12 : Vec F S128x128 .f32) (d13 : Vec F S128x128 .f32) :
    (runA c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 d7 d8 d12 d13).2.2.2.2.1
      = rowPieces i (lseTile (ldRow i (rows x0)) (ldRow i (rows x1)) (ldRow i (rows x3)) x2 x4 x5) := by
  have h9 := fun k => readCov_rowsPieces arg9.view x0 (row i k)
  have h10 := fun k => readCov_rowsPieces arg10.view x1 (row i k)
  have h11 := fun k => readCov_rowsPieces arg11.view x3 (row i k)
  refine Eq.trans ?_ (congrArg (fun x => rowPieces i (lseTile (ldRow i (rows x0)) (ldRow i (rows x1)) (ldRow i (rows x3)) x x4 x5)) (ld_codes x2 inb_S1x512x1280_S1x512x1280_0_0_0))
  unfold ldRow
  simp only [← h9, ← h10, ← h11]
  unfold lseTile; dsimp only
  rw [← loop_all c i arg1 harg1 arg2 harg2 arg3 harg3 arg4 harg4 arg5 harg5 arg6 harg6 arg7 harg7 arg8 harg8 arg9 harg9 arg10 harg10 arg11 harg11 arg12 harg12 arg13 harg13]
  unfold runA; dsimp only; sl_unfold_words
  simp only [k0_pay49, k0_pay50, shapeCast_self, View.readAt_eq_ld, harg1.read_unread, harg2.read_unread, harg4.read_unread, harg3.read_unread, harg5.read_unread, harg6.read_unread, pay67_eq, pay69_eq, pay71_eq, pay1_eq]
  rfl

end Cert.Kernel.Head

end
-- ==== Proof.HeadBits.RunB.lean ====
/- The head kernel's body at a grid point that is neither the first nor the last. -/
module

public import proofs.«01_k».proof.Proof.HeadBits.Points

@[expose] public section

set_option maxRecDepth 16384

noncomputable section

namespace Cert.Kernel.Head

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's run at such a point: the pieces it stores into each buffer it writes (last first), with the proof that the
    body, on whole buffers at the named contents, runs to a continuation holding every other buffer as it was and the
    written ones with their pieces. The pieces are found by the run. -/
noncomputable def runB (c : Dev nD) (i : grid0.Coords) (arg1 : Memref sig .tc .vmem S8x2048 .i32) (harg1 : arg1.IsWhole) (arg2 : Memref sig .tc .vmem S8x2048 .i32) (harg2 : arg2.IsWhole) (arg3 : Memref sig .tc .vmem S1x512x1280 .fp8e4m3) (harg3 : arg3.IsWhole) (arg4 : Memref sig .tc .vmem S8x2048 .f32) (harg4 : arg4.IsWhole) (arg5 : Memref sig .tc .vmem S1280x20003 .fp8e4m3) (harg5 : arg5.IsWhole) (arg6 : Memref sig .tc .vmem S1x20003 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S128x128 .i32) (harg9 : arg9.IsWhole) (arg10 : Memref sig .tc .vmem S128x128 .i32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (hc0 : ¬isFirst i) (hc1 : ¬isLast i)
    (x0 : Vec F S8x2048 .i32) (x1 : Vec F S8x2048 .i32) (x2 : Vec F S1x512x1280 .fp8e4m3) (x3 : Vec F S8x2048 .f32) (x4 : Vec F S1280x20003 .fp8e4m3) (x5 : Vec F S1x20003 .f32) (r9 : Vec F S128x128 .i32) (r10 : Vec F S128x128 .i32) (r11 : Vec F S128x128 .f32) (d7 : Vec F S8x2048 .f32) (d8 : Vec F S8x2048 .f32) (d12 : Vec F S128x128 .f32) (d13 : Vec F S128x128 .f32) :
    Σ' (L12 : List (View.Piece (Elt F) S128x128 .f32)), { L13 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d7 ∗ owns (c : Thread nD τ) arg8 fullShare d8 ∗ owns (c : Thread nD τ) arg9 fullShare r9 ∗ owns (c : Thread nD τ) arg10 fullShare r10 ∗ owns (c : Thread nD τ) arg11 fullShare r11 ∗ owns (c : Thread nD τ) arg12 fullShare d12 ∗ owns (c : Thread nD τ) arg13 fullShare d13
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d7 ∗ owns (c : Thread nD τ) arg8 fullShare d8 ∗ owns (c : Thread nD τ) arg9 fullShare r9 ∗ owns (c : Thread nD τ) arg10 fullShare r10 ∗ owns (c : Thread nD τ) arg11 fullShare r11 ∗ (arg12.view.loc (c : Thread nD τ) ↦[arg12.view.set]{fullShare} arg12.view.writes (Elt F) (harg12.unread d12) L12) ∗ (arg13.view.loc (c : Thread nD τ) ↦[arg13.view.set]{fullShare} arg13.view.writes (Elt F) (harg13.unread d13) L13)) -∗ K ⟨⟩))
          ⊢ wp frame (wpE (defs₀ (F := F)) Variants.none c none) E (cc0_head i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0_head_eq_skeleton]; unfold cc0_head_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexact H12
    iexact H13

end Cert.Kernel.Head

end
-- ==== Proof.HeadBits.TileB.lean ====
/- What a run of the body at a middle point stores: the rows of the point's two tiles. -/
module

public import proofs.«01_k».proof.Proof.HeadBits.Loop
public import proofs.«01_k».proof.Proof.HeadBits.Rows
public import proofs.«01_k».proof.Proof.HeadBits.RunB

@[expose] public section

set_option maxRecDepth 16384

noncomputable section

namespace Cert.Kernel.Head

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem runB_lp (c : Dev nD) (i : grid0.Coords) (arg1 : Memref sig .tc .vmem S8x2048 .i32) (harg1 : arg1.IsWhole) (arg2 : Memref sig .tc .vmem S8x2048 .i32) (harg2 : arg2.IsWhole) (arg3 : Memref sig .tc .vmem S1x512x1280 .fp8e4m3) (harg3 : arg3.IsWhole) (arg4 : Memref sig .tc .vmem S8x2048 .f32) (harg4 : arg4.IsWhole) (arg5 : Memref sig .tc .vmem S1280x20003 .fp8e4m3) (harg5 : arg5.IsWhole) (arg6 : Memref sig .tc .vmem S1x20003 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S128x128 .i32) (harg9 : arg9.IsWhole) (arg10 : Memref sig .tc .vmem S128x128 .i32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (hc0 : ¬isFirst i) (hc1 : ¬isLast i)
    (x0 : Vec F S8x2048 .i32) (x1 : Vec F S8x2048 .i32) (x2 : Vec F S1x512x1280 .fp8e4m3) (x3 : Vec F S8x2048 .f32) (x4 : Vec F S1280x20003 .fp8e4m3) (x5 : Vec F S1x20003 .f32) (r9 : Vec F S128x128 .i32) (r10 : Vec F S128x128 .i32) (r11 : Vec F S128x128 .f32) (d7 : Vec F S8x2048 .f32) (d8 : Vec F S8x2048 .f32) (d12 : Vec F S128x128 .f32) (d13 : Vec F S128x128 .f32) :
    (runB c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 r9 r10 r11 d7 d8 d12 d13).1
      = rowPieces i (lpTile (ldRow i r9) (ldRow i r10) (ldRow i r11) x2 x4 x5) := by
  unfold runB; dsimp only; sl_unfold_words
  simp only [View.readAt_eq_ld, harg3.read_unread, harg5.read_unread, harg6.read_unread, harg9.read_unread, harg10.read_unread, harg11.read_unread, pay68_eq, pay70_eq, pay72_eq, pay2_eq]
  refine Eq.trans ?_ (congrArg (fun x => rowPieces i (lpTile (ldRow i r9) (ldRow i r10) (ldRow i r11) x x4 x5)) (ld_codes x2 inb_S1x512x1280_S1x512x1280_0_0_0))
  unfold lpTile; dsimp only
  rw [← loop_all c i arg1 harg1 arg2 harg2 arg3 harg3 arg4 harg4 arg5 harg5 arg6 harg6 arg7 harg7 arg8 harg8 arg9 harg9 arg10 harg10 arg11 harg11 arg12 harg12 arg13 harg13]
  rfl

set_option maxHeartbeats 2000000 in
theorem runB_lse (c : Dev nD) (i : grid0.Coords) (arg1 : Memref sig .tc .vmem S8x2048 .i32) (harg1 : arg1.IsWhole) (arg2 : Memref sig .tc .vmem S8x2048 .i32) (harg2 : arg2.IsWhole) (arg3 : Memref sig .tc .vmem S1x512x1280 .fp8e4m3) (harg3 : arg3.IsWhole) (arg4 : Memref sig .tc .vmem S8x2048 .f32) (harg4 : arg4.IsWhole) (arg5 : Memref sig .tc .vmem S1280x20003 .fp8e4m3) (harg5 : arg5.IsWhole) (arg6 : Memref sig .tc .vmem S1x20003 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S128x128 .i32) (harg9 : arg9.IsWhole) (arg10 : Memref sig .tc .vmem S128x128 .i32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (hc0 : ¬isFirst i) (hc1 : ¬isLast i)
    (x0 : Vec F S8x2048 .i32) (x1 : Vec F S8x2048 .i32) (x2 : Vec F S1x512x1280 .fp8e4m3) (x3 : Vec F S8x2048 .f32) (x4 : Vec F S1280x20003 .fp8e4m3) (x5 : Vec F S1x20003 .f32) (r9 : Vec F S128x128 .i32) (r10 : Vec F S128x128 .i32) (r11 : Vec F S128x128 .f32) (d7 : Vec F S8x2048 .f32) (d8 : Vec F S8x2048 .f32) (d12 : Vec F S128x128 .f32) (d13 : Vec F S128x128 .f32) :
    (runB c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 r9 r10 r11 d7 d8 d12 d13).2.1
      = rowPieces i (lseTile (ldRow i r9) (ldRow i r10) (ldRow i r11) x2 x4 x5) := by
  unfold runB; dsimp only; sl_unfold_words
  simp only [View.readAt_eq_ld, harg3.read_unread, harg5.read_unread, harg6.read_unread, harg9.read_unread, harg10.read_unread, harg11.read_unread, pay67_eq, pay69_eq, pay71_eq, pay1_eq]
  refine Eq.trans ?_ (congrArg (fun x => rowPieces i (lseTile (ldRow i r9) (ldRow i r10) (ldRow i r11) x x4 x5)) (ld_codes x2 inb_S1x512x1280_S1x512x1280_0_0_0))
  unfold lseTile; dsimp only
  rw [← loop_all c i arg1 harg1 arg2 harg2 arg3 harg3 arg4 harg4 arg5 harg5 arg6 harg6 arg7 harg7 arg8 harg8 arg9 harg9 arg10 harg10 arg11 harg11 arg12 harg12 arg13 harg13]
  rfl

end Cert.Kernel.Head

end
-- ==== Proof.HeadBits.RunC.lean ====
/- The head kernel's body at the last grid point: it ends by copying the two row buffers into the outputs. -/
module

public import proofs.«01_k».proof.Proof.HeadBits.Points

@[expose] public section

set_option maxRecDepth 16384

noncomputable section

namespace Cert.Kernel.Head

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's run at such a point: the pieces it stores into each buffer it writes (last first), with the proof that the
    body, on whole buffers at the named contents, runs to a continuation holding every other buffer as it was and the
    written ones with their pieces. The pieces are found by the run. -/
noncomputable def runC (c : Dev nD) (i : grid0.Coords) (arg1 : Memref sig .tc .vmem S8x2048 .i32) (harg1 : arg1.IsWhole) (arg2 : Memref sig .tc .vmem S8x2048 .i32) (harg2 : arg2.IsWhole) (arg3 : Memref sig .tc .vmem S1x512x1280 .fp8e4m3) (harg3 : arg3.IsWhole) (arg4 : Memref sig .tc .vmem S8x2048 .f32) (harg4 : arg4.IsWhole) (arg5 : Memref sig .tc .vmem S1280x20003 .fp8e4m3) (harg5 : arg5.IsWhole) (arg6 : Memref sig .tc .vmem S1x20003 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S128x128 .i32) (harg9 : arg9.IsWhole) (arg10 : Memref sig .tc .vmem S128x128 .i32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (hc0 : ¬isFirst i) (hc1 : isLast i)
    (x0 : Vec F S8x2048 .i32) (x1 : Vec F S8x2048 .i32) (x2 : Vec F S1x512x1280 .fp8e4m3) (x3 : Vec F S8x2048 .f32) (x4 : Vec F S1280x20003 .fp8e4m3) (x5 : Vec F S1x20003 .f32) (r9 : Vec F S128x128 .i32) (r10 : Vec F S128x128 .i32) (r11 : Vec F S128x128 .f32) (d12 : Vec F S128x128 .f32) (d13 : Vec F S128x128 .f32) :
    Σ' (L7 : List (View.Piece (Elt F) S8x2048 .f32)), Σ' (L8 : List (View.Piece (Elt F) S8x2048 .f32)), Σ' (L12 : List (View.Piece (Elt F) S128x128 .f32)), { L13 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare r9 ∗ owns (c : Thread nD τ) arg10 fullShare r10 ∗ owns (c : Thread nD τ) arg11 fullShare r11 ∗ owns (c : Thread nD τ) arg12 fullShare d12 ∗ owns (c : Thread nD τ) arg13 fullShare d13
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ owns (c : Thread nD τ) arg9 fullShare r9 ∗ owns (c : Thread nD τ) arg10 fullShare r10 ∗ owns (c : Thread nD τ) arg11 fullShare r11 ∗ (arg12.view.loc (c : Thread nD τ) ↦[arg12.view.set]{fullShare} arg12.view.writes (Elt F) (harg12.unread d12) L12) ∗ (arg13.view.loc (c : Thread nD τ) ↦[arg13.view.set]{fullShare} arg13.view.writes (Elt F) (harg13.unread d13) L13)) -∗ K ⟨⟩))
          ⊢ wp frame (wpE (defs₀ (F := F)) Variants.none c none) E (cc0_head i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0_head_eq_skeleton]; unfold cc0_head_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%f11, %hf11, H11⟩, ⟨%f12, %hf12, H12⟩, ⟨%f13, %hf13, H13⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg9.eq_unread hf9
    obtain rfl := harg10.eq_unread hf10
    obtain rfl := harg11.eq_unread hf11
    obtain rfl := harg12.eq_unread hf12
    obtain rfl := harg13.eq_unread hf13
    haveI := Fact.mk hc1
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexact H12
    iexact H13

end Cert.Kernel.Head

end
-- ==== Proof.HeadBits.TileC.lean ====
/- What a run of the body at the last point stores: the rows of the point's two tiles, and the two results, copied out of the
   scratch buffers after those rows. -/
module

public import proofs.«01_k».proof.Proof.HeadBits.Loop
public import proofs.«01_k».proof.Proof.HeadBits.Rows
public import proofs.«01_k».proof.Proof.HeadBits.RunC

@[expose] public section

set_option maxRecDepth 16384

noncomputable section

namespace Cert.Kernel.Head

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem runC_lp (c : Dev nD) (i : grid0.Coords) (arg1 : Memref sig .tc .vmem S8x2048 .i32) (harg1 : arg1.IsWhole) (arg2 : Memref sig .tc .vmem S8x2048 .i32) (harg2 : arg2.IsWhole) (arg3 : Memref sig .tc .vmem S1x512x1280 .fp8e4m3) (harg3 : arg3.IsWhole) (arg4 : Memref sig .tc .vmem S8x2048 .f32) (harg4 : arg4.IsWhole) (arg5 : Memref sig .tc .vmem S1280x20003 .fp8e4m3) (harg5 : arg5.IsWhole) (arg6 : Memref sig .tc .vmem S1x20003 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S128x128 .i32) (harg9 : arg9.IsWhole) (arg10 : Memref sig .tc .vmem S128x128 .i32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (hc0 : ¬isFirst i) (hc1 : isLast i)
    (x0 : Vec F S8x2048 .i32) (x1 : Vec F S8x2048 .i32) (x2 : Vec F S1x512x1280 .fp8e4m3) (x3 : Vec F S8x2048 .f32) (x4 : Vec F S1280x20003 .fp8e4m3) (x5 : Vec F S1x20003 .f32) (r9 : Vec F S128x128 .i32) (r10 : Vec F S128x128 .i32) (r11 : Vec F S128x128 .f32) (d12 : Vec F S128x128 .f32) (d13 : Vec F S128x128 .f32) :
    (runC c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 r9 r10 r11 d12 d13).2.2.1
      = rowPieces i (lpTile (ldRow i r9) (ldRow i r10) (ldRow i r11) x2 x4 x5) := by
  unfold runC; dsimp only; sl_unfold_words
  simp only [View.readAt_eq_ld, harg3.read_unread, harg5.read_unread, harg6.read_unread, harg9.read_unread, harg10.read_unread, harg11.read_unread, pay68_eq, pay70_eq, pay72_eq, pay2_eq]
  refine Eq.trans ?_ (congrArg (fun x => rowPieces i (lpTile (ldRow i r9) (ldRow i r10) (ldRow i r11) x x4 x5)) (ld_codes x2 inb_S1x512x1280_S1x512x1280_0_0_0))
  unfold lpTile; dsimp only
  rw [← loop_all c i arg1 harg1 arg2 harg2 arg3 harg3 arg4 harg4 arg5 harg5 arg6 harg6 arg7 harg7 arg8 harg8 arg9 harg9 arg10 harg10 arg11 harg11 arg12 harg12 arg13 harg13]
  rfl

set_option maxHeartbeats 2000000 in
theorem runC_lse (c : Dev nD) (i : grid0.Coords) (arg1 : Memref sig .tc .vmem S8x2048 .i32) (harg1 : arg1.IsWhole) (arg2 : Memref sig .tc .vmem S8x2048 .i32) (harg2 : arg2.IsWhole) (arg3 : Memref sig .tc .vmem S1x512x1280 .fp8e4m3) (harg3 : arg3.IsWhole) (arg4 : Memref sig .tc .vmem S8x2048 .f32) (harg4 : arg4.IsWhole) (arg5 : Memref sig .tc .vmem S1280x20003 .fp8e4m3) (harg5 : arg5.IsWhole) (arg6 : Memref sig .tc .vmem S1x20003 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S128x128 .i32) (harg9 : arg9.IsWhole) (arg10 : Memref sig .tc .vmem S128x128 .i32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (hc0 : ¬isFirst i) (hc1 : isLast i)
    (x0 : Vec F S8x2048 .i32) (x1 : Vec F S8x2048 .i32) (x2 : Vec F S1x512x1280 .fp8e4m3) (x3 : Vec F S8x2048 .f32) (x4 : Vec F S1280x20003 .fp8e4m3) (x5 : Vec F S1x20003 .f32) (r9 : Vec F S128x128 .i32) (r10 : Vec F S128x128 .i32) (r11 : Vec F S128x128 .f32) (d12 : Vec F S128x128 .f32) (d13 : Vec F S128x128 .f32) :
    (runC c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 r9 r10 r11 d12 d13).2.2.2.1
      = rowPieces i (lseTile (ldRow i r9) (ldRow i r10) (ldRow i r11) x2 x4 x5) := by
  unfold runC; dsimp only; sl_unfold_words
  simp only [View.readAt_eq_ld, harg3.read_unread, harg5.read_unread, harg6.read_unread, harg9.read_unread, harg10.read_unread, harg11.read_unread, pay67_eq, pay69_eq, pay71_eq, pay1_eq]
  refine Eq.trans ?_ (congrArg (fun x => rowPieces i (lseTile (ldRow i r9) (ldRow i r10) (ldRow i r11) x x4 x5)) (ld_codes x2 inb_S1x512x1280_S1x512x1280_0_0_0))
  unfold lseTile; dsimp only
  rw [← loop_all c i arg1 harg1 arg2 harg2 arg3 harg3 arg4 harg4 arg5 harg5 arg6 harg6 arg7 harg7 arg8 harg8 arg9 harg9 arg10 harg10 arg11 harg11 arg12 harg12 arg13 harg13]
  rfl

/-- The copy out, where the rows the last point does not store are loaded from what was there before. -/
theorem mixed_eq (d u : Vec F S128x128 .f32) (h : ∀ k : Fin 16, 3 < k.val → View.ld u (rect8 k) = View.ld d (rect8 k)) :
    (List.ofFn fun k : Fin 16 => (⟨rect128 k, if k.val ≤ 3 then View.ld u (rect8 k) else View.ld d (rect8 k)⟩ : View.Piece (Elt F) S8x2048 .f32))
      = unrowsPieces u := by
  unfold unrowsPieces
  congr 1; funext k
  split
  · rfl
  · rw [h k (by omega)]

/-- A load of eight rows none of which the last point stores. -/
theorem ld_far (i : grid0.Coords) (hc1 : isLast i) (m : Memref sig .tc .vmem S128x128 .f32) (hm : m.IsWhole) (d : Vec F S128x128 .f32)
    (w : FVec F S512x128 .f32) (k : Fin 16) (hk : 3 < k.val) :
    View.ld (m.view.read (Elt F) (m.view.writes (Elt F) (hm.unread d) (rowPieces i w))) (rect8 k) = View.ld d (rect8 k) := by
  have hb : base i = 103 := by revert i; decide +kernel
  funext z
  have z0 : (z 0).val < 8 := (z 0).isLt
  have i0 : ((rect8 k).idx z 0).val = 8 * (15 - k.val) + (z 0).val := Rect.idx_unit_val (s := S128x128) ![8 * (15 - k.val), 0] S8x128.size (inbR k) z 0
  show m.view.read (Elt F) _ ((rect8 k).idx z) = d ((rect8 k).idx z)
  rw [read_rowPieces_not_mem _ _ _ _ _ (fun j => by rw [hb]; omega), hm.read_unread]

set_option maxHeartbeats 2000000 in
theorem runC_outLp (c : Dev nD) (i : grid0.Coords) (arg1 : Memref sig .tc .vmem S8x2048 .i32) (harg1 : arg1.IsWhole) (arg2 : Memref sig .tc .vmem S8x2048 .i32) (harg2 : arg2.IsWhole) (arg3 : Memref sig .tc .vmem S1x512x1280 .fp8e4m3) (harg3 : arg3.IsWhole) (arg4 : Memref sig .tc .vmem S8x2048 .f32) (harg4 : arg4.IsWhole) (arg5 : Memref sig .tc .vmem S1280x20003 .fp8e4m3) (harg5 : arg5.IsWhole) (arg6 : Memref sig .tc .vmem S1x20003 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S128x128 .i32) (harg9 : arg9.IsWhole) (arg10 : Memref sig .tc .vmem S128x128 .i32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (hc0 : ¬isFirst i) (hc1 : isLast i)
    (x0 : Vec F S8x2048 .i32) (x1 : Vec F S8x2048 .i32) (x2 : Vec F S1x512x1280 .fp8e4m3) (x3 : Vec F S8x2048 .f32) (x4 : Vec F S1280x20003 .fp8e4m3) (x5 : Vec F S1x20003 .f32) (r9 : Vec F S128x128 .i32) (r10 : Vec F S128x128 .i32) (r11 : Vec F S128x128 .f32) (d12 : Vec F S128x128 .f32) (d13 : Vec F S128x128 .f32) :
    (runC c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 r9 r10 r11 d12 d13).1
      = unrowsPieces (arg12.view.read (Elt F) (arg12.view.writes (Elt F) (harg12.unread d12) (rowPieces i (lpTile (ldRow i r9) (ldRow i r10) (ldRow i r11) x2 x4 x5)))) := by
  have hL := runC_lp c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 r9 r10 r11 d12 d13
  rw [← hL]
  have hf := ld_far i hc1 arg12 harg12 d12 (lpTile (ldRow i r9) (ldRow i r10) (ldRow i r11) x2 x4 x5)
  rw [← hL] at hf
  refine Eq.trans ?_ (mixed_eq d12 _ hf)
  unfold runC; dsimp only; sl_unfold_words
  simp only [shapeCast_self, View.readAt_eq_ld, harg12.read_unread]
  rfl

set_option maxHeartbeats 2000000 in
theorem runC_outLse (c : Dev nD) (i : grid0.Coords) (arg1 : Memref sig .tc .vmem S8x2048 .i32) (harg1 : arg1.IsWhole) (arg2 : Memref sig .tc .vmem S8x2048 .i32) (harg2 : arg2.IsWhole) (arg3 : Memref sig .tc .vmem S1x512x1280 .fp8e4m3) (harg3 : arg3.IsWhole) (arg4 : Memref sig .tc .vmem S8x2048 .f32) (harg4 : arg4.IsWhole) (arg5 : Memref sig .tc .vmem S1280x20003 .fp8e4m3) (harg5 : arg5.IsWhole) (arg6 : Memref sig .tc .vmem S1x20003 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S128x128 .i32) (harg9 : arg9.IsWhole) (arg10 : Memref sig .tc .vmem S128x128 .i32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (hc0 : ¬isFirst i) (hc1 : isLast i)
    (x0 : Vec F S8x2048 .i32) (x1 : Vec F S8x2048 .i32) (x2 : Vec F S1x512x1280 .fp8e4m3) (x3 : Vec F S8x2048 .f32) (x4 : Vec F S1280x20003 .fp8e4m3) (x5 : Vec F S1x20003 .f32) (r9 : Vec F S128x128 .i32) (r10 : Vec F S128x128 .i32) (r11 : Vec F S128x128 .f32) (d12 : Vec F S128x128 .f32) (d13 : Vec F S128x128 .f32) :
    (runC c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 r9 r10 r11 d12 d13).2.1
      = unrowsPieces (arg13.view.read (Elt F) (arg13.view.writes (Elt F) (harg13.unread d13) (rowPieces i (lseTile (ldRow i r9) (ldRow i r10) (ldRow i r11) x2 x4 x5)))) := by
  have hL := runC_lse c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 r9 r10 r11 d12 d13
  rw [← hL]
  have hf := ld_far i hc1 arg13 harg13 d13 (lseTile (ldRow i r9) (ldRow i r10) (ldRow i r11) x2 x4 x5)
  rw [← hL] at hf
  refine Eq.trans ?_ (mixed_eq d13 _ hf)
  unfold runC; dsimp only; sl_unfold_words
  simp only [shapeCast_self, View.readAt_eq_ld, harg13.read_unread]
  rfl

end Cert.Kernel.Head

end
-- ==== Proof.HeadBits.Obligation.lean ====
/- The proof data of the head pipeline and its body obligation at every grid point. -/
module

public import proofs.«01_k».proof.Proof.HeadBits.Invariant
public import proofs.«01_k».proof.Proof.HeadBits.TileA
public import proofs.«01_k».proof.Proof.HeadBits.TileB
public import proofs.«01_k».proof.Proof.HeadBits.TileC
public import Idealize.ShloMosaic.Lib.Claim

@[expose] public section

set_option maxRecDepth 16384

noncomputable section

namespace Cert.Kernel.Head

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The stores of a run, given as the lists they are equal to -/

theorem agree_step' (tile : Fin cfg0.N → FVec F S512x128 .f32) (t : Fin cfg0.N) (b : Memref sig .tc .vmem S128x128 .f32) (hb : b.IsWhole)
    (d : Vec F S128x128 .f32) (L : List (View.Piece (Elt F) S128x128 .f32)) (hL : L = rowPieces (grid0.coords t) (tile t)) (h : Agree tile t.val d) :
    Agree tile (t.val + 1) (b.view.read (Elt F) (b.view.writes (Elt F) (hb.unread d) L)) := by
  subst hL; exact agree_step tile t b hb d h

theorem read_rows_of {e : EltTy} {κ : Kind} {sp : Space} (v : View sig κ sp S128x128 e) (f : v.ty.Contents (Elt F)) (x : Vec F S8x2048 e)
    (L : List (View.Piece (Elt F) S128x128 e)) (hL : L = rowsPieces x) : v.read (Elt F) (v.writes (Elt F) f L) = rows x := by
  subst hL; exact read_rowsPieces v f x

theorem read_unrows_of {e : EltTy} {κ : Kind} {sp : Space} (v : View sig κ sp S8x2048 e) (f : v.ty.Contents (Elt F)) (d : Vec F S128x128 e)
    (L : List (View.Piece (Elt F) S8x2048 e)) (hL : L = unrowsPieces d) : v.read (Elt F) (v.writes (Elt F) f L) = unrows d := by
  subst hL; exact read_unrowsPieces v f d

/-! ## The invariant between points -/

/-- Before the first point: scratch at anything. After point `n`: the three copies, and the two result buffers holding the rows
    of the points up to `n`. -/
def Phi (c : Dev nD) : (n : ℕ) → n ≤ cfg0.N → sProp 𝕄
  | 0, _ => Pipeline.ΦA spec0 c
  | n + 1, hn => iprop(iprop(owns (c : Thread nD τ) scr_0 fullShare (rows (iblk m c 0 ⟨n, hn⟩)) ∗ owns (c : Thread nD τ) scr_1 fullShare (rows (iblk m c 1 ⟨n, hn⟩))
      ∗ owns (c : Thread nD τ) scr_2 fullShare (rows (iblk m c 3 ⟨n, hn⟩))
      ∗ (∃ d, ⌜Agree (lpAt m c) (n + 1) d⌝ ∗ owns (c : Thread nD τ) scr_3 fullShare d) ∗ (∃ d, ⌜Agree (lseAt m c) (n + 1) d⌝ ∗ owns (c : Thread nD τ) scr_4 fullShare d))
      ∗ (∃ r, prngReg c r))

theorem Phi_zero (c : Dev nD) (n : ℕ) (h : n ≤ cfg0.N) (hz : n = 0) : Phi m c n h = Pipeline.ΦA spec0 c := by
  subst hz; rfl

theorem Phi_succ (c : Dev nD) (t : Fin cfg0.N) :
    Phi m c (t.val + 1) t.isLt = iprop(iprop(owns (c : Thread nD τ) scr_0 fullShare (rows (iblk m c 0 t)) ∗ owns (c : Thread nD τ) scr_1 fullShare (rows (iblk m c 1 t))
      ∗ owns (c : Thread nD τ) scr_2 fullShare (rows (iblk m c 3 t))
      ∗ (∃ d, ⌜Agree (lpAt m c) (t.val + 1) d⌝ ∗ owns (c : Thread nD τ) scr_3 fullShare d) ∗ (∃ d, ⌜Agree (lseAt m c) (t.val + 1) d⌝ ∗ owns (c : Thread nD τ) scr_4 fullShare d))
      ∗ (∃ r, prngReg c r)) := rfl

/-- Before a point that is not the first: the copies are those of the point itself, for their windows never move. -/
theorem Phi_pos (c : Dev nD) (t : Fin cfg0.N) (hz : t.val ≠ 0) :
    Phi m c t.val (Nat.le_of_lt t.isLt) = iprop(iprop(owns (c : Thread nD τ) scr_0 fullShare (rows (iblk m c 0 t)) ∗ owns (c : Thread nD τ) scr_1 fullShare (rows (iblk m c 1 t))
      ∗ owns (c : Thread nD τ) scr_2 fullShare (rows (iblk m c 3 t))
      ∗ (∃ d, ⌜Agree (lpAt m c) t.val d⌝ ∗ owns (c : Thread nD τ) scr_3 fullShare d) ∗ (∃ d, ⌜Agree (lseAt m c) t.val d⌝ ∗ owns (c : Thread nD τ) scr_4 fullShare d))
      ∗ (∃ r, prngReg c r)) := by
  obtain ⟨n, hn⟩ := t
  cases n with
  | zero => exact absurd rfl hz
  | succ n => rfl

/-! ## The proof data -/

/-- The arrays as the region finds them; after a point every input buffer at its block and the output buffers, which only the last
    point stores into, at the results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => unrows (gather (lpAt m c))
    | ⟨7, _⟩ => unrows (gather (lseAt m c))
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = unrows (gather (lpAt m c)) := by dsimp only [dats]
theorem after_7 (c : Dev nD) (t : Fin cfg0.N) : (dats m 0 c).after 7 t = unrows (gather (lseAt m c)) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t)

/-- An input window is left at its block. -/
theorem leaves_in (c : Dev nD) (t : Fin cfg0.N) (w : Fin cfg0.W) (hw : cfg0.idle w (grid0.coords t) = false) :
    (dats m 0 c).leavesExact w t = owns (c : Thread nD τ) ((cfg0.win w).stage (cfg0.slots t w)) fullShare ((dats m 0 c).after w t) := by
  unfold Dat.leavesExact; rw [hw]

theorem live_in : ∀ (t : Fin cfg0.N) (w : Fin cfg0.W), w.val < 6 → cfg0.idle w (grid0.coords t) = false := by decide +kernel

set_option maxHeartbeats 8000000 in
/-- The body at a point in the middle. -/
theorem soundB (c : Dev nD) (t : Fin cfg0.N) (hc0 : ¬isFirst (grid0.coords t)) (hc1 : ¬isLast (grid0.coords t)) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = Phi m c (t.val + 1) t.isLt from rfl, Phi_succ]
  rw [leaves_in m c t 0 (live_in t 0 (by decide)), after_0]
  rw [leaves_in m c t 1 (live_in t 1 (by decide)), after_1]
  rw [leaves_in m c t 2 (live_in t 2 (by decide)), after_2]
  rw [leaves_in m c t 3 (live_in t 3 (by decide)), after_3]
  rw [leaves_in m c t 4 (live_in t 4 (by decide)), after_4]
  rw [leaves_in m c t 5 (live_in t 5 (by decide)), after_5]
  rw [Dat.leavesExact_idle (dats m 0 c) 6 t (idleAt_6 t hc1) (noFlush_6 t hc1), Dat.leavesExact_idle (dats m 0 c) 7 t (idleAt_7 t hc1) (noFlush_7 t hc1)]
  have hz : t.val ≠ 0 := fun h => hc0 ((isFirst_iff t).mpr h)
  rw [Phi_castSucc m c t, Phi_pos m c t hz]
  iintro ⟨⟨⟨S0, S1, S2, ⟨%d3, %a3, S3⟩, ⟨%d4, %a4, S4⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
  have hlp := runB_lp c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scr_0 (Memref.isWhole_whole _) scr_1 (Memref.isWhole_whole _) scr_2 (Memref.isWhole_whole _) scr_3 (Memref.isWhole_whole _) scr_4 (Memref.isWhole_whole _) hc0 hc1 (iblk m c 0 t) (iblk m c 1 t) (iblk m c 2 t) (iblk m c 3 t) (iblk m c 4 t) (iblk m c 5 t) (rows (iblk m c 0 t)) (rows (iblk m c 1 t)) (rows (iblk m c 3 t)) ((dats m 0 c).before 6 t e6) ((dats m 0 c).before 7 t e7) d3 d4
  have hlse := runB_lse c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scr_0 (Memref.isWhole_whole _) scr_1 (Memref.isWhole_whole _) scr_2 (Memref.isWhole_whole _) scr_3 (Memref.isWhole_whole _) scr_4 (Memref.isWhole_whole _) hc0 hc1 (iblk m c 0 t) (iblk m c 1 t) (iblk m c 2 t) (iblk m c 3 t) (iblk m c 4 t) (iblk m c 5 t) (rows (iblk m c 0 t)) (rows (iblk m c 1 t)) (rows (iblk m c 3 t)) ((dats m 0 c).before 6 t e6) ((dats m 0 c).before 7 t e7) d3 d4
  iapply ((runB c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scr_0 (Memref.isWhole_whole _) scr_1 (Memref.isWhole_whole _) scr_2 (Memref.isWhole_whole _) scr_3 (Memref.isWhole_whole _) scr_4 (Memref.isWhole_whole _) hc0 hc1 (iblk m c 0 t) (iblk m c 1 t) (iblk m c 2 t) (iblk m c 3 t) (iblk m c 4 t) (iblk m c 5 t) (rows (iblk m c 0 t)) (rows (iblk m c 1 t)) (rows (iblk m c 3 t)) ((dats m 0 c).before 6 t e6) ((dats m 0 c).before 7 t e7) d3 d4).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  isplitl [S3]; · iexact S3
  isplitl [S4]; · iexact S4
  iintro ⟨H0, H1, H2, H3, H4, H5, H6, H7, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]
      · iexists _; isplitr
        swap
        · unfold owns; iexists _; isplitr
          swap; · iexact S3
          ipureintro; rfl
        · ipureintro; exact agree_step' (lpAt m c) t scr_3 (Memref.isWhole_whole _) d3 _ hlp a3
      · iexists _; isplitr
        swap
        · unfold owns; iexists _; isplitr
          swap; · iexact S4
          ipureintro; rfl
        · ipureintro; exact agree_step' (lseAt m c) t scr_4 (Memref.isWhole_whole _) d4 _ hlse a4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

set_option maxHeartbeats 8000000 in
/-- The body at the first point. -/
theorem soundA (c : Dev nD) (t : Fin cfg0.N) (hc0 : isFirst (grid0.coords t)) (hc1 : ¬isLast (grid0.coords t)) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = Phi m c (t.val + 1) t.isLt from rfl, Phi_succ]
  rw [leaves_in m c t 0 (live_in t 0 (by decide)), after_0]
  rw [leaves_in m c t 1 (live_in t 1 (by decide)), after_1]
  rw [leaves_in m c t 2 (live_in t 2 (by decide)), after_2]
  rw [leaves_in m c t 3 (live_in t 3 (by decide)), after_3]
  rw [leaves_in m c t 4 (live_in t 4 (by decide)), after_4]
  rw [leaves_in m c t 5 (live_in t 5 (by decide)), after_5]
  rw [Dat.leavesExact_idle (dats m 0 c) 6 t (idleAt_6 t hc1) (noFlush_6 t hc1), Dat.leavesExact_idle (dats m 0 c) 7 t (idleAt_7 t hc1) (noFlush_7 t hc1)]
  have hz : t.val = 0 := (isFirst_iff t).mp hc0
  rw [Phi_castSucc m c t, Phi_zero m c _ _ hz, PhiA_eq]
  iintro ⟨⟨⟨S0, S1, S2, ⟨%d3, S3⟩, ⟨%d4, S4⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
  have a3 : Agree (lpAt m c) t.val d3 := by rw [hz]; exact agree_zero _ _
  have a4 : Agree (lseAt m c) t.val d4 := by rw [hz]; exact agree_zero _ _
  have hcluster := runA_cluster c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scr_0 (Memref.isWhole_whole _) scr_1 (Memref.isWhole_whole _) scr_2 (Memref.isWhole_whole _) scr_3 (Memref.isWhole_whole _) scr_4 (Memref.isWhole_whole _) hc0 hc1 (iblk m c 0 t) (iblk m c 1 t) (iblk m c 2 t) (iblk m c 3 t) (iblk m c 4 t) (iblk m c 5 t) ((dats m 0 c).before 6 t e6) ((dats m 0 c).before 7 t e7) d3 d4
  have htarget := runA_target c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scr_0 (Memref.isWhole_whole _) scr_1 (Memref.isWhole_whole _) scr_2 (Memref.isWhole_whole _) scr_3 (Memref.isWhole_whole _) scr_4 (Memref.isWhole_whole _) hc0 hc1 (iblk m c 0 t) (iblk m c 1 t) (iblk m c 2 t) (iblk m c 3 t) (iblk m c 4 t) (iblk m c 5 t) ((dats m 0 c).before 6 t e6) ((dats m 0 c).before 7 t e7) d3 d4
  have hscale := runA_scale c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scr_0 (Memref.isWhole_whole _) scr_1 (Memref.isWhole_whole _) scr_2 (Memref.isWhole_whole _) scr_3 (Memref.isWhole_whole _) scr_4 (Memref.isWhole_whole _) hc0 hc1 (iblk m c 0 t) (iblk m c 1 t) (iblk m c 2 t) (iblk m c 3 t) (iblk m c 4 t) (iblk m c 5 t) ((dats m 0 c).before 6 t e6) ((dats m 0 c).before 7 t e7) d3 d4
  have hlp := runA_lp c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scr_0 (Memref.isWhole_whole _) scr_1 (Memref.isWhole_whole _) scr_2 (Memref.isWhole_whole _) scr_3 (Memref.isWhole_whole _) scr_4 (Memref.isWhole_whole _) hc0 hc1 (iblk m c 0 t) (iblk m c 1 t) (iblk m c 2 t) (iblk m c 3 t) (iblk m c 4 t) (iblk m c 5 t) ((dats m 0 c).before 6 t e6) ((dats m 0 c).before 7 t e7) d3 d4
  have hlse := runA_lse c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scr_0 (Memref.isWhole_whole _) scr_1 (Memref.isWhole_whole _) scr_2 (Memref.isWhole_whole _) scr_3 (Memref.isWhole_whole _) scr_4 (Memref.isWhole_whole _) hc0 hc1 (iblk m c 0 t) (iblk m c 1 t) (iblk m c 2 t) (iblk m c 3 t) (iblk m c 4 t) (iblk m c 5 t) ((dats m 0 c).before 6 t e6) ((dats m 0 c).before 7 t e7) d3 d4
  iapply ((runA c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scr_0 (Memref.isWhole_whole _) scr_1 (Memref.isWhole_whole _) scr_2 (Memref.isWhole_whole _) scr_3 (Memref.isWhole_whole _) scr_4 (Memref.isWhole_whole _) hc0 hc1 (iblk m c 0 t) (iblk m c 1 t) (iblk m c 2 t) (iblk m c 3 t) (iblk m c 4 t) (iblk m c 5 t) ((dats m 0 c).before 6 t e6) ((dats m 0 c).before 7 t e7) d3 d4).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  isplitl [S3]; · iexact S3
  isplitl [S4]; · iexact S4
  iintro ⟨H0, H1, H2, H3, H4, H5, H6, H7, ⟨%g0, S0⟩, ⟨%g1, S1⟩, ⟨%g2, S2⟩, S3, S4⟩
  isplitl [S0 S1 S2 S3 S4 Hg]
  · isplitl [S0 S1 S2 S3 S4]
    · isplitl [S0]
      · unfold owns; iexists _; isplitr
        swap; · iexact S0
        ipureintro; exact read_rows_of _ _ _ _ hcluster
      isplitl [S1]
      · unfold owns; iexists _; isplitr
        swap; · iexact S1
        ipureintro; exact read_rows_of _ _ _ _ htarget
      isplitl [S2]
      · unfold owns; iexists _; isplitr
        swap; · iexact S2
        ipureintro; exact read_rows_of _ _ _ _ hscale
      isplitl [S3]
      · iexists _; isplitr
        swap
        · unfold owns; iexists _; isplitr
          swap; · iexact S3
          ipureintro; rfl
        · ipureintro; exact agree_step' (lpAt m c) t scr_3 (Memref.isWhole_whole _) d3 _ hlp a3
      · iexists _; isplitr
        swap
        · unfold owns; iexists _; isplitr
          swap; · iexact S4
          ipureintro; rfl
        · ipureintro; exact agree_step' (lseAt m c) t scr_4 (Memref.isWhole_whole _) d4 _ hlse a4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

set_option maxHeartbeats 8000000 in
/-- The body at the last point. -/
theorem soundC (c : Dev nD) (t : Fin cfg0.N) (hc0 : ¬isFirst (grid0.coords t)) (hc1 : isLast (grid0.coords t)) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = Phi m c (t.val + 1) t.isLt from rfl, Phi_succ]
  rw [leaves_in m c t 0 (live_in t 0 (by decide)), after_0]
  rw [leaves_in m c t 1 (live_in t 1 (by decide)), after_1]
  rw [leaves_in m c t 2 (live_in t 2 (by decide)), after_2]
  rw [leaves_in m c t 3 (live_in t 3 (by decide)), after_3]
  rw [leaves_in m c t 4 (live_in t 4 (by decide)), after_4]
  rw [leaves_in m c t 5 (live_in t 5 (by decide)), after_5]
  rw [leaves_in m c t 6 (liveAt_6 t hc1), after_6, leaves_in m c t 7 (liveAt_7 t hc1), after_7]
  have hz : t.val ≠ 0 := fun h => hc0 ((isFirst_iff t).mpr h)
  rw [Phi_castSucc m c t, Phi_pos m c t hz]
  iintro ⟨⟨⟨S0, S1, S2, ⟨%d3, %a3, S3⟩, ⟨%d4, %a4, S4⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
  have hlp := runC_lp c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scr_0 (Memref.isWhole_whole _) scr_1 (Memref.isWhole_whole _) scr_2 (Memref.isWhole_whole _) scr_3 (Memref.isWhole_whole _) scr_4 (Memref.isWhole_whole _) hc0 hc1 (iblk m c 0 t) (iblk m c 1 t) (iblk m c 2 t) (iblk m c 3 t) (iblk m c 4 t) (iblk m c 5 t) (rows (iblk m c 0 t)) (rows (iblk m c 1 t)) (rows (iblk m c 3 t)) d3 d4
  have hlse := runC_lse c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scr_0 (Memref.isWhole_whole _) scr_1 (Memref.isWhole_whole _) scr_2 (Memref.isWhole_whole _) scr_3 (Memref.isWhole_whole _) scr_4 (Memref.isWhole_whole _) hc0 hc1 (iblk m c 0 t) (iblk m c 1 t) (iblk m c 2 t) (iblk m c 3 t) (iblk m c 4 t) (iblk m c 5 t) (rows (iblk m c 0 t)) (rows (iblk m c 1 t)) (rows (iblk m c 3 t)) d3 d4
  have houtLp := runC_outLp c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scr_0 (Memref.isWhole_whole _) scr_1 (Memref.isWhole_whole _) scr_2 (Memref.isWhole_whole _) scr_3 (Memref.isWhole_whole _) scr_4 (Memref.isWhole_whole _) hc0 hc1 (iblk m c 0 t) (iblk m c 1 t) (iblk m c 2 t) (iblk m c 3 t) (iblk m c 4 t) (iblk m c 5 t) (rows (iblk m c 0 t)) (rows (iblk m c 1 t)) (rows (iblk m c 3 t)) d3 d4
  have houtLse := runC_outLse c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scr_0 (Memref.isWhole_whole _) scr_1 (Memref.isWhole_whole _) scr_2 (Memref.isWhole_whole _) scr_3 (Memref.isWhole_whole _) scr_4 (Memref.isWhole_whole _) hc0 hc1 (iblk m c 0 t) (iblk m c 1 t) (iblk m c 2 t) (iblk m c 3 t) (iblk m c 4 t) (iblk m c 5 t) (rows (iblk m c 0 t)) (rows (iblk m c 1 t)) (rows (iblk m c 3 t)) d3 d4
  iapply ((runC c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scr_0 (Memref.isWhole_whole _) scr_1 (Memref.isWhole_whole _) scr_2 (Memref.isWhole_whole _) scr_3 (Memref.isWhole_whole _) scr_4 (Memref.isWhole_whole _) hc0 hc1 (iblk m c 0 t) (iblk m c 1 t) (iblk m c 2 t) (iblk m c 3 t) (iblk m c 4 t) (iblk m c 5 t) (rows (iblk m c 0 t)) (rows (iblk m c 1 t)) (rows (iblk m c 3 t)) d3 d4).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [S0]; · iexact S0
  isplitl [S1]; · iexact S1
  isplitl [S2]; · iexact S2
  isplitl [S3]; · iexact S3
  isplitl [S4]; · iexact S4
  iintro ⟨H0, H1, H2, H3, H4, H5, ⟨%g6, H6⟩, ⟨%g7, H7⟩, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]
      · iexists _; isplitr
        swap
        · unfold owns; iexists _; isplitr
          swap; · iexact S3
          ipureintro; rfl
        · ipureintro; exact agree_step' (lpAt m c) t scr_3 (Memref.isWhole_whole _) d3 _ hlp a3
      · iexists _; isplitr
        swap
        · unfold owns; iexists _; isplitr
          swap; · iexact S4
          ipureintro; rfl
        · ipureintro; exact agree_step' (lseAt m c) t scr_4 (Memref.isWhole_whole _) d4 _ hlse a4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact (read_unrows_of _ _ _ _ houtLp).trans (congrArg unrows (agree_last (lpAt m c) (t.val + 1) (by have := (isLast_iff t).mp hc1; omega) _ (agree_step (lpAt m c) t scr_3 (Memref.isWhole_whole _) d3 a3)))
  unfold owns; iexists _; isplitr
  swap; · iexact H7
  ipureintro; exact (read_unrows_of _ _ _ _ houtLse).trans (congrArg unrows (agree_last (lseAt m c) (t.val + 1) (by have := (isLast_iff t).mp hc1; omega) _ (agree_step (lseAt m c) t scr_4 (Memref.isWhole_whole _) d4 a4)))

/-- The body at any point. -/
theorem sound_body (c : Dev nD) (t : Fin cfg0.N) :
    bodyPre m c t ⊢ wp frame (wpE (defs₀ (F := F)) Variants.none c none) Set.univ (bodyAt0 t) (fun _ => bodyPost m c t) := by
  by_cases hc0 : isFirst (grid0.coords t)
  · exact soundA m c t hc0 (fun h => by have := (isFirst_iff t).mp hc0; have := (isLast_iff t).mp h; omega)
  · by_cases hc1 : isLast (grid0.coords t)
    · exact soundC m c t hc0 hc1
    · exact soundB m c t hc0 hc1

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.Kernel.Head

end
-- ==== Proof.HeadBits.Launch.lean ====
/- The launch of the head pipeline: every run ends, with the arrays the proof data says, the arguments unchanged. -/
module

public import proofs.«01_k».proof.Proof.HeadBits.Obligation

@[expose] public section

set_option maxRecDepth 16384

noncomputable section

namespace Cert.Kernel.Head

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch hands the region is the invariant before the first point. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After the last point the contents of scratch are forgotten. -/
theorem hout (c : Dev nD) : (dats m 0 c).Φ (Fin.last cfg0.N) ⊢ Pipeline.ΦA spec0 c := by
  rw [show (dats m 0 c).Φ (Fin.last cfg0.N) = Phi m c (31 + 1) (show 31 < cfg0.N by rw [show cfg0.N = 32 from N_0]; omega) from rfl,
    Phi_succ m c ⟨31, by rw [show cfg0.N = 32 from N_0]; omega⟩, PhiA_eq]
  iintro ⟨⟨S0, S1, S2, ⟨%d3, %a3, S3⟩, ⟨%d4, %a4, S4⟩⟩, Hg⟩
  isplitl [S0 S1 S2 S3 S4]
  · isplitl [S0]; · iexists _; iexact S0
    isplitl [S1]; · iexists _; iexact S1
    isplitl [S2]; · iexists _; iexact S2
    isplitl [S3]; · iexists _; iexact S3
    iexists _; iexact S4
  iexact Hg

set_option backward.isDefEq.respectTransparency.types false in
/-- Every run of @main ends with every array of the pipeline at what the proof data says, and no semaphore counting. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, and no semaphore counting. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel.Head

end
-- ==== Proof.Frames.lean ====
/- The frame claims: the printed kernel at bit-exact floats, the kernel and the reference at extended reals. Each run ends
   with every argument as it was and every semaphore counter zero. -/
module

public import proofs.«01_k».proof.Defs
public import proofs.«01_k».proof.Proof.Head.Launch
public import proofs.«01_k».proof.Proof.HeadBits.Launch
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame

@[expose] public section

noncomputable section

namespace Cert.Frames

open Idealize.ShloMosaic Idealize.SL.Sem

/-- The side condition the precondition's operations take. -/
theorem pre_facts : Cert.Pre_column_in_head.Facts := ⟨by decide⟩

theorem kernel : Cert.quiescent_Kernel (hKernel := Cert.Kernel.Gen.facts) :=
  fun m g _ => Cert.Kernel.Head.frame m g

theorem kernelIdeal : Cert.quiescent_KernelIdeal (hKernelIdeal := Cert.KernelIdeal.Gen.facts) :=
  fun m g _ => Cert.KernelIdeal.Head.frame m g

theorem kernelIdeal_pre : Cert.quiescent_KernelIdeal_pre_column_in_head (hKernelIdeal := Cert.KernelIdeal.Gen.facts)
    (hPre_column_in_head := pre_facts) :=
  fun m g _ => Cert.KernelIdeal.Head.frame m g

theorem referenceIdeal : Cert.quiescent_ReferenceIdeal (hReferenceIdeal := Cert.ReferenceIdeal.Gen.facts) :=
  fun m g _ => Cert.ReferenceIdeal.Gen.frame m g

theorem referenceIdeal_pre : Cert.quiescent_ReferenceIdeal_pre_column_in_head (hReferenceIdeal := Cert.ReferenceIdeal.Gen.facts)
    (hPre_column_in_head := pre_facts) :=
  fun m g _ => Cert.ReferenceIdeal.Gen.frame m g

end Cert.Frames

end
-- ==== Proof.Softmax.lean ====
/- Log-sum-exp over the extended reals, taken in one pass: a running maximum and a running sum of exponentials, folded over
   consecutive groups of columns, give the same result as the maximum first and the sum after it.
   At the extended reals `⊤ - ⊤ = ⊥`, `exp ⊥ = 0` and `log 0 = ⊥`: no logit need be finite. -/
module

public import Idealize.ShloMosaic.PureOps.Ideal

@[expose] public section

noncomputable section

namespace Cert.Softmax

open Idealize.ShloMosaic

/-- The maximum of `n` logits (`⊥` of none). -/
def top (n : ℕ) (z : ℕ → EReal) : EReal := Finset.univ.fold max ⊥ (fun j : Fin n => z j)

/-- The log-sum-exp of `n` logits: the maximum first, then the sum. -/
def lse (n : ℕ) (z : ℕ → EReal) : EReal := top n z + Ideal.log (∑ j : Fin n, Ideal.exp (z j - top n z))

/-- The running maximum `m` and running sum `s` stand for the first `n` logits: either none is `⊤`, `m` is some real and `s`
    the sum of the exponentials less `m`; or one is, `m` is `⊤` and `s` is zero. -/
def Held (z : ℕ → EReal) (n : ℕ) (m s : EReal) : Prop :=
  ((∀ j < n, z j ≠ ⊤) ∧ ∃ r : ℝ, m = r ∧ s = ∑ j ∈ Finset.range n, Ideal.exp (z j - r)) ∨ ((∃ j < n, z j = ⊤) ∧ m = ⊤ ∧ s = 0)

/-- The exponential as a real number, zero at the infinities. -/
def rexp : EReal → ℝ
  | ⊥ => 0
  | ⊤ => 0
  | (r : ℝ) => Real.exp r

theorem rexp_nonneg (x : EReal) : 0 ≤ rexp x := by
  induction x using EReal.rec with
  | bot => exact le_refl _
  | top => exact le_refl _
  | coe r => exact (Real.exp_pos r).le

theorem rexp_bot : rexp ⊥ = 0 := rfl

theorem exp_sub_top (x : EReal) : Ideal.exp (x - ⊤) = 0 := by rw [EReal.sub_top, Ideal.exp_bot]

theorem exp_sub_coe {x : EReal} (h : x ≠ ⊤) (r : ℝ) : Ideal.exp (x - (r : EReal)) = ((rexp x * Real.exp (-r) : ℝ) : EReal) := by
  induction x using EReal.rec with
  | bot => rw [EReal.bot_sub, Ideal.exp_bot, rexp_bot, zero_mul, EReal.coe_zero]
  | top => exact absurd rfl h
  | coe a =>
    rw [← EReal.coe_sub, Ideal.exp_coe]
    show ((Real.exp (a - r) : ℝ) : EReal) = ((Real.exp a * Real.exp (-r) : ℝ) : EReal)
    rw [← Real.exp_add, sub_eq_add_neg]

theorem coe_sum {ι : Type} (s : Finset ι) (f : ι → ℝ) : (∑ j ∈ s, ((f j : ℝ) : EReal)) = ((∑ j ∈ s, f j : ℝ) : EReal) := by
  classical
  induction s using Finset.induction_on with
  | empty => simp
  | insert a s ha ih => rw [Finset.sum_insert ha, Finset.sum_insert ha, ih, EReal.coe_add]

theorem sum_exp {ι : Type} (s : Finset ι) (z : ι → EReal) (h : ∀ j ∈ s, z j ≠ ⊤) (r : ℝ) :
    (∑ j ∈ s, Ideal.exp (z j - (r : EReal))) = (((∑ j ∈ s, rexp (z j)) * Real.exp (-r) : ℝ) : EReal) := by
  rw [Finset.sum_congr rfl fun j hj => exp_sub_coe (h j hj) r, coe_sum, Finset.sum_mul]

theorem sum_exp_top {ι : Type} (s : Finset ι) (z : ι → EReal) : (∑ j ∈ s, Ideal.exp (z j - ⊤)) = 0 :=
  Finset.sum_eq_zero fun j _ => exp_sub_top _

theorem top_lt_top (n : ℕ) (z : ℕ → EReal) (k : ℕ) : top n (fun j => z (k + j)) ≠ ⊤ ↔ ∀ j < n, z (k + j) ≠ ⊤ := by
  unfold top
  rw [← lt_top_iff_ne_top, Finset.fold_max_lt]
  constructor
  · intro h j hj; exact (h.2 ⟨j, hj⟩ (Finset.mem_univ _)).ne
  · intro h; exact ⟨bot_lt_top, fun j _ => lt_top_iff_ne_top.2 (h j j.isLt)⟩

/-- Before the first column. -/
theorem held_zero (z : ℕ → EReal) (r : ℝ) : Held z 0 r 0 := by
  left; exact ⟨fun j h => absurd h (Nat.not_lt_zero _), r, rfl, by simp⟩

/-- Folding in the next `n` columns. -/
theorem held_step {z : ℕ → EReal} {k : ℕ} {m s : EReal} (h : Held z k m s) (n : ℕ) {m' : EReal} (hm : m' = max m (top n fun j => z (k + j))) :
    Held z (k + n) m' (s * Ideal.exp (m - m') + ∑ j : Fin n, Ideal.exp (z (k + j) - m')) := by
  rcases h with ⟨hz, r, rfl, rfl⟩ | ⟨⟨j, hj, hz⟩, rfl, rfl⟩
  · by_cases ht : top n (fun j => z (k + j)) = ⊤
    · right
      have hm' : m' = ⊤ := by rw [hm, ht]; exact max_eq_right le_top
      obtain ⟨j, hj, hj'⟩ : ∃ j < n, z (k + j) = ⊤ := by
        by_contra hc; push Not at hc; exact (top_lt_top n z k).2 hc ht
      refine ⟨⟨k + j, by omega, hj'⟩, hm', ?_⟩
      rw [hm', exp_sub_top, sum_exp_top, mul_zero, zero_add]
    · left
      have hn := (top_lt_top n z k).1 ht
      have hall : ∀ j < k + n, z j ≠ ⊤ := fun j hj => by
        by_cases hk : j < k
        · exact hz j hk
        · have := hn (j - k) (by omega); rwa [show k + (j - k) = j by omega] at this
      obtain ⟨r', hr'⟩ : ∃ r' : ℝ, m' = r' := by
        have h1 : m' ≠ ⊤ := by
          rw [hm]; exact (max_lt (EReal.coe_lt_top r) (lt_top_iff_ne_top.2 ht)).ne
        have h2 : m' ≠ ⊥ := by
          rw [hm]; exact (lt_of_lt_of_le (EReal.bot_lt_coe r) (le_max_left _ _)).ne'
        exact ⟨m'.toReal, (EReal.coe_toReal h1 h2).symm⟩
      refine ⟨hall, r', hr', ?_⟩
      rw [hr', sum_exp _ _ (fun j hj => hz j (Finset.mem_range.1 hj)), sum_exp _ _ (fun j hj => hall j (Finset.mem_range.1 hj)),
        sum_exp Finset.univ (fun j : Fin n => z (k + j)) (fun j _ => hn j j.isLt), ← EReal.coe_sub, Ideal.exp_coe, ← EReal.coe_mul, ← EReal.coe_add]
      congr 1
      rw [Finset.sum_range_add, Finset.sum_range (fun x => rexp (z (k + x))), add_mul, mul_assoc, ← Real.exp_add]
      congr 3; ring
  · right
    have hm' : m' = ⊤ := by rw [hm]; exact max_eq_left le_top
    refine ⟨⟨j, by omega, hz⟩, hm', ?_⟩
    rw [hm', sum_exp_top, zero_mul, zero_add]

/-- Where no logit is `⊤`, the log-sum-exp does not depend on the real number taken off. -/
theorem log_sum_shift (n : ℕ) (z : ℕ → EReal) (h : ∀ j < n, z j ≠ ⊤) (r : ℝ) :
    (r : EReal) + Ideal.log (∑ j ∈ Finset.range n, Ideal.exp (z j - r)) = Ideal.log ((∑ j ∈ Finset.range n, rexp (z j) : ℝ) : EReal) := by
  rw [sum_exp _ _ fun j hj => h j (Finset.mem_range.1 hj), Ideal.log_coe, Ideal.log_coe]
  have h0 : 0 ≤ ∑ j ∈ Finset.range n, rexp (z j) := Finset.sum_nonneg fun j _ => rexp_nonneg _
  rcases h0.eq_or_lt with h0 | h0
  · rw [← h0]; simp
  · rw [if_neg (not_le.2 (mul_pos h0 (Real.exp_pos _))), if_neg (not_le.2 h0), ← EReal.coe_add]
    congr 1
    rw [Real.log_mul h0.ne' (Real.exp_pos _).ne', Real.log_exp]; ring

/-- After the last column the running maximum and sum give the log-sum-exp. -/
theorem held_lse {z : ℕ → EReal} {n : ℕ} {m s : EReal} (h : Held z n m s) : m + Ideal.log s = lse n z := by
  have htop := top_lt_top n z 0
  simp only [Nat.zero_add] at htop
  unfold lse
  rcases h with ⟨hz, r, rfl, rfl⟩ | ⟨⟨j, hj, hz⟩, rfl, rfl⟩
  · rw [log_sum_shift n z hz r]
    have h1 := htop.2 hz
    by_cases h2 : top n z = ⊥
    · have hb : ∀ j < n, z j = ⊥ := fun j hj => by
        have : z j ≤ top n z := by
          unfold top; exact (Finset.le_fold_max _).2 (Or.inr ⟨⟨j, hj⟩, Finset.mem_univ _, le_refl _⟩)
        rw [h2] at this; exact le_bot_iff.1 this
      rw [h2, EReal.bot_add, Finset.sum_congr rfl (g := fun _ => (0 : ℝ)) fun j hj => by rw [hb j (Finset.mem_range.1 hj), rexp_bot],
        Finset.sum_const_zero, Ideal.log_coe, if_pos (le_refl _)]
    · have hr : ((top n z).toReal : EReal) = top n z := EReal.coe_toReal h1 h2
      rw [← log_sum_shift n z hz (top n z).toReal, hr, Finset.sum_range]
  · have ht : top n z = ⊤ := by by_contra hc; exact (htop.1 hc) j hj hz
    rw [ht, sum_exp_top]

/-- The pattern the maxima start from is `⊥`. -/
theorem bot_bits : Ideal.ofBits .f32 0xFF800000#32 = ⊥ := by
  simp [Ideal.ofBits, Ideal.ieee]

/-- The pattern the running maximum starts from is a real number. -/
theorem start_bits : ∃ r : ℝ, Ideal.ofBits .f32 0xFF61B1E6#32 = r := by
  simp [Ideal.ofBits, Ideal.ieee]
  exact ⟨_, rfl⟩

/-- A sum that keeps one column, over the next `n` columns. -/
theorem pick_step (z : ℕ → EReal) (c k n : ℕ) :
    (∑ j ∈ Finset.range k, if j = c then z j else 0) + (∑ j : Fin n, if k + j.val = c then z (k + j) else 0)
      = ∑ j ∈ Finset.range (k + n), if j = c then z j else 0 := by
  rw [Finset.sum_range_add, Finset.sum_range (fun x => if k + x = c then z (k + x) else 0)]

theorem pick_all (z : ℕ → EReal) (c n : ℕ) (h : c < n) : (∑ j ∈ Finset.range n, if j = c then z j else 0) = z c := by
  rw [Finset.sum_ite_eq' (Finset.range n) c z, if_pos (Finset.mem_range.2 h)]

end Cert.Softmax

end
-- ==== Proof.Spec.lean ====
/- The results as mathematics: a token's logits, their log-sum-exp, and the log-probability of the looked-up column. -/
module

public import proofs.«01_k».proof.Proof.Softmax
public import Idealize.ShloMosaic.Lib.Pointwise

@[expose] public section

noncomputable section

namespace Cert.Spec

open Idealize.ShloMosaic

variable (cluster place : Vec Ideal ⟨2, ![8, 2048]⟩ .i32) (codes : Vec Ideal ⟨3, ![8, 2048, 1280]⟩ .fp8e4m3) (scale : Vec Ideal ⟨2, ![8, 2048]⟩ .f32)
  (w : Vec Ideal ⟨2, ![1280, 20003]⟩ .fp8e4m3) (ws : Vec Ideal ⟨1, ![20003]⟩ .f32)

/-- The logit of token `(b, s)` for column `j`: the product of codes, times the token's scale, times the column's. -/
def logit (b : Fin 8) (s : Fin 2048) (j : ℕ) : EReal :=
  if h : j < 20003 then (∑ x : Fin 1280, codes (ix3 b s x) * w (ix2 x ⟨j, h⟩)) * scale (ix2 b s) * ws (ix1 ⟨j, h⟩) else 0

/-- The looked-up column of a token, from its cluster and its place in the cluster: a token of the head cluster its place,
    another the column standing for its cluster. -/
def colOf (cluster place : BitVec 32) : BitVec 32 := if cluster = 0#32 then place else 19999#32 + cluster

/-- The looked-up column of token `(b, s)`. -/
def col (b : Fin 8) (s : Fin 2048) : ℕ := (colOf (cluster (ix2 b s)) (place (ix2 b s))).toNat

/-- The log of the vocabulary size, as the programs write it. -/
abbrev logV : EReal := Ideal.ofBits .f32 0x411E754D#32

/-- The log-sum-exps, less the log of the vocabulary size. -/
def lse : Vec Ideal ⟨2, ![8, 2048]⟩ .f32 := fun y =>
  Softmax.lse 20003 (logit codes scale w ws (y 0) (y 1)) - logV

/-- The log-probabilities, relative to the uniform distribution. -/
def lp : Vec Ideal ⟨2, ![8, 2048]⟩ .f32 := fun y =>
  logit codes scale w ws (y 0) (y 1) (col cluster place (y 0) (y 1)) - Softmax.lse 20003 (logit codes scale w ws (y 0) (y 1)) + logV

end Cert.Spec

end
-- ==== Proof.Head.TileValue.lean ====
/- A grid point's tile, read token by token at the extended reals: the log-sum-exp of the token's logits and the looked-up logit
   less it. The chunks of 512 columns and the last 35 columns together are all the columns. -/
module

public import proofs.«01_k».proof.Proof.Head.Tile
public import proofs.«01_k».proof.Proof.Spec
public import Idealize.ShloMosaic.Lib.Pointwise

@[expose] public section

set_option maxRecDepth 16384

noncomputable section

namespace Cert.KernelIdeal.Head

open Cert.KernelIdeal Cert.KernelIdeal.Gen
open Idealize.ShloMosaic Idealize.ShloMosaic.TcCoe Idealize.ShloMosaic.Tactic
open Cert.Softmax
open Cert.Spec (colOf logV)

/-! ## Rows of tokens -/

/-- Token `r` of four rows of 128. -/
def rowAt {F : FTy → Type} {e : EltTy} (q : Fin 4 → Vec F S1x128 e) (r : Fin 512) : Elt F e :=
  q ⟨r.val / 128, by omega⟩ (ix2 (n0 := 1) (n1 := 128) 0 ⟨r.val % 128, by omega⟩)

theorem rowAt_eq {F : FTy → Type} {e : EltTy} (q : Fin 4 → Vec F S1x128 e) (r : Fin 512) (k : Fin 4) (l : Fin 128) (h : r.val = 128 * k.val + l.val) :
    q k (ix2 (n0 := 1) (n1 := 128) 0 l) = rowAt q r := by
  have hk : k = ⟨r.val / 128, by omega⟩ := Fin.ext (by dsimp only; omega)
  have hl : l = ⟨r.val % 128, by omega⟩ := Fin.ext (by dsimp only; omega)
  unfold rowAt; rw [← hk, ← hl]

/-- The scale of token `r`. -/
theorem pay53_apply (q : Fin 4 → Vec Ideal S1x128 .f32) (r : Fin 512) :
    k0_pay53 (F := Ideal) (q 0) (q 1) (q 2) (q 3) (ix2 (n0 := 512) (n1 := 1) r 0) = rowAt q r := by
  have hr := r.isLt
  unfold k0_pay53
  pointwise
  split_ifs <;> first
    | (exfalso; omega)
    | exact rowAt_eq q r _ _ (by first | (show r.val = 128 * 0 + _; dsimp only; omega) | (show r.val = 128 * 1 + _; dsimp only; omega) | (show r.val = 128 * 2 + _; dsimp only; omega) | (show r.val = 128 * 3 + _; dsimp only; omega))

/-- Four rows one after another, read at token `r`. -/
theorem rows4 {F : FTy → Type} {e : EltTy} (q : Fin 4 → Vec F S1x128 e) (r : Fin 512) :
    (if h : r.val < 128 then q 0 (ix2 (n0 := 1) (n1 := 128) 0 ⟨r.val, h⟩)
      else if h : r.val - 128 < 128 then q 1 (ix2 (n0 := 1) (n1 := 128) 0 ⟨r.val - 128, h⟩)
      else if h : r.val - 128 - 128 < 128 then q 2 (ix2 (n0 := 1) (n1 := 128) 0 ⟨r.val - 128 - 128, h⟩)
      else q 3 (ix2 (n0 := 1) (n1 := 128) 0 ⟨r.val - 128 - 128 - 128, by omega⟩)) = rowAt q r := by
  have hr := r.isLt
  split_ifs
  · exact rowAt_eq q r 0 _ (by show r.val = 128 * 0 + _; dsimp only; omega)
  · exact rowAt_eq q r 1 _ (by show r.val = 128 * 1 + _; dsimp only; omega)
  · exact rowAt_eq q r 2 _ (by show r.val = 128 * 2 + _; dsimp only; omega)
  · exact rowAt_eq q r 3 _ (by show r.val = 128 * 3 + _; dsimp only; omega)

theorem select_eq {α : Type} (a b : BitVec 32) (x y : α) : Scalar.select (IntOp.cmpi .eq a b) x y = if a = b then x else y := by
  by_cases h : a = b
  · simp [Scalar.select, IntOp.cmpi, h]
  · have hb : (a == b) = false := beq_eq_false_iff_ne.2 h
    simp [Scalar.select, IntOp.cmpi, h, hb]

theorem cols_apply (q9 q10 : Fin 4 → Vec Ideal S1x128 .i32) (r : Fin 512) :
    cols (F := Ideal) q9 q10 (ix2 (n0 := 1) (n1 := 512) 0 r) = colOf (rowAt q9 r) (rowAt q10 r) := by
  unfold cols k0_pay51
  pointwise
  exact (congrArg₂ (fun a b => Scalar.select (IntOp.cmpi .eq a 0#32) b (IntOp.addi 19999#32 a)) (rows4 q9 r) (rows4 q10 r)).trans (select_eq _ _ _ _)

theorem pay52_apply (v : IVec S1x512 32) (r : Fin 512) :
    k0_pay52 (F := Ideal) v (ix2 (n0 := 512) (n1 := 1) r 0) = FloatOps.sitofp (F := Ideal) .f32 (v (ix2 (n0 := 1) (n1 := 512) 0 r)) := by
  have hr := r.isLt
  unfold k0_pay52
  pointwise
  split_ifs
  · rfl
  all_goals
    congr 3
    apply Fin.ext; dsimp only; omega

/-- Integers are compared as real numbers: the same as compared as integers. -/
theorem sitofp_eq_iff (a b : BitVec 32) : FloatOps.sitofp (F := Ideal) .f32 a = FloatOps.sitofp (F := Ideal) .f32 b ↔ a = b := by
  show (((a.toInt : ℝ) : EReal) = ((b.toInt : ℝ) : EReal)) ↔ _
  rw [EReal.coe_eq_coe_iff, Int.cast_inj, BitVec.toInt_inj]

/-! ## Logits -/

section

variable (q9 q10 : Fin 4 → Vec Ideal S1x128 .i32) (q11 : Fin 4 → Vec Ideal S1x128 .f32) (x2 : Vec Ideal S1x512x1280 .fp8e4m3)
  (x4 : Vec Ideal S1280x20003 .fp8e4m3) (x5 : Vec Ideal S1x20003 .f32)

/-- The logit of token `r` for column `j`. -/
def logit (r : Fin 512) (j : ℕ) : EReal :=
  if h : j < 20003 then (∑ x : Fin 1280, x2 (ix3 (n0 := 1) (n1 := 512) (n2 := 1280) 0 r x) * x4 (ix2 (n0 := 1280) (n1 := 20003) x ⟨j, h⟩)) * rowAt q11 r
    * x5 (ix2 (n0 := 1) (n1 := 20003) 0 ⟨j, h⟩) else 0

theorem off2_eq : ∀ k : Fin k0_t1_loop.trips, k0_off2 k = ![0, 512 * k.val] := by decide +kernel
theorem off3_eq : ∀ k : Fin k0_t1_loop.trips, k0_off3 k = ![0, 512 * k.val] := by decide +kernel
theorem trips_eq : k0_t1_loop.trips = 39 := by decide +kernel
theorem chunk_start : ∀ k : Fin k0_t1_loop.trips, (Scalar.muli (Scf.iv 0#32 1#32 k.val) 512#32).toNat = 512 * k.val := by decide +kernel

/-- Columns of the weights, loaded from column `o` on. -/
theorem ld_cols {e : EltTy} {n0 n1 N : ℕ} (x : Vec Ideal ⟨2, ![n0, N]⟩ e) (off : Fin 2 → ℕ) (o : ℕ) (h : off = ![0, o])
    (inb : ∀ a, off a + (![n0, n1] : Fin 2 → ℕ) a ≤ (⟨2, ![n0, N]⟩ : Shape).size a) (a : Fin n0) (b : Fin n1) (hb : o + b.val < N) :
    View.ld x (Rect.unit (s := ⟨2, ![n0, N]⟩) off ![n0, n1] inb) (ix2 (n0 := n0) (n1 := n1) a b) = x (ix2 (n0 := n0) (n1 := N) a ⟨o + b.val, hb⟩) := by
  subst h
  refine congrArg x (funext fun c => Fin.ext ?_)
  fin_cases c
  · show 0 + 1 * a.val = a.val; omega
  · show o + 1 * b.val = o + b.val; omega

/-- The logits of a chunk. -/
theorem chunk_apply (k : Fin k0_t1_loop.trips) (r j : Fin 512) :
    k0_pay58 (F := Ideal) (q11 0) (q11 1) (q11 2) (q11 3) x2 (View.ld x4 (wChunk k)) (View.ld x5 (sChunk k)) (ix2 (n0 := 512) (n1 := 512) r j)
      = logit q11 x2 x4 x5 r (512 * k.val + j.val) := by
  have hk : k.val < 39 := lt_of_lt_of_eq k.isLt trips_eq
  have hj := j.isLt
  have hb : 512 * k.val + j.val < 20003 := by omega
  unfold k0_pay58 k0_pay54 logit
  rw [dif_pos hb, ← pay53_apply q11 r]
  generalize k0_pay53 (F := Ideal) _ _ _ _ = u
  have hW : ∀ x : Fin 1280, View.ld x4 (wChunk k) (ix2 (n0 := 1280) (n1 := 512) x j) = x4 (ix2 (n0 := 1280) (n1 := 20003) x ⟨512 * k.val + j.val, hb⟩) :=
    fun x => ld_cols x4 _ _ (off2_eq k) (k0_off2_inb k) x j hb
  have hS : View.ld x5 (sChunk k) (ix2 (n0 := 1) (n1 := 512) 0 j) = x5 (ix2 (n0 := 1) (n1 := 20003) 0 ⟨512 * k.val + j.val, hb⟩) :=
    ld_cols x5 _ _ (off3_eq k) (k0_off3_inb k) 0 j hb
  revert hW hS
  generalize View.ld x4 (wChunk k) = W
  generalize View.ld x5 (sChunk k) = S
  intro hW hS
  pointwise
  rw [hS, Finset.sum_congr rfl fun x _ => by rw [hW x]]

/-- The logits of the last 35 columns. -/
theorem tail_apply (r : Fin 512) (j : Fin 35) :
    k0_pay62 (F := Ideal) (k0_pay53 (q11 0) (q11 1) (q11 2) (q11 3)) (k0_pay54 x2) (View.ld x4 wTail) (View.ld x5 sTail) (ix2 (n0 := 512) (n1 := 35) r j)
      = logit q11 x2 x4 x5 r (19968 + j.val) := by
  have hj := j.isLt
  have hb : 19968 + j.val < 20003 := by omega
  unfold k0_pay62 k0_pay54 logit
  rw [dif_pos hb, ← pay53_apply q11 r]
  generalize k0_pay53 (F := Ideal) _ _ _ _ = u
  have hW : ∀ x : Fin 1280, View.ld x4 wTail (ix2 (n0 := 1280) (n1 := 35) x j) = x4 (ix2 (n0 := 1280) (n1 := 20003) x ⟨19968 + j.val, hb⟩) :=
    fun x => ld_cols x4 _ _ rfl _ x j hb
  have hS : View.ld x5 sTail (ix2 (n0 := 1) (n1 := 35) 0 j) = x5 (ix2 (n0 := 1) (n1 := 20003) 0 ⟨19968 + j.val, hb⟩) :=
    ld_cols x5 _ _ rfl _ 0 j hb
  revert hW hS
  generalize View.ld x4 wTail = W
  generalize View.ld x5 sTail = S
  intro hW hS
  pointwise
  rw [hS, Finset.sum_congr rfl fun x _ => by rw [hW x]]

/-! ## The state folded over the chunks -/

/-- A column number of a chunk is the looked-up column. -/
theorem col_eq_iff (x o : ℕ) (b : BitVec 32) (w : BitVec 32) (hw : w.toNat = o) (h : o + x < 2 ^ 32) :
    (FloatOps.sitofp (F := Ideal) .f32 (IntOp.addi (BitVec.ofNat 32 x) w) = FloatOps.sitofp (F := Ideal) .f32 b) ↔ o + x = b.toNat := by
  rw [sitofp_eq_iff]
  show BitVec.ofNat 32 x + w = b ↔ _
  rw [← BitVec.toNat_inj, BitVec.toNat_add, BitVec.toNat_ofNat, hw]
  rw [show (x % 2 ^ 32 + o) % 2 ^ 32 = o + x by omega]

/-- The looked-up column of token `r` of the tile. -/
abbrev col (r : Fin 512) : ℕ := (colOf (rowAt q9 r) (rowAt q10 r)).toNat

/-- The state before chunk `n` stands for the first `512 n` columns. -/
theorem carry_held (r : Fin 512) : ∀ n ≤ 39,
    Held (logit q11 x2 x4 x5 r) (512 * n) ((carry q9 q10 q11 x2 x4 x5 n).1 (ix2 (n0 := 512) (n1 := 1) r 0))
        ((carry q9 q10 q11 x2 x4 x5 n).2.1 (ix2 (n0 := 512) (n1 := 1) r 0))
      ∧ (carry q9 q10 q11 x2 x4 x5 n).2.2 (ix2 (n0 := 512) (n1 := 1) r 0)
          = ∑ j ∈ Finset.range (512 * n), if j = col q9 q10 r then logit q11 x2 x4 x5 r j else 0 := by
  intro n
  induction n with
  | zero =>
    intro _
    obtain ⟨s, hs⟩ := start_bits
    refine ⟨?_, ?_⟩
    · have h1 : (carry q9 q10 q11 x2 x4 x5 0).1 (ix2 (n0 := 512) (n1 := 1) r 0) = (s : EReal) := by
        show k0_pay55 (F := Ideal) (ix2 (n0 := 512) (n1 := 1) r 0) = _; unfold k0_pay55; pointwise; exact hs
      have h2 : (carry q9 q10 q11 x2 x4 x5 0).2.1 (ix2 (n0 := 512) (n1 := 1) r 0) = (0 : EReal) := by
        show k0_pay56 (F := Ideal) (ix2 (n0 := 512) (n1 := 1) r 0) = _; unfold k0_pay56; pointwise
      rw [h1, h2]; exact held_zero _ s
    · show k0_pay57 (F := Ideal) (ix2 (n0 := 512) (n1 := 1) r 0) = _; unfold k0_pay57; pointwise; rfl
  | succ n ih =>
    intro hn
    obtain ⟨ihh, iht⟩ := ih (by omega)
    have ht : n < k0_t1_loop.trips := by rw [trips_eq]; omega
    have hc : carry q9 q10 q11 x2 x4 x5 (n + 1) = step q9 q10 q11 x2 x4 x5 ⟨n, ht⟩ (carry q9 q10 q11 x2 x4 x5 n) := dif_pos ht
    rw [hc]
    generalize carry q9 q10 q11 x2 x4 x5 n = a at *
    have hz := chunk_apply q11 x2 x4 x5 ⟨n, ht⟩ r
    unfold step
    dsimp only at hz ⊢
    have hm : k0_pay59 (F := Ideal) (q11 0) (q11 1) (q11 2) (q11 3) x2 a.1 (View.ld x4 (wChunk ⟨n, ht⟩)) (View.ld x5 (sChunk ⟨n, ht⟩)) (ix2 (n0 := 512) (n1 := 1) r 0)
        = max (a.1 (ix2 (n0 := 512) (n1 := 1) r 0)) (top 512 fun j => logit q11 x2 x4 x5 r (512 * n + j)) := by
      unfold k0_pay59 top
      generalize k0_pay58 (F := Ideal) _ _ _ _ _ _ _ = u at hz
      pointwise
      rw [bot_bits]
      exact congrArg (fun f => max _ (Finset.fold max ⊥ f Finset.univ)) (funext hz)
    refine ⟨?_, ?_⟩
    · have hs : k0_pay60 (F := Ideal) (q11 0) (q11 1) (q11 2) (q11 3) x2 a.1 a.2.1 (View.ld x4 (wChunk ⟨n, ht⟩)) (View.ld x5 (sChunk ⟨n, ht⟩)) (ix2 (n0 := 512) (n1 := 1) r 0)
          = a.2.1 (ix2 (n0 := 512) (n1 := 1) r 0) * Ideal.exp (a.1 (ix2 (n0 := 512) (n1 := 1) r 0)
              - k0_pay59 (F := Ideal) (q11 0) (q11 1) (q11 2) (q11 3) x2 a.1 (View.ld x4 (wChunk ⟨n, ht⟩)) (View.ld x5 (sChunk ⟨n, ht⟩)) (ix2 (n0 := 512) (n1 := 1) r 0))
            + ∑ j : Fin 512, Ideal.exp (logit q11 x2 x4 x5 r (512 * n + j.val)
              - k0_pay59 (F := Ideal) (q11 0) (q11 1) (q11 2) (q11 3) x2 a.1 (View.ld x4 (wChunk ⟨n, ht⟩)) (View.ld x5 (sChunk ⟨n, ht⟩)) (ix2 (n0 := 512) (n1 := 1) r 0)) := by
        unfold k0_pay60
        generalize k0_pay59 (F := Ideal) _ _ _ _ _ _ _ _ = v
        generalize k0_pay58 (F := Ideal) _ _ _ _ _ _ _ = u at hz
        pointwise
        rw [Finset.sum_congr rfl fun j _ => by rw [hz j]]
      rw [hs]
      exact held_step ihh 512 hm
    · rw [show 512 * (n + 1) = 512 * n + 512 by ring, ← pick_step, ← iht]
      have hcol := pay52_apply (cols (F := Ideal) q9 q10) r
      rw [cols_apply] at hcol
      unfold k0_pay61
      generalize k0_pay52 (F := Ideal) _ = v at hcol
      generalize k0_pay58 (F := Ideal) _ _ _ _ _ _ _ = u at hz
      pointwise
      congr 1
      refine Finset.sum_congr rfl fun j _ => ?_
      rw [hcol, hz j]
      exact if_congr (col_eq_iff _ _ _ _ (chunk_start ⟨n, ht⟩) (by have := j.isLt; omega)) rfl rfl

/-! ## The tiles -/

/-- The log-sum-exp of all the columns, from the state and the last columns. -/
theorem lse_apply (r : Fin 512) :
    k0_pay63 (F := Ideal) (k0_pay53 (q11 0) (q11 1) (q11 2) (q11 3)) (k0_pay54 x2) (carried q9 q10 q11 x2 x4 x5).1 (carried q9 q10 q11 x2 x4 x5).2.1
      (View.ld x4 wTail) (View.ld x5 sTail) (ix2 (n0 := 512) (n1 := 1) r 0) = lse 20003 (logit q11 x2 x4 x5 r) := by
  obtain ⟨hh, -⟩ := carry_held q9 q10 q11 x2 x4 x5 r 39 (le_refl _)
  have hz := tail_apply q11 x2 x4 x5 r
  unfold carried
  generalize carry q9 q10 q11 x2 x4 x5 39 = a at *
  have h := held_lse (held_step hh 35 rfl)
  rw [← h]
  unfold k0_pay63 top
  generalize k0_pay62 (F := Ideal) _ _ _ _ = u at hz
  pointwise
  have hu : (fun j : Fin 35 => u (ix2 (n0 := 512) (n1 := 35) r j)) = fun j : Fin 35 => logit q11 x2 x4 x5 r (512 * 39 + j.val) := funext hz
  rw [bot_bits]
  exact congrArg (fun f : Fin 35 → EReal => max (a.1 (ix2 (n0 := 512) (n1 := 1) r 0)) (Finset.fold max ⊥ f Finset.univ)
    + Ideal.log (a.2.1 (ix2 (n0 := 512) (n1 := 1) r 0) * Ideal.exp (a.1 (ix2 (n0 := 512) (n1 := 1) r 0) - max (a.1 (ix2 (n0 := 512) (n1 := 1) r 0)) (Finset.fold max ⊥ f Finset.univ))
      + ∑ j : Fin 35, Ideal.exp (f j - max (a.1 (ix2 (n0 := 512) (n1 := 1) r 0)) (Finset.fold max ⊥ f Finset.univ)))) hu

/-- The tile of log-sum-exps. -/
theorem lseTile_apply (r : Fin 512) (l : Fin 128) :
    lseTile q9 q10 q11 x2 x4 x5 (ix2 (n0 := 512) (n1 := 128) r l) = lse 20003 (logit q11 x2 x4 x5 r) - logV := by
  rw [← lse_apply q9 q10 q11 x2 x4 x5 r]
  unfold lseTile k0_pay64
  generalize k0_pay63 (F := Ideal) _ _ _ _ _ _ = u
  pointwise

/-- The tile of log-probabilities, where the looked-up column is one of the columns. -/
theorem lpTile_apply (r : Fin 512) (l : Fin 128) (hcol : col q9 q10 r < 20003) :
    lpTile q9 q10 q11 x2 x4 x5 (ix2 (n0 := 512) (n1 := 128) r l)
      = logit q11 x2 x4 x5 r (col q9 q10 r) - lse 20003 (logit q11 x2 x4 x5 r) + logV := by
  obtain ⟨-, ht⟩ := carry_held q9 q10 q11 x2 x4 x5 r 39 (le_refl _)
  have hz := tail_apply q11 x2 x4 x5 r
  have hl := lse_apply q9 q10 q11 x2 x4 x5 r
  rw [← pick_all (logit q11 x2 x4 x5 r) _ 20003 hcol, ← hl, show (20003 : ℕ) = 512 * 39 + 35 from rfl, ← pick_step, ← ht]
  have hc := pay52_apply (cols (F := Ideal) q9 q10) r
  rw [cols_apply] at hc
  unfold lpTile k0_pay65 carried
  generalize carry q9 q10 q11 x2 x4 x5 39 = a at *
  generalize k0_pay52 (F := Ideal) _ = v at hc
  generalize k0_pay63 (F := Ideal) _ _ _ _ _ _ = w
  generalize k0_pay62 (F := Ideal) _ _ _ _ = u at hz
  pointwise
  refine congrArg (fun t : EReal => a.2.2 (ix2 (n0 := 512) (n1 := 1) r 0) + t - w (ix2 (n0 := 512) (n1 := 1) r 0) + logV) ?_
  refine Finset.sum_congr rfl fun j _ => ?_
  rw [hc, hz j]
  exact if_congr (col_eq_iff _ _ _ _ (by rfl) (by have := j.isLt; omega)) rfl rfl

end

end Cert.KernelIdeal.Head

end
-- ==== Proof.Head.KernelValue.lean ====
/- The arrays the head kernel leaves, at the extended reals: the log-sum-exps and log-probabilities of all the tokens.
   Token `(b, s)` is row `s % 512` of the tile of grid point `4 b + s / 512`. -/
module

public import proofs.«01_k».proof.Proof.Head.Launch
public import proofs.«01_k».proof.Proof.Head.TileValue
public import Idealize.ShloMosaic.Lib.Claim

@[expose] public section

set_option maxRecDepth 16384

noncomputable section

namespace Cert.KernelIdeal.Head

open Cert.KernelIdeal Cert.KernelIdeal.Gen
open Idealize.ShloMosaic Idealize.ShloMosaic.TcCoe Idealize.ShloMosaic.Tactic
open Idealize.ShloMosaic.Pipeline (Dat)

section arrays
variable {F : FTy → Type} [FloatOps F]
variable (m : (ℓ : Loc nD τ sig) → Buf (Elt F) ℓ)

/-! ## The blocks, as elements of the arguments -/

theorem index2 : ∀ t : Fin cfg0.N, win0_2.index t 0 = t.val / 4 ∧ win0_2.index t 1 = t.val % 4 ∧ win0_2.index t 2 = 0 := by decide +kernel

theorem V_v0 (c : Dev nD) : V m c main_v0 = shapeCast S1x20003 (m ((c.tc : Thread nD τ).loc main_arg5)) shapeCasts_S20003_S1x20003 := by
  entry_read; rfl

theorem iblk0_eq (c : Dev nD) (t : Fin cfg0.N) : (iblk m c 0 t : Vec F S8x2048 .i32) = m ((c.tc : Thread nD τ).loc main_arg0) := by
  funext y
  unfold iblk
  rw [View.read_apply]
  refine (congrFun (V_main_arg0 m c) _).trans (congrArg (m ((c.tc : Thread nD τ).loc main_arg0)) (funext fun a => Fin.ext ?_))
  match a with
  | ⟨0, _⟩ => show 0 * 8 + 1 * (y 0).val = (y 0).val; omega
  | ⟨1, _⟩ => show 0 * 2048 + 1 * (y 1).val = (y 1).val; omega

theorem iblk1_eq (c : Dev nD) (t : Fin cfg0.N) : (iblk m c 1 t : Vec F S8x2048 .i32) = m ((c.tc : Thread nD τ).loc main_arg1) := by
  funext y
  unfold iblk
  rw [View.read_apply]
  refine (congrFun (V_main_arg1 m c) _).trans (congrArg (m ((c.tc : Thread nD τ).loc main_arg1)) (funext fun a => Fin.ext ?_))
  match a with
  | ⟨0, _⟩ => show 0 * 8 + 1 * (y 0).val = (y 0).val; omega
  | ⟨1, _⟩ => show 0 * 2048 + 1 * (y 1).val = (y 1).val; omega

theorem iblk3_eq (c : Dev nD) (t : Fin cfg0.N) : (iblk m c 3 t : Vec F S8x2048 .f32) = m ((c.tc : Thread nD τ).loc main_arg3) := by
  funext y
  unfold iblk
  rw [View.read_apply]
  refine (congrFun (V_main_arg3 m c) _).trans (congrArg (m ((c.tc : Thread nD τ).loc main_arg3)) (funext fun a => Fin.ext ?_))
  match a with
  | ⟨0, _⟩ => show 0 * 8 + 1 * (y 0).val = (y 0).val; omega
  | ⟨1, _⟩ => show 0 * 2048 + 1 * (y 1).val = (y 1).val; omega

theorem iblk4_eq (c : Dev nD) (t : Fin cfg0.N) : (iblk m c 4 t : Vec F S1280x20003 .fp8e4m3) = m ((c.tc : Thread nD τ).loc main_arg4) := by
  funext y
  unfold iblk
  rw [View.read_apply]
  refine (congrFun (V_main_arg4 m c) _).trans (congrArg (m ((c.tc : Thread nD τ).loc main_arg4)) (funext fun a => Fin.ext ?_))
  match a with
  | ⟨0, _⟩ => show 0 * 1280 + 1 * (y 0).val = (y 0).val; omega
  | ⟨1, _⟩ => show 0 * 20003 + 1 * (y 1).val = (y 1).val; omega

theorem iblk5_eq (c : Dev nD) (t : Fin cfg0.N) : (iblk m c 5 t : Vec F S1x20003 .f32) = V m c main_v0 := by
  funext y
  unfold iblk
  rw [View.read_apply]
  refine congrArg (V m c main_v0) (funext fun a => Fin.ext ?_)
  match a with
  | ⟨0, _⟩ => show 0 * 1 + 1 * (y 0).val = (y 0).val; omega
  | ⟨1, _⟩ => show 0 * 20003 + 1 * (y 1).val = (y 1).val; omega

theorem iblk2_apply (c : Dev nD) (t : Fin cfg0.N) (b : Fin 8) (s : Fin 2048) (r : Fin 512) (x : Fin 1280) (hb : t.val / 4 = b.val)
    (hs : 512 * (t.val % 4) + r.val = s.val) :
    (iblk m c 2 t : Vec F S1x512x1280 .fp8e4m3) (ix3 (n0 := 1) (n1 := 512) (n2 := 1280) 0 r x) = m ((c.tc : Thread nD τ).loc main_arg2) (ix3 (n0 := 8) (n1 := 2048) (n2 := 1280) b s x) := by
  obtain ⟨h0, h1, h2⟩ := index2 t
  unfold iblk
  rw [View.read_apply]
  refine (congrFun (V_main_arg2 m c) _).trans (congrArg (m ((c.tc : Thread nD τ).loc main_arg2)) (funext fun a => Fin.ext ?_))
  match a with
  | ⟨0, _⟩ => show win0_2.index t 0 * 1 + 1 * 0 = b.val; rw [h0]; omega
  | ⟨1, _⟩ => show win0_2.index t 1 * 512 + 1 * r.val = s.val; rw [h1]; omega
  | ⟨2, _⟩ => show win0_2.index t 2 * 1280 + 1 * x.val = x.val; rw [h2]; omega

theorem row_mod (q p k : ℕ) (hp : p < 8) : (32 * q + p + 8 * k) % 8 = p := by omega
theorem row_div (q p k : ℕ) (hp : p < 8) : (32 * q + p + 8 * k) / 8 = 4 * q + k := by omega

/-- The scales of the columns as one row. -/
theorem scales_row (x : Vec F S20003 .f32) (j : Fin 20003) :
    shapeCast S1x20003 x shapeCasts_S20003_S1x20003 (ix2 (n0 := 1) (n1 := 20003) 0 j) = x (ix1 j) := by
  pointwise

/-- The grid point token `(b, s)` belongs to. -/
def tokPoint (b : Fin 8) (s : Fin 2048) : Fin cfg0.N := ⟨4 * b.val + s.val / 512, by rw [show cfg0.N = 32 from N_0]; omega⟩

theorem tokPoint_div (b : Fin 8) (s : Fin 2048) : (tokPoint b s).val / 4 = b.val := by
  show (4 * b.val + s.val / 512) / 4 = b.val; omega

theorem tokPoint_mod (b : Fin 8) (s : Fin 2048) : 512 * ((tokPoint b s).val % 4) + s.val % 512 = s.val := by
  show 512 * ((4 * b.val + s.val / 512) % 4) + s.val % 512 = s.val; omega

/-- Token `r` of a grid point's four rows. -/
theorem rowAt_ldRow {e : EltTy} (t : Fin cfg0.N) (x : Vec F S8x2048 e) (b : Fin 8) (s : Fin 2048) (r : Fin 512) (hb : t.val / 4 = b.val)
    (hs : 512 * (t.val % 4) + r.val = s.val) :
    rowAt (ldRow (F := F) (grid0.coords t) (rows x)) r = x (ix2 (n0 := 8) (n1 := 2048) b s) := by
  have ht : t.val < 32 := lt_of_lt_of_eq t.isLt (show cfg0.N = 32 from N_0)
  have hbl := b.isLt
  have e0 : ((row (grid0.coords t) ⟨r.val / 128, by omega⟩).emb (ix2 (n0 := 1) (n1 := 128) 0 ⟨r.val % 128, by omega⟩) 0).val
      = 32 * (t.val % 4) + t.val / 4 + 8 * (r.val / 128) := by
    show k0_off1 (grid0.coords t) (BitVec.ofNat 32 (8 * (r.val / 128))) 0 + 1 * 0 = _
    rw [row_off (grid0.coords t) ⟨r.val / 128, by omega⟩, coord_eq]; rfl
  have e1 : ((row (grid0.coords t) ⟨r.val / 128, by omega⟩).emb (ix2 (n0 := 1) (n1 := 128) 0 ⟨r.val % 128, by omega⟩) 1).val
      = r.val % 128 := by
    show k0_off1 (grid0.coords t) (BitVec.ofNat 32 (8 * (r.val / 128))) 1 + 1 * (r.val % 128) = _
    rw [row_off (grid0.coords t) ⟨r.val / 128, by omega⟩]; show 0 + 1 * _ = _; omega
  show rows x ((row (grid0.coords t) ⟨r.val / 128, by omega⟩).emb (ix2 (n0 := 1) (n1 := 128) 0 ⟨r.val % 128, by omega⟩)) = _
  unfold rows
  have hq : t.val % 4 < 4 := Nat.mod_lt _ (by omega)
  congr 2
  · apply Fin.ext; dsimp only; rw [e0, row_mod _ _ _ (by omega)]; exact hb
  · apply Fin.ext; dsimp only; rw [e0, e1, row_div _ _ _ (by omega)]; omega

/-- An array of all the tiles, at token `(b, s)`. -/
theorem unrows_gather (tile : Fin cfg0.N → FVec F S512x128 .f32) (b : Fin 8) (s : Fin 2048) :
    unrows (gather tile) (ix2 (n0 := 8) (n1 := 2048) b s)
      = tile (tokPoint b s) (ix2 (n0 := 512) (n1 := 128) ⟨s.val % 512, by omega⟩ 0) := by
  have hb := b.isLt
  have hs := s.isLt
  have e : point (8 * (s.val / 128) + b.val) = 4 * b.val + s.val / 512 := by unfold point; omega
  have e' : 128 * ((8 * (s.val / 128) + b.val) / 8 % 4) + s.val % 128 = s.val % 512 := by omega
  show tile ⟨point (8 * (s.val / 128) + b.val), _⟩ (ix2 ⟨128 * ((8 * (s.val / 128) + b.val) / 8 % 4) + s.val % 128, _⟩ 0) = _
  have E : (⟨point (8 * (s.val / 128) + b.val), by rw [e, show cfg0.N = 32 from N_0]; omega⟩ : Fin cfg0.N)
      = tokPoint b s := Fin.ext e
  rw [E]
  congr 2
  exact Fin.ext e'

/-! ## The arrays after the last point -/

theorem t31 : (31 : ℕ) < cfg0.N := by rw [show cfg0.N = 32 from N_0]; omega

theorem last_of_flush {t : Fin cfg0.N} (h : t.val % 32 = 31) : t = ⟨31, t31⟩ := by
  have ht : t.val < 32 := lt_of_lt_of_eq t.isLt (show cfg0.N = 32 from N_0)
  exact Fin.ext (by dsimp only; omega)

theorem final6 (c : Dev nD) : (dats m 0 c).arrAt 6 cfg0.N = unrows (gather (lpAt m c)) := by
  refine (dats m 0 c).arrAt_eq_of_cover 6 (unrows (gather (lpAt m c))) (fun t hf => ?_) fun i => ⟨⟨31, t31⟩, (flush0_6 _).mpr rfl, ?_⟩
  · obtain rfl := last_of_flush ((flush0_6 t).mp hf)
    funext y
    rw [View.read_apply]
    refine congrArg (unrows (gather (lpAt m c))) (funext fun a => Fin.ext ?_)
    match a with
    | ⟨0, _⟩ => show (y 0).val = 0 * 8 + 1 * (y 0).val; omega
    | ⟨1, _⟩ => show (y 1).val = 0 * 2048 + 1 * (y 1).val; omega
  · show i ∈ ((View.whole main_v1_0).slice (win0_6.rect ⟨31, t31⟩)).set
    rw [View.set_slice_whole, Rect.mem_set_unit]
    intro a
    have h0 : (i 0 : Nat) < 8 := (i 0).isLt
    have h1 : (i 1 : Nat) < 2048 := (i 1).isLt
    match a with
    | ⟨0, _⟩ => show 0 * 8 ≤ (i 0 : Nat) ∧ (i 0 : Nat) < 0 * 8 + 8; omega
    | ⟨1, _⟩ => show 0 * 2048 ≤ (i 1 : Nat) ∧ (i 1 : Nat) < 0 * 2048 + 2048; omega

theorem final7 (c : Dev nD) : (dats m 0 c).arrAt 7 cfg0.N = unrows (gather (lseAt m c)) := by
  refine (dats m 0 c).arrAt_eq_of_cover 7 (unrows (gather (lseAt m c))) (fun t hf => ?_) fun i => ⟨⟨31, t31⟩, (flush0_7 _).mpr rfl, ?_⟩
  · obtain rfl := last_of_flush ((flush0_7 t).mp hf)
    funext y
    rw [View.read_apply]
    refine congrArg (unrows (gather (lseAt m c))) (funext fun a => Fin.ext ?_)
    match a with
    | ⟨0, _⟩ => show (y 0).val = 0 * 8 + 1 * (y 0).val; omega
    | ⟨1, _⟩ => show (y 1).val = 0 * 2048 + 1 * (y 1).val; omega
  · show i ∈ ((View.whole main_v1_1).slice (win0_7.rect ⟨31, t31⟩)).set
    rw [View.set_slice_whole, Rect.mem_set_unit]
    intro a
    have h0 : (i 0 : Nat) < 8 := (i 0).isLt
    have h1 : (i 1 : Nat) < 2048 := (i 1).isLt
    match a with
    | ⟨0, _⟩ => show 0 * 8 ≤ (i 0 : Nat) ∧ (i 0 : Nat) < 0 * 8 + 8; omega
    | ⟨1, _⟩ => show 0 * 2048 ≤ (i 1 : Nat) ∧ (i 1 : Nat) < 0 * 2048 + 2048; omega

end arrays

/-! ## The arrays as mathematics -/

variable (m : (ℓ : Loc nD τ sig) → Buf (Elt Ideal) ℓ)

/-- The logits of a grid point's tile are the tokens'. -/
theorem logit_eq (c : Dev nD) (t : Fin cfg0.N) (b : Fin 8) (s : Fin 2048) (r : Fin 512) (hb : t.val / 4 = b.val) (hs : 512 * (t.val % 4) + r.val = s.val) :
    logit (ldRow (F := Ideal) (grid0.coords t) (rows (iblk m c 3 t))) (iblk m c 2 t) (iblk m c 4 t) (iblk m c 5 t) r
      = Spec.logit (m ((c.tc : Thread nD τ).loc main_arg2)) (m ((c.tc : Thread nD τ).loc main_arg3)) (m ((c.tc : Thread nD τ).loc main_arg4))
          (m ((c.tc : Thread nD τ).loc main_arg5)) b s := by
  funext j
  unfold logit Spec.logit
  by_cases hj : j < 20003
  · rw [dif_pos hj, dif_pos hj, rowAt_ldRow t _ b s r hb hs, iblk3_eq m c t, iblk5_eq, V_v0]
    have h2 := fun x => iblk2_apply m c t b s r x hb hs
    have h4 := iblk4_eq m c t
    refine congrArg₂ (· * ·) (congrArg (· * _) (Finset.sum_congr rfl fun x _ => ?_)) ?_
    · rw [h2 x, h4]
    · exact scales_row _ _
  · rw [dif_neg hj, dif_neg hj]

/-- The log-sum-exps the kernel leaves. -/
theorem lse_eq (c : Dev nD) : unrows (gather (lseAt m c))
    = Spec.lse (m ((c.tc : Thread nD τ).loc main_arg2)) (m ((c.tc : Thread nD τ).loc main_arg3)) (m ((c.tc : Thread nD τ).loc main_arg4))
        (m ((c.tc : Thread nD τ).loc main_arg5)) := by
  funext y
  obtain ⟨b, s, rfl⟩ : ∃ b s, y = ix2 (n0 := 8) (n1 := 2048) b s := ⟨y 0, y 1, eq_ix2 y⟩
  have hb := b.isLt
  have hs := s.isLt
  rw [unrows_gather]
  unfold lseAt
  rw [lseTile_apply, logit_eq m c _ b s _ (tokPoint_div b s) (tokPoint_mod b s)]
  rfl

/-- The log-probabilities the kernel leaves, where every looked-up column is one of the columns. -/
theorem lp_eq (c : Dev nD)
    (hcol : ∀ b s, Spec.col (m ((c.tc : Thread nD τ).loc main_arg0)) (m ((c.tc : Thread nD τ).loc main_arg1)) b s < 20003) :
    unrows (gather (lpAt m c))
    = Spec.lp (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  funext y
  obtain ⟨b, s, rfl⟩ : ∃ b s, y = ix2 (n0 := 8) (n1 := 2048) b s := ⟨y 0, y 1, eq_ix2 y⟩
  have hb := b.isLt
  have hs := s.isLt
  have hc : col (ldRow (F := Ideal) (grid0.coords (tokPoint b s)) (rows (iblk m c 0 (tokPoint b s))))
      (ldRow (F := Ideal) (grid0.coords (tokPoint b s)) (rows (iblk m c 1 (tokPoint b s)))) ⟨s.val % 512, by omega⟩
      = Spec.col (m ((c.tc : Thread nD τ).loc main_arg0)) (m ((c.tc : Thread nD τ).loc main_arg1)) b s := by
    unfold col Spec.col
    rw [rowAt_ldRow _ _ b s _ (tokPoint_div b s) (tokPoint_mod b s), rowAt_ldRow _ _ b s _ (tokPoint_div b s) (tokPoint_mod b s),
      iblk0_eq, iblk1_eq]
  rw [unrows_gather]
  unfold lpAt
  rw [lpTile_apply _ _ _ _ _ _ _ _ (by rw [hc]; exact hcol b s), hc, logit_eq m c _ b s _ (tokPoint_div b s) (tokPoint_mod b s)]
  rfl

end Cert.KernelIdeal.Head

end
-- ==== Proof.Reference.Line.lean ====
/- The reference's host operations after the product, as functions of whole arrays: the scaled logits, the log-sum-exp of
   each row, the element of each row at a column, and the two results. -/
module

public import proofs.«01_k».proof.Proof.Gen.ReferenceIdeal.Frame
public import Idealize.ShloMosaic.Lib.StableHlo.ReadAt
public import Idealize.ShloMosaic.Lib.Claim

@[expose] public section

set_option maxRecDepth 16384

noncomputable section

namespace Cert.ReferenceIdeal.Line

open Cert.ReferenceIdeal Cert.ReferenceIdeal.Gen
open Idealize.ShloMosaic Idealize.ShloMosaic.TcCoe Idealize.ShloMosaic.Tactic

variable {F : FTy → Type} [FloatOps F]

/-- The products of codes, each times its row's scale and its column's. -/
def scaled (p : Vec F S16384x20003 .f32) (x : Vec F S16384 .f32) (ws : Vec F S20003 .f32) : Vec F S16384x20003 .f32 :=
  mulf (mulf p (broadcastInDim S16384x20003 ![0, 1] bcast_S16384x1_S16384x20003_0_1 (broadcastInDim S16384x1 ![0] bcast_S16384_S16384x1_0 x)))
    (broadcastInDim S16384x20003 ![0, 1] bcast_S1x20003_S16384x20003_0_1 (broadcastInDim S1x20003 ![1] bcast_S20003_S1x20003_1 ws))

/-- The largest element of each row. -/
def tops (z : Vec F S16384x20003 .f32) : Vec F S16384 .f32 :=
  Host.reduce FloatOps.maximumf z (constant S_ .f32 0xFF800000#32) reducesTo_S16384x20003_S16384_d1 h_S_

/-- The sum over each row of the exponentials of its elements less the largest. -/
def sums (z : Vec F S16384x20003 .f32) : Vec F S16384 .f32 :=
  Host.reduceAdd (Host.exp (subf z (broadcastInDim S16384x20003 ![0, 1] bcast_S16384x1_S16384x20003_0_1
    (broadcastInDim S16384x1 ![0] bcast_S16384_S16384x1_0 (tops z))))) (constant S_ .f32 0x00000000#32) reducesTo_S16384x20003_S16384_d1 h_S_

/-- The log-sum-exp of each row. -/
def lses (z : Vec F S16384x20003 .f32) : Vec F S16384 .f32 := addf (tops z) (Host.log (sums z))

/-- A column index, counted from the row's end where it is negative. -/
def wrap (c : Vec F S16384x1 .i32) : Vec F S16384x1x1 .i32 :=
  shapeCast S16384x1x1 (select (cmpi .slt c (broadcastInDim S16384x1 ![] bcast_S_S16384x1 (constantI S_ 32 0#32)))
    (addi c (broadcastInDim S16384x1 ![] bcast_S_S16384x1 (constantI S_ 32 20003#32))) c) shapeCasts_S16384x1_S16384x1x1

/-- Whether a column index lies in the row. -/
def inside (i : Vec F S16384x1x1 .i32) : Vec F S16384x1 .i1 :=
  Host.reduce IntOp.andi (andi (cmpi .sge i (broadcastInDim S16384x1x1 ![] bcast_S_S16384x1x1 (constantI S_ 32 0#32)))
    (cmpi .sle i (broadcastInDim S16384x1x1 ![0, 1, 2] bcast_S1x1x1_S16384x1x1_0_1_2 (broadcastInDim S1x1x1 ![2] bcast_S1_S1x1x1_2 (constantI S1 32 20002#32)))))
    (constantI S_ 1 1#1) reducesTo_S16384x1x1_S16384x1_d2 h_S_

/-- The element of each row at its column, and no number where the column lies outside. -/
def picked (z : Vec F S16384x20003 .f32) (c : Vec F S16384x1 .i32) : Vec F S16384x1 .f32 :=
  select (inside (F := F) (wrap (F := F) c)) (Host.gather gather_S16384x20003_S16384x1x1_S16384x1_n_1_0_0_1_2_11 z (wrap (F := F) c))
    (broadcastInDim S16384x1 ![] bcast_S_S16384x1 (constant S_ .f32 0x7FC00000#32))

/-- The second result from the logits. -/
def lseOut (z : Vec F S16384x20003 .f32) : Vec F S8x2048 .f32 :=
  shapeCast S8x2048 (subf (lses z) (broadcastInDim S16384 ![] bcast_S_S16384 (constant S_ .f32 0x411E754D#32))) shapeCasts_S16384_S8x2048

/-- The first result from the logits and the columns. -/
def lpOut (z : Vec F S16384x20003 .f32) (c : Vec F S16384 .i32) : Vec F S8x2048 .f32 :=
  shapeCast S8x2048 (addf (subf (shapeCast S16384 (picked z (broadcastInDim S16384x1 ![0] bcast_S16384_S16384x1_0 c)) shapeCasts_S16384x1_S16384) (lses z))
    (broadcastInDim S16384 ![] bcast_S_S16384 (constant S_ .f32 0x411E754D#32))) shapeCasts_S16384_S8x2048

variable (W : Valuation τ sig (Elt F))

set_option maxHeartbeats 1600000 in
theorem after_v34 : StableHlo.after (List.flatten [hostOps1, hostOps1_1, hostOps1_2]) W (Proc.devRef .tc main_v34)
    = lseOut (scaled (W (Proc.devRef .tc main_v10)) (W (Proc.devRef .tc main_v2)) (W (Proc.devRef .tc main_arg5))) := by
  after_reads_simp
  rfl

set_option maxHeartbeats 1600000 in
theorem after_v31 : StableHlo.after (List.flatten [hostOps1, hostOps1_1, hostOps1_2]) W (Proc.devRef .tc main_v31)
    = lpOut (scaled (W (Proc.devRef .tc main_v10)) (W (Proc.devRef .tc main_v2)) (W (Proc.devRef .tc main_arg5))) (W (Proc.devRef .tc main_v9)) := by
  after_reads_simp
  simp -implicitDefEqProofs only [StableHlo.TRef.toBuf, StableHlo.TRef.ofBuf, cast_cast, cast_eq]
  unfold lpOut picked inside wrap lses sums tops scaled
  rfl

end Cert.ReferenceIdeal.Line

end
-- ==== Proof.Reference.Rows.lean ====
/- The reference's operations after the product at the extended reals, read per row: each result as the log-sum-exp and the
   picked element of its row. -/
module

public import proofs.«01_k».proof.Proof.Reference.Line
public import proofs.«01_k».proof.Proof.Softmax
public import Idealize.ShloMosaic.Lib.Tactic.WordOmega
public import Idealize.ShloMosaic.Lib.ValueIdx
public import proofs.«01_k».proof.Proof.Spec

@[expose] public section

set_option maxRecDepth 16384

noncomputable section

namespace Cert.ReferenceIdeal.Line

open Cert.ReferenceIdeal Cert.ReferenceIdeal.Gen
open Idealize.ShloMosaic Idealize.ShloMosaic.TcCoe Idealize.ShloMosaic.Tactic

section gathering

/-- The dimension numbers of a gather of one element of each row. -/
abbrev alongDims (R C : ℕ) (wf : GatherDims.WF ⟨2, ![R, C]⟩ ⟨3, ![R, 1, 1]⟩ ⟨2, ![R, 1]⟩ [] [1] [0] [1] [0] 2 ![1, 1]) :
    GatherDims ⟨2, ![R, C]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- A gather of one element of each row reads the row at its index, where that index lies in the row. -/
theorem gather_along {α : Type} {R C : ℕ} (wf : GatherDims.WF ⟨2, ![R, C]⟩ ⟨3, ![R, 1, 1]⟩ ⟨2, ![R, 1]⟩ [] [1] [0] [1] [0] 2 ![1, 1])
    (x : (⟨2, ![R, C]⟩ : Shape).Idx → α) (i : IVec ⟨3, ![R, 1, 1]⟩ 32) (n : Fin R) (k : Fin C) (h : (i (ix3 n 0 0)).toInt = k.val) :
    Host.gather (alongDims R C wf) x i (ix2 n 0) = x (ix2 n k) := by
  unfold Host.gather
  refine congrArg x (funext fun a => Fin.ext ?_)
  show (alongDims R C wf).start (ix2 n 0) i a + (alongDims R C wf).batchCoord (ix2 n 0) a + (alongDims R C wf).offCoord (ix2 n 0) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims R C wf).startIndexMap from List.mem_singleton.mpr rfl)]
    have hsi : (alongDims R C wf).siIdx (ix2 n 0) ⟨List.idxOf (1 : Fin 2) (alongDims R C wf).startIndexMap,
        List.idxOf_lt_length_iff.2 (List.mem_singleton.mpr rfl)⟩ = ix3 n 0 0 := by
      funext b; refine Fin.ext ?_
      match b with
      | ⟨0, _⟩ => rfl
      | ⟨1, _⟩ => rfl
      | ⟨2, _⟩ => rfl
    rw [hsi, h]
    show min k.val (C - 1) = k.val
    have := k.isLt
    omega

end gathering

theorem scaled_at (p : Vec Ideal S16384x20003 .f32) (x : Vec Ideal S16384 .f32) (ws : Vec Ideal S20003 .f32) (n : Fin 16384) (j : Fin 20003) :
    scaled p x ws (ix2 n j) = p (ix2 n j) * x (ix1 n) * ws (ix1 j) := by
  unfold scaled
  pointwise

/-- A row of an array of logits, with no bound on the column. -/
def row (z : Vec Ideal S16384x20003 .f32) (n : Fin 16384) (j : ℕ) : EReal := if h : j < 20003 then z (ix2 n ⟨j, h⟩) else 0

theorem row_eq (z : Vec Ideal S16384x20003 .f32) (n : Fin 16384) (j : Fin 20003) : row z n j.val = z (ix2 n j) := dif_pos j.isLt

theorem tops_at (z : Vec Ideal S16384x20003 .f32) (n : Fin 16384) :
    tops z (ix1 n) = Softmax.top 20003 (row z n) := by
  have e : tops z (ix1 n) = Finset.univ.fold max (Ideal.ofBits .f32 0xFF800000#32) (fun j : Fin 20003 => z (ix2 n j)) := by
    unfold tops
    pointwise
  rw [e, Softmax.bot_bits]
  unfold Softmax.top
  exact Finset.fold_congr fun j _ => (row_eq z n j).symm

theorem sums_at (z : Vec Ideal S16384x20003 .f32) (n : Fin 16384) :
    sums z (ix1 n) = ∑ j : Fin 20003, Ideal.exp (z (ix2 n j) - tops z (ix1 n)) := by
  unfold sums
  generalize tops z = t
  pointwise

theorem add_log_at (t u : FVec Ideal S16384 .f32) (n : Fin 16384) : addf t (Host.log u) (ix1 n) = t (ix1 n) + Ideal.log (u (ix1 n)) := by
  pointwise

/-- A row's log-sum-exp. -/
theorem lses_at (z : Vec Ideal S16384x20003 .f32) (n : Fin 16384) :
    lses z (ix1 n) = Softmax.lse 20003 (row z n) := by
  refine (add_log_at (tops z) (sums z) n).trans ?_
  rw [sums_at, tops_at]
  unfold Softmax.lse
  refine congrArg (fun t : EReal => Softmax.top 20003 _ + Ideal.log t) (Finset.sum_congr rfl fun j _ => ?_)
  exact congrArg (fun t : EReal => Ideal.exp (t - _)) (row_eq z n j).symm

theorem wrap_at (c : Vec Ideal S16384x1 .i32) (n : Fin 16384) (h : 0 ≤ (c (ix2 n 0)).toInt) :
    wrap (F := Ideal) c (ix3 n 0 0) = c (ix2 n 0) := by
  unfold wrap
  pointwise
  generalize c (ix2 n 0) = w at h ⊢
  word_omega

theorem inside_at (i : Vec Ideal S16384x1x1 .i32) (n : Fin 16384) (h : 0 ≤ (i (ix3 n 0 0)).toInt) (h' : (i (ix3 n 0 0)).toInt < 20003) :
    inside (F := Ideal) i (ix2 n 0) = 1#1 := by
  unfold inside
  pointwise
  rw [Finset.univ_unique, Finset.fold_singleton]
  show IntOp.andi (IntOp.andi (IntOp.cmpi .sge (i (ix3 n 0 0)) 0#32) (IntOp.cmpi .sle (i (ix3 n 0 0)) 20002#32)) 1#1 = 1#1
  generalize i (ix3 n 0 0) = w at h h' ⊢
  have e : IntOp.cmpi .sge w 0#32 = 1#1 := by word_omega
  have e' : IntOp.cmpi .sle w 20002#32 = 1#1 := by word_omega
  rw [e, e']
  rfl

theorem gathered_at (z : Vec Ideal S16384x20003 .f32) (i : Vec Ideal S16384x1x1 .i32) (n : Fin 16384) (k : Fin 20003)
    (h : (i (ix3 n 0 0)).toInt = k.val) :
    Host.gather gather_S16384x20003_S16384x1x1_S16384x1_n_1_0_0_1_2_11 z i (ix2 n 0) = z (ix2 n k) :=
  gather_along gather_S16384x20003_S16384x1x1_S16384x1_n_1_0_0_1_2_11_wf z i n k h

theorem less_at (t : Vec Ideal S16384 .f32) (b : Fin 8) (s : Fin 2048) (n : Fin 16384) (hn : n.val = b.val * 2048 + s.val) :
    shapeCast S8x2048 (subf t (broadcastInDim S16384 ![] bcast_S_S16384 (constant (F := Ideal) S_ .f32 0x411E754D#32))) shapeCasts_S16384_S8x2048 (ix2 b s)
      = t (ix1 n) - Spec.logV := by
  pointwise
  have e : (⟨b.val * 2048 + s.val, by omega⟩ : Fin 16384) = n := Fin.ext hn.symm
  rw [e]

theorem more_at (t : Vec Ideal S16384 .f32) (u : Vec Ideal S16384x1 .f32) (b : Fin 8) (s : Fin 2048) (n : Fin 16384) (hn : n.val = b.val * 2048 + s.val) :
    shapeCast S8x2048 (addf (subf (shapeCast S16384 u shapeCasts_S16384x1_S16384) t)
      (broadcastInDim S16384 ![] bcast_S_S16384 (constant (F := Ideal) S_ .f32 0x411E754D#32))) shapeCasts_S16384_S8x2048 (ix2 b s)
      = u (ix2 n 0) - t (ix1 n) + Spec.logV := by
  pointwise
  have e : (⟨b.val * 2048 + s.val, by omega⟩ : Fin 16384) = n := Fin.ext hn.symm
  rw [e]

theorem masked_at (g : Vec Ideal S16384x1 .f32) (v : Vec Ideal S16384x1 .i1) (n : Fin 16384) (h : v (ix2 n 0) = 1#1) (q : Vec Ideal S16384x1 .f32) :
    select v g q (ix2 n 0) = g (ix2 n 0) := by
  pointwise
  rw [h]
  rfl

theorem column_at (c : Vec Ideal S16384 .i32) (n : Fin 16384) : broadcastInDim S16384x1 ![0] bcast_S16384_S16384x1_0 c (ix2 n 0) = c (ix1 n) := by
  pointwise

/-- The element picked from a row, its column within the row. -/
theorem picked_at (z : Vec Ideal S16384x20003 .f32) (c : Vec Ideal S16384x1 .i32) (n : Fin 16384) (k : Fin 20003)
    (h : (c (ix2 n 0)).toInt = k.val) : picked z c (ix2 n 0) = z (ix2 n k) := by
  have hk := k.isLt
  have hw := wrap_at c n (by omega)
  rw [← hw] at h
  exact (masked_at _ _ n (inside_at _ n (by omega) (by omega)) _).trans (gathered_at z _ n k h)

/-- The second result at a token. -/
theorem lseOut_at (z : Vec Ideal S16384x20003 .f32) (b : Fin 8) (s : Fin 2048) (n : Fin 16384) (hn : n.val = b.val * 2048 + s.val) :
    lseOut z (ix2 b s) = Softmax.lse 20003 (row z n) - Spec.logV := by
  refine (less_at (lses z) b s n hn).trans ?_
  rw [lses_at]

/-- The first result at a token, its column within the row. -/
theorem lpOut_at (z : Vec Ideal S16384x20003 .f32) (c : Vec Ideal S16384 .i32) (b : Fin 8) (s : Fin 2048) (n : Fin 16384) (hn : n.val = b.val * 2048 + s.val)
    (k : Fin 20003) (h : (c (ix1 n)).toInt = k.val) :
    lpOut z c (ix2 b s) = row z n k.val - Softmax.lse 20003 (row z n) + Spec.logV := by
  refine (more_at (lses z) _ b s n hn).trans ?_
  rw [lses_at, row_eq, picked_at z _ n k ((congrArg BitVec.toInt (column_at c n)).trans h)]

end Cert.ReferenceIdeal.Line

end
-- ==== Proof.Reference.Value.lean ====
/- The reference's two results at the extended reals. Token `(b, s)` is row `2048 b + s` of the product. -/
module

public import proofs.«01_k».proof.Proof.Reference.Rows
public import Idealize.ShloMosaic.Lib.Pipeline.ValueKit

@[expose] public section

set_option maxRecDepth 16384

noncomputable section

namespace Cert.ReferenceIdeal.Value

open Cert.ReferenceIdeal Cert.ReferenceIdeal.Gen Cert.ReferenceIdeal.Line
open Idealize.ShloMosaic Idealize.ShloMosaic.TcCoe Idealize.ShloMosaic.Tactic

/-! ## The product -/

theorem pay_at (x : Vec Ideal S8x2048x1280 .fp8e4m3) (w : Vec Ideal S1280x20003 .fp8e4m3) (b : Fin 8) (s : Fin 2048)
    (n : Fin 16384) (hn : n.val = b.val * 2048 + s.val) (j : Fin 20003) :
    k0_pay1 x w (ix2 n j) = ∑ k : Fin 1280, x (ix3 b s k) * w (ix2 k j) := by
  unfold k0_pay1
  pointwise
  have hs := s.isLt
  refine Finset.sum_congr rfl fun k _ => congrArg (· * w (ix2 k j)) ?_
  refine congrArg₂ (fun b s => x (ix3 b s k)) (Fin.ext ?_) (Fin.ext ?_)
  · show n.val / 2048 = b.val
    omega
  · show n.val % 2048 = s.val
    omega

section arrays
variable {F : FTy → Type} [FloatOps F]
variable (m : (ℓ : Loc nD τ sig) → Buf (Elt F) ℓ) (c : Dev nD)

theorem iblk0_eq : (iblk m c 0 t0_0 : Vec F S8x2048x1280 .fp8e4m3) = m ((c.tc : Thread nD τ).loc main_arg2) := by
  funext y
  unfold iblk
  rw [View.read_apply]
  refine (congrFun (V_main_arg2 m c) _).trans (congrArg (m ((c.tc : Thread nD τ).loc main_arg2)) (funext fun a => Fin.ext ?_))
  match a with
  | ⟨0, _⟩ => show 0 * 8 + 1 * (y 0).val = (y 0).val; omega
  | ⟨1, _⟩ => show 0 * 2048 + 1 * (y 1).val = (y 1).val; omega
  | ⟨2, _⟩ => show 0 * 1280 + 1 * (y 2).val = (y 2).val; omega

theorem iblk1_eq : (iblk m c 1 t0_0 : Vec F S1280x20003 .fp8e4m3) = m ((c.tc : Thread nD τ).loc main_arg4) := by
  funext y
  unfold iblk
  rw [View.read_apply]
  refine (congrFun (V_main_arg4 m c) _).trans (congrArg (m ((c.tc : Thread nD τ).loc main_arg4)) (funext fun a => Fin.ext ?_))
  match a with
  | ⟨0, _⟩ => show 0 * 1280 + 1 * (y 0).val = (y 0).val; omega
  | ⟨1, _⟩ => show 0 * 20003 + 1 * (y 1).val = (y 1).val; omega

theorem out_eq (x : Vec F S8x2048x1280 .fp8e4m3) (w : Vec F S1280x20003 .fp8e4m3) : out0_2 x w = k0_pay1 x w := by
  frame_out

theorem product : (dats m 0 c).arrAt 2 cfg0.N = k0_pay1 (m ((c.tc : Thread nD τ).loc main_arg2)) (m ((c.tc : Thread nD τ).loc main_arg4)) := by
  refine (dats m 0 c).arrAt_eq_of_after_last 2 t0_0 (by decide +kernel) _ fun j => ?_
  rw [after0_2, out_eq, iblk0_eq, iblk1_eq]
  exact congrArg (k0_pay1 (m ((c.tc : Thread nD τ).loc main_arg2)) (m ((c.tc : Thread nD τ).loc main_arg4))) (funext fun a => Fin.ext rfl)

/-! ## The other operands -/

theorem V_v2 : V m c main_v2 = shapeCast S16384 (m ((c.tc : Thread nD τ).loc main_arg3)) shapeCasts_S8x2048_S16384 := by
  entry_read; rfl

theorem V_v9 : V m c main_v9 = select
    (cmpi .eq (shapeCast S16384 (m ((c.tc : Thread nD τ).loc main_arg0)) shapeCasts_S8x2048_S16384) (broadcastInDim S16384 ![] bcast_S_S16384 (constantI S_ 32 0#32)))
    (shapeCast S16384 (m ((c.tc : Thread nD τ).loc main_arg1)) shapeCasts_S8x2048_S16384)
    (subi (addi (broadcastInDim S16384 ![] bcast_S_S16384 (constantI S_ 32 20000#32)) (shapeCast S16384 (m ((c.tc : Thread nD τ).loc main_arg0)) shapeCasts_S8x2048_S16384))
      (broadcastInDim S16384 ![] bcast_S_S16384 (constantI S_ 32 1#32))) := by
  entry_read; rfl

theorem withArrays_v10 (A : (w : Fin 3) → Buf (Elt F) ((spec0 w).arr.view.loc (c.tc : Thread nD τ))) :
    Pipeline.withArrays spec0 c (V0 m c) A (Proc.devRef .tc main_v10) = A 2 :=
  Pipeline.withArrays_arr spec0 (by decide) c (V0 m c) A 2

theorem tail_v34 : Pipeline.afterTail₀ cfgs (dats m) 0 (V0 m) [hostOps1, hostOps1_1, hostOps1_2] c main_v34
    = lseOut (scaled ((dats m 0 c).arrAt 2 cfg0.N) (V m c main_v2) (m ((c.tc : Thread nD τ).loc main_arg5))) := by
  unfold Pipeline.afterTail₀
  rw [after_v34, withArrays_v10, Pipeline.withArrays_of_ne _ c (V0 m c) _ main_v2 (by exact (by decide : ∀ w, Pipeline.arrRef spec0 w ≠ main_v2)),
    Pipeline.withArrays_of_ne _ c (V0 m c) _ main_arg5 (by exact (by decide : ∀ w, Pipeline.arrRef spec0 w ≠ main_arg5))]
  exact congrArg (fun t => lseOut (scaled _ _ t)) (V_main_arg5 m c)

theorem tail_v31 : Pipeline.afterTail₀ cfgs (dats m) 0 (V0 m) [hostOps1, hostOps1_1, hostOps1_2] c main_v31
    = lpOut (scaled ((dats m 0 c).arrAt 2 cfg0.N) (V m c main_v2) (m ((c.tc : Thread nD τ).loc main_arg5))) (V m c main_v9) := by
  unfold Pipeline.afterTail₀
  rw [after_v31, withArrays_v10, Pipeline.withArrays_of_ne _ c (V0 m c) _ main_v2 (by exact (by decide : ∀ w, Pipeline.arrRef spec0 w ≠ main_v2)),
    Pipeline.withArrays_of_ne _ c (V0 m c) _ main_arg5 (by exact (by decide : ∀ w, Pipeline.arrRef spec0 w ≠ main_arg5)),
    Pipeline.withArrays_of_ne _ c (V0 m c) _ main_v9 (by exact (by decide : ∀ w, Pipeline.arrRef spec0 w ≠ main_v9))]
  exact congrArg (fun t => lpOut (scaled _ _ t) (V m c main_v9)) (V_main_arg5 m c)

end arrays

/-! ## The results, at the extended reals -/

/-- The looked-up column as the programs compute it. -/
theorem word_col (q p : BitVec 32) :
    Scalar.select (IntOp.cmpi .eq q 0#32) p (IntOp.subi (IntOp.addi 20000#32 q) 1#32) = Spec.colOf q p := by
  unfold Spec.colOf
  by_cases h : q = 0#32
  · rw [if_pos h, h]
    rfl
  · rw [if_neg h, show IntOp.cmpi .eq q 0#32 = 0#1 by unfold IntOp.cmpi; rw [beq_eq_false_iff_ne.mpr h]; rfl]
    show 20000#32 + q - 1#32 = 19999#32 + q
    bv_omega

/-- A looked-up column within the head is no negative word. -/
theorem toInt_col (w : BitVec 32) (h : w.toNat < 20003) : w.toInt = (w.toNat : ℤ) := by
  rw [BitVec.toInt_eq_toNat_of_lt (by omega)]

theorem columns_at (q p : Vec Ideal S8x2048 .i32) (b : Fin 8) (s : Fin 2048) (n : Fin 16384) (hn : n.val = b.val * 2048 + s.val) :
    select (cmpi .eq (shapeCast S16384 q shapeCasts_S8x2048_S16384) (broadcastInDim S16384 ![] bcast_S_S16384 (constantI S_ 32 0#32)))
      (shapeCast S16384 p shapeCasts_S8x2048_S16384)
      (subi (addi (broadcastInDim S16384 ![] bcast_S_S16384 (constantI S_ 32 20000#32)) (shapeCast S16384 q shapeCasts_S8x2048_S16384))
        (broadcastInDim S16384 ![] bcast_S_S16384 (constantI S_ 32 1#32))) (ix1 n) = Spec.colOf (q (ix2 b s)) (p (ix2 b s)) := by
  rw [← word_col]
  pointwise
  have hs := s.isLt
  have e : (⟨n.val / 2048, by omega⟩ : Fin 8) = b := Fin.ext (by show n.val / 2048 = b.val; omega)
  have e' : (⟨n.val % 2048, by omega⟩ : Fin 2048) = s := Fin.ext (by show n.val % 2048 = s.val; omega)
  rw [e, e']

theorem scales_at (x : Vec Ideal S8x2048 .f32) (b : Fin 8) (s : Fin 2048) (n : Fin 16384) (hn : n.val = b.val * 2048 + s.val) :
    (shapeCast S16384 x shapeCasts_S8x2048_S16384 : Vec Ideal S16384 .f32) (ix1 n) = x (ix2 b s) := by
  pointwise
  have hs := s.isLt
  have e : (⟨n.val / 2048, by omega⟩ : Fin 8) = b := Fin.ext (by show n.val / 2048 = b.val; omega)
  have e' : (⟨n.val % 2048, by omega⟩ : Fin 2048) = s := Fin.ext (by show n.val % 2048 = s.val; omega)
  rw [e, e']

/-- A row of scaled logits is its token's. -/
theorem row_scaled (x : Vec Ideal S8x2048x1280 .fp8e4m3) (xs : Vec Ideal S8x2048 .f32) (w : Vec Ideal S1280x20003 .fp8e4m3) (ws : Vec Ideal S20003 .f32)
    (b : Fin 8) (s : Fin 2048) (n : Fin 16384) (hn : n.val = b.val * 2048 + s.val) :
    row (scaled (k0_pay1 x w) (shapeCast S16384 xs shapeCasts_S8x2048_S16384) ws) n = Spec.logit x xs w ws b s := by
  funext j
  unfold row Spec.logit
  by_cases h : j < 20003
  · rw [dif_pos h, dif_pos h, scaled_at, pay_at x w b s n hn, scales_at xs b s n hn]
  · rw [dif_neg h, dif_neg h]

variable (m : (ℓ : Loc nD τ sig) → Buf (Elt Ideal) ℓ) (c : Dev nD)

/-- The row of token `(b, s)`. -/
theorem row_of (b : Fin 8) (s : Fin 2048) : ∃ n : Fin 16384, n.val = b.val * 2048 + s.val :=
  ⟨⟨b.val * 2048 + s.val, by have := b.isLt; have := s.isLt; omega⟩, rfl⟩

/-- The reference's second result. -/
theorem lse_eq : Pipeline.afterTail₀ cfgs (dats m) 0 (V0 m) [hostOps1, hostOps1_1, hostOps1_2] c main_v34
    = Spec.lse (m ((c.tc : Thread nD τ).loc main_arg2)) (m ((c.tc : Thread nD τ).loc main_arg3)) (m ((c.tc : Thread nD τ).loc main_arg4))
        (m ((c.tc : Thread nD τ).loc main_arg5)) := by
  rw [tail_v34, product, V_v2]
  funext y
  obtain ⟨b, s, rfl⟩ : ∃ b s, y = ix2 (n0 := 8) (n1 := 2048) b s := ⟨y 0, y 1, (ix2_eta y).symm⟩
  obtain ⟨n, hn⟩ := row_of b s
  rw [lseOut_at _ b s n hn, row_scaled _ _ _ _ b s n hn]
  rfl

/-- The reference's first result, the looked-up columns within the head. -/
theorem lp_eq (hcol : ∀ b s, Spec.col (m ((c.tc : Thread nD τ).loc main_arg0)) (m ((c.tc : Thread nD τ).loc main_arg1)) b s < 20003) :
    Pipeline.afterTail₀ cfgs (dats m) 0 (V0 m) [hostOps1, hostOps1_1, hostOps1_2] c main_v31
    = Spec.lp (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  rw [tail_v31, product, V_v2, V_v9]
  funext y
  obtain ⟨b, s, rfl⟩ : ∃ b s, y = ix2 (n0 := 8) (n1 := 2048) b s := ⟨y 0, y 1, (ix2_eta y).symm⟩
  obtain ⟨n, hn⟩ := row_of b s
  have hk := hcol b s
  have e := columns_at (m ((c.tc : Thread nD τ).loc main_arg0)) (m ((c.tc : Thread nD τ).loc main_arg1)) b s n hn
  rw [lpOut_at _ _ b s n hn ⟨_, hk⟩ ((congrArg BitVec.toInt e).trans (toInt_col _ hk)), row_scaled _ _ _ _ b s n hn]
  rfl

end Cert.ReferenceIdeal.Value

end
-- ==== Proof.Algebraic.lean ====
/- At the extended reals the kernel's two arrays are the reference's two results, where every looked-up column lies in the head. -/
module

public import proofs.«01_k».proof.Proof.Frames
public import proofs.«01_k».proof.Proof.Head.KernelValue
public import proofs.«01_k».proof.Proof.Reference.Value
public import Idealize.ShloMosaic.Lib.Claim

@[expose] public section

set_option maxRecDepth 16384

noncomputable section

namespace Cert.Algebraic

open Idealize.ShloMosaic Idealize.ShloMosaic.TcCoe Idealize.SL.Sem

/-- The precondition at one token: its looked-up column is within the head. -/
theorem word_in_head (w : BitVec 32) (h : IntOp.andi (IntOp.cmpi .sge w 0#32) (IntOp.cmpi .slt w 20003#32) = 1#1) : w.toNat < 20003 := by
  word_omega

section precondition
open Cert.Pre_column_in_head

theorem fn_at (q p : IVec ⟨2, ![8, 2048]⟩ 32) (x : FVec Ideal ⟨3, ![8, 2048, 1280]⟩ .fp8e4m3) (xs : FVec Ideal ⟨2, ![8, 2048]⟩ .f32)
    (w : FVec Ideal ⟨2, ![1280, 20003]⟩ .fp8e4m3) (ws : FVec Ideal ⟨1, ![20003]⟩ .f32) (b : Fin 8) (s : Fin 2048)
    (h : (haveI := Cert.Frames.pre_facts; Cert.Pre_column_in_head.fn (F := Ideal) q p x xs w ws (ix2 b s)) = 1#1) : Spec.col q p b s < 20003 := by
  unfold Spec.col
  rw [← ReferenceIdeal.Value.word_col]
  refine word_in_head _ ((?_ : _ = _).trans h)
  haveI := Cert.Frames.pre_facts
  unfold Cert.Pre_column_in_head.fn Cert.Pre_column_in_head.fn_where
  pointwise

end precondition

/-- The precondition bounds every token's looked-up column. -/
theorem columns (m : (ℓ : Loc KernelIdeal.nD KernelIdeal.τ KernelIdeal.sig) → Buf (Elt Ideal) ℓ)
    (hpre : Cert.Pre_KernelIdeal_column_in_head (hPre_column_in_head := Cert.Frames.pre_facts) m) (c : Dev KernelIdeal.nD) (b : Fin 8) (s : Fin 2048) :
    Spec.col (m ((c.tc : Thread KernelIdeal.nD KernelIdeal.τ).loc KernelIdeal.main_arg0)) (m ((c.tc : Thread KernelIdeal.nD KernelIdeal.τ).loc KernelIdeal.main_arg1)) b s < 20003 :=
  fn_at _ _ _ _ _ _ b s (congrFun (hpre c) _)

set_option maxHeartbeats 4000000 in
/-- The kernel's two arrays are the reference's two results. -/
theorem algebraic : Cert.algebraic_KernelIdeal_ReferenceIdeal_pre_column_in_head (hKernelIdeal := Cert.KernelIdeal.Gen.facts) (hReferenceIdeal := Cert.ReferenceIdeal.Gen.facts)
    (hPre_column_in_head := Cert.Frames.pre_facts) := by
  pair_intro
  · run_from Cert.KernelIdeal.Head.run_main m g
  · run_from Cert.ReferenceIdeal.Gen.run_main m' g'
    · obtain ⟨e0, e1, e2, e3, e4, e5⟩ := hagree c
      have hcol := columns m hpre c
      refine (ReferenceIdeal.Value.lp_eq m' c (by rw [e0, e1]; exact hcol)).trans ?_
      refine Eq.trans ?_ ((KernelIdeal.Head.final6 m c).trans (KernelIdeal.Head.lp_eq m c hcol)).symm
      rw [e0, e1, e2, e3, e4, e5]
    · obtain ⟨e0, e1, e2, e3, e4, e5⟩ := hagree c
      refine (ReferenceIdeal.Value.lse_eq m' c).trans ?_
      refine Eq.trans ?_ ((KernelIdeal.Head.final7 m c).trans (KernelIdeal.Head.lse_eq m c)).symm
      rw [e2, e3, e4, e5]
    · exact (ReferenceIdeal.Gen.W_main_arg0 m' _ c).trans (hagree c).1
    · exact (ReferenceIdeal.Gen.W_main_arg1 m' _ c).trans (hagree c).2.1
    · exact (ReferenceIdeal.Gen.W_main_arg3 m' _ c).trans (hagree c).2.2.2.1
    · exact (ReferenceIdeal.Gen.W_main_arg5 m' _ c).trans (hagree c).2.2.2.2.2

end Cert.Algebraic

end
-- ==== Proof.lean ====
/- The claims: the kernel's runs and the reference's leave their arguments as they were, and at the extended reals the kernel's two arrays
   are the reference's two results. -/
module

public import proofs.«01_k».proof.Proof.Tail.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Tail.Gen.facts, Cert.TailIdeal.Gen.facts,
    Cert.Frames.pre_facts, Cert.Pre_tables_fit.Gen.facts, Cert.Frames.kernel, Cert.Frames.kernelIdeal,
    Cert.Frames.kernelIdeal_pre, Cert.Frames.referenceIdeal, Cert.Frames.referenceIdeal_pre,
    Cert.Tail.Run.quiescent, Cert.TailIdeal.Run.quiescent, trivial, Cert.Algebraic.algebraic, trivial⟩

end Cert.Proof

end
